-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_in_graphs [hPre_in_graphs : Cert.Pre_in_graphs.Facts] (m : (ℓ : Loc Cert.RouterIdeal.nD Cert.RouterIdeal.τ Cert.RouterIdeal.sig) → Buf (Elt Ideal) ℓ) : Prop :=
  ∀ c : Dev Cert.RouterIdeal.nD,
    (Cert.Pre_in_graphs.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7)) (m ((c.tc : Thread Cert.RouterIdeal.nD Cert.RouterIdeal.τ).loc Cert.RouterIdeal.main_arg8)) (m ((c.tc : Thread Cert.RouterIdeal.nD Cert.RouterIdeal.τ).loc Cert.RouterIdeal.main_arg9))) = (fun _ => 1#1)

def Pre_RouterReferenceIdeal [hPre_in_graphs : Cert.Pre_in_graphs.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_in_graphs.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4)) (m ((c.tc : Thread Cert.RouterReferenceIdeal.nD Cert.RouterReferenceIdeal.τ).loc Cert.RouterReferenceIdeal.main_arg5)) (m ((c.tc : Thread Cert.RouterReferenceIdeal.nD Cert.RouterReferenceIdeal.τ).loc Cert.RouterReferenceIdeal.main_arg6)) (m ((c.tc : Thread Cert.RouterReferenceIdeal.nD Cert.RouterReferenceIdeal.τ).loc Cert.RouterReferenceIdeal.main_arg7)) (m ((c.tc : Thread Cert.RouterReferenceIdeal.nD Cert.RouterReferenceIdeal.τ).loc Cert.RouterReferenceIdeal.main_arg8)) (m ((c.tc : Thread Cert.RouterReferenceIdeal.nD Cert.RouterReferenceIdeal.τ).loc Cert.RouterReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7)
      ∧ r.2.mem ((c.tc : Thread Cert.Router.nD Cert.Router.τ).loc Cert.Router.main_arg8) = m ((c.tc : Thread Cert.Router.nD Cert.Router.τ).loc Cert.Router.main_arg8)
      ∧ r.2.mem ((c.tc : Thread Cert.Router.nD Cert.Router.τ).loc Cert.Router.main_arg9) = m ((c.tc : Thread Cert.Router.nD Cert.Router.τ).loc Cert.Router.main_arg9))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9))
      ∧ r.2.sem = fun _ => 0)

def quiescent_RouterIdeal_pre_in_graphs [hRouterIdeal : Cert.RouterIdeal.Facts] [hPre_in_graphs : Cert.Pre_in_graphs.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_in_graphs m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
      ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
      ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9))
      ∧ r.2.sem = fun _ => 0)

def quiescent_RouterReferenceIdeal [hRouterReferenceIdeal : Cert.RouterReferenceIdeal.Facts] [hPre_in_graphs : Cert.Pre_in_graphs.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5)
      ∧ r.2.mem ((c.tc : Thread Cert.RouterReferenceIdeal.nD Cert.RouterReferenceIdeal.τ).loc Cert.RouterReferenceIdeal.main_arg6) = m ((c.tc : Thread Cert.RouterReferenceIdeal.nD Cert.RouterReferenceIdeal.τ).loc Cert.RouterReferenceIdeal.main_arg6)
      ∧ r.2.mem ((c.tc : Thread Cert.RouterReferenceIdeal.nD Cert.RouterReferenceIdeal.τ).loc Cert.RouterReferenceIdeal.main_arg7) = m ((c.tc : Thread Cert.RouterReferenceIdeal.nD Cert.RouterReferenceIdeal.τ).loc Cert.RouterReferenceIdeal.main_arg7)
      ∧ r.2.mem ((c.tc : Thread Cert.RouterReferenceIdeal.nD Cert.RouterReferenceIdeal.τ).loc Cert.RouterReferenceIdeal.main_arg8) = m ((c.tc : Thread Cert.RouterReferenceIdeal.nD Cert.RouterReferenceIdeal.τ).loc Cert.RouterReferenceIdeal.main_arg8)
      ∧ r.2.mem ((c.tc : Thread Cert.RouterReferenceIdeal.nD Cert.RouterReferenceIdeal.τ).loc Cert.RouterReferenceIdeal.main_arg9) = m ((c.tc : Thread Cert.RouterReferenceIdeal.nD Cert.RouterReferenceIdeal.τ).loc Cert.RouterReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Router_RouterIdeal : Prop :=
  True

def algebraic_RouterIdeal_RouterReferenceIdeal_pre_in_graphs [hRouterIdeal : Cert.RouterIdeal.Facts] [hRouterReferenceIdeal : Cert.RouterReferenceIdeal.Facts] [hPre_in_graphs : Cert.Pre_in_graphs.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_in_graphs m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)
      ∧ m' ((c.tc : Thread Cert.RouterReferenceIdeal.nD Cert.RouterReferenceIdeal.τ).loc Cert.RouterReferenceIdeal.main_arg6) = m ((c.tc : Thread Cert.RouterIdeal.nD Cert.RouterIdeal.τ).loc Cert.RouterIdeal.main_arg6)
      ∧ m' ((c.tc : Thread Cert.RouterReferenceIdeal.nD Cert.RouterReferenceIdeal.τ).loc Cert.RouterReferenceIdeal.main_arg7) = m ((c.tc : Thread Cert.RouterIdeal.nD Cert.RouterIdeal.τ).loc Cert.RouterIdeal.main_arg7)
      ∧ m' ((c.tc : Thread Cert.RouterReferenceIdeal.nD Cert.RouterReferenceIdeal.τ).loc Cert.RouterReferenceIdeal.main_arg8) = m ((c.tc : Thread Cert.RouterIdeal.nD Cert.RouterIdeal.τ).loc Cert.RouterIdeal.main_arg8)
      ∧ m' ((c.tc : Thread Cert.RouterReferenceIdeal.nD Cert.RouterReferenceIdeal.τ).loc Cert.RouterReferenceIdeal.main_arg9) = m ((c.tc : Thread Cert.RouterIdeal.nD Cert.RouterIdeal.τ).loc Cert.RouterIdeal.main_arg9)) →
    ∃ (v0 : (c : Dev Cert.RouterIdeal.nD) → Buf (Elt Ideal) ((c.tc : Thread Cert.RouterIdeal.nD Cert.RouterIdeal.τ).loc Cert.RouterIdeal.main_v6_0)) (v1 : (c : Dev Cert.RouterIdeal.nD) → Buf (Elt Ideal) ((c.tc : Thread Cert.RouterIdeal.nD Cert.RouterIdeal.τ).loc Cert.RouterIdeal.main_v6_1)) (v2 : (c : Dev Cert.RouterIdeal.nD) → Buf (Elt Ideal) ((c.tc : Thread Cert.RouterIdeal.nD Cert.RouterIdeal.τ).loc Cert.RouterIdeal.main_v6_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v6_0) = v0 c
          ∧ r.2.mem ((c.tc : Thread Cert.RouterIdeal.nD Cert.RouterIdeal.τ).loc Cert.RouterIdeal.main_v6_1) = v1 c
          ∧ r.2.mem ((c.tc : Thread Cert.RouterIdeal.nD Cert.RouterIdeal.τ).loc Cert.RouterIdeal.main_v6_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7)
          ∧ r.2.mem ((c.tc : Thread Cert.RouterIdeal.nD Cert.RouterIdeal.τ).loc Cert.RouterIdeal.main_arg8) = m ((c.tc : Thread Cert.RouterIdeal.nD Cert.RouterIdeal.τ).loc Cert.RouterIdeal.main_arg8)
          ∧ r.2.mem ((c.tc : Thread Cert.RouterIdeal.nD Cert.RouterIdeal.τ).loc Cert.RouterIdeal.main_arg9) = m ((c.tc : Thread Cert.RouterIdeal.nD Cert.RouterIdeal.τ).loc Cert.RouterIdeal.main_arg9))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v4) = v0 c
          ∧ r.2.mem ((c.tc : Thread Cert.RouterReferenceIdeal.nD Cert.RouterReferenceIdeal.τ).loc Cert.RouterReferenceIdeal.main_v28) = v1 c
          ∧ r.2.mem ((c.tc : Thread Cert.RouterReferenceIdeal.nD Cert.RouterReferenceIdeal.τ).loc Cert.RouterReferenceIdeal.main_v39) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5)
          ∧ r.2.mem ((c.tc : Thread Cert.RouterReferenceIdeal.nD Cert.RouterReferenceIdeal.τ).loc Cert.RouterReferenceIdeal.main_arg6) = m' ((c.tc : Thread Cert.RouterReferenceIdeal.nD Cert.RouterReferenceIdeal.τ).loc Cert.RouterReferenceIdeal.main_arg6)
          ∧ r.2.mem ((c.tc : Thread Cert.RouterReferenceIdeal.nD Cert.RouterReferenceIdeal.τ).loc Cert.RouterReferenceIdeal.main_arg7) = m' ((c.tc : Thread Cert.RouterReferenceIdeal.nD Cert.RouterReferenceIdeal.τ).loc Cert.RouterReferenceIdeal.main_arg7)
          ∧ r.2.mem ((c.tc : Thread Cert.RouterReferenceIdeal.nD Cert.RouterReferenceIdeal.τ).loc Cert.RouterReferenceIdeal.main_arg8) = m' ((c.tc : Thread Cert.RouterReferenceIdeal.nD Cert.RouterReferenceIdeal.τ).loc Cert.RouterReferenceIdeal.main_arg8)
          ∧ r.2.mem ((c.tc : Thread Cert.RouterReferenceIdeal.nD Cert.RouterReferenceIdeal.τ).loc Cert.RouterReferenceIdeal.main_arg9) = m' ((c.tc : Thread Cert.RouterReferenceIdeal.nD Cert.RouterReferenceIdeal.τ).loc Cert.RouterReferenceIdeal.main_arg9))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hRouterReferenceIdeal : Cert.RouterReferenceIdeal.Facts) (hPre_in_range : Cert.Pre_in_range.Facts) (hPre_in_graphs : Cert.Pre_in_graphs.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Router (hRouter := hRouter)
    ∧ quiescent_RouterIdeal (hRouterIdeal := hRouterIdeal)
    ∧ quiescent_RouterIdeal_pre_in_graphs (hRouterIdeal := hRouterIdeal) (hPre_in_graphs := hPre_in_graphs)
    ∧ quiescent_RouterReferenceIdeal (hRouterReferenceIdeal := hRouterReferenceIdeal) (hPre_in_graphs := hPre_in_graphs)
    ∧ preserves_Kernel_KernelIdeal
    ∧ algebraic_KernelIdeal_ReferenceIdeal (hKernelIdeal := hKernelIdeal) (hReferenceIdeal := hReferenceIdeal) (hPre_in_range := hPre_in_range)
    ∧ preserves_Router_RouterIdeal
    ∧ algebraic_RouterIdeal_RouterReferenceIdeal_pre_in_graphs (hRouterIdeal := hRouterIdeal) (hRouterReferenceIdeal := hRouterReferenceIdeal) (hPre_in_graphs := hPre_in_graphs)
-- ==== Pre_in_graphs.lean ====
abbrev S10000x256 : Shape := ⟨2, ![10000, 256]⟩
abbrev S64 : Shape := ⟨1, ![64]⟩
abbrev S10000 : Shape := ⟨1, ![10000]⟩
abbrev S256x512 : Shape := ⟨2, ![256, 512]⟩
abbrev S512 : Shape := ⟨1, ![512]⟩
abbrev S514x512 : Shape := ⟨2, ![514, 512]⟩
abbrev S512x8 : Shape := ⟨2, ![512, 8]⟩
abbrev S8 : Shape := ⟨1, ![8]⟩
abbrev S_ : Shape := ⟨0, ![]⟩

class Facts : Prop where
  bcast_S_S10000 : S_.BroadcastsInDim S10000 (![] : Fin 0 → Fin S10000.rank)
  reducesTo_S10000_S_d0 : S10000.ReducesTo [0] S_
  h_S_ : 0 < S_.numel

variable [Facts]

def fn {F : FTy → Type} [FloatOps F] (main_arg0 : FVec F S10000x256 .f32) (main_arg1 : FVec F S64 .f32) (main_arg2 : FVec F S64 .f32) (main_arg3 : IVec S10000 32) (main_arg4 : FVec F S256x512 .f32) (main_arg5 : FVec F S512 .f32) (main_arg6 : FVec F S514x512 .f32) (main_arg7 : FVec F S512 .f32) (main_arg8 : FVec F S512x8 .f32) (main_arg9 : FVec F S8 .f32) : IVec S_ 1 :=
  let main_c : IVec S_ 32 := constantI S_ 32 0#32
  let main_v0 : IVec S10000 32 := broadcastInDim S10000 ![] bcast_S_S10000 main_c
  let main_v1 : IVec S10000 1 := cmpi .sge main_arg3 main_v0
  let main_c_0 : IVec S_ 32 := constantI S_ 32 64#32
  let main_v2 : IVec S10000 32 := broadcastInDim S10000 ![] bcast_S_S10000 main_c_0
  let main_v3 : IVec S10000 1 := cmpi .slt main_arg3 main_v2
  let main_v4 : IVec S10000 1 := andi main_v1 main_v3
  let main_c_1 : IVec S_ 1 := constantI S_ 1 1#1
  let main_v5 : IVec S_ 1 := (fun x v => Host.reduce IntOp.andi x v reducesTo_S10000_S_d0 h_S_) main_v4 main_c_1
  main_v5
-- ==== Pre_in_range.lean ====
abbrev S10000x512 : Shape := ⟨2, ![10000, 512]⟩
abbrev S10000 : Shape := ⟨1, ![10000]⟩
abbrev S2x160000 : Shape := ⟨2, ![2, 160000]⟩
abbrev S8x512x512 : Shape := ⟨3, ![8, 512, 512]⟩
abbrev S8x512 : Shape := ⟨2, ![8, 512]⟩
abbrev S8x512x256 : Shape := ⟨3, ![8, 512, 256]⟩
abbrev S8x256 : Shape := ⟨2, ![8, 256]⟩
abbrev S_ : Shape := ⟨0, ![]⟩

class Facts : Prop where
  bcast_S_S2x160000 : S_.BroadcastsInDim S2x160000 (![] : Fin 0 → Fin S2x160000.rank)
  reducesTo_S2x160000_S_d0_1 : S2x160000.ReducesTo [0, 1] S_
  h_S_ : 0 < S_.numel
  bcast_S_S10000 : S_.BroadcastsInDim S10000 (![] : Fin 0 → Fin S10000.rank)
  reducesTo_S10000_S_d0 : S10000.ReducesTo [0] S_

variable [Facts]

def fn {F : FTy → Type} [FloatOps F] (main_arg0 : FVec F S10000x512 .f32) (main_arg1 : IVec S10000 32) (main_arg2 : IVec S2x160000 32) (main_arg3 : FVec F S8x512x512 .f32) (main_arg4 : FVec F S8x512x512 .f32) (main_arg5 : FVec F S8x512 .f32) (main_arg6 : FVec F S8x512x256 .f32) (main_arg7 : FVec F S8x512x256 .f32) (main_arg8 : FVec F S8x256 .f32) : IVec S_ 1 :=
  let main_c : IVec S_ 32 := constantI S_ 32 0#32
  let main_v0 : IVec S2x160000 32 := broadcastInDim S2x160000 ![] bcast_S_S2x160000 main_c
  let main_v1 : IVec S2x160000 1 := cmpi .sge main_arg2 main_v0
  let main_c_0 : IVec S_ 32 := constantI S_ 32 10000#32
  let main_v2 : IVec S2x160000 32 := broadcastInDim S2x160000 ![] bcast_S_S2x160000 main_c_0
  let main_v3 : IVec S2x160000 1 := cmpi .slt main_arg2 main_v2
  let main_v4 : IVec S2x160000 1 := andi main_v1 main_v3
  let main_c_1 : IVec S_ 1 := constantI S_ 1 1#1
  let main_v5 : IVec S_ 1 := (fun x v => Host.reduce IntOp.andi x v reducesTo_S2x160000_S_d0_1 h_S_) main_v4 main_c_1
  let main_c_2 : IVec S_ 32 := constantI S_ 32 0#32
  let main_v6 : IVec S10000 32 := broadcastInDim S10000 ![] bcast_S_S10000 main_c_2
  let main_v7 : IVec S10000 1 := cmpi .sge main_arg1 main_v6
  let main_c_3 : IVec S_ 32 := constantI S_ 32 8#32
  let main_v8 : IVec S10000 32 := broadcastInDim S10000 ![] bcast_S_S10000 main_c_3
  let main_v9 : IVec S10000 1 := cmpi .slt main_arg1 main_v8
  let main_v10 : IVec S10000 1 := andi main_v7 main_v9
  let main_c_4 : IVec S_ 1 := constantI S_ 1 1#1
  let main_v11 : IVec S_ 1 := (fun x v => Host.reduce IntOp.andi x v reducesTo_S10000_S_d0 h_S_) main_v10 main_c_4
  let main_v12 : IVec S_ 1 := andi main_v5 main_v11
  main_v12
-- ==== Kernel.lean ====
abbrev S10000x512 : Shape := ⟨2, ![10000, 512]⟩
abbrev S10000 : Shape := ⟨1, ![10000]⟩
abbrev S2x160000 : Shape := ⟨2, ![2, 160000]⟩
abbrev S8x512x512 : Shape := ⟨3, ![8, 512, 512]⟩
abbrev S8x512 : Shape := ⟨2, ![8, 512]⟩
abbrev S8x512x256 : Shape := ⟨3, ![8, 512, 256]⟩
abbrev S8x256 : Shape := ⟨2, ![8, 256]⟩
abbrev S1x160000 : Shape := ⟨2, ![1, 160000]⟩
abbrev S160000 : Shape := ⟨1, ![160000]⟩
abbrev S_ : Shape := ⟨0, ![]⟩
abbrev S160256 : Shape := ⟨1, ![160256]⟩
abbrev S1 : Shape := ⟨1, ![1]⟩
abbrev S10x1x1000 : Shape := ⟨3, ![10, 1, 1000]⟩
abbrev S10000x256 : Shape := ⟨2, ![10000, 256]⟩
abbrev S10000x2x128 : Shape := ⟨3, ![10000, 2, 128]⟩
abbrev S10240x512 : Shape := ⟨2, ![10240, 512]⟩
abbrev S5008 : Shape := ⟨1, ![5008]⟩
abbrev S5040 : Shape := ⟨1, ![5040]⟩
abbrev S16x2x128 : Shape := ⟨3, ![16, 2, 128]⟩
abbrev S168x512 : Shape := ⟨2, ![168, 512]⟩
abbrev S16 : Shape := ⟨1, ![16]⟩
abbrev S1x16 : Shape := ⟨2, ![1, 16]⟩
abbrev S1x1x16 : Shape := ⟨3, ![1, 1, 16]⟩
abbrev S160x512 : Shape := ⟨2, ![160, 512]⟩
abbrev S8x1x512 : Shape := ⟨3, ![8, 1, 512]⟩
abbrev S8x10000x512 : Shape := ⟨3, ![8, 10000, 512]⟩
abbrev S1000x512 : Shape := ⟨2, ![1000, 512]⟩
abbrev S1x512x512 : Shape := ⟨3, ![1, 512, 512]⟩
abbrev S1x1x512 : Shape := ⟨3, ![1, 1, 512]⟩
abbrev S1x1000x512 : Shape := ⟨3, ![1, 1000, 512]⟩
abbrev S512x512 : Shape := ⟨2, ![512, 512]⟩
abbrev S512 : Shape := ⟨1, ![512]⟩
abbrev S1x512 : Shape := ⟨2, ![1, 512]⟩
abbrev S10240 : Shape := ⟨1, ![10240]⟩
abbrev S80000x512 : Shape := ⟨2, ![80000, 512]⟩
abbrev S80000x256 : Shape := ⟨2, ![80000, 256]⟩
abbrev S80000x2x128 : Shape := ⟨3, ![80000, 2, 128]⟩
abbrev S8x1x256 : Shape := ⟨3, ![8, 1, 256]⟩
abbrev S1x512x256 : Shape := ⟨3, ![1, 512, 256]⟩
abbrev S1x1x256 : Shape := ⟨3, ![1, 1, 256]⟩
abbrev S1x1x1000 : Shape := ⟨3, ![1, 1, 1000]⟩
abbrev S1000x256 : Shape := ⟨2, ![1000, 256]⟩
abbrev S1000 : Shape := ⟨1, ![1000]⟩
abbrev S512x256 : Shape := ⟨2, ![512, 256]⟩
abbrev S256 : Shape := ⟨1, ![256]⟩
abbrev S1x256 : Shape := ⟨2, ![1, 256]⟩
abbrev S1000x1 : Shape := ⟨2, ![1000, 1]⟩

abbrev nBuf : Table → Nat
  | .hbm => 46
  | .local .tc .vmem => 26
  | .local .scVector .vmem => 15
  | _ => 0

abbrev bufTy : (tb : Table) → Fin (nBuf tb) → BufTy
  | .hbm, ⟨0, _⟩ => ⟨S10000x512, .f32⟩
  | .hbm, ⟨1, _⟩ => ⟨S10000, .i32⟩
  | .hbm, ⟨2, _⟩ => ⟨S2x160000, .i32⟩
  | .hbm, ⟨3, _⟩ => ⟨S8x512x512, .f32⟩
  | .hbm, ⟨4, _⟩ => ⟨S8x512x512, .f32⟩
  | .hbm, ⟨5, _⟩ => ⟨S8x512, .f32⟩
  | .hbm, ⟨6, _⟩ => ⟨S8x512x256, .f32⟩
  | .hbm, ⟨7, _⟩ => ⟨S8x512x256, .f32⟩
  | .hbm, ⟨8, _⟩ => ⟨S8x256, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S_, .i32⟩
  | .hbm, ⟨14, _⟩ => ⟨S160256, .i32⟩
  | .hbm, ⟨15, _⟩ => ⟨S_, .i32⟩
  | .hbm, ⟨16, _⟩ => ⟨S1, .i32⟩
  | .hbm, ⟨17, _⟩ => ⟨S160256, .i32⟩
  | .hbm, ⟨18, _⟩ => ⟨S_, .i32⟩
  | .hbm, ⟨19, _⟩ => ⟨S160256, .i32⟩
  | .hbm, ⟨20, _⟩ => ⟨S_, .i32⟩
  | .hbm, ⟨21, _⟩ => ⟨S1, .i32⟩
  | .hbm, ⟨22, _⟩ => ⟨S160256, .i32⟩
  | .hbm, ⟨23, _⟩ => ⟨S10x1x1000, .i32⟩
  | .hbm, ⟨24, _⟩ => ⟨S10000x256, .f32⟩
  | .hbm, ⟨25, _⟩ => ⟨S10000x2x128, .f32⟩
  | .hbm, ⟨26, _⟩ => ⟨S10000x256, .f32⟩
  | .hbm, ⟨27, _⟩ => ⟨S10000x2x128, .f32⟩
  | .hbm, ⟨28, _⟩ => ⟨S10240x512, .f32⟩
  | .hbm, ⟨29, _⟩ => ⟨S10000x512, .f32⟩
  | .hbm, ⟨30, _⟩ => ⟨S8x1x512, .f32⟩
  | .hbm, ⟨31, _⟩ => ⟨S8x10000x512, .f32⟩
  | .hbm, ⟨32, _⟩ => ⟨S_, .i32⟩
  | .hbm, ⟨33, _⟩ => ⟨S10240, .i32⟩
  | .hbm, ⟨34, _⟩ => ⟨S_, .i32⟩
  | .hbm, ⟨35, _⟩ => ⟨S1, .i32⟩
  | .hbm, ⟨36, _⟩ => ⟨S10240, .i32⟩
  | .hbm, ⟨37, _⟩ => ⟨S80000x512, .f32⟩
  | .hbm, ⟨38, _⟩ => ⟨S80000x256, .f32⟩
  | .hbm, ⟨39, _⟩ => ⟨S80000x2x128, .f32⟩
  | .hbm, ⟨40, _⟩ => ⟨S80000x256, .f32⟩
  | .hbm, ⟨41, _⟩ => ⟨S80000x2x128, .f32⟩
  | .hbm, ⟨42, _⟩ => ⟨S10240x512, .f32⟩
  | .hbm, ⟨43, _⟩ => ⟨S10000x512, .f32⟩
  | .hbm, ⟨44, _⟩ => ⟨S8x1x256, .f32⟩
  | .hbm, ⟨45, _⟩ => ⟨S10000x256, .f32⟩
  | .local .tc .vmem, ⟨0, _⟩ => ⟨S1000x512, .f32⟩
  | .local .tc .vmem, ⟨1, _⟩ => ⟨S1000x512, .f32⟩
  | .local .tc .vmem, ⟨2, _⟩ => ⟨S1000x512, .f32⟩
  | .local .tc .vmem, ⟨3, _⟩ => ⟨S1000x512, .f32⟩
  | .local .tc .vmem, ⟨4, _⟩ => ⟨S1x512x512, .f32⟩
  | .local .tc .vmem, ⟨5, _⟩ => ⟨S1x512x512, .f32⟩
  | .local .tc .vmem, ⟨6, _⟩ => ⟨S1x512x512, .f32⟩
  | .local .tc .vmem, ⟨7, _⟩ => ⟨S1x512x512, .f32⟩
  | .local .tc .vmem, ⟨8, _⟩ => ⟨S1x1x512, .f32⟩
  | .local .tc .vmem, ⟨9, _⟩ => ⟨S1x1x512, .f32⟩
  | .local .tc .vmem, ⟨10, _⟩ => ⟨S1x1000x512, .f32⟩
  | .local .tc .vmem, ⟨11, _⟩ => ⟨S1x1000x512, .f32⟩
  | .local .tc .vmem, ⟨12, _⟩ => ⟨S1x1000x512, .f32⟩
  | .local .tc .vmem, ⟨13, _⟩ => ⟨S1x1000x512, .f32⟩
  | .local .tc .vmem, ⟨14, _⟩ => ⟨S1000x512, .f32⟩
  | .local .tc .vmem, ⟨15, _⟩ => ⟨S1000x512, .f32⟩
  | .local .tc .vmem, ⟨16, _⟩ => ⟨S1x512x256, .f32⟩
  | .local .tc .vmem, ⟨17, _⟩ => ⟨S1x512x256, .f32⟩
  | .local .tc .vmem, ⟨18, _⟩ => ⟨S1x512x256, .f32⟩
  | .local .tc .vmem, ⟨19, _⟩ => ⟨S1x512x256, .f32⟩
  | .local .tc .vmem, ⟨20, _⟩ => ⟨S1x1x256, .f32⟩
  | .local .tc .vmem, ⟨21, _⟩ => ⟨S1x1x256, .f32⟩
  | .local .tc .vmem, ⟨22, _⟩ => ⟨S1x1x1000, .i32⟩
  | .local .tc .vmem, ⟨23, _⟩ => ⟨S1x1x1000, .i32⟩
  | .local .tc .vmem, ⟨24, _⟩ => ⟨S1000x256, .f32⟩
  | .local .tc .vmem, ⟨25, _⟩ => ⟨S1000x256, .f32⟩
  | .local .scVector .vmem, ⟨0, _⟩ => ⟨S5008, .i32⟩
  | .local .scVector .vmem, ⟨1, _⟩ => ⟨S5008, .i32⟩
  | .local .scVector .vmem, ⟨2, _⟩ => ⟨S5040, .i32⟩
  | .local .scVector .vmem, ⟨3, _⟩ => ⟨S5040, .i32⟩
  | .local .scVector .vmem, ⟨4, _⟩ => ⟨S16x2x128, .f32⟩
  | .local .scVector .vmem, ⟨5, _⟩ => ⟨S16x2x128, .f32⟩
  | .local .scVector .vmem, ⟨6, _⟩ => ⟨S168x512, .f32⟩
  | .local .scVector .vmem, ⟨7, _⟩ => ⟨S5008, .i32⟩
  | .local .scVector .vmem, ⟨8, _⟩ => ⟨S5008, .i32⟩
  | .local .scVector .vmem, ⟨9, _⟩ => ⟨S10240, .i32⟩
  | .local .scVector .vmem, ⟨10, _⟩ => ⟨S5040, .i32⟩
  | .local .scVector .vmem, ⟨11, _⟩ => ⟨S5040, .i32⟩
  | .local .scVector .vmem, ⟨12, _⟩ => ⟨S16x2x128, .f32⟩
  | .local .scVector .vmem, ⟨13, _⟩ => ⟨S16x2x128, .f32⟩
  | .local .scVector .vmem, ⟨14, _⟩ => ⟨S168x512, .f32⟩
  | _, _ => ⟨S10000x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 35 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTables nBuf rfl bufTy 4 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v12_scv : Ref sig .scVector := ⟨.hbm, 25, rfl⟩
abbrev main_v14_scv : Ref sig .scVector := ⟨.hbm, 27, rfl⟩
abbrev main_v6_scv : Ref sig .scVector := ⟨.hbm, 17, rfl⟩
abbrev main_v9_scv : Ref sig .scVector := ⟨.hbm, 22, rfl⟩
abbrev main_v15_scv : Ref sig .scVector := ⟨.hbm, 28, rfl⟩
abbrev main_v24_scv : Ref sig .scVector := ⟨.hbm, 39, rfl⟩
abbrev main_v26_scv : Ref sig .scVector := ⟨.hbm, 41, rfl⟩
abbrev main_v21_scv : Ref sig .scVector := ⟨.hbm, 36, rfl⟩
abbrev main_v27_scv : Ref sig .scVector := ⟨.hbm, 42, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc3_stg4_0 : Ref sig .tc := ⟨.vmem, 20, rfl⟩
abbrev cc3_stg4_1 : Ref sig .tc := ⟨.vmem, 21, rfl⟩
abbrev cc3_stg5_0 : Ref sig .tc := ⟨.vmem, 22, rfl⟩
abbrev cc3_stg5_1 : Ref sig .tc := ⟨.vmem, 23, rfl⟩
abbrev cc3_stg6_0 : Ref sig .tc := ⟨.vmem, 24, rfl⟩
abbrev cc3_stg6_1 : Ref sig .tc := ⟨.vmem, 25, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc2_scratch0 : Ref sig .scVector := ⟨.vmem, 7, rfl⟩
abbrev cc2_scratch1 : Ref sig .scVector := ⟨.vmem, 8, rfl⟩
abbrev cc2_scratch2 : Ref sig .scVector := ⟨.vmem, 9, rfl⟩
abbrev cc2_scratch3 : Ref sig .scVector := ⟨.vmem, 10, rfl⟩
abbrev cc2_scratch4 : Ref sig .scVector := ⟨.vmem, 11, rfl⟩
abbrev cc2_scratch5 : Ref sig .scVector := ⟨.vmem, 12, rfl⟩
abbrev cc2_scratch6 : Ref sig .scVector := ⟨.vmem, 13, rfl⟩
abbrev cc2_scratch7 : Ref sig .scVector := ⟨.vmem, 14, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem5_1 : DmaSem sig := 32
abbrev cc3_sem6_0 : DmaSem sig := 33
abbrev cc3_sem6_1 : DmaSem sig := 34
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2_i32 : BitVec 32 := 2#32
  let v3 : BitVec 32 := Scalar.addi c0_i32_0 c2_i32
  let c1_i32 : BitVec 32 := 1#32
  ⟨c0_i32_0, v3, c1_i32⟩
@[reducible] def k0_t2_loop : Scf.Loop 32 :=
  let c0_i32_3 : BitVec 32 := 0#32
  let c160_i32_4 : BitVec 32 := 160#32
  let v8 : BitVec 32 := Scalar.addi c0_i32_3 c160_i32_4
  let c1_i32_5 : BitVec 32 := 1#32
  ⟨c0_i32_3, v8, c1_i32_5⟩
@[reducible] def k0_t3_loop : Scf.Loop 32 :=
  let c0_i32_13 : BitVec 32 := 0#32
  let c32_i32_14 : BitVec 32 := 32#32
  let v13 : BitVec 32 := Scalar.addi c0_i32_13 c32_i32_14
  let c1_i32_15 : BitVec 32 := 1#32
  ⟨c0_i32_13, v13, c1_i32_15⟩
def k0_off1 (k0_t2 : Fin k0_t2_loop.trips) (k0_t3 : Fin k0_t3_loop.trips) : Fin 2 → Nat :=
  let c0_i32_3 : BitVec 32 := 0#32
  let c1_i32_5 : BitVec 32 := 1#32
  let arg17 : BitVec 32 := Scf.iv c0_i32_3 c1_i32_5 k0_t2
  let v17 : Index := Scalar.indexCast arg17
  let c0_i32_13 : BitVec 32 := 0#32
  let c1_i32_15 : BitVec 32 := 1#32
  let arg19 : BitVec 32 := Scf.iv c0_i32_13 c1_i32_15 k0_t3
  let c16_i32_18 : BitVec 32 := 16#32
  let v16 : BitVec 32 := Scalar.muli arg19 c16_i32_18
  let v18 : Index := Scalar.indexCast v16
  ![v17.toNat, v18.toNat]
@[reducible] def k0_t4_loop : Scf.Loop 32 :=
  let c0_i32_8 : BitVec 32 := 0#32
  let c32_i32 : BitVec 32 := 32#32
  let v10 : BitVec 32 := Scalar.addi c0_i32_8 c32_i32
  let c1_i32_9 : BitVec 32 := 1#32
  ⟨c0_i32_8, v10, c1_i32_9⟩
def k0_mult1 (k0_t4 : Fin k0_t4_loop.trips) : BitVec 32 :=
  let c0_i32_8 : BitVec 32 := 0#32
  let c1_i32_9 : BitVec 32 := 1#32
  let arg17 : BitVec 32 := Scf.iv c0_i32_8 c1_i32_9 k0_t4
  let c5008_i32 : BitVec 32 := 5008#32
  let v13 : BitVec 32 := Scalar.muli arg17 c5008_i32
  v13
def k0_off2 (k0_t4 : Fin k0_t4_loop.trips) : Fin 1 → Nat :=
  let c0_i32_8 : BitVec 32 := 0#32
  let c1_i32_9 : BitVec 32 := 1#32
  let arg17 : BitVec 32 := Scf.iv c0_i32_8 c1_i32_9 k0_t4
  let c5008_i32 : BitVec 32 := 5008#32
  let v13 : BitVec 32 := Scalar.muli arg17 c5008_i32
  let v14 : BitVec 32 := v13
  ![v14.toNat]
@[reducible] def k0_t5_loop : Scf.Loop 32 :=
  let c0_i32_13 : BitVec 32 := 0#32
  let c313_i32 : BitVec 32 := 313#32
  let v15 : BitVec 32 := Scalar.addi c0_i32_13 c313_i32
  let c1_i32_14 : BitVec 32 := 1#32
  ⟨c0_i32_13, v15, c1_i32_14⟩
def k0_off3 (k0_t5 : Fin k0_t5_loop.trips) : Fin 1 → Nat :=
  let c0_i32_13 : BitVec 32 := 0#32
  let c1_i32_14 : BitVec 32 := 1#32
  let arg19 : BitVec 32 := Scf.iv c0_i32_13 c1_i32_14 k0_t5
  let c16_i32_33 : BitVec 32 := 16#32
  let v49 : BitVec 32 := Scalar.muli arg19 c16_i32_33
  let v50 : Index := Scalar.indexCast v49
  ![v50.toNat]

def k0_chk1 (v74 : IVec S16 32) : Prop :=
  (∀ a x, ((![v74] : Fin 1 → IVec S16 32) a x).toNat < S5040.size a) ∧
  (∀ a x, ((![v74] : Fin 1 → IVec S16 32) a x).toNat < S5040.size a)
theorem k0_idx1_inb : ∀ (v74 : IVec S16 32) (k0_hw1 : k0_chk1 v74), ∀ a x, ((![v74] : Fin 1 → IVec S16 32) a x).toNat < S5040.size a := fun v74 k0_hw1 => k0_hw1.1
theorem k0_idx2_inb : ∀ (v74 : IVec S16 32) (k0_hw1 : k0_chk1 v74), ∀ a x, ((![v74] : Fin 1 → IVec S16 32) a x).toNat < S5040.size a := fun v74 k0_hw1 => k0_hw1.2
def k0_off4 (v16 : BitVec 32) : Fin 1 → Nat :=
  let v18 : Index := Scalar.indexCast v16
  ![v18.toNat]

@[reducible] def k0_t6_loop (v16 : BitVec 32) : Scf.Loop 32 :=
  let c0_i32_27 : BitVec 32 := 0#32
  let c16_i32_18 : BitVec 32 := 16#32
  let v23 : BitVec 32 := Scalar.addi v16 c16_i32_18
  let c1_i32_19 : BitVec 32 := 1#32
  let v24 : BitVec 32 := Scalar.subi v23 c1_i32_19
  let c0_i32_21 : BitVec 32 := 0#32
  let v26 : BitVec 1 := Scalar.cmpi .sgt v24 c0_i32_21
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c16_i32_20 : BitVec 32 := 16#32
  let c0_i32_23 : BitVec 32 := 0#32
  let v31 : BitVec 1 := Scalar.cmpi .sgt c16_i32_20 c0_i32_23
  let v32 : BitVec 32 := Scalar.extui v31
  let c0_i32_24 : BitVec 32 := 0#32
  let v33 : BitVec 1 := Scalar.cmpi .slt c16_i32_20 c0_i32_24
  let v34 : BitVec 32 := Scalar.extui v33
  let v35 : BitVec 32 := Scalar.subi v32 v34
  let v36 : BitVec 1 := Scalar.cmpi .ne v30 v35
  let v37 : BitVec 32 := Scalar.remsi v24 c16_i32_20
  let c0_i32_25 : BitVec 32 := 0#32
  let v38 : BitVec 1 := Scalar.cmpi .ne v37 c0_i32_25
  let v39 : BitVec 1 := Scalar.andi v36 v38
  let v25 : BitVec 32 := Scalar.divsi v24 c16_i32_20
  let c1_i32_26 : BitVec 32 := 1#32
  let v40 : BitVec 32 := Scalar.subi v25 c1_i32_26
  let v41 : BitVec 32 := Scalar.select v39 v40 v25
  let v42 : BitVec 32 := Scalar.subi v41 c0_i32_27
  let c1_i32_29 : BitVec 32 := 1#32
  let v44 : BitVec 32 := Scalar.divsi v42 c1_i32_29
  let v45 : BitVec 32 := Scalar.muli v44 c1_i32_29
  let v46 : BitVec 32 := Scalar.addi c0_i32_27 v45
  let c1_i32_30 : BitVec 32 := 1#32
  ⟨c0_i32_27, v46, c1_i32_30⟩
def k0_off5 (v16 : BitVec 32) (k0_t6 : Fin (k0_t6_loop v16).trips) : Fin 1 → Nat :=
  let c0_i32_27 : BitVec 32 := 0#32
  let c1_i32_30 : BitVec 32 := 1#32
  let arg19 : BitVec 32 := Scf.iv c0_i32_27 c1_i32_30 k0_t6
  let c16_i32_33 : BitVec 32 := 16#32
  let v49 : BitVec 32 := Scalar.muli arg19 c16_i32_33
  ![v49.toNat]
@[reducible] def k0_t7_loop : Scf.Loop 32 :=
  let c0_i32_48 : BitVec 32 := 0#32
  let c16_i32_49 : BitVec 32 := 16#32
  let v59 : BitVec 32 := Scalar.addi c0_i32_48 c16_i32_49
  let c1_i32_50 : BitVec 32 := 1#32
  ⟨c0_i32_48, v59, c1_i32_50⟩
def k0_off6 (v16 : BitVec 32) (k0_t6 : Fin (k0_t6_loop v16).trips) (k0_t7 : Fin k0_t7_loop.trips) : Fin 1 → Nat :=
  let c0_i32_27 : BitVec 32 := 0#32
  let c1_i32_30 : BitVec 32 := 1#32
  let arg19 : BitVec 32 := Scf.iv c0_i32_27 c1_i32_30 k0_t6
  let c16_i32_53 : BitVec 32 := 16#32
  let v61 : BitVec 32 := Scalar.muli arg19 c16_i32_53
  let c0_i32_48 : BitVec 32 := 0#32
  let c1_i32_50 : BitVec 32 := 1#32
  let arg21 : BitVec 32 := Scf.iv c0_i32_48 c1_i32_50 k0_t7
  let v62 : BitVec 32 := Scalar.addi v61 arg21
  let v63 : Index := Scalar.indexCast v62
  ![v63.toNat]
@[reducible] def k0_t8_loop : Scf.Loop 32 :=
  let c0_i32_55 : BitVec 32 := 0#32
  let c2_i32_56 : BitVec 32 := 2#32
  let v67 : BitVec 32 := Scalar.addi c0_i32_55 c2_i32_56
  let c1_i32_57 : BitVec 32 := 1#32
  ⟨c0_i32_55, v67, c1_i32_57⟩
@[reducible] def k0_t9_loop : Scf.Loop 32 :=
  let c0_i32_61 : BitVec 32 := 0#32
  let c8_i32 : BitVec 32 := 8#32
  let v69 : BitVec 32 := Scalar.addi c0_i32_61 c8_i32
  let c1_i32_62 : BitVec 32 := 1#32
  ⟨c0_i32_61, v69, c1_i32_62⟩
def k0_off7 (v66 : BitVec 32) (k0_t8 : Fin k0_t8_loop.trips) (k0_t9 : Fin k0_t9_loop.trips) : Fin 2 → Nat :=
  let v75 : Index := Scalar.indexCast v66
  let c0_i32_55 : BitVec 32 := 0#32
  let c1_i32_57 : BitVec 32 := 1#32
  let arg23 : BitVec 32 := Scf.iv c0_i32_55 c1_i32_57 k0_t8
  let c128_i32 : BitVec 32 := 128#32
  let v71 : BitVec 32 := Scalar.muli arg23 c128_i32
  let c0_i32_61 : BitVec 32 := 0#32
  let c1_i32_62 : BitVec 32 := 1#32
  let arg25 : BitVec 32 := Scf.iv c0_i32_61 c1_i32_62 k0_t9
  let c16_i32_65 : BitVec 32 := 16#32
  let v72 : BitVec 32 := Scalar.muli arg25 c16_i32_65
  let v73 : BitVec 32 := Scalar.addi v71 v72
  let v76 : Index := Scalar.indexCast v73
  ![v75.toNat, v76.toNat]

def k0_off8 (k0_t7 : Fin k0_t7_loop.trips) (k0_t8 : Fin k0_t8_loop.trips) (k0_t9 : Fin k0_t9_loop.trips) : Fin 3 → Nat :=
  let c0_i32_48 : BitVec 32 := 0#32
  let c1_i32_50 : BitVec 32 := 1#32
  let arg21 : BitVec 32 := Scf.iv c0_i32_48 c1_i32_50 k0_t7
  let v79 : Index := Scalar.indexCast arg21
  let c0_i32_55 : BitVec 32 := 0#32
  let c1_i32_57 : BitVec 32 := 1#32
  let arg23 : BitVec 32 := Scf.iv c0_i32_55 c1_i32_57 k0_t8
  let v80 : Index := Scalar.indexCast arg23
  let c0_i32_61 : BitVec 32 := 0#32
  let c1_i32_62 : BitVec 32 := 1#32
  let arg25 : BitVec 32 := Scf.iv c0_i32_61 c1_i32_62 k0_t9
  let c16_i32_66 : BitVec 32 := 16#32
  let v78 : BitVec 32 := Scalar.muli arg25 c16_i32_66
  let v81 : Index := Scalar.indexCast v78
  ![v79.toNat, v80.toNat, v81.toNat]
def k0_off9 (v66 : BitVec 32) (k0_t8 : Fin k0_t8_loop.trips) (k0_t9 : Fin k0_t9_loop.trips) : Fin 2 → Nat :=
  let v87 : Index := Scalar.indexCast v66
  let c256_i32 : BitVec 32 := 256#32
  let c0_i32_55 : BitVec 32 := 0#32
  let c1_i32_57 : BitVec 32 := 1#32
  let arg23 : BitVec 32 := Scf.iv c0_i32_55 c1_i32_57 k0_t8
  let c128_i32 : BitVec 32 := 128#32
  let v71 : BitVec 32 := Scalar.muli arg23 c128_i32
  let c0_i32_61 : BitVec 32 := 0#32
  let c1_i32_62 : BitVec 32 := 1#32
  let arg25 : BitVec 32 := Scf.iv c0_i32_61 c1_i32_62 k0_t9
  let c16_i32_65 : BitVec 32 := 16#32
  let v72 : BitVec 32 := Scalar.muli arg25 c16_i32_65
  let v73 : BitVec 32 := Scalar.addi v71 v72
  let v74 : BitVec 32 := Scalar.addi c256_i32 v73
  let v88 : Index := Scalar.indexCast v74
  ![v87.toNat, v88.toNat]

def k0_chk3 (v66 : BitVec 32) : Prop :=
  (∀ (k0_t8 : Fin k0_t8_loop.trips) (k0_t9 : Fin k0_t9_loop.trips), ∀ a, (k0_off7 v66 k0_t8 k0_t9) a + S1x16.size a ≤ S168x512.size a) ∧
  (∀ (k0_t8 : Fin k0_t8_loop.trips) (k0_t9 : Fin k0_t9_loop.trips), ∀ a, (k0_off9 v66 k0_t8 k0_t9) a + S1x16.size a ≤ S168x512.size a)
theorem k0_off7_inb : ∀ (v66 : BitVec 32) (k0_hw3 : k0_chk3 v66) (k0_t8 : Fin k0_t8_loop.trips) (k0_t9 : Fin k0_t9_loop.trips), ∀ a, (k0_off7 v66 k0_t8 k0_t9) a + S1x16.size a ≤ S168x512.size a := fun v66 k0_hw3 k0_t8 k0_t9 => k0_hw3.1 k0_t8 k0_t9
theorem k0_off9_inb : ∀ (v66 : BitVec 32) (k0_hw3 : k0_chk3 v66) (k0_t8 : Fin k0_t8_loop.trips) (k0_t9 : Fin k0_t9_loop.trips), ∀ a, (k0_off9 v66 k0_t8 k0_t9) a + S1x16.size a ≤ S168x512.size a := fun v66 k0_hw3 k0_t8 k0_t9 => k0_hw3.2 k0_t8 k0_t9

@[reducible] def k0_t10_loop (v16 : BitVec 32) : Scf.Loop 32 :=
  let c0_i32_27 : BitVec 32 := 0#32
  let c16_i32_18 : BitVec 32 := 16#32
  let v23 : BitVec 32 := Scalar.addi v16 c16_i32_18
  let c1_i32_19 : BitVec 32 := 1#32
  let v24 : BitVec 32 := Scalar.subi v23 c1_i32_19
  let c0_i32_21 : BitVec 32 := 0#32
  let v26 : BitVec 1 := Scalar.cmpi .sgt v24 c0_i32_21
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c16_i32_20 : BitVec 32 := 16#32
  let c0_i32_23 : BitVec 32 := 0#32
  let v31 : BitVec 1 := Scalar.cmpi .sgt c16_i32_20 c0_i32_23
  let v32 : BitVec 32 := Scalar.extui v31
  let c0_i32_24 : BitVec 32 := 0#32
  let v33 : BitVec 1 := Scalar.cmpi .slt c16_i32_20 c0_i32_24
  let v34 : BitVec 32 := Scalar.extui v33
  let v35 : BitVec 32 := Scalar.subi v32 v34
  let v36 : BitVec 1 := Scalar.cmpi .ne v30 v35
  let v37 : BitVec 32 := Scalar.remsi v24 c16_i32_20
  let c0_i32_25 : BitVec 32 := 0#32
  let v38 : BitVec 1 := Scalar.cmpi .ne v37 c0_i32_25
  let v39 : BitVec 1 := Scalar.andi v36 v38
  let v25 : BitVec 32 := Scalar.divsi v24 c16_i32_20
  let c1_i32_26 : BitVec 32 := 1#32
  let v40 : BitVec 32 := Scalar.subi v25 c1_i32_26
  let v41 : BitVec 32 := Scalar.select v39 v40 v25
  let v42 : BitVec 32 := Scalar.subi v41 c0_i32_27
  let c1_i32_29 : BitVec 32 := 1#32
  let v44 : BitVec 32 := Scalar.divsi v42 c1_i32_29
  let v45 : BitVec 32 := Scalar.muli v44 c1_i32_29
  let v46 : BitVec 32 := Scalar.addi c0_i32_27 v45
  let v43 : BitVec 32 := Scalar.addi c0_i32_27 v42
  let c1_i32_31 : BitVec 32 := 1#32
  ⟨v46, v43, c1_i32_31⟩
def k0_off10 (v16 : BitVec 32) (k0_t10 : Fin (k0_t10_loop v16).trips) : Fin 1 → Nat :=
  let c0_i32_27 : BitVec 32 := 0#32
  let c16_i32_18 : BitVec 32 := 16#32
  let v23 : BitVec 32 := Scalar.addi v16 c16_i32_18
  let c1_i32_19 : BitVec 32 := 1#32
  let v24 : BitVec 32 := Scalar.subi v23 c1_i32_19
  let c0_i32_21 : BitVec 32 := 0#32
  let v26 : BitVec 1 := Scalar.cmpi .sgt v24 c0_i32_21
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c16_i32_20 : BitVec 32 := 16#32
  let c0_i32_23 : BitVec 32 := 0#32
  let v31 : BitVec 1 := Scalar.cmpi .sgt c16_i32_20 c0_i32_23
  let v32 : BitVec 32 := Scalar.extui v31
  let c0_i32_24 : BitVec 32 := 0#32
  let v33 : BitVec 1 := Scalar.cmpi .slt c16_i32_20 c0_i32_24
  let v34 : BitVec 32 := Scalar.extui v33
  let v35 : BitVec 32 := Scalar.subi v32 v34
  let v36 : BitVec 1 := Scalar.cmpi .ne v30 v35
  let v37 : BitVec 32 := Scalar.remsi v24 c16_i32_20
  let c0_i32_25 : BitVec 32 := 0#32
  let v38 : BitVec 1 := Scalar.cmpi .ne v37 c0_i32_25
  let v39 : BitVec 1 := Scalar.andi v36 v38
  let v25 : BitVec 32 := Scalar.divsi v24 c16_i32_20
  let c1_i32_26 : BitVec 32 := 1#32
  let v40 : BitVec 32 := Scalar.subi v25 c1_i32_26
  let v41 : BitVec 32 := Scalar.select v39 v40 v25
  let v42 : BitVec 32 := Scalar.subi v41 c0_i32_27
  let c1_i32_29 : BitVec 32 := 1#32
  let v44 : BitVec 32 := Scalar.divsi v42 c1_i32_29
  let v45 : BitVec 32 := Scalar.muli v44 c1_i32_29
  let v46 : BitVec 32 := Scalar.addi c0_i32_27 v45
  let c1_i32_31 : BitVec 32 := 1#32
  let arg19 : BitVec 32 := Scf.iv v46 c1_i32_31 k0_t10
  let c16_i32_33 : BitVec 32 := 16#32
  let v49 : BitVec 32 := Scalar.muli arg19 c16_i32_33
  ![v49.toNat]
@[reducible] def k0_t11_loop : Scf.Loop 32 :=
  let c0_i32_48 : BitVec 32 := 0#32
  let c16_i32_49 : BitVec 32 := 16#32
  let v59 : BitVec 32 := Scalar.addi c0_i32_48 c16_i32_49
  let c1_i32_50 : BitVec 32 := 1#32
  ⟨c0_i32_48, v59, c1_i32_50⟩
def k0_off11 (v16 : BitVec 32) (k0_t10 : Fin (k0_t10_loop v16).trips) (k0_t11 : Fin k0_t11_loop.trips) : Fin 1 → Nat :=
  let c0_i32_27 : BitVec 32 := 0#32
  let c16_i32_18 : BitVec 32 := 16#32
  let v23 : BitVec 32 := Scalar.addi v16 c16_i32_18
  let c1_i32_19 : BitVec 32 := 1#32
  let v24 : BitVec 32 := Scalar.subi v23 c1_i32_19
  let c0_i32_21 : BitVec 32 := 0#32
  let v26 : BitVec 1 := Scalar.cmpi .sgt v24 c0_i32_21
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c16_i32_20 : BitVec 32 := 16#32
  let c0_i32_23 : BitVec 32 := 0#32
  let v31 : BitVec 1 := Scalar.cmpi .sgt c16_i32_20 c0_i32_23
  let v32 : BitVec 32 := Scalar.extui v31
  let c0_i32_24 : BitVec 32 := 0#32
  let v33 : BitVec 1 := Scalar.cmpi .slt c16_i32_20 c0_i32_24
  let v34 : BitVec 32 := Scalar.extui v33
  let v35 : BitVec 32 := Scalar.subi v32 v34
  let v36 : BitVec 1 := Scalar.cmpi .ne v30 v35
  let v37 : BitVec 32 := Scalar.remsi v24 c16_i32_20
  let c0_i32_25 : BitVec 32 := 0#32
  let v38 : BitVec 1 := Scalar.cmpi .ne v37 c0_i32_25
  let v39 : BitVec 1 := Scalar.andi v36 v38
  let v25 : BitVec 32 := Scalar.divsi v24 c16_i32_20
  let c1_i32_26 : BitVec 32 := 1#32
  let v40 : BitVec 32 := Scalar.subi v25 c1_i32_26
  let v41 : BitVec 32 := Scalar.select v39 v40 v25
  let v42 : BitVec 32 := Scalar.subi v41 c0_i32_27
  let c1_i32_29 : BitVec 32 := 1#32
  let v44 : BitVec 32 := Scalar.divsi v42 c1_i32_29
  let v45 : BitVec 32 := Scalar.muli v44 c1_i32_29
  let v46 : BitVec 32 := Scalar.addi c0_i32_27 v45
  let c1_i32_31 : BitVec 32 := 1#32
  let arg19 : BitVec 32 := Scf.iv v46 c1_i32_31 k0_t10
  let c16_i32_53 : BitVec 32 := 16#32
  let v61 : BitVec 32 := Scalar.muli arg19 c16_i32_53
  let c0_i32_48 : BitVec 32 := 0#32
  let c1_i32_50 : BitVec 32 := 1#32
  let arg21 : BitVec 32 := Scf.iv c0_i32_48 c1_i32_50 k0_t11
  let v62 : BitVec 32 := Scalar.addi v61 arg21
  let v63 : Index := Scalar.indexCast v62
  ![v63.toNat]

def k0_chk2 (v16 : BitVec 32) : Prop :=
  (∀ a, (k0_off4 v16) a + S16.size a ≤ S5040.size a) ∧
  ((k0_t6_loop v16).OK) ∧
  (∀ k0_t6 : Fin (k0_t6_loop v16).trips, ∀ a, (k0_off5 v16 k0_t6) a + S16.size a ≤ S5040.size a) ∧
  (∀ (k0_t6 : Fin (k0_t6_loop v16).trips) (k0_t7 : Fin k0_t7_loop.trips), ∀ a, (k0_off6 v16 k0_t6 k0_t7) a + S16.size a ≤ S5040.size a) ∧
  ((k0_t10_loop v16).OK) ∧
  (∀ k0_t10 : Fin (k0_t10_loop v16).trips, ∀ a, (k0_off10 v16 k0_t10) a + S16.size a ≤ S5040.size a) ∧
  (∀ (k0_t10 : Fin (k0_t10_loop v16).trips) (k0_t11 : Fin k0_t11_loop.trips), ∀ a, (k0_off11 v16 k0_t10 k0_t11) a + S16.size a ≤ S5040.size a)
theorem k0_off4_inb : ∀ (v16 : BitVec 32) (k0_hw2 : k0_chk2 v16), ∀ a, (k0_off4 v16) a + S16.size a ≤ S5040.size a := fun v16 k0_hw2 => k0_hw2.1
theorem k0_t6_ok : ∀ (v16 : BitVec 32) (k0_hw2 : k0_chk2 v16), (k0_t6_loop v16).OK := fun v16 k0_hw2 => k0_hw2.2.1
theorem k0_off5_inb : ∀ (v16 : BitVec 32) (k0_hw2 : k0_chk2 v16) (k0_t6 : Fin (k0_t6_loop v16).trips), ∀ a, (k0_off5 v16 k0_t6) a + S16.size a ≤ S5040.size a := fun v16 k0_hw2 k0_t6 => k0_hw2.2.2.1 k0_t6
theorem k0_off6_inb : ∀ (v16 : BitVec 32) (k0_hw2 : k0_chk2 v16) (k0_t6 : Fin (k0_t6_loop v16).trips) (k0_t7 : Fin k0_t7_loop.trips), ∀ a, (k0_off6 v16 k0_t6 k0_t7) a + S16.size a ≤ S5040.size a := fun v16 k0_hw2 k0_t6 k0_t7 => k0_hw2.2.2.2.1 k0_t6 k0_t7
theorem k0_t10_ok : ∀ (v16 : BitVec 32) (k0_hw2 : k0_chk2 v16), (k0_t10_loop v16).OK := fun v16 k0_hw2 => k0_hw2.2.2.2.2.1
theorem k0_off10_inb : ∀ (v16 : BitVec 32) (k0_hw2 : k0_chk2 v16) (k0_t10 : Fin (k0_t10_loop v16).trips), ∀ a, (k0_off10 v16 k0_t10) a + S16.size a ≤ S5040.size a := fun v16 k0_hw2 k0_t10 => k0_hw2.2.2.2.2.2.1 k0_t10
theorem k0_off11_inb : ∀ (v16 : BitVec 32) (k0_hw2 : k0_chk2 v16) (k0_t10 : Fin (k0_t10_loop v16).trips) (k0_t11 : Fin k0_t11_loop.trips), ∀ a, (k0_off11 v16 k0_t10 k0_t11) a + S16.size a ≤ S5040.size a := fun v16 k0_hw2 k0_t10 k0_t11 => k0_hw2.2.2.2.2.2.2 k0_t10 k0_t11

@[reducible] def k0_t12_loop : Scf.Loop 32 :=
  let c0_i32_55 : BitVec 32 := 0#32
  let c2_i32_56 : BitVec 32 := 2#32
  let v67 : BitVec 32 := Scalar.addi c0_i32_55 c2_i32_56
  let c1_i32_57 : BitVec 32 := 1#32
  ⟨c0_i32_55, v67, c1_i32_57⟩
@[reducible] def k0_t13_loop : Scf.Loop 32 :=
  let c0_i32_61 : BitVec 32 := 0#32
  let c8_i32 : BitVec 32 := 8#32
  let v69 : BitVec 32 := Scalar.addi c0_i32_61 c8_i32
  let c1_i32_62 : BitVec 32 := 1#32
  ⟨c0_i32_61, v69, c1_i32_62⟩
def k0_off12 (v66 : BitVec 32) (k0_t12 : Fin k0_t12_loop.trips) (k0_t13 : Fin k0_t13_loop.trips) : Fin 2 → Nat :=
  let v75 : Index := Scalar.indexCast v66
  let c0_i32_55 : BitVec 32 := 0#32
  let c1_i32_57 : BitVec 32 := 1#32
  let arg23 : BitVec 32 := Scf.iv c0_i32_55 c1_i32_57 k0_t12
  let c128_i32 : BitVec 32 := 128#32
  let v71 : BitVec 32 := Scalar.muli arg23 c128_i32
  let c0_i32_61 : BitVec 32 := 0#32
  let c1_i32_62 : BitVec 32 := 1#32
  let arg25 : BitVec 32 := Scf.iv c0_i32_61 c1_i32_62 k0_t13
  let c16_i32_65 : BitVec 32 := 16#32
  let v72 : BitVec 32 := Scalar.muli arg25 c16_i32_65
  let v73 : BitVec 32 := Scalar.addi v71 v72
  let v76 : Index := Scalar.indexCast v73
  ![v75.toNat, v76.toNat]

def k0_off13 (k0_t11 : Fin k0_t11_loop.trips) (k0_t12 : Fin k0_t12_loop.trips) (k0_t13 : Fin k0_t13_loop.trips) : Fin 3 → Nat :=
  let c0_i32_48 : BitVec 32 := 0#32
  let c1_i32_50 : BitVec 32 := 1#32
  let arg21 : BitVec 32 := Scf.iv c0_i32_48 c1_i32_50 k0_t11
  let v79 : Index := Scalar.indexCast arg21
  let c0_i32_55 : BitVec 32 := 0#32
  let c1_i32_57 : BitVec 32 := 1#32
  let arg23 : BitVec 32 := Scf.iv c0_i32_55 c1_i32_57 k0_t12
  let v80 : Index := Scalar.indexCast arg23
  let c0_i32_61 : BitVec 32 := 0#32
  let c1_i32_62 : BitVec 32 := 1#32
  let arg25 : BitVec 32 := Scf.iv c0_i32_61 c1_i32_62 k0_t13
  let c16_i32_66 : BitVec 32 := 16#32
  let v78 : BitVec 32 := Scalar.muli arg25 c16_i32_66
  let v81 : Index := Scalar.indexCast v78
  ![v79.toNat, v80.toNat, v81.toNat]
def k0_off14 (v66 : BitVec 32) (k0_t12 : Fin k0_t12_loop.trips) (k0_t13 : Fin k0_t13_loop.trips) : Fin 2 → Nat :=
  let v87 : Index := Scalar.indexCast v66
  let c256_i32 : BitVec 32 := 256#32
  let c0_i32_55 : BitVec 32 := 0#32
  let c1_i32_57 : BitVec 32 := 1#32
  let arg23 : BitVec 32 := Scf.iv c0_i32_55 c1_i32_57 k0_t12
  let c128_i32 : BitVec 32 := 128#32
  let v71 : BitVec 32 := Scalar.muli arg23 c128_i32
  let c0_i32_61 : BitVec 32 := 0#32
  let c1_i32_62 : BitVec 32 := 1#32
  let arg25 : BitVec 32 := Scf.iv c0_i32_61 c1_i32_62 k0_t13
  let c16_i32_65 : BitVec 32 := 16#32
  let v72 : BitVec 32 := Scalar.muli arg25 c16_i32_65
  let v73 : BitVec 32 := Scalar.addi v71 v72
  let v74 : BitVec 32 := Scalar.addi c256_i32 v73
  let v88 : Index := Scalar.indexCast v74
  ![v87.toNat, v88.toNat]

def k0_chk4 (v66 : BitVec 32) : Prop :=
  (∀ (k0_t12 : Fin k0_t12_loop.trips) (k0_t13 : Fin k0_t13_loop.trips), ∀ a, (k0_off12 v66 k0_t12 k0_t13) a + S1x16.size a ≤ S168x512.size a) ∧
  (∀ (k0_t12 : Fin k0_t12_loop.trips) (k0_t13 : Fin k0_t13_loop.trips), ∀ a, (k0_off14 v66 k0_t12 k0_t13) a + S1x16.size a ≤ S168x512.size a)
theorem k0_off12_inb : ∀ (v66 : BitVec 32) (k0_hw4 : k0_chk4 v66) (k0_t12 : Fin k0_t12_loop.trips) (k0_t13 : Fin k0_t13_loop.trips), ∀ a, (k0_off12 v66 k0_t12 k0_t13) a + S1x16.size a ≤ S168x512.size a := fun v66 k0_hw4 k0_t12 k0_t13 => k0_hw4.1 k0_t12 k0_t13
theorem k0_off14_inb : ∀ (v66 : BitVec 32) (k0_hw4 : k0_chk4 v66) (k0_t12 : Fin k0_t12_loop.trips) (k0_t13 : Fin k0_t13_loop.trips), ∀ a, (k0_off14 v66 k0_t12 k0_t13) a + S1x16.size a ≤ S168x512.size a := fun v66 k0_hw4 k0_t12 k0_t13 => k0_hw4.2 k0_t12 k0_t13

def k0_mult2 (i : grid0.Coords) (k0_t1 : Fin k0_t1_loop.trips) : BitVec 32 :=
  let c0_i32_0 : BitVec 32 := 0#32
  let c1_i32 : BitVec 32 := 1#32
  let arg15 : BitVec 32 := Scf.iv c0_i32_0 c1_i32 k0_t1
  let c5120_i32 : BitVec 32 := 5120#32
  let v5 : BitVec 32 := Scalar.muli arg15 c5120_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c160_i32 : BitVec 32 := 160#32
  let v6 : BitVec 32 := Scalar.muli v1 c160_i32
  let v7 : BitVec 32 := Scalar.addi v5 v6
  v7
def k0_off15 (i : grid0.Coords) (k0_t1 : Fin k0_t1_loop.trips) : Fin 2 → Nat :=
  let c0_i32_0 : BitVec 32 := 0#32
  let c1_i32 : BitVec 32 := 1#32
  let arg15 : BitVec 32 := Scf.iv c0_i32_0 c1_i32 k0_t1
  let c5120_i32 : BitVec 32 := 5120#32
  let v5 : BitVec 32 := Scalar.muli arg15 c5120_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c160_i32 : BitVec 32 := 160#32
  let v6 : BitVec 32 := Scalar.muli v1 c160_i32
  let v7 : BitVec 32 := Scalar.addi v5 v6
  let v12 : BitVec 32 := v7
  let c0_i32_14_r2 : BitVec 32 := 0#32
  ![v12.toNat, 0]
abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S1000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1000x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![2, 16], ![false, false]⟩

@[reducible] def k2_t1_loop : Scf.Loop 32 :=
  let c0_i32_0 : BitVec 32 := 0#32
  let c2_i32 : BitVec 32 := 2#32
  let v3 : BitVec 32 := Scalar.addi c0_i32_0 c2_i32
  let c1_i32 : BitVec 32 := 1#32
  ⟨c0_i32_0, v3, c1_i32⟩
@[reducible] def k2_t2_loop : Scf.Loop 32 :=
  let c0_i32_3 : BitVec 32 := 0#32
  let c160_i32_4 : BitVec 32 := 160#32
  let v8 : BitVec 32 := Scalar.addi c0_i32_3 c160_i32_4
  let c1_i32_5 : BitVec 32 := 1#32
  ⟨c0_i32_3, v8, c1_i32_5⟩
@[reducible] def k2_t3_loop : Scf.Loop 32 :=
  let c0_i32_13 : BitVec 32 := 0#32
  let c32_i32_14 : BitVec 32 := 32#32
  let v13 : BitVec 32 := Scalar.addi c0_i32_13 c32_i32_14
  let c1_i32_15 : BitVec 32 := 1#32
  ⟨c0_i32_13, v13, c1_i32_15⟩
def k2_off1 (k2_t2 : Fin k2_t2_loop.trips) (k2_t3 : Fin k2_t3_loop.trips) : Fin 2 → Nat :=
  let c0_i32_3 : BitVec 32 := 0#32
  let c1_i32_5 : BitVec 32 := 1#32
  let arg19 : BitVec 32 := Scf.iv c0_i32_3 c1_i32_5 k2_t2
  let v17 : Index := Scalar.indexCast arg19
  let c0_i32_13 : BitVec 32 := 0#32
  let c1_i32_15 : BitVec 32 := 1#32
  let arg21 : BitVec 32 := Scf.iv c0_i32_13 c1_i32_15 k2_t3
  let c16_i32_18 : BitVec 32 := 16#32
  let v16 : BitVec 32 := Scalar.muli arg21 c16_i32_18
  let v18 : Index := Scalar.indexCast v16
  ![v17.toNat, v18.toNat]
@[reducible] def k2_t4_loop : Scf.Loop 32 :=
  let c0_i32_8 : BitVec 32 := 0#32
  let c32_i32 : BitVec 32 := 32#32
  let v10 : BitVec 32 := Scalar.addi c0_i32_8 c32_i32
  let c1_i32_9 : BitVec 32 := 1#32
  ⟨c0_i32_8, v10, c1_i32_9⟩
def k2_mult1 (k2_t4 : Fin k2_t4_loop.trips) : BitVec 32 :=
  let c0_i32_8 : BitVec 32 := 0#32
  let c1_i32_9 : BitVec 32 := 1#32
  let arg19 : BitVec 32 := Scf.iv c0_i32_8 c1_i32_9 k2_t4
  let c5008_i32 : BitVec 32 := 5008#32
  let v13 : BitVec 32 := Scalar.muli arg19 c5008_i32
  v13
def k2_off2 (k2_t4 : Fin k2_t4_loop.trips) : Fin 1 → Nat :=
  let c0_i32_8 : BitVec 32 := 0#32
  let c1_i32_9 : BitVec 32 := 1#32
  let arg19 : BitVec 32 := Scf.iv c0_i32_8 c1_i32_9 k2_t4
  let c5008_i32 : BitVec 32 := 5008#32
  let v13 : BitVec 32 := Scalar.muli arg19 c5008_i32
  let v14 : BitVec 32 := v13
  ![v14.toNat]
@[reducible] def k2_t5_loop : Scf.Loop 32 :=
  let c0_i32_13 : BitVec 32 := 0#32
  let c313_i32 : BitVec 32 := 313#32
  let v15 : BitVec 32 := Scalar.addi c0_i32_13 c313_i32
  let c1_i32_14 : BitVec 32 := 1#32
  ⟨c0_i32_13, v15, c1_i32_14⟩
def k2_off3 (k2_t5 : Fin k2_t5_loop.trips) : Fin 1 → Nat :=
  let c0_i32_13 : BitVec 32 := 0#32
  let c1_i32_14 : BitVec 32 := 1#32
  let arg21 : BitVec 32 := Scf.iv c0_i32_13 c1_i32_14 k2_t5
  let c16_i32_33 : BitVec 32 := 16#32
  let v49 : BitVec 32 := Scalar.muli arg21 c16_i32_33
  let v50 : Index := Scalar.indexCast v49
  ![v50.toNat]

def k2_chk1 (v51 : IVec S16 32) : Prop :=
  (∀ a x, ((![v51] : Fin 1 → IVec S16 32) a x).toNat < S10240.size a)
theorem k2_idx1_inb : ∀ (v51 : IVec S16 32) (k2_hw1 : k2_chk1 v51), ∀ a x, ((![v51] : Fin 1 → IVec S16 32) a x).toNat < S10240.size a := fun v51 k2_hw1 => k2_hw1

def k2_chk2 (v78 : IVec S16 32) : Prop :=
  (∀ a x, ((![v78] : Fin 1 → IVec S16 32) a x).toNat < S5040.size a) ∧
  (∀ a x, ((![v78] : Fin 1 → IVec S16 32) a x).toNat < S5040.size a)
theorem k2_idx2_inb : ∀ (v78 : IVec S16 32) (k2_hw2 : k2_chk2 v78), ∀ a x, ((![v78] : Fin 1 → IVec S16 32) a x).toNat < S5040.size a := fun v78 k2_hw2 => k2_hw2.1
theorem k2_idx3_inb : ∀ (v78 : IVec S16 32) (k2_hw2 : k2_chk2 v78), ∀ a x, ((![v78] : Fin 1 → IVec S16 32) a x).toNat < S5040.size a := fun v78 k2_hw2 => k2_hw2.2
def k2_off4 (v16 : BitVec 32) : Fin 1 → Nat :=
  let v18 : Index := Scalar.indexCast v16
  ![v18.toNat]

@[reducible] def k2_t6_loop (v16 : BitVec 32) : Scf.Loop 32 :=
  let c0_i32_27 : BitVec 32 := 0#32
  let c16_i32_18 : BitVec 32 := 16#32
  let v23 : BitVec 32 := Scalar.addi v16 c16_i32_18
  let c1_i32_19 : BitVec 32 := 1#32
  let v24 : BitVec 32 := Scalar.subi v23 c1_i32_19
  let c0_i32_21 : BitVec 32 := 0#32
  let v26 : BitVec 1 := Scalar.cmpi .sgt v24 c0_i32_21
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c16_i32_20 : BitVec 32 := 16#32
  let c0_i32_23 : BitVec 32 := 0#32
  let v31 : BitVec 1 := Scalar.cmpi .sgt c16_i32_20 c0_i32_23
  let v32 : BitVec 32 := Scalar.extui v31
  let c0_i32_24 : BitVec 32 := 0#32
  let v33 : BitVec 1 := Scalar.cmpi .slt c16_i32_20 c0_i32_24
  let v34 : BitVec 32 := Scalar.extui v33
  let v35 : BitVec 32 := Scalar.subi v32 v34
  let v36 : BitVec 1 := Scalar.cmpi .ne v30 v35
  let v37 : BitVec 32 := Scalar.remsi v24 c16_i32_20
  let c0_i32_25 : BitVec 32 := 0#32
  let v38 : BitVec 1 := Scalar.cmpi .ne v37 c0_i32_25
  let v39 : BitVec 1 := Scalar.andi v36 v38
  let v25 : BitVec 32 := Scalar.divsi v24 c16_i32_20
  let c1_i32_26 : BitVec 32 := 1#32
  let v40 : BitVec 32 := Scalar.subi v25 c1_i32_26
  let v41 : BitVec 32 := Scalar.select v39 v40 v25
  let v42 : BitVec 32 := Scalar.subi v41 c0_i32_27
  let c1_i32_29 : BitVec 32 := 1#32
  let v44 : BitVec 32 := Scalar.divsi v42 c1_i32_29
  let v45 : BitVec 32 := Scalar.muli v44 c1_i32_29
  let v46 : BitVec 32 := Scalar.addi c0_i32_27 v45
  let c1_i32_30 : BitVec 32 := 1#32
  ⟨c0_i32_27, v46, c1_i32_30⟩
def k2_off5 (v16 : BitVec 32) (k2_t6 : Fin (k2_t6_loop v16).trips) : Fin 1 → Nat :=
  let c0_i32_27 : BitVec 32 := 0#32
  let c1_i32_30 : BitVec 32 := 1#32
  let arg21 : BitVec 32 := Scf.iv c0_i32_27 c1_i32_30 k2_t6
  let c16_i32_33 : BitVec 32 := 16#32
  let v49 : BitVec 32 := Scalar.muli arg21 c16_i32_33
  ![v49.toNat]
@[reducible] def k2_t7_loop : Scf.Loop 32 :=
  let c0_i32_48 : BitVec 32 := 0#32
  let c16_i32_49 : BitVec 32 := 16#32
  let v59 : BitVec 32 := Scalar.addi c0_i32_48 c16_i32_49
  let c1_i32_50 : BitVec 32 := 1#32
  ⟨c0_i32_48, v59, c1_i32_50⟩
def k2_off6 (v16 : BitVec 32) (k2_t6 : Fin (k2_t6_loop v16).trips) (k2_t7 : Fin k2_t7_loop.trips) : Fin 1 → Nat :=
  let c0_i32_27 : BitVec 32 := 0#32
  let c1_i32_30 : BitVec 32 := 1#32
  let arg21 : BitVec 32 := Scf.iv c0_i32_27 c1_i32_30 k2_t6
  let c16_i32_53 : BitVec 32 := 16#32
  let v61 : BitVec 32 := Scalar.muli arg21 c16_i32_53
  let c0_i32_48 : BitVec 32 := 0#32
  let c1_i32_50 : BitVec 32 := 1#32
  let arg23 : BitVec 32 := Scf.iv c0_i32_48 c1_i32_50 k2_t7
  let v62 : BitVec 32 := Scalar.addi v61 arg23
  let v63 : Index := Scalar.indexCast v62
  ![v63.toNat]
@[reducible] def k2_t8_loop : Scf.Loop 32 :=
  let c0_i32_55 : BitVec 32 := 0#32
  let c2_i32_56 : BitVec 32 := 2#32
  let v67 : BitVec 32 := Scalar.addi c0_i32_55 c2_i32_56
  let c1_i32_57 : BitVec 32 := 1#32
  ⟨c0_i32_55, v67, c1_i32_57⟩
@[reducible] def k2_t9_loop : Scf.Loop 32 :=
  let c0_i32_61 : BitVec 32 := 0#32
  let c8_i32 : BitVec 32 := 8#32
  let v69 : BitVec 32 := Scalar.addi c0_i32_61 c8_i32
  let c1_i32_62 : BitVec 32 := 1#32
  ⟨c0_i32_61, v69, c1_i32_62⟩
def k2_off7 (v66 : BitVec 32) (k2_t8 : Fin k2_t8_loop.trips) (k2_t9 : Fin k2_t9_loop.trips) : Fin 2 → Nat :=
  let v75 : Index := Scalar.indexCast v66
  let c0_i32_55 : BitVec 32 := 0#32
  let c1_i32_57 : BitVec 32 := 1#32
  let arg25 : BitVec 32 := Scf.iv c0_i32_55 c1_i32_57 k2_t8
  let c128_i32 : BitVec 32 := 128#32
  let v71 : BitVec 32 := Scalar.muli arg25 c128_i32
  let c0_i32_61 : BitVec 32 := 0#32
  let c1_i32_62 : BitVec 32 := 1#32
  let arg27 : BitVec 32 := Scf.iv c0_i32_61 c1_i32_62 k2_t9
  let c16_i32_65 : BitVec 32 := 16#32
  let v72 : BitVec 32 := Scalar.muli arg27 c16_i32_65
  let v73 : BitVec 32 := Scalar.addi v71 v72
  let v76 : Index := Scalar.indexCast v73
  ![v75.toNat, v76.toNat]

def k2_off8 (k2_t7 : Fin k2_t7_loop.trips) (k2_t8 : Fin k2_t8_loop.trips) (k2_t9 : Fin k2_t9_loop.trips) : Fin 3 → Nat :=
  let c0_i32_48 : BitVec 32 := 0#32
  let c1_i32_50 : BitVec 32 := 1#32
  let arg23 : BitVec 32 := Scf.iv c0_i32_48 c1_i32_50 k2_t7
  let v79 : Index := Scalar.indexCast arg23
  let c0_i32_55 : BitVec 32 := 0#32
  let c1_i32_57 : BitVec 32 := 1#32
  let arg25 : BitVec 32 := Scf.iv c0_i32_55 c1_i32_57 k2_t8
  let v80 : Index := Scalar.indexCast arg25
  let c0_i32_61 : BitVec 32 := 0#32
  let c1_i32_62 : BitVec 32 := 1#32
  let arg27 : BitVec 32 := Scf.iv c0_i32_61 c1_i32_62 k2_t9
  let c16_i32_66 : BitVec 32 := 16#32
  let v78 : BitVec 32 := Scalar.muli arg27 c16_i32_66
  let v81 : Index := Scalar.indexCast v78
  ![v79.toNat, v80.toNat, v81.toNat]
def k2_off9 (v66 : BitVec 32) (k2_t8 : Fin k2_t8_loop.trips) (k2_t9 : Fin k2_t9_loop.trips) : Fin 2 → Nat :=
  let v87 : Index := Scalar.indexCast v66
  let c256_i32 : BitVec 32 := 256#32
  let c0_i32_55 : BitVec 32 := 0#32
  let c1_i32_57 : BitVec 32 := 1#32
  let arg25 : BitVec 32 := Scf.iv c0_i32_55 c1_i32_57 k2_t8
  let c128_i32 : BitVec 32 := 128#32
  let v71 : BitVec 32 := Scalar.muli arg25 c128_i32
  let c0_i32_61 : BitVec 32 := 0#32
  let c1_i32_62 : BitVec 32 := 1#32
  let arg27 : BitVec 32 := Scf.iv c0_i32_61 c1_i32_62 k2_t9
  let c16_i32_65 : BitVec 32 := 16#32
  let v72 : BitVec 32 := Scalar.muli arg27 c16_i32_65
  let v73 : BitVec 32 := Scalar.addi v71 v72
  let v74 : BitVec 32 := Scalar.addi c256_i32 v73
  let v88 : Index := Scalar.indexCast v74
  ![v87.toNat, v88.toNat]

def k2_chk4 (v66 : BitVec 32) : Prop :=
  (∀ (k2_t8 : Fin k2_t8_loop.trips) (k2_t9 : Fin k2_t9_loop.trips), ∀ a, (k2_off7 v66 k2_t8 k2_t9) a + S1x16.size a ≤ S168x512.size a) ∧
  (∀ (k2_t8 : Fin k2_t8_loop.trips) (k2_t9 : Fin k2_t9_loop.trips), ∀ a, (k2_off9 v66 k2_t8 k2_t9) a + S1x16.size a ≤ S168x512.size a)
theorem k2_off7_inb : ∀ (v66 : BitVec 32) (k2_hw4 : k2_chk4 v66) (k2_t8 : Fin k2_t8_loop.trips) (k2_t9 : Fin k2_t9_loop.trips), ∀ a, (k2_off7 v66 k2_t8 k2_t9) a + S1x16.size a ≤ S168x512.size a := fun v66 k2_hw4 k2_t8 k2_t9 => k2_hw4.1 k2_t8 k2_t9
theorem k2_off9_inb : ∀ (v66 : BitVec 32) (k2_hw4 : k2_chk4 v66) (k2_t8 : Fin k2_t8_loop.trips) (k2_t9 : Fin k2_t9_loop.trips), ∀ a, (k2_off9 v66 k2_t8 k2_t9) a + S1x16.size a ≤ S168x512.size a := fun v66 k2_hw4 k2_t8 k2_t9 => k2_hw4.2 k2_t8 k2_t9

@[reducible] def k2_t10_loop (v16 : BitVec 32) : Scf.Loop 32 :=
  let c0_i32_27 : BitVec 32 := 0#32
  let c16_i32_18 : BitVec 32 := 16#32
  let v23 : BitVec 32 := Scalar.addi v16 c16_i32_18
  let c1_i32_19 : BitVec 32 := 1#32
  let v24 : BitVec 32 := Scalar.subi v23 c1_i32_19
  let c0_i32_21 : BitVec 32 := 0#32
  let v26 : BitVec 1 := Scalar.cmpi .sgt v24 c0_i32_21
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c16_i32_20 : BitVec 32 := 16#32
  let c0_i32_23 : BitVec 32 := 0#32
  let v31 : BitVec 1 := Scalar.cmpi .sgt c16_i32_20 c0_i32_23
  let v32 : BitVec 32 := Scalar.extui v31
  let c0_i32_24 : BitVec 32 := 0#32
  let v33 : BitVec 1 := Scalar.cmpi .slt c16_i32_20 c0_i32_24
  let v34 : BitVec 32 := Scalar.extui v33
  let v35 : BitVec 32 := Scalar.subi v32 v34
  let v36 : BitVec 1 := Scalar.cmpi .ne v30 v35
  let v37 : BitVec 32 := Scalar.remsi v24 c16_i32_20
  let c0_i32_25 : BitVec 32 := 0#32
  let v38 : BitVec 1 := Scalar.cmpi .ne v37 c0_i32_25
  let v39 : BitVec 1 := Scalar.andi v36 v38
  let v25 : BitVec 32 := Scalar.divsi v24 c16_i32_20
  let c1_i32_26 : BitVec 32 := 1#32
  let v40 : BitVec 32 := Scalar.subi v25 c1_i32_26
  let v41 : BitVec 32 := Scalar.select v39 v40 v25
  let v42 : BitVec 32 := Scalar.subi v41 c0_i32_27
  let c1_i32_29 : BitVec 32 := 1#32
  let v44 : BitVec 32 := Scalar.divsi v42 c1_i32_29
  let v45 : BitVec 32 := Scalar.muli v44 c1_i32_29
  let v46 : BitVec 32 := Scalar.addi c0_i32_27 v45
  let v43 : BitVec 32 := Scalar.addi c0_i32_27 v42
  let c1_i32_31 : BitVec 32 := 1#32
  ⟨v46, v43, c1_i32_31⟩
def k2_off10 (v16 : BitVec 32) (k2_t10 : Fin (k2_t10_loop v16).trips) : Fin 1 → Nat :=
  let c0_i32_27 : BitVec 32 := 0#32
  let c16_i32_18 : BitVec 32 := 16#32
  let v23 : BitVec 32 := Scalar.addi v16 c16_i32_18
  let c1_i32_19 : BitVec 32 := 1#32
  let v24 : BitVec 32 := Scalar.subi v23 c1_i32_19
  let c0_i32_21 : BitVec 32 := 0#32
  let v26 : BitVec 1 := Scalar.cmpi .sgt v24 c0_i32_21
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c16_i32_20 : BitVec 32 := 16#32
  let c0_i32_23 : BitVec 32 := 0#32
  let v31 : BitVec 1 := Scalar.cmpi .sgt c16_i32_20 c0_i32_23
  let v32 : BitVec 32 := Scalar.extui v31
  let c0_i32_24 : BitVec 32 := 0#32
  let v33 : BitVec 1 := Scalar.cmpi .slt c16_i32_20 c0_i32_24
  let v34 : BitVec 32 := Scalar.extui v33
  let v35 : BitVec 32 := Scalar.subi v32 v34
  let v36 : BitVec 1 := Scalar.cmpi .ne v30 v35
  let v37 : BitVec 32 := Scalar.remsi v24 c16_i32_20
  let c0_i32_25 : BitVec 32 := 0#32
  let v38 : BitVec 1 := Scalar.cmpi .ne v37 c0_i32_25
  let v39 : BitVec 1 := Scalar.andi v36 v38
  let v25 : BitVec 32 := Scalar.divsi v24 c16_i32_20
  let c1_i32_26 : BitVec 32 := 1#32
  let v40 : BitVec 32 := Scalar.subi v25 c1_i32_26
  let v41 : BitVec 32 := Scalar.select v39 v40 v25
  let v42 : BitVec 32 := Scalar.subi v41 c0_i32_27
  let c1_i32_29 : BitVec 32 := 1#32
  let v44 : BitVec 32 := Scalar.divsi v42 c1_i32_29
  let v45 : BitVec 32 := Scalar.muli v44 c1_i32_29
  let v46 : BitVec 32 := Scalar.addi c0_i32_27 v45
  let c1_i32_31 : BitVec 32 := 1#32
  let arg21 : BitVec 32 := Scf.iv v46 c1_i32_31 k2_t10
  let c16_i32_33 : BitVec 32 := 16#32
  let v49 : BitVec 32 := Scalar.muli arg21 c16_i32_33
  ![v49.toNat]
@[reducible] def k2_t11_loop : Scf.Loop 32 :=
  let c0_i32_48 : BitVec 32 := 0#32
  let c16_i32_49 : BitVec 32 := 16#32
  let v59 : BitVec 32 := Scalar.addi c0_i32_48 c16_i32_49
  let c1_i32_50 : BitVec 32 := 1#32
  ⟨c0_i32_48, v59, c1_i32_50⟩
def k2_off11 (v16 : BitVec 32) (k2_t10 : Fin (k2_t10_loop v16).trips) (k2_t11 : Fin k2_t11_loop.trips) : Fin 1 → Nat :=
  let c0_i32_27 : BitVec 32 := 0#32
  let c16_i32_18 : BitVec 32 := 16#32
  let v23 : BitVec 32 := Scalar.addi v16 c16_i32_18
  let c1_i32_19 : BitVec 32 := 1#32
  let v24 : BitVec 32 := Scalar.subi v23 c1_i32_19
  let c0_i32_21 : BitVec 32 := 0#32
  let v26 : BitVec 1 := Scalar.cmpi .sgt v24 c0_i32_21
  let v27 : BitVec 32 := Scalar.extui v26
  let c0_i32_22 : BitVec 32 := 0#32
  let v28 : BitVec 1 := Scalar.cmpi .slt v24 c0_i32_22
  let v29 : BitVec 32 := Scalar.extui v28
  let v30 : BitVec 32 := Scalar.subi v27 v29
  let c16_i32_20 : BitVec 32 := 16#32
  let c0_i32_23 : BitVec 32 := 0#32
  let v31 : BitVec 1 := Scalar.cmpi .sgt c16_i32_20 c0_i32_23
  let v32 : BitVec 32 := Scalar.extui v31
  let c0_i32_24 : BitVec 32 := 0#32
  let v33 : BitVec 1 := Scalar.cmpi .slt c16_i32_20 c0_i32_24
  let v34 : BitVec 32 := Scalar.extui v33
  let v35 : BitVec 32 := Scalar.subi v32 v34
  let v36 : BitVec 1 := Scalar.cmpi .ne v30 v35
  let v37 : BitVec 32 := Scalar.remsi v24 c16_i32_20
  let c0_i32_25 : BitVec 32 := 0#32
  let v38 : BitVec 1 := Scalar.cmpi .ne v37 c0_i32_25
  let v39 : BitVec 1 := Scalar.andi v36 v38
  let v25 : BitVec 32 := Scalar.divsi v24 c16_i32_20
  let c1_i32_26 : BitVec 32 := 1#32
  let v40 : BitVec 32 := Scalar.subi v25 c1_i32_26
  let v41 : BitVec 32 := Scalar.select v39 v40 v25
  let v42 : BitVec 32 := Scalar.subi v41 c0_i32_27
  let c1_i32_29 : BitVec 32 := 1#32
  let v44 : BitVec 32 := Scalar.divsi v42 c1_i32_29
  let v45 : BitVec 32 := Scalar.muli v44 c1_i32_29
  let v46 : BitVec 32 := Scalar.addi c0_i32_27 v45
  let c1_i32_31 : BitVec 32 := 1#32
  let arg21 : BitVec 32 := Scf.iv v46 c1_i32_31 k2_t10
  let c16_i32_53 : BitVec 32 := 16#32
  let v61 : BitVec 32 := Scalar.muli arg21 c16_i32_53
  let c0_i32_48 : BitVec 32 := 0#32
  let c1_i32_50 : BitVec 32 := 1#32
  let arg23 : BitVec 32 := Scf.iv c0_i32_48 c1_i32_50 k2_t11
  let v62 : BitVec 32 := Scalar.addi v61 arg23
  let v63 : Index := Scalar.indexCast v62
  ![v63.toNat]

def k2_chk3 (v16 : BitVec 32) : Prop :=
  (∀ a, (k2_off4 v16) a + S16.size a ≤ S5040.size a) ∧
  ((k2_t6_loop v16).OK) ∧
  (∀ k2_t6 : Fin (k2_t6_loop v16).trips, ∀ a, (k2_off5 v16 k2_t6) a + S16.size a ≤ S5040.size a) ∧
  (∀ (k2_t6 : Fin (k2_t6_loop v16).trips) (k2_t7 : Fin k2_t7_loop.trips), ∀ a, (k2_off6 v16 k2_t6 k2_t7) a + S16.size a ≤ S5040.size a) ∧
  ((k2_t10_loop v16).OK) ∧
  (∀ k2_t10 : Fin (k2_t10_loop v16).trips, ∀ a, (k2_off10 v16 k2_t10) a + S16.size a ≤ S5040.size a) ∧
  (∀ (k2_t10 : Fin (k2_t10_loop v16).trips) (k2_t11 : Fin k2_t11_loop.trips), ∀ a, (k2_off11 v16 k2_t10 k2_t11) a + S16.size a ≤ S5040.size a)
theorem k2_off4_inb : ∀ (v16 : BitVec 32) (k2_hw3 : k2_chk3 v16), ∀ a, (k2_off4 v16) a + S16.size a ≤ S5040.size a := fun v16 k2_hw3 => k2_hw3.1
theorem k2_t6_ok : ∀ (v16 : BitVec 32) (k2_hw3 : k2_chk3 v16), (k2_t6_loop v16).OK := fun v16 k2_hw3 => k2_hw3.2.1
theorem k2_off5_inb : ∀ (v16 : BitVec 32) (k2_hw3 : k2_chk3 v16) (k2_t6 : Fin (k2_t6_loop v16).trips), ∀ a, (k2_off5 v16 k2_t6) a + S16.size a ≤ S5040.size a := fun v16 k2_hw3 k2_t6 => k2_hw3.2.2.1 k2_t6
theorem k2_off6_inb : ∀ (v16 : BitVec 32) (k2_hw3 : k2_chk3 v16) (k2_t6 : Fin (k2_t6_loop v16).trips) (k2_t7 : Fin k2_t7_loop.trips), ∀ a, (k2_off6 v16 k2_t6 k2_t7) a + S16.size a ≤ S5040.size a := fun v16 k2_hw3 k2_t6 k2_t7 => k2_hw3.2.2.2.1 k2_t6 k2_t7
theorem k2_t10_ok : ∀ (v16 : BitVec 32) (k2_hw3 : k2_chk3 v16), (k2_t10_loop v16).OK := fun v16 k2_hw3 => k2_hw3.2.2.2.2.1
theorem k2_off10_inb : ∀ (v16 : BitVec 32) (k2_hw3 : k2_chk3 v16) (k2_t10 : Fin (k2_t10_loop v16).trips), ∀ a, (k2_off10 v16 k2_t10) a + S16.size a ≤ S5040.size a := fun v16 k2_hw3 k2_t10 => k2_hw3.2.2.2.2.2.1 k2_t10
theorem k2_off11_inb : ∀ (v16 : BitVec 32) (k2_hw3 : k2_chk3 v16) (k2_t10 : Fin (k2_t10_loop v16).trips) (k2_t11 : Fin k2_t11_loop.trips), ∀ a, (k2_off11 v16 k2_t10 k2_t11) a + S16.size a ≤ S5040.size a := fun v16 k2_hw3 k2_t10 k2_t11 => k2_hw3.2.2.2.2.2.2 k2_t10 k2_t11

@[reducible] def k2_t12_loop : Scf.Loop 32 :=
  let c0_i32_55 : BitVec 32 := 0#32
  let c2_i32_56 : BitVec 32 := 2#32
  let v67 : BitVec 32 := Scalar.addi c0_i32_55 c2_i32_56
  let c1_i32_57 : BitVec 32 := 1#32
  ⟨c0_i32_55, v67, c1_i32_57⟩
@[reducible] def k2_t13_loop : Scf.Loop 32 :=
  let c0_i32_61 : BitVec 32 := 0#32
  let c8_i32 : BitVec 32 := 8#32
  let v69 : BitVec 32 := Scalar.addi c0_i32_61 c8_i32
  let c1_i32_62 : BitVec 32 := 1#32
  ⟨c0_i32_61, v69, c1_i32_62⟩
def k2_off12 (v66 : BitVec 32) (k2_t12 : Fin k2_t12_loop.trips) (k2_t13 : Fin k2_t13_loop.trips) : Fin 2 → Nat :=
  let v75 : Index := Scalar.indexCast v66
  let c0_i32_55 : BitVec 32 := 0#32
  let c1_i32_57 : BitVec 32 := 1#32
  let arg25 : BitVec 32 := Scf.iv c0_i32_55 c1_i32_57 k2_t12
  let c128_i32 : BitVec 32 := 128#32
  let v71 : BitVec 32 := Scalar.muli arg25 c128_i32
  let c0_i32_61 : BitVec 32 := 0#32
  let c1_i32_62 : BitVec 32 := 1#32
  let arg27 : BitVec 32 := Scf.iv c0_i32_61 c1_i32_62 k2_t13
  let c16_i32_65 : BitVec 32 := 16#32
  let v72 : BitVec 32 := Scalar.muli arg27 c16_i32_65
  let v73 : BitVec 32 := Scalar.addi v71 v72
  let v76 : Index := Scalar.indexCast v73
  ![v75.toNat, v76.toNat]

def k2_off13 (k2_t11 : Fin k2_t11_loop.trips) (k2_t12 : Fin k2_t12_loop.trips) (k2_t13 : Fin k2_t13_loop.trips) : Fin 3 → Nat :=
  let c0_i32_48 : BitVec 32 := 0#32
  let c1_i32_50 : BitVec 32 := 1#32
  let arg23 : BitVec 32 := Scf.iv c0_i32_48 c1_i32_50 k2_t11
  let v79 : Index := Scalar.indexCast arg23
  let c0_i32_55 : BitVec 32 := 0#32
  let c1_i32_57 : BitVec 32 := 1#32
  let arg25 : BitVec 32 := Scf.iv c0_i32_55 c1_i32_57 k2_t12
  let v80 : Index := Scalar.indexCast arg25
  let c0_i32_61 : BitVec 32 := 0#32
  let c1_i32_62 : BitVec 32 := 1#32
  let arg27 : BitVec 32 := Scf.iv c0_i32_61 c1_i32_62 k2_t13
  let c16_i32_66 : BitVec 32 := 16#32
  let v78 : BitVec 32 := Scalar.muli arg27 c16_i32_66
  let v81 : Index := Scalar.indexCast v78
  ![v79.toNat, v80.toNat, v81.toNat]
def k2_off14 (v66 : BitVec 32) (k2_t12 : Fin k2_t12_loop.trips) (k2_t13 : Fin k2_t13_loop.trips) : Fin 2 → Nat :=
  let v87 : Index := Scalar.indexCast v66
  let c256_i32 : BitVec 32 := 256#32
  let c0_i32_55 : BitVec 32 := 0#32
  let c1_i32_57 : BitVec 32 := 1#32
  let arg25 : BitVec 32 := Scf.iv c0_i32_55 c1_i32_57 k2_t12
  let c128_i32 : BitVec 32 := 128#32
  let v71 : BitVec 32 := Scalar.muli arg25 c128_i32
  let c0_i32_61 : BitVec 32 := 0#32
  let c1_i32_62 : BitVec 32 := 1#32
  let arg27 : BitVec 32 := Scf.iv c0_i32_61 c1_i32_62 k2_t13
  let c16_i32_65 : BitVec 32 := 16#32
  let v72 : BitVec 32 := Scalar.muli arg27 c16_i32_65
  let v73 : BitVec 32 := Scalar.addi v71 v72
  let v74 : BitVec 32 := Scalar.addi c256_i32 v73
  let v88 : Index := Scalar.indexCast v74
  ![v87.toNat, v88.toNat]

def k2_chk5 (v66 : BitVec 32) : Prop :=
  (∀ (k2_t12 : Fin k2_t12_loop.trips) (k2_t13 : Fin k2_t13_loop.trips), ∀ a, (k2_off12 v66 k2_t12 k2_t13) a + S1x16.size a ≤ S168x512.size a) ∧
  (∀ (k2_t12 : Fin k2_t12_loop.trips) (k2_t13 : Fin k2_t13_loop.trips), ∀ a, (k2_off14 v66 k2_t12 k2_t13) a + S1x16.size a ≤ S168x512.size a)
theorem k2_off12_inb : ∀ (v66 : BitVec 32) (k2_hw5 : k2_chk5 v66) (k2_t12 : Fin k2_t12_loop.trips) (k2_t13 : Fin k2_t13_loop.trips), ∀ a, (k2_off12 v66 k2_t12 k2_t13) a + S1x16.size a ≤ S168x512.size a := fun v66 k2_hw5 k2_t12 k2_t13 => k2_hw5.1 k2_t12 k2_t13
theorem k2_off14_inb : ∀ (v66 : BitVec 32) (k2_hw5 : k2_chk5 v66) (k2_t12 : Fin k2_t12_loop.trips) (k2_t13 : Fin k2_t13_loop.trips), ∀ a, (k2_off14 v66 k2_t12 k2_t13) a + S1x16.size a ≤ S168x512.size a := fun v66 k2_hw5 k2_t12 k2_t13 => k2_hw5.2 k2_t12 k2_t13

def k2_mult2 (i : grid2.Coords) (k2_t1 : Fin k2_t1_loop.trips) : BitVec 32 :=
  let c0_i32_0 : BitVec 32 := 0#32
  let c1_i32 : BitVec 32 := 1#32
  let arg17 : BitVec 32 := Scf.iv c0_i32_0 c1_i32 k2_t1
  let c5120_i32 : BitVec 32 := 5120#32
  let v5 : BitVec 32 := Scalar.muli arg17 c5120_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c160_i32 : BitVec 32 := 160#32
  let v6 : BitVec 32 := Scalar.muli v1 c160_i32
  let v7 : BitVec 32 := Scalar.addi v5 v6
  v7
def k2_off15 (i : grid2.Coords) (k2_t1 : Fin k2_t1_loop.trips) : Fin 2 → Nat :=
  let c0_i32_0 : BitVec 32 := 0#32
  let c1_i32 : BitVec 32 := 1#32
  let arg17 : BitVec 32 := Scf.iv c0_i32_0 c1_i32 k2_t1
  let c5120_i32 : BitVec 32 := 5120#32
  let v5 : BitVec 32 := Scalar.muli arg17 c5120_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c160_i32 : BitVec 32 := 160#32
  let v6 : BitVec 32 := Scalar.muli v1 c160_i32
  let v7 : BitVec 32 := Scalar.addi v5 v6
  let v12 : BitVec 32 := v7
  let c0_i32_14_r3 : BitVec 32 := 0#32
  ![v12.toNat, 0]
abbrev grid3 : Pipeline.Grid := ⟨2, ![10, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x1000x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1000x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x512x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1x1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1x1x1000 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1000x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S10000x512 : Shape := ⟨2, ![10000, 512]⟩
abbrev S10000 : Shape := ⟨1, ![10000]⟩
abbrev S2x160000 : Shape := ⟨2, ![2, 160000]⟩
abbrev S8x512x512 : Shape := ⟨3, ![8, 512, 512]⟩
abbrev S8x512 : Shape := ⟨2, ![8, 512]⟩
abbrev S8x512x256 : Shape := ⟨3, ![8, 512, 256]⟩
abbrev S8x256 : Shape := ⟨2, ![8, 256]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000x8x512 : Shape := ⟨3, ![10000, 8, 512]⟩
abbrev S8x1x512 : Shape := ⟨3, ![8, 1, 512]⟩
abbrev S8x10000x512 : Shape := ⟨3, ![8, 10000, 512]⟩
abbrev S8x160000x512 : Shape := ⟨3, ![8, 160000, 512]⟩
abbrev S8x10000x256 : Shape := ⟨3, ![8, 10000, 256]⟩
abbrev S8x1x256 : Shape := ⟨3, ![8, 1, 256]⟩
abbrev S10000x1 : Shape := ⟨2, ![10000, 1]⟩
abbrev S10000x2 : Shape := ⟨2, ![10000, 2]⟩
abbrev S10000x256 : Shape := ⟨2, ![10000, 256]⟩

abbrev nBuf : Space → Nat
  | .hbm => 75
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000, .i32⟩
  | .hbm, ⟨2, _⟩ => ⟨S2x160000, .i32⟩
  | .hbm, ⟨3, _⟩ => ⟨S8x512x512, .f32⟩
  | .hbm, ⟨4, _⟩ => ⟨S8x512x512, .f32⟩
  | .hbm, ⟨5, _⟩ => ⟨S8x512, .f32⟩
  | .hbm, ⟨6, _⟩ => ⟨S8x512x256, .f32⟩
  | .hbm, ⟨7, _⟩ => ⟨S8x512x256, .f32⟩
  | .hbm, ⟨8, _⟩ => ⟨S8x256, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S_, .i32⟩
  | .hbm, ⟨14, _⟩ => ⟨S160000, .i32⟩
  | .hbm, ⟨15, _⟩ => ⟨S160000, .i1⟩
  | .hbm, ⟨16, _⟩ => ⟨S_, .i32⟩
  | .hbm, ⟨17, _⟩ => ⟨S160000, .i32⟩
  | .hbm, ⟨18, _⟩ => ⟨S160000, .i32⟩
  | .hbm, ⟨19, _⟩ => ⟨S160000, .i32⟩
  | .hbm, ⟨20, _⟩ => ⟨S160000x1, .i32⟩
  | .hbm, ⟨21, _⟩ => ⟨S160000x512, .f32⟩
  | .hbm, ⟨22, _⟩ => ⟨S_, .f32⟩
  | .hbm, ⟨23, _⟩ => ⟨S10000x512, .f32⟩
  | .hbm, ⟨24, _⟩ => ⟨S160000x1, .i32⟩
  | .hbm, ⟨25, _⟩ => ⟨S10000x512, .f32⟩
  | .hbm, ⟨26, _⟩ => ⟨S10000x8x512, .f32⟩
  | .hbm, ⟨27, _⟩ => ⟨S10000x8x512, .f32⟩
  | .hbm, ⟨28, _⟩ => ⟨S10000x8x512, .f32⟩
  | .hbm, ⟨29, _⟩ => ⟨S8x1x512, .f32⟩
  | .hbm, ⟨30, _⟩ => ⟨S8x10000x512, .f32⟩
  | .hbm, ⟨31, _⟩ => ⟨S8x10000x512, .f32⟩
  | .hbm, ⟨32, _⟩ => ⟨S8x10000x512, .f32⟩
  | .hbm, ⟨33, _⟩ => ⟨S_, .f32⟩
  | .hbm, ⟨34, _⟩ => ⟨S8x10000x512, .f32⟩
  | .hbm, ⟨35, _⟩ => ⟨S8x10000x512, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S8x160000x512, .f32⟩
  | .hbm, ⟨45, _⟩ => ⟨S_, .f32⟩
  | .hbm, ⟨46, _⟩ => ⟨S10000x512, .f32⟩
  | .hbm, ⟨47, _⟩ => ⟨S160000x1, .i32⟩
  | .hbm, ⟨48, _⟩ => ⟨S8x10000x512, .f32⟩
  | .hbm, ⟨49, _⟩ => ⟨S8x10000x512, .f32⟩
  | .hbm, ⟨50, _⟩ => ⟨S8x10000x256, .f32⟩
  | .hbm, ⟨51, _⟩ => ⟨S8x10000x256, .f32⟩
  | .hbm, ⟨52, _⟩ => ⟨S8x10000x256, .f32⟩
  | .hbm, ⟨53, _⟩ => ⟨S8x1x256, .f32⟩
  | .hbm, ⟨54, _⟩ => ⟨S8x10000x256, .f32⟩
  | .hbm, ⟨55, _⟩ => ⟨S8x10000x256, .f32⟩
  | .hbm, ⟨56, _⟩ => ⟨S10000, .i32⟩
  | .hbm, ⟨57, _⟩ => ⟨S_, .i32⟩
  | .hbm, ⟨58, _⟩ => ⟨S10000, .i32⟩
  | .hbm, ⟨59, _⟩ => ⟨S10000, .i1⟩
  | .hbm, ⟨60, _⟩ => ⟨S_, .i32⟩
  | .hbm, ⟨61, _⟩ => ⟨S10000, .i32⟩
  | .hbm, ⟨62, _⟩ => ⟨S10000, .i32⟩
  | .hbm, ⟨63, _⟩ => ⟨S10000, .i32⟩
  | .hbm, ⟨64, _⟩ => ⟨S_, .i32⟩
  | .hbm, ⟨65, _⟩ => ⟨S10000, .i32⟩
  | .hbm, ⟨66, _⟩ => ⟨S10000, .i1⟩
  | .hbm, ⟨67, _⟩ => ⟨S_, .i32⟩
  | .hbm, ⟨68, _⟩ => ⟨S10000, .i32⟩
  | .hbm, ⟨69, _⟩ => ⟨S10000, .i32⟩
  | .hbm, ⟨70, _⟩ => ⟨S10000, .i32⟩
  | .hbm, ⟨71, _⟩ => ⟨S10000x1, .i32⟩
  | .hbm, ⟨72, _⟩ => ⟨S10000x1, .i32⟩
  | .hbm, ⟨73, _⟩ => ⟨S10000x2, .i32⟩
  | .hbm, ⟨74, _⟩ => ⟨S10000x256, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_cst : Ref sig .tc := ⟨.hbm, 33, rfl⟩
abbrev main_call0_v0 : Ref sig .tc := ⟨.hbm, 34, rfl⟩
abbrev main_v21 : Ref sig .tc := ⟨.hbm, 35, rfl⟩
abbrev main_c_1 : Ref sig .tc := ⟨.hbm, 36, rfl⟩
abbrev main_v22 : Ref sig .tc := ⟨.hbm, 37, rfl⟩
abbrev main_v23 : Ref sig .tc := ⟨.hbm, 38, rfl⟩
abbrev main_c_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_4 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_c_7 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Router.lean ====
abbrev S10000x256 : Shape := ⟨2, ![10000, 256]⟩
abbrev S64 : Shape := ⟨1, ![64]⟩
abbrev S10000 : Shape := ⟨1, ![10000]⟩
abbrev S256x512 : Shape := ⟨2, ![256, 512]⟩
abbrev S512 : Shape := ⟨1, ![512]⟩
abbrev S514x512 : Shape := ⟨2, ![514, 512]⟩
abbrev S512x8 : Shape := ⟨2, ![512, 8]⟩
abbrev S8 : Shape := ⟨1, ![8]⟩
abbrev S10x1x1000 : Shape := ⟨3, ![10, 1, 1000]⟩
abbrev S1x512 : Shape := ⟨2, ![1, 512]⟩
abbrev S1x64 : Shape := ⟨2, ![1, 64]⟩
abbrev S1x8 : Shape := ⟨2, ![1, 8]⟩
abbrev S10000x512 : Shape := ⟨2, ![10000, 512]⟩
abbrev S1000x256 : Shape := ⟨2, ![1000, 256]⟩
abbrev S1x1x1000 : Shape := ⟨3, ![1, 1, 1000]⟩
abbrev S1000x512 : Shape := ⟨2, ![1000, 512]⟩
abbrev S64x1 : Shape := ⟨2, ![64, 1]⟩
abbrev S64x2 : Shape := ⟨2, ![64, 2]⟩
abbrev S1000 : Shape := ⟨1, ![1000]⟩
abbrev S1000x1 : Shape := ⟨2, ![1000, 1]⟩
abbrev S1000x64 : Shape := ⟨2, ![1000, 64]⟩
abbrev S1000x2 : Shape := ⟨2, ![1000, 2]⟩
abbrev S1000x514 : Shape := ⟨2, ![1000, 514]⟩
abbrev S1000x8 : Shape := ⟨2, ![1000, 8]⟩

abbrev nBuf : Space → Nat
  | .hbm => 19
  | .vmem => 17
  | .smem => 0
  | _ => 0

abbrev bufTy : (tb : Table) → Fin (tcTables nBuf tb) → BufTy
  | .hbm, ⟨0, _⟩ => ⟨S10000x256, .f32⟩
  | .hbm, ⟨1, _⟩ => ⟨S64, .f32⟩
  | .hbm, ⟨2, _⟩ => ⟨S64, .f32⟩
  | .hbm, ⟨3, _⟩ => ⟨S10000, .i32⟩
  | .hbm, ⟨4, _⟩ => ⟨S256x512, .f32⟩
  | .hbm, ⟨5, _⟩ => ⟨S512, .f32⟩
  | .hbm, ⟨6, _⟩ => ⟨S514x512, .f32⟩
  | .hbm, ⟨7, _⟩ => ⟨S512, .f32⟩
  | .hbm, ⟨8, _⟩ => ⟨S512x8, .f32⟩
  | .hbm, ⟨9, _⟩ => ⟨S8, .f32⟩
  | .hbm, ⟨10, _⟩ => ⟨S10x1x1000, .i32⟩
  | .hbm, ⟨11, _⟩ => ⟨S1x512, .f32⟩
  | .hbm, ⟨12, _⟩ => ⟨S1x64, .f32⟩
  | .hbm, ⟨13, _⟩ => ⟨S1x64, .f32⟩
  | .hbm, ⟨14, _⟩ => ⟨S1x512, .f32⟩
  | .hbm, ⟨15, _⟩ => ⟨S1x8, .f32⟩
  | .hbm, ⟨16, _⟩ => ⟨S10000x512, .f32⟩
  | .hbm, ⟨17, _⟩ => ⟨S10x1x1000, .i32⟩
  | .hbm, ⟨18, _⟩ => ⟨S1x8, .i32⟩
  | .local _ .vmem, ⟨0, _⟩ => ⟨S1000x256, .f32⟩
  | .local _ .vmem, ⟨1, _⟩ => ⟨S1000x256, .f32⟩
  | .local _ .vmem, ⟨2, _⟩ => ⟨S256x512, .f32⟩
  | .local _ .vmem, ⟨3, _⟩ => ⟨S1x512, .f32⟩
  | .local _ .vmem, ⟨4, _⟩ => ⟨S1x64, .f32⟩
  | .local _ .vmem, ⟨5, _⟩ => ⟨S1x64, .f32⟩
  | .local _ .vmem, ⟨6, _⟩ => ⟨S514x512, .f32⟩
  | .local _ .vmem, ⟨7, _⟩ => ⟨S1x512, .f32⟩
  | .local _ .vmem, ⟨8, _⟩ => ⟨S512x8, .f32⟩
  | .local _ .vmem, ⟨9, _⟩ => ⟨S1x8, .f32⟩
  | .local _ .vmem, ⟨10, _⟩ => ⟨S1x1x1000, .i32⟩
  | .local _ .vmem, ⟨11, _⟩ => ⟨S1x1x1000, .i32⟩
  | .local _ .vmem, ⟨12, _⟩ => ⟨S1000x512, .f32⟩
  | .local _ .vmem, ⟨13, _⟩ => ⟨S1000x512, .f32⟩
  | .local _ .vmem, ⟨14, _⟩ => ⟨S1x1x1000, .i32⟩
  | .local _ .vmem, ⟨15, _⟩ => ⟨S1x1x1000, .i32⟩
  | .local _ .vmem, ⟨16, _⟩ => ⟨S1x8, .i32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S514x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1000 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1000 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x8 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RouterReferenceIdeal.lean ====
abbrev S10000x256 : Shape := ⟨2, ![10000, 256]⟩
abbrev S64 : Shape := ⟨1, ![64]⟩
abbrev S10000 : Shape := ⟨1, ![10000]⟩
abbrev S256x512 : Shape := ⟨2, ![256, 512]⟩
abbrev S512 : Shape := ⟨1, ![512]⟩
abbrev S514x512 : Shape := ⟨2, ![514, 512]⟩
abbrev S512x8 : Shape := ⟨2, ![512, 8]⟩
abbrev S8 : Shape := ⟨1, ![8]⟩
abbrev S10000x512 : Shape := ⟨2, ![10000, 512]⟩
abbrev S1x512 : Shape := ⟨2, ![1, 512]⟩
abbrev S_ : Shape := ⟨0, ![]⟩
abbrev S64x1 : Shape := ⟨2, ![64, 1]⟩
abbrev S64x2 : Shape := ⟨2, ![64, 2]⟩
abbrev S10000x1 : Shape := ⟨2, ![10000, 1]⟩
abbrev S10000x2 : Shape := ⟨2, ![10000, 2]⟩
abbrev S10000x514 : Shape := ⟨2, ![10000, 514]⟩
abbrev S10000x8 : Shape := ⟨2, ![10000, 8]⟩
abbrev S1x8 : Shape := ⟨2, ![1, 8]⟩
abbrev S10x1x1000 : Shape := ⟨3, ![10, 1, 1000]⟩

abbrev nBuf : Space → Nat
  | .hbm => 67
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S64, .f32⟩
  | .hbm, ⟨2, _⟩ => ⟨S64, .f32⟩
  | .hbm, ⟨3, _⟩ => ⟨S10000, .i32⟩
  | .hbm, ⟨4, _⟩ => ⟨S256x512, .f32⟩
  | .hbm, ⟨5, _⟩ => ⟨S512, .f32⟩
  | .hbm, ⟨6, _⟩ => ⟨S514x512, .f32⟩
  | .hbm, ⟨7, _⟩ => ⟨S512, .f32⟩
  | .hbm, ⟨8, _⟩ => ⟨S512x8, .f32⟩
  | .hbm, ⟨9, _⟩ => ⟨S8, .f32⟩
  | .hbm, ⟨10, _⟩ => ⟨S10000x512, .f32⟩
  | .hbm, ⟨11, _⟩ => ⟨S1x512, .f32⟩
  | .hbm, ⟨12, _⟩ => ⟨S10000x512, .f32⟩
  | .hbm, ⟨13, _⟩ => ⟨S10000x512, .f32⟩
  | .hbm, ⟨14, _⟩ => ⟨S_, .f32⟩
  | .hbm, ⟨15, _⟩ => ⟨S10000x512, .f32⟩
  | .hbm, ⟨16, _⟩ => ⟨S10000x512, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x1, .f32⟩
  | .hbm, ⟨21, _⟩ => ⟨S64x2, .f32⟩
  | .hbm, ⟨22, _⟩ => ⟨S_, .i32⟩
  | .hbm, ⟨23, _⟩ => ⟨S10000, .i32⟩
  | .hbm, ⟨24, _⟩ => ⟨S10000, .i1⟩
  | .hbm, ⟨25, _⟩ => ⟨S_, .i32⟩
  | .hbm, ⟨26, _⟩ => ⟨S10000, .i32⟩
  | .hbm, ⟨27, _⟩ => ⟨S10000, .i32⟩
  | .hbm, ⟨28, _⟩ => ⟨S10000, .i32⟩
  | .hbm, ⟨29, _⟩ => ⟨S10000x1, .i32⟩
  | .hbm, ⟨30, _⟩ => ⟨S10000x2, .f32⟩
  | .hbm, ⟨31, _⟩ => ⟨S10000x514, .f32⟩
  | .hbm, ⟨32, _⟩ => ⟨S10000x512, .f32⟩
  | .hbm, ⟨33, _⟩ => ⟨S1x512, .f32⟩
  | .hbm, ⟨34, _⟩ => ⟨S10000x512, .f32⟩
  | .hbm, ⟨35, _⟩ => ⟨S10000x512, .f32⟩
  | .hbm, ⟨36, _⟩ => ⟨S_, .f32⟩
  | .hbm, ⟨37, _⟩ => ⟨S10000x512, .f32⟩
  | .hbm, ⟨38, _⟩ => ⟨S10000x512, .f32⟩
  | .hbm, ⟨39, _⟩ => ⟨S10000x8, .f32⟩
  | .hbm, ⟨40, _⟩ => ⟨S1x8, .f32⟩
  | .hbm, ⟨41, _⟩ => ⟨S10000x8, .f32⟩
  | .hbm, ⟨42, _⟩ => ⟨S10000x8, .f32⟩
  | .hbm, ⟨43, _⟩ => ⟨S10000x8, .i32⟩
  | .hbm, ⟨44, _⟩ => ⟨S_, .f32⟩
  | .hbm, ⟨45, _⟩ => ⟨S_, .i32⟩
  | .hbm, ⟨46, _⟩ => ⟨S10000, .f32⟩
  | .hbm, ⟨47, _⟩ => ⟨S10000, .i32⟩
  | .hbm, ⟨48, _⟩ => ⟨S10x1x1000, .i32⟩
  | .hbm, ⟨49, _⟩ => ⟨S_, .i32⟩
  | .hbm, ⟨50, _⟩ => ⟨S8, .i32⟩
  | .hbm, ⟨51, _⟩ => ⟨S_, .i32⟩
  | .hbm, ⟨52, _⟩ => ⟨S_, .i32⟩
  | .hbm, ⟨53, _⟩ => ⟨S10000, .i32⟩
  | .hbm, ⟨54, _⟩ => ⟨S10000, .i32⟩
  | .hbm, ⟨55, _⟩ => ⟨S_, .i32⟩
  | .hbm, ⟨56, _⟩ => ⟨S10000, .i32⟩
  | .hbm, ⟨57, _⟩ => ⟨S10000, .i1⟩
  | .hbm, ⟨58, _⟩ => ⟨S_, .i32⟩
  | .hbm, ⟨59, _⟩ => ⟨S10000, .i32⟩
  | .hbm, ⟨60, _⟩ => ⟨S10000, .i32⟩
  | .hbm, ⟨61, _⟩ => ⟨S10000, .i32⟩
  | .hbm, ⟨62, _⟩ => ⟨S10000x1, .i32⟩
  | .hbm, ⟨63, _⟩ => ⟨S_, .i32⟩
  | .hbm, ⟨64, _⟩ => ⟨S10000, .i32⟩
  | .hbm, ⟨65, _⟩ => ⟨S8, .i32⟩
  | .hbm, ⟨66, _⟩ => ⟨S1x8, .i32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call1_cst : Ref sig .tc := ⟨.hbm, 36, rfl⟩
abbrev main_call1_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call2_v0 : Ref sig .tc := ⟨.hbm, 43, rfl⟩
abbrev main_call2_cst : Ref sig .tc := ⟨.hbm, 44, rfl⟩
abbrev main_call2_c : Ref sig .tc := ⟨.hbm, 45, rfl⟩
abbrev main_call2_v1_0 : Ref sig .tc := ⟨.hbm, 46, rfl⟩
abbrev main_v27 : Ref sig .tc := ⟨.hbm, 47, rfl⟩
abbrev main_v28 : Ref sig .tc := ⟨.hbm, 48, rfl⟩
abbrev main_c_1 : Ref sig .tc := ⟨.hbm, 49, rfl⟩
abbrev main_v29 : Ref sig .tc := ⟨.hbm, 50, rfl⟩
abbrev main_c_2 : Ref sig .tc := ⟨.hbm, 51, rfl⟩
abbrev main_call3_v0 : Ref sig .tc := ⟨.hbm, 52, rfl⟩
abbrev main_call3_v1 : Ref sig .tc := ⟨.hbm, 53, rfl⟩
abbrev main_v30 : Ref sig .tc := ⟨.hbm, 54, rfl⟩
abbrev main_c_3 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_5 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩

abbrev nD : Nat := 1
abbrev τ : Topo := Topo.v7x

variable {F : FTy → Type} [FloatOps F]
-- ==== Proof.RouterBody.lean ====
/-
  What one point of the router's call leaves in its three output buffers, as its operations on the blocks it reads.
-/
module

public import proofs.«01_k».proof.Proof.Gen.RouterIdeal.Value
public import Idealize.ShloMosaic.Lib.Ring
public import Idealize.ShloMosaic.Lib.Tactic

@[expose] public section

set_option maxRecDepth 16384

noncomputable section

namespace Cert.RouterProof

open Cert.RouterIdeal Cert.RouterIdeal.Gen Idealize.ShloMosaic Idealize.ShloMosaic.TcCoe Idealize.ShloMosaic.Tactic

variable {F : FTy → Type} [FloatOps F]

theorem flat2 : (![0, 0] : Fin 2 → Nat) = fun _ => 0 := funext fun a => by fin_cases a <;> rfl
theorem flat3 : (![0, 0, 0] : Fin 3 → Nat) = fun _ => 0 := funext fun a => by fin_cases a <;> rfl

theorem leftA10 (c : Dev nD) (i : grid0.Coords) (a0 : Memref sig .tc .vmem S1000x256 .f32) (h0 : a0.IsWhole) (a1 : Memref sig .tc .vmem S256x512 .f32) (h1 : a1.IsWhole) (a2 : Memref sig .tc .vmem S1x512 .f32) (h2 : a2.IsWhole) (a3 : Memref sig .tc .vmem S1x64 .f32) (h3 : a3.IsWhole) (a4 : Memref sig .tc .vmem S1x64 .f32) (h4 : a4.IsWhole) (a5 : Memref sig .tc .vmem S514x512 .f32) (h5 : a5.IsWhole) (a6 : Memref sig .tc .vmem S1x512 .f32) (h6 : a6.IsWhole) (a7 : Memref sig .tc .vmem S512x8 .f32) (h7 : a7.IsWhole) (a8 : Memref sig .tc .vmem S1x8 .f32) (h8 : a8.IsWhole) (a9 : Memref sig .tc .vmem S1x1x1000 .i32) (h9 : a9.IsWhole) (a10 : Memref sig .tc .vmem S1000x512 .f32) (h10 : a10.IsWhole) (a11 : Memref sig .tc .vmem S1x1x1000 .i32) (h11 : a11.IsWhole) (a12 : Memref sig .tc .vmem S1x8 .i32) (h12 : a12.IsWhole) (hc : cond0_0 i) (x0 : Vec F S1000x256 .f32) (x1 : Vec F S256x512 .f32) (x2 : Vec F S1x512 .f32) (x3 : Vec F S1x64 .f32) (x4 : Vec F S1x64 .f32) (x5 : Vec F S514x512 .f32) (x6 : Vec F S1x512 .f32) (x7 : Vec F S512x8 .f32) (x8 : Vec F S1x8 .f32) (x9 : Vec F S1x1x1000 .i32) :
    out0_A_10 c i a0 h0 a1 h1 a2 h2 a3 h3 a4 h4 a5 h5 a6 h6 a7 h7 a8 h8 a9 h9 a10 h10 a11 h11 a12 h12 hc x0 x1 x2 x3 x4 x5 x6 x7 x8 x9 = k0_pay1 x0 x1 x2 := by
  unfold out0_A_10
  rw [View.read_writes_eq_canon _ _ _ (cover0_A_10 c i a0 h0 a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  try sl_unfold_words
  rw [View.canon_unit_zero (S := S1000x512) flat2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S1000x256) flat2, View.ld_unit_zero (S := S256x512) flat2, View.ld_unit_zero (S := S1x512) flat2, View.ld_unit_zero (S := S1x64) flat2, View.ld_unit_zero (S := S514x512) flat2, View.ld_unit_zero (S := S512x8) flat2, View.ld_unit_zero (S := S1x8) flat2, View.ld_unit_zero (S := S1x1x1000) flat3, shapeCast_self]

theorem leftA11 (c : Dev nD) (i : grid0.Coords) (a0 : Memref sig .tc .vmem S1000x256 .f32) (h0 : a0.IsWhole) (a1 : Memref sig .tc .vmem S256x512 .f32) (h1 : a1.IsWhole) (a2 : Memref sig .tc .vmem S1x512 .f32) (h2 : a2.IsWhole) (a3 : Memref sig .tc .vmem S1x64 .f32) (h3 : a3.IsWhole) (a4 : Memref sig .tc .vmem S1x64 .f32) (h4 : a4.IsWhole) (a5 : Memref sig .tc .vmem S514x512 .f32) (h5 : a5.IsWhole) (a6 : Memref sig .tc .vmem S1x512 .f32) (h6 : a6.IsWhole) (a7 : Memref sig .tc .vmem S512x8 .f32) (h7 : a7.IsWhole) (a8 : Memref sig .tc .vmem S1x8 .f32) (h8 : a8.IsWhole) (a9 : Memref sig .tc .vmem S1x1x1000 .i32) (h9 : a9.IsWhole) (a10 : Memref sig .tc .vmem S1000x512 .f32) (h10 : a10.IsWhole) (a11 : Memref sig .tc .vmem S1x1x1000 .i32) (h11 : a11.IsWhole) (a12 : Memref sig .tc .vmem S1x8 .i32) (h12 : a12.IsWhole) (hc : cond0_0 i) (x0 : Vec F S1000x256 .f32) (x1 : Vec F S256x512 .f32) (x2 : Vec F S1x512 .f32) (x3 : Vec F S1x64 .f32) (x4 : Vec F S1x64 .f32) (x5 : Vec F S514x512 .f32) (x6 : Vec F S1x512 .f32) (x7 : Vec F S512x8 .f32) (x8 : Vec F S1x8 .f32) (x9 : Vec F S1x1x1000 .i32) :
    out0_A_11 c i a0 h0 a1 h1 a2 h2 a3 h3 a4 h4 a5 h5 a6 h6 a7 h7 a8 h8 a9 h9 a10 h10 a11 h11 a12 h12 hc x0 x1 x2 x3 x4 x5 x6 x7 x8 x9 = k0_pay5 (k0_pay2 x0 x1 x2 x3 x4 x9 x5) (k0_pay3 x6) x7 x8 := by
  unfold out0_A_11
  rw [View.read_writes_eq_canon _ _ _ (cover0_A_11 c i a0 h0 a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  try sl_unfold_words
  rw [View.canon_unit_zero (S := S1x1x1000) flat3]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S1000x256) flat2, View.ld_unit_zero (S := S256x512) flat2, View.ld_unit_zero (S := S1x512) flat2, View.ld_unit_zero (S := S1x64) flat2, View.ld_unit_zero (S := S514x512) flat2, View.ld_unit_zero (S := S512x8) flat2, View.ld_unit_zero (S := S1x8) flat2, View.ld_unit_zero (S := S1x1x1000) flat3, shapeCast_self]

theorem leftA12 (c : Dev nD) (i : grid0.Coords) (a0 : Memref sig .tc .vmem S1000x256 .f32) (h0 : a0.IsWhole) (a1 : Memref sig .tc .vmem S256x512 .f32) (h1 : a1.IsWhole) (a2 : Memref sig .tc .vmem S1x512 .f32) (h2 : a2.IsWhole) (a3 : Memref sig .tc .vmem S1x64 .f32) (h3 : a3.IsWhole) (a4 : Memref sig .tc .vmem S1x64 .f32) (h4 : a4.IsWhole) (a5 : Memref sig .tc .vmem S514x512 .f32) (h5 : a5.IsWhole) (a6 : Memref sig .tc .vmem S1x512 .f32) (h6 : a6.IsWhole) (a7 : Memref sig .tc .vmem S512x8 .f32) (h7 : a7.IsWhole) (a8 : Memref sig .tc .vmem S1x8 .f32) (h8 : a8.IsWhole) (a9 : Memref sig .tc .vmem S1x1x1000 .i32) (h9 : a9.IsWhole) (a10 : Memref sig .tc .vmem S1000x512 .f32) (h10 : a10.IsWhole) (a11 : Memref sig .tc .vmem S1x1x1000 .i32) (h11 : a11.IsWhole) (a12 : Memref sig .tc .vmem S1x8 .i32) (h12 : a12.IsWhole) (hc : cond0_0 i) (x0 : Vec F S1000x256 .f32) (x1 : Vec F S256x512 .f32) (x2 : Vec F S1x512 .f32) (x3 : Vec F S1x64 .f32) (x4 : Vec F S1x64 .f32) (x5 : Vec F S514x512 .f32) (x6 : Vec F S1x512 .f32) (x7 : Vec F S512x8 .f32) (x8 : Vec F S1x8 .f32) (x9 : Vec F S1x1x1000 .i32) :
    out0_A_12 c i a0 h0 a1 h1 a2 h2 a3 h3 a4 h4 a5 h5 a6 h6 a7 h7 a8 h8 a9 h9 a10 h10 a11 h11 a12 h12 hc x0 x1 x2 x3 x4 x5 x6 x7 x8 x9 = k0_pay7 (k0_pay2 x0 x1 x2 x3 x4 x9 x5) (k0_pay3 x6) x7 x8 k0_pay6 := by
  unfold out0_A_12
  rw [View.read_writes_eq_canon _ _ _ (cover0_A_12 c i a0 h0 a1 h1 a2 h2 a3 h3 a4 h4 a5 h5 a6 h6 a7 h7 a8 h8 a9 h9 a10 h10 a11 h11 a12 h12 hc x0 x1 x2 x3 x4 x5 x6 x7 x8 x9)]
  unfold kernelRun0_A
  dsimp only
  try sl_unfold_words
  rw [View.canon_cons_unit_zero (S := S1x8) flat2, View.readCov_unit_zero (S := S1x8) _ flat2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S1000x256) flat2, View.ld_unit_zero (S := S256x512) flat2, View.ld_unit_zero (S := S1x512) flat2, View.ld_unit_zero (S := S1x64) flat2, View.ld_unit_zero (S := S514x512) flat2, View.ld_unit_zero (S := S512x8) flat2, View.ld_unit_zero (S := S1x8) flat2, View.ld_unit_zero (S := S1x1x1000) flat3, shapeCast_self]

theorem leftB10 (c : Dev nD) (i : grid0.Coords) (a0 : Memref sig .tc .vmem S1000x256 .f32) (h0 : a0.IsWhole) (a1 : Memref sig .tc .vmem S256x512 .f32) (h1 : a1.IsWhole) (a2 : Memref sig .tc .vmem S1x512 .f32) (h2 : a2.IsWhole) (a3 : Memref sig .tc .vmem S1x64 .f32) (h3 : a3.IsWhole) (a4 : Memref sig .tc .vmem S1x64 .f32) (h4 : a4.IsWhole) (a5 : Memref sig .tc .vmem S514x512 .f32) (h5 : a5.IsWhole) (a6 : Memref sig .tc .vmem S1x512 .f32) (h6 : a6.IsWhole) (a7 : Memref sig .tc .vmem S512x8 .f32) (h7 : a7.IsWhole) (a8 : Memref sig .tc .vmem S1x8 .f32) (h8 : a8.IsWhole) (a9 : Memref sig .tc .vmem S1x1x1000 .i32) (h9 : a9.IsWhole) (a10 : Memref sig .tc .vmem S1000x512 .f32) (h10 : a10.IsWhole) (a11 : Memref sig .tc .vmem S1x1x1000 .i32) (h11 : a11.IsWhole) (a12 : Memref sig .tc .vmem S1x8 .i32) (h12 : a12.IsWhole) (hc : ¬cond0_0 i) (x0 : Vec F S1000x256 .f32) (x1 : Vec F S256x512 .f32) (x2 : Vec F S1x512 .f32) (x3 : Vec F S1x64 .f32) (x4 : Vec F S1x64 .f32) (x5 : Vec F S514x512 .f32) (x6 : Vec F S1x512 .f32) (x7 : Vec F S512x8 .f32) (x8 : Vec F S1x8 .f32) (x9 : Vec F S1x1x1000 .i32) (acc : Vec F S1x8 .i32) :
    out0_B_10 c i a0 h0 a1 h1 a2 h2 a3 h3 a4 h4 a5 h5 a6 h6 a7 h7 a8 h8 a9 h9 a10 h10 a11 h11 a12 h12 hc x0 x1 x2 x3 x4 x5 x6 x7 x8 x9 acc = k0_pay1 x0 x1 x2 := by
  unfold out0_B_10
  rw [View.read_writes_eq_canon _ _ _ (cover0_B_10 c i a0 h0 a1 h1 a2 h2 a3 h3 a4 h4 a5 h5 a6 h6 a7 h7 a8 h8 a9 h9 a10 h10 a11 h11 a12 h12 hc x0 x1 x2 x3 x4 x5 x6 x7 x8 x9 acc)]
  unfold kernelRun0_B
  dsimp only
  try sl_unfold_words
  rw [View.canon_unit_zero (S := S1000x512) flat2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S1000x256) flat2, View.ld_unit_zero (S := S256x512) flat2, View.ld_unit_zero (S := S1x512) flat2, View.ld_unit_zero (S := S1x64) flat2, View.ld_unit_zero (S := S514x512) flat2, View.ld_unit_zero (S := S512x8) flat2, View.ld_unit_zero (S := S1x8) flat2, View.ld_unit_zero (S := S1x1x1000) flat3, shapeCast_self]

theorem leftB11 (c : Dev nD) (i : grid0.Coords) (a0 : Memref sig .tc .vmem S1000x256 .f32) (h0 : a0.IsWhole) (a1 : Memref sig .tc .vmem S256x512 .f32) (h1 : a1.IsWhole) (a2 : Memref sig .tc .vmem S1x512 .f32) (h2 : a2.IsWhole) (a3 : Memref sig .tc .vmem S1x64 .f32) (h3 : a3.IsWhole) (a4 : Memref sig .tc .vmem S1x64 .f32) (h4 : a4.IsWhole) (a5 : Memref sig .tc .vmem S514x512 .f32) (h5 : a5.IsWhole) (a6 : Memref sig .tc .vmem S1x512 .f32) (h6 : a6.IsWhole) (a7 : Memref sig .tc .vmem S512x8 .f32) (h7 : a7.IsWhole) (a8 : Memref sig .tc .vmem S1x8 .f32) (h8 : a8.IsWhole) (a9 : Memref sig .tc .vmem S1x1x1000 .i32) (h9 : a9.IsWhole) (a10 : Memref sig .tc .vmem S1000x512 .f32) (h10 : a10.IsWhole) (a11 : Memref sig .tc .vmem S1x1x1000 .i32) (h11 : a11.IsWhole) (a12 : Memref sig .tc .vmem S1x8 .i32) (h12 : a12.IsWhole) (hc : ¬cond0_0 i) (x0 : Vec F S1000x256 .f32) (x1 : Vec F S256x512 .f32) (x2 : Vec F S1x512 .f32) (x3 : Vec F S1x64 .f32) (x4 : Vec F S1x64 .f32) (x5 : Vec F S514x512 .f32) (x6 : Vec F S1x512 .f32) (x7 : Vec F S512x8 .f32) (x8 : Vec F S1x8 .f32) (x9 : Vec F S1x1x1000 .i32) (acc : Vec F S1x8 .i32) :
    out0_B_11 c i a0 h0 a1 h1 a2 h2 a3 h3 a4 h4 a5 h5 a6 h6 a7 h7 a8 h8 a9 h9 a10 h10 a11 h11 a12 h12 hc x0 x1 x2 x3 x4 x5 x6 x7 x8 x9 acc = k0_pay5 (k0_pay2 x0 x1 x2 x3 x4 x9 x5) (k0_pay3 x6) x7 x8 := by
  unfold out0_B_11
  rw [View.read_writes_eq_canon _ _ _ (cover0_B_11 c i a0 h0 a1 h1 a2 h2 a3 h3 a4 h4 a5 h5 a6 h6 a7 h7 a8 h8 a9 h9 a10 h10 a11 h11 a12 h12 hc x0 x1 x2 x3 x4 x5 x6 x7 x8 x9 acc)]
  unfold kernelRun0_B
  dsimp only
  try sl_unfold_words
  rw [View.canon_unit_zero (S := S1x1x1000) flat3]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S1000x256) flat2, View.ld_unit_zero (S := S256x512) flat2, View.ld_unit_zero (S := S1x512) flat2, View.ld_unit_zero (S := S1x64) flat2, View.ld_unit_zero (S := S514x512) flat2, View.ld_unit_zero (S := S512x8) flat2, View.ld_unit_zero (S := S1x8) flat2, View.ld_unit_zero (S := S1x1x1000) flat3, shapeCast_self]

theorem leftB12 (c : Dev nD) (i : grid0.Coords) (a0 : Memref sig .tc .vmem S1000x256 .f32) (h0 : a0.IsWhole) (a1 : Memref sig .tc .vmem S256x512 .f32) (h1 : a1.IsWhole) (a2 : Memref sig .tc .vmem S1x512 .f32) (h2 : a2.IsWhole) (a3 : Memref sig .tc .vmem S1x64 .f32) (h3 : a3.IsWhole) (a4 : Memref sig .tc .vmem S1x64 .f32) (h4 : a4.IsWhole) (a5 : Memref sig .tc .vmem S514x512 .f32) (h5 : a5.IsWhole) (a6 : Memref sig .tc .vmem S1x512 .f32) (h6 : a6.IsWhole) (a7 : Memref sig .tc .vmem S512x8 .f32) (h7 : a7.IsWhole) (a8 : Memref sig .tc .vmem S1x8 .f32) (h8 : a8.IsWhole) (a9 : Memref sig .tc .vmem S1x1x1000 .i32) (h9 : a9.IsWhole) (a10 : Memref sig .tc .vmem S1000x512 .f32) (h10 : a10.IsWhole) (a11 : Memref sig .tc .vmem S1x1x1000 .i32) (h11 : a11.IsWhole) (a12 : Memref sig .tc .vmem S1x8 .i32) (h12 : a12.IsWhole) (hc : ¬cond0_0 i) (x0 : Vec F S1000x256 .f32) (x1 : Vec F S256x512 .f32) (x2 : Vec F S1x512 .f32) (x3 : Vec F S1x64 .f32) (x4 : Vec F S1x64 .f32) (x5 : Vec F S514x512 .f32) (x6 : Vec F S1x512 .f32) (x7 : Vec F S512x8 .f32) (x8 : Vec F S1x8 .f32) (x9 : Vec F S1x1x1000 .i32) (acc : Vec F S1x8 .i32) :
    out0_B_12 c i a0 h0 a1 h1 a2 h2 a3 h3 a4 h4 a5 h5 a6 h6 a7 h7 a8 h8 a9 h9 a10 h10 a11 h11 a12 h12 hc x0 x1 x2 x3 x4 x5 x6 x7 x8 x9 acc = k0_pay7 (k0_pay2 x0 x1 x2 x3 x4 x9 x5) (k0_pay3 x6) x7 x8 acc := by
  unfold out0_B_12
  rw [View.read_writes_eq_canon _ _ _ (cover0_B_12 c i a0 h0 a1 h1 a2 h2 a3 h3 a4 h4 a5 h5 a6 h6 a7 h7 a8 h8 a9 h9 a10 h10 a11 h11 a12 h12 hc x0 x1 x2 x3 x4 x5 x6 x7 x8 x9 acc)]
  unfold kernelRun0_B
  dsimp only
  try sl_unfold_words
  rw [View.canon_unit_zero (S := S1x8) flat2]
  simp only [View.readAt_eq_ld, h0.read_unread, h1.read_unread, h2.read_unread, h3.read_unread, h4.read_unread, h5.read_unread, h6.read_unread, h7.read_unread, h8.read_unread, h9.read_unread, h10.read_unread, h11.read_unread, h12.read_unread, View.ld_unit_zero (S := S1000x256) flat2, View.ld_unit_zero (S := S256x512) flat2, View.ld_unit_zero (S := S1x512) flat2, View.ld_unit_zero (S := S1x64) flat2, View.ld_unit_zero (S := S514x512) flat2, View.ld_unit_zero (S := S512x8) flat2, View.ld_unit_zero (S := S1x8) flat2, View.ld_unit_zero (S := S1x1x1000) flat3, shapeCast_self]

end Cert.RouterProof

end
-- ==== Proof.RouterChoice.lean ====
/-
  The expert that a node's scores choose: the least among the greatest, found in two ways.
-/
module

public import proofs.«01_k».proof.Proof.Gen.RouterReferenceIdeal
public import Idealize.ShloMosaic.PureOps.Ideal.Laws
public import Idealize.ShloMosaic.Lib.Pointwise.Reduce

@[expose] public section

noncomputable section

namespace Cert.RouterProof

open Idealize.ShloMosaic

/-- The word names the least of the experts whose score is the greatest. -/
def Best (l : Fin 8 → EReal) (v : BitVec 32) : Prop :=
  ∃ e : Fin 8, v = BitVec.ofNat 32 e.val ∧ (∀ e', l e' ≤ l e) ∧ ∀ e', l e' = l e → e ≤ e'

theorem Best.unique {l : Fin 8 → EReal} {v w : BitVec 32} (hv : Best l v) (hw : Best l w) : v = w := by
  obtain ⟨e, rfl, h1, h2⟩ := hv
  obtain ⟨e', rfl, h1', h2'⟩ := hw
  have he : l e = l e' := le_antisymm (h1' e) (h1 e')
  rw [le_antisymm (h2 e' he.symm) (h2' e he)]

theorem Best.small {l : Fin 8 → EReal} {v : BitVec 32} (hv : Best l v) : v.toNat < 8 := by
  obtain ⟨e, rfl, -⟩ := hv
  rw [BitVec.toNat_ofNat]
  omega

theorem toInt_expert (e : Fin 8) : (BitVec.ofNat 32 e.val).toInt = e.val := by
  revert e
  decide

/-! ## A least word -/

theorem fold_least (op : BitVec 32 → BitVec 32 → BitVec 32) [Std.Commutative op] [Std.Associative op] (hop : ∀ a b, op a b = IntOp.minsi a b) (f : Fin 8 → BitVec 32) (b : BitVec 32) (S : Finset (Fin 8)) :
    (S.fold op b f = b ∨ ∃ e ∈ S, S.fold op b f = f e) ∧ (S.fold op b f).toInt ≤ b.toInt ∧ ∀ e ∈ S, (S.fold op b f).toInt ≤ (f e).toInt := by
  induction S using Finset.cons_induction with
  | empty => exact ⟨.inl (Finset.fold_empty), le_of_eq (by rw [Finset.fold_empty]), fun e he => absurd he (Finset.notMem_empty e)⟩
  | cons a S ha ih =>
    obtain ⟨h1, h2, h3⟩ := ih
    rw [Finset.fold_cons, hop]
    generalize S.fold op b f = r at *
    by_cases hlt : (f a).toInt < r.toInt
    · have e : IntOp.minsi (f a) r = f a := if_pos (BitVec.slt_iff_toInt_lt.mpr hlt)
      rw [e]
      refine ⟨.inr ⟨a, Finset.mem_cons_self a S, rfl⟩, by omega, fun x hx => ?_⟩
      rcases Finset.mem_cons.mp hx with rfl | hx
      · exact le_rfl
      · have := h3 x hx; omega
    · have e : IntOp.minsi (f a) r = r := if_neg (fun h => hlt (BitVec.slt_iff_toInt_lt.mp h))
      rw [e]
      refine ⟨h1.imp id fun ⟨x, hx, hr⟩ => ⟨x, Finset.mem_cons.mpr (.inr hx), hr⟩, h2, fun x hx => ?_⟩
      rcases Finset.mem_cons.mp hx with rfl | hx
      · omega
      · exact h3 x hx

theorem fold_greatest (l : Fin 8 → EReal) (S : Finset (Fin 8)) :
    (S.fold max ⊥ l = ⊥ ∨ ∃ e ∈ S, S.fold max ⊥ l = l e) ∧ ∀ e ∈ S, l e ≤ S.fold max ⊥ l := by
  induction S using Finset.cons_induction with
  | empty => exact ⟨.inl Finset.fold_empty, fun e he => absurd he (Finset.notMem_empty e)⟩
  | cons a S ha ih =>
    obtain ⟨h1, h2⟩ := ih
    rw [Finset.fold_cons]
    refine ⟨?_, fun x hx => ?_⟩
    · rcases le_total (l a) (S.fold max ⊥ l) with h | h
      · rw [max_eq_right h]
        exact h1.imp id fun ⟨x, hx, hr⟩ => ⟨x, Finset.mem_cons.mpr (.inr hx), hr⟩
      · rw [max_eq_left h]
        exact .inr ⟨a, Finset.mem_cons_self a S, rfl⟩
    · rcases Finset.mem_cons.mp hx with rfl | hx
      · exact le_max_left _ _
      · exact (h2 x hx).trans (le_max_right _ _)

/-- The least of the experts that reach the greatest score. -/
theorem best_least (op : BitVec 32 → BitVec 32 → BitVec 32) [Std.Commutative op] [Std.Associative op] (hop : ∀ a b, op a b = IntOp.minsi a b) (l : Fin 8 → EReal) (M : EReal)
    (hM : M = Finset.univ.fold max ⊥ l) :
    Best l (Finset.univ.fold op 2147483647#32 fun e : Fin 8 => if M ≤ l e then BitVec.ofNat 32 e.val else 8#32) := by
  obtain ⟨h1, h2⟩ := fold_greatest l Finset.univ
  rw [← hM] at h1 h2
  obtain ⟨e0, h0⟩ : ∃ e0, M = l e0 := by
    rcases h1 with h | ⟨e, -, h⟩
    · exact ⟨0, le_antisymm (h ▸ bot_le) (h2 0 (Finset.mem_univ _))⟩
    · exact ⟨e, h⟩
  obtain ⟨k1, -, k3⟩ := fold_least op hop (fun e : Fin 8 => if M ≤ l e then BitVec.ofNat 32 e.val else 8#32) 2147483647#32 Finset.univ
  generalize Finset.univ.fold op 2147483647#32 (fun e : Fin 8 => if M ≤ l e then BitVec.ofNat 32 e.val else 8#32) = r at *
  have hr := k3 e0 (Finset.mem_univ _)
  simp only [if_pos (le_of_eq h0), toInt_expert] at hr
  have hb : (2147483647#32 : BitVec 32).toInt = 2147483647 := by decide
  have h8 : (8#32 : BitVec 32).toInt = 8 := by decide
  have hl := e0.isLt
  rcases k1 with rfl | ⟨e, -, he⟩
  · omega
  · by_cases hm : M ≤ l e
    · simp only [if_pos hm] at he
      refine ⟨e, he, fun e' => (h2 e' (Finset.mem_univ _)).trans hm, fun e' hl => ?_⟩
      have := k3 e' (Finset.mem_univ _)
      simp only [if_pos (hm.trans (le_of_eq hl.symm)), toInt_expert] at this
      rw [he, toInt_expert] at this
      exact Fin.le_def.mpr (by omega)
    · simp only [if_neg hm] at he
      subst he
      omega

/-! ## The better of two pairs -/

/-- A pair's score is the greater, or the scores are equal and its index is no greater. -/
def Ahead (p q : EReal × BitVec 32) : Prop := q.1 < p.1 ∨ q.1 = p.1 ∧ p.2.toInt ≤ q.2.toInt

theorem Ahead.trans {p q r : EReal × BitVec 32} (h : Ahead p q) (k : Ahead q r) : Ahead p r := by
  rcases h with h | ⟨h, h'⟩ <;> rcases k with k | ⟨k, k'⟩
  · exact .inl (k.trans h)
  · exact .inl (k ▸ h)
  · exact .inl (h ▸ k)
  · exact .inr ⟨k.trans h, h'.trans k'⟩

theorem Ahead.refl (p : EReal × BitVec 32) : Ahead p p := .inr ⟨rfl, le_rfl⟩

theorem step_better (a b : EReal × BitVec 32) :
    (Cert.RouterReferenceIdeal.reducer_argmax_f32_i32 (F := Ideal) a b = a ∧ Ahead a b) ∨ (Cert.RouterReferenceIdeal.reducer_argmax_f32_i32 (F := Ideal) a b = b ∧ Ahead b a) := by
  obtain ⟨x, i⟩ := a
  obtain ⟨y, j⟩ := b
  have hs : ∀ {i j : BitVec 32}, i.slt j = true ↔ i.toInt < j.toInt := BitVec.slt_iff_toInt_lt
  unfold Cert.RouterReferenceIdeal.reducer_argmax_f32_i32 Ahead
  simp only [Ideal.cmpf_def, Ideal.cmp, IntOp.ori, IntOp.andi, IntOp.cmpi, Scalar.select, ne_eq, not_true_eq_false, decide_false]
  rcases lt_trichotomy x y with h | h | h
  · right
    refine ⟨?_, .inl h⟩
    rw [decide_eq_false (not_lt.mpr h.le), decide_eq_false h.ne]
    cases i.slt j <;> rfl
  · subst h
    rw [decide_eq_false (lt_irrefl x), decide_eq_true rfl]
    cases hc : i.slt j
    · right
      refine ⟨rfl, .inr ⟨rfl, ?_⟩⟩
      have : ¬ i.toInt < j.toInt := fun h => by rw [hs.mpr h] at hc; cases hc
      exact not_lt.mp this
    · left
      exact ⟨rfl, .inr ⟨rfl, (hs.mp hc).le⟩⟩
  · left
    refine ⟨?_, .inl h⟩
    rw [decide_eq_true h, decide_eq_false h.ne']
    cases i.slt j <;> rfl

theorem fold_better (L : List (EReal × BitVec 32)) (p : EReal × BitVec 32) :
    (L.foldl (Cert.RouterReferenceIdeal.reducer_argmax_f32_i32 (F := Ideal)) p = p ∨ L.foldl (Cert.RouterReferenceIdeal.reducer_argmax_f32_i32 (F := Ideal)) p ∈ L)
      ∧ Ahead (L.foldl (Cert.RouterReferenceIdeal.reducer_argmax_f32_i32 (F := Ideal)) p) p
      ∧ ∀ q ∈ L, Ahead (L.foldl (Cert.RouterReferenceIdeal.reducer_argmax_f32_i32 (F := Ideal)) p) q := by
  induction L generalizing p with
  | nil => exact ⟨.inl rfl, Ahead.refl _, fun q hq => absurd hq List.not_mem_nil⟩
  | cons a L ih =>
    obtain ⟨h1, h2, h3⟩ := ih (Cert.RouterReferenceIdeal.reducer_argmax_f32_i32 (F := Ideal) p a)
    rw [List.foldl_cons]
    generalize L.foldl (Cert.RouterReferenceIdeal.reducer_argmax_f32_i32 (F := Ideal)) (Cert.RouterReferenceIdeal.reducer_argmax_f32_i32 (F := Ideal) p a) = r at *
    rcases step_better p a with ⟨e, h⟩ | ⟨e, h⟩ <;> rw [e] at h1 h2
    · refine ⟨h1.imp id (List.mem_cons_of_mem a), h2, fun q hq => ?_⟩
      rcases List.mem_cons.mp hq with rfl | hq
      · exact h2.trans h
      · exact h3 q hq
    · refine ⟨.inr (h1.elim (fun h => h ▸ List.mem_cons_self) (List.mem_cons_of_mem a)), h2.trans h, fun q hq => ?_⟩
      rcases List.mem_cons.mp hq with rfl | hq
      · exact h2
      · exact h3 q hq

/-- The best pair of a list that holds every expert's score with its index. -/
theorem best_better (L : List (EReal × BitVec 32)) (l : Fin 8 → EReal) (hL : ∀ q, q ∈ L ↔ ∃ e : Fin 8, q = (l e, BitVec.ofNat 32 e.val)) :
    Best l (L.foldl (Cert.RouterReferenceIdeal.reducer_argmax_f32_i32 (F := Ideal)) (⊥, 0#32)).2 := by
  obtain ⟨h1, h2, h3⟩ := fold_better L (⊥, 0#32)
  generalize L.foldl (Cert.RouterReferenceIdeal.reducer_argmax_f32_i32 (F := Ideal)) (⊥, 0#32) = r at *
  have hr : ∃ e : Fin 8, r = (l e, BitVec.ofNat 32 e.val) := by
    rcases h1 with rfl | h
    · refine ⟨0, Prod.ext ?_ rfl⟩
      rcases h3 _ ((hL _).mpr ⟨0, rfl⟩) with h | ⟨h, -⟩
      · exact absurd h not_lt_bot
      · exact h.symm
    · exact (hL _).mp h
  obtain ⟨e, rfl⟩ := hr
  refine ⟨e, rfl, fun e' => ?_, fun e' he => ?_⟩
  · rcases h3 _ ((hL _).mpr ⟨e', rfl⟩) with h | ⟨h, -⟩
    · exact h.le
    · exact h.le
  · rcases h3 _ ((hL _).mpr ⟨e', rfl⟩) with h | ⟨-, h⟩
    · exact absurd h (he ▸ lt_irrefl _)
    · simp only [toInt_expert] at h
      exact Fin.le_def.mpr (by omega)

end Cert.RouterProof

end
-- ==== Proof.Base.lean ====
/-
  The mathematics of the edge filter and the accumulation, apart from any program: conditional left folds, a list that
  holds the edges of a block that hit a tile's range of nodes, and the lanes of a chunk stored at the positions their
  prefix count gives.
-/
module

public import Idealize.ShloMosaic.Lib.ValueIdxCore
public import Idealize.ShloMosaic.PureOps

@[expose] public section

namespace Cert.Proof

open Idealize.ShloMosaic Idealize.ShloMosaic.ValueIdx

/-! ## Total reads -/

/-- The `k`-th element of a vector, the position taken modulo the length. -/
def nth {α : Type} {n : ℕ} [NeZero n] (f : (⟨1, ![n]⟩ : Shape).Idx → α) (k : ℕ) : α := f (ix1 (Fin.ofNat n k))

/-- Column `c` of row `r` of a table kept as two halves of two times 128 columns each. -/
def tab {α : Type} {n : ℕ} [NeZero n] (A B : (⟨3, ![n, 2, 128]⟩ : Shape).Idx → α) (r c : ℕ) : α :=
  if c < 256 then A (ix3 (Fin.ofNat n r) (Fin.ofNat 2 (c / 128)) (Fin.ofNat 128 c))
  else B (ix3 (Fin.ofNat n r) (Fin.ofNat 2 (c / 128)) (Fin.ofNat 128 c))

/-- Column `c` of row `r` of a matrix. -/
def cell {α : Type} {n k : ℕ} [NeZero n] [NeZero k] (A : (⟨2, ![n, k]⟩ : Shape).Idx → α) (r c : ℕ) : α :=
  A (ix2 (Fin.ofNat n r) (Fin.ofNat k c))

theorem nth_val {α : Type} {n : ℕ} [NeZero n] (f : (⟨1, ![n]⟩ : Shape).Idx → α) (j : (⟨1, ![n]⟩ : Shape).Idx) : nth f (j 0).val = f j := by
  unfold nth
  refine congrArg f ?_
  rw [eq_ix1 j]
  refine congrArg ix1 (Fin.ext ?_)
  exact Nat.mod_eq_of_lt (j 0).isLt

theorem cell_val {α : Type} {n k : ℕ} [NeZero n] [NeZero k] (f : (⟨2, ![n, k]⟩ : Shape).Idx → α) (j : (⟨2, ![n, k]⟩ : Shape).Idx) :
    cell f (j 0).val (j 1).val = f j := by
  unfold cell
  refine congrArg f ?_
  rw [eq_ix2 j]
  exact congrArg₂ ix2 (Fin.ext (Nat.mod_eq_of_lt (j 0).isLt)) (Fin.ext (Nat.mod_eq_of_lt (j 1).isLt))

/-! ## Conditional folds -/

/-- The elements `x 0, …, x (n - 1)` at which `p` holds, added one after another to `a`. -/
def fold {α : Type} (add : α → α → α) (p : ℕ → Prop) [DecidablePred p] (x : ℕ → α) : ℕ → α → α
  | 0, a => a
  | n + 1, a => if p n then add (fold add p x n a) (x n) else fold add p x n a

section Fold
variable {α : Type} (add : α → α → α)

theorem fold_congr {p q : ℕ → Prop} [DecidablePred p] [DecidablePred q] {x y : ℕ → α} {n : ℕ} (a : α)
    (hp : ∀ k < n, (p k ↔ q k)) (hx : ∀ k < n, q k → x k = y k) : fold add p x n a = fold add q y n a := by
  induction n with
  | zero => rfl
  | succ n ih =>
    have ih := ih (fun k hk => hp k (by omega)) (fun k hk => hx k (by omega))
    have h := hp n (by omega)
    by_cases hq : q n
    · rw [fold, fold, if_pos (h.2 hq), if_pos hq, ih, hx n (by omega) hq]
    · rw [fold, fold, if_neg (fun hp => hq (h.1 hp)), if_neg hq, ih]

theorem fold_add (p : ℕ → Prop) [DecidablePred p] (x : ℕ → α) (m n : ℕ) (a : α) :
    fold add p x (m + n) a = fold add (fun k => p (m + k)) (fun k => x (m + k)) n (fold add p x m a) := by
  induction n with
  | zero => rfl
  | succ n ih => rw [← Nat.add_assoc, fold, fold, ih]

/-- A fold no element of which counts past `n` stays as it was at `n`. -/
theorem fold_tail {p : ℕ → Prop} [DecidablePred p] {x : ℕ → α} {n k : ℕ} (a : α) (h : ∀ i < k, ¬p (n + i)) :
    fold add p x (n + k) a = fold add p x n a := by
  induction k with
  | zero => rfl
  | succ k ih => rw [← Nat.add_assoc, fold, if_neg (h k (by omega)), ih fun i hi => h i (by omega)]

end Fold

/-! ## The list of hits -/

/-- The first `n` entries of the two lists `R` and `D` stand for the edges among the first `m` that count (`P`), in
    their order: each names a source row below `N` and a node of the tile's range (counted from `base`), and adding
    the list's rows node by node is adding the edges' rows. -/
structure Compact (N base : ℕ) (P : ℕ → Prop) [DecidablePred P] (s d R D : ℕ → ℕ) (n m : ℕ) : Prop where
  le : n ≤ m
  row : ∀ k < n, R k < N
  node : ∀ k < n, D k < 160
  sum : ∀ (α : Type) (add : α → α → α) (x : ℕ → α) (a : α) (r : ℕ),
    fold add (fun k => D k = r) (fun k => x (R k)) n a = fold add (fun i => P i ∧ d i = base + r) (fun i => x (s i)) m a

namespace Compact
variable {N base : ℕ} {P : ℕ → Prop} [DecidablePred P] {s d R D R' D' : ℕ → ℕ} {n m : ℕ}

theorem nil : Compact N base P s d R D 0 0 :=
  ⟨le_rfl, fun _ h => absurd h (by omega), fun _ h => absurd h (by omega), fun _ _ _ _ _ => rfl⟩

theorem congr (h : Compact N base P s d R D n m) (hR : ∀ k < n, R' k = R k) (hD : ∀ k < n, D' k = D k) :
    Compact N base P s d R' D' n m := by
  refine ⟨h.le, fun k hk => hR k hk ▸ h.row k hk, fun k hk => hD k hk ▸ h.node k hk, fun α add x a r => ?_⟩
  rw [← h.sum α add x a r]
  exact fold_congr add a (fun k hk => by rw [hD k hk]) (fun k hk _ => by rw [hR k hk])

theorem miss (h : Compact N base P s d R D n m) (hm : ¬P m) : Compact N base P s d R D n (m + 1) := by
  refine ⟨by have := h.le; omega, h.row, h.node, fun α add x a r => ?_⟩
  rw [fold, if_neg (fun hp => hm hp.1)]
  exact h.sum α add x a r

theorem hit (h : Compact N base P s d R D n m) (hm : P m) (hR : R n = s m) (hD : D n + base = d m) (hs : s m < N) (hd : D n < 160) :
    Compact N base P s d R D (n + 1) (m + 1) := by
  refine ⟨by have := h.le; omega, fun k hk => ?_, fun k hk => ?_, fun α add x a r => ?_⟩
  · rcases Nat.lt_succ_iff_lt_or_eq.1 hk with hk | rfl
    · exact h.row k hk
    · rw [hR]; exact hs
  · rcases Nat.lt_succ_iff_lt_or_eq.1 hk with hk | rfl
    · exact h.node k hk
    · exact hd
  · rw [fold, fold, h.sum α add x a r, hR]
    by_cases hr : D n = r
    · rw [if_pos hr, if_pos ⟨hm, by omega⟩]
    · rw [if_neg hr, if_neg (fun hp => hr (by have := hp.2; omega))]

end Compact

/-! ## The lanes of one chunk -/

/-- How many of the numbers below `n` satisfy `h`. -/
def rank (h : ℕ → Prop) [DecidablePred h] : ℕ → ℕ
  | 0 => 0
  | n + 1 => rank h n + if h n then 1 else 0

theorem rank_le (h : ℕ → Prop) [DecidablePred h] (n : ℕ) : rank h n ≤ n := by
  induction n with
  | zero => exact le_rfl
  | succ n ih => rw [rank]; split <;> omega

theorem rank_mono (h : ℕ → Prop) [DecidablePred h] {m n : ℕ} (hmn : m ≤ n) : rank h m ≤ rank h n := by
  induction n with
  | zero => obtain rfl : m = 0 := by omega
            exact le_rfl
  | succ n ih =>
    rcases Nat.lt_or_ge n m with hlt | hge
    · obtain rfl : m = n + 1 := by omega
      exact le_rfl
    · have := ih hge
      rw [rank]; omega

theorem rank_lt (h : ℕ → Prop) [DecidablePred h] {m n : ℕ} (hm : h m) (hmn : m < n) : rank h m < rank h n := by
  have h1 := rank_mono h (show m + 1 ≤ n by omega)
  rw [rank, if_pos hm] at h1
  omega

/-- One chunk of `w` edges: if the hits' entries of the new lists stand at their ranks past `n`, and the entries below `n`
    are the old ones, the new lists stand for the edges up to the chunk's end. -/
theorem Compact.chunk {N base : ℕ} {P : ℕ → Prop} [DecidablePred P] {s d R D R' D' : ℕ → ℕ} {n m : ℕ} (w : ℕ)
    (h : Compact N base P s d R D n m) (hR : ∀ k < n, R' k = R k) (hD : ∀ k < n, D' k = D k)
    (hhit : ∀ l < w, P (m + l) → R' (n + rank (fun l => P (m + l)) l) = s (m + l) ∧ D' (n + rank (fun l => P (m + l)) l) + base = d (m + l)
      ∧ s (m + l) < N ∧ D' (n + rank (fun l => P (m + l)) l) < 160) :
    Compact N base P s d R' D' (n + rank (fun l => P (m + l)) w) (m + w) := by
  induction w with
  | zero => exact h.congr hR hD
  | succ w ih =>
    have ih := ih fun l hl => hhit l (by omega)
    rw [rank]
    by_cases hp : P (m + w)
    · rw [if_pos hp]
      obtain ⟨h1, h2, h3, h4⟩ := hhit w (by omega) hp
      exact ih.hit hp h1 h2 h3 h4
    · rw [if_neg hp]
      exact ih.miss hp

/-! ## The running count of a mask, and a store at counted positions -/

/-- The sum of the first `n` words of a vector of sixteen. -/
def pre (v : IVec ⟨1, ![16]⟩ 32) : ℕ → BitVec 32
  | 0 => 0#32
  | n + 1 => pre v n + nth v n

theorem scan_sum (v : IVec ⟨1, ![16]⟩ 32) (l : Fin 16) : scan .sum v (ix1 l) = pre v (l.val + 1) := by
  have e : ∀ k : Fin ((![16] : Fin 1 → ℕ) 0), v (Shape.ofLane k) = nth v k.val := fun k => by
    rw [← nth_val v (Shape.ofLane k)]; rfl
  unfold scan
  simp only [e]
  fin_cases l <;> simp [List.finRange_succ, pre, ScanKind.step, IntOp.addi]

theorem pre_rank (v : IVec ⟨1, ![16]⟩ 32) (h : ℕ → Prop) [DecidablePred h] (w : ℕ)
    (hv : ∀ l < w, nth v l = if h l then 1#32 else 0#32) : pre v w = BitVec.ofNat 32 (rank h w) := by
  induction w with
  | zero => rfl
  | succ w ih =>
    rw [pre, rank, ih fun l hl => hv l (by omega), hv w (by omega), BitVec.ofNat_add]
    split <;> rfl

section Store
variable {F : FTy → Type} [FloatOps F] {e : EltTy} {n : ℕ}

theorem storeIdx_one {f : Vec F ⟨1, ![n]⟩ e} {idx : IVec ⟨1, ![16]⟩ 32} {v : Vec F ⟨1, ![16]⟩ e} {mask : IVec ⟨1, ![16]⟩ 1}
    {h : ∀ a x, ((![idx] : Fin 1 → IVec ⟨1, ![16]⟩ 32) a x).toNat < (⟨1, ![n]⟩ : Shape).size a} :
    storeIdx f ![idx] v mask false h = (List.finRange 16).foldl (fun g k =>
      if mask (ix1 k) = 1 then (fun j => if (j 0).val = (idx (ix1 k)).toNat then v (ix1 k) else g j) else g) f := by
  have e : ∀ k : Fin ((![16] : Fin 1 → ℕ) 0), Shape.ofLane k = (ix1 (n := 16) k : (⟨1, ![16]⟩ : Shape).Idx) := fun k => by
    funext a; match a with | ⟨0, _⟩ => rfl
  unfold storeIdx
  simp only [e]
  refine congrArg (fun s => List.foldl s f (List.finRange 16)) ?_
  funext g k
  refine if_congr Iff.rfl ?_ rfl
  funext j
  refine if_congr ⟨fun h => h 0, fun h a => ?_⟩ rfl rfl
  match a with | ⟨0, _⟩ => exact h

theorem foldl_other {idx : IVec ⟨1, ![16]⟩ 32} {v : Vec F ⟨1, ![16]⟩ e} {mask : IVec ⟨1, ![16]⟩ 1} (j : (⟨1, ![n]⟩ : Shape).Idx)
    (L : List (Fin 16)) (f : Vec F ⟨1, ![n]⟩ e) (hj : ∀ k ∈ L, mask (ix1 k) = 1 → (j 0).val ≠ (idx (ix1 k)).toNat) :
    L.foldl (fun g k => if mask (ix1 k) = 1 then (fun j => if (j 0).val = (idx (ix1 k)).toNat then v (ix1 k) else g j) else g) f j = f j := by
  induction L generalizing f with
  | nil => rfl
  | cons k L ih =>
    rw [List.foldl_cons, ih _ fun k hk => hj k (List.mem_cons_of_mem _ hk)]
    split
    · rename_i hm
      exact if_neg (hj k List.mem_cons_self hm)
    · rfl

theorem foldl_at {idx : IVec ⟨1, ![16]⟩ 32} {v : Vec F ⟨1, ![16]⟩ e} {mask : IVec ⟨1, ![16]⟩ 1} (j : (⟨1, ![n]⟩ : Shape).Idx)
    (L : List (Fin 16)) (f : Vec F ⟨1, ![n]⟩ e) (l : Fin 16) (hl : l ∈ L) (hm : mask (ix1 l) = 1) (hjl : (j 0).val = (idx (ix1 l)).toNat)
    (hj : ∀ k, k ≠ l → mask (ix1 k) = 1 → (j 0).val ≠ (idx (ix1 k)).toNat) :
    L.foldl (fun g k => if mask (ix1 k) = 1 then (fun j => if (j 0).val = (idx (ix1 k)).toNat then v (ix1 k) else g j) else g) f j = v (ix1 l) := by
  induction L generalizing f with
  | nil => exact absurd hl List.not_mem_nil
  | cons k L ih =>
    rw [List.foldl_cons]
    by_cases hin : l ∈ L
    · exact ih _ hin
    · obtain rfl : l = k := by
        rcases List.mem_cons.1 hl with h | h
        · exact h
        · exact absurd h hin
      rw [foldl_other j L _ fun k hk => hj k (fun hkl => hin (hkl ▸ hk)), if_pos hm]
      exact if_pos hjl

/-- A masked store at positions that count the mask's lanes from `o`: entries below `o` keep their value, and the entry at
    the rank of a lane that counts is that lane's. -/
theorem storeIdx_rank [NeZero n] {f : Vec F ⟨1, ![n]⟩ e} {idx : IVec ⟨1, ![16]⟩ 32} {v : Vec F ⟨1, ![16]⟩ e} {mask : IVec ⟨1, ![16]⟩ 1}
    {h : ∀ a x, ((![idx] : Fin 1 → IVec ⟨1, ![16]⟩ 32) a x).toNat < (⟨1, ![n]⟩ : Shape).size a}
    (p : ℕ → Prop) [DecidablePred p] (o : ℕ) (ho : o + 16 ≤ n) (hmask : ∀ l : Fin 16, mask (ix1 l) = 1 ↔ p l.val)
    (hidx : ∀ l : Fin 16, (idx (ix1 l)).toNat = o + rank p l.val) :
    (∀ k < o, nth (storeIdx f ![idx] v mask false h) k = nth f k)
      ∧ ∀ l < 16, p l → nth (storeIdx f ![idx] v mask false h) (o + rank p l) = nth v l := by
  rw [storeIdx_one]
  constructor
  · intro k hk
    refine foldl_other _ _ _ fun l _ hm => ?_
    rw [hidx]
    show k % n ≠ _
    rw [Nat.mod_eq_of_lt (by omega)]
    omega
  · intro l hl hp
    have hr := rank_le p l
    have hmod : (o + rank p l) % n = o + rank p l := Nat.mod_eq_of_lt (by omega)
    have hlv : nth v l = v (ix1 (⟨l, hl⟩ : Fin 16)) := by
      have := nth_val v (ix1 (⟨l, hl⟩ : Fin 16))
      exact this
    rw [hlv]
    refine foldl_at _ _ _ ⟨l, hl⟩ (List.mem_finRange _) ((hmask _).2 hp) ?_ ?_
    · rw [hidx]; exact hmod
    · intro k hk hm
      rw [hidx]
      show (o + rank p l) % n ≠ _
      rw [hmod]
      have hpk := (hmask k).1 hm
      have hne : k.val ≠ l := fun h => hk (Fin.ext h)
      rcases Nat.lt_or_ge k.val l with hlt | hge
      · have := rank_lt p hpk hlt; omega
      · have := rank_lt p hp (show l < k.val by omega); omega

end Store

end Cert.Proof
-- ==== Proof.Groups.lean ====
/-
  The bounds of the loops over the groups of sixteen gathered rows, at every number of hits a block of edges can give.
-/
module

public import Idealize.ShloMosaic.Lib.Decide
public import proofs.«01_k».proof.Proof.Gen.KernelIdeal

@[expose] public section

namespace Cert.Proof

open Idealize.ShloMosaic Cert.KernelIdeal

/-- The bounds of the two group loops at every count a block can give. -/
theorem groups_all : ∀ n : Fin 5009, (k0_t6_loop (BitVec.ofNat 32 n.val)).OK ∧ (k0_t10_loop (BitVec.ofNat 32 n.val)).OK
    ∧ (k0_t6_loop (BitVec.ofNat 32 n.val)).trips = (n.val + 15) / 16
    ∧ (k0_t10_loop (BitVec.ofNat 32 n.val)).trips = 0 := by
  decide +kernel

end Cert.Proof
-- ==== Proof.Words.lean ====
/-
  The word arithmetic of the edge-sum kernel: the bounds of the loops over the groups of sixteen gathered rows, the
  offsets that depend on a word read or counted at run time, and the checks the program makes of them.
-/
module

public import proofs.«01_k».proof.Proof.Groups
public import proofs.«01_k».proof.Proof.Gen.KernelIdeal

@[expose] public section

namespace Cert.Proof

open Idealize.ShloMosaic Cert.KernelIdeal Cert.KernelIdeal.Gen

theorem groups {n : ℕ} (hn : n ≤ 5008) {v : BitVec 32} (hv : v = BitVec.ofNat 32 n) :
    (k0_t6_loop v).OK ∧ (k0_t10_loop v).OK ∧ (k0_t6_loop v).trips = (n + 15) / 16 ∧ (k0_t10_loop v).trips = 0 := by
  subst hv
  exact groups_all ⟨n, by omega⟩

theorem off4_eq {n : ℕ} (hn : n ≤ 5008) {v : BitVec 32} (hv : v = BitVec.ofNat 32 n) : k0_off4 v = ![n] := by
  subst hv
  show ![(BitVec.ofNat 32 n).toNat] = _
  rw [BitVec.toNat_ofNat, Nat.mod_eq_of_lt (by omega)]

theorem iv_toNat {n : ℕ} (hn : n < 2 ^ 32) : (Scf.iv 0#32 1#32 n).toNat = n := by
  unfold Scf.iv
  simp only [BitVec.toNat_add, BitVec.toNat_mul, BitVec.toNat_ofNat]
  omega

theorem off5_eq {v : BitVec 32} (k : Fin (k0_t6_loop v).trips) (hk : k.val < 313) : k0_off5 v k = ![16 * k.val] := by
  unfold k0_off5 Scalar.muli IntOp.muli
  simp only [BitVec.toNat_mul, iv_toNat (show k.val < 2 ^ 32 by omega)]
  rw [show (16#32).toNat = 16 from rfl, Nat.mod_eq_of_lt (by omega), Nat.mul_comm]

theorem off6_eq {v : BitVec 32} (k : Fin (k0_t6_loop v).trips) (j : Fin k0_t7_loop.trips) (hk : k.val < 313) :
    k0_off6 v k j = ![16 * k.val + j.val] := by
  have hj : j.val < 16 := j.isLt
  unfold k0_off6 Scalar.muli IntOp.muli Scalar.addi IntOp.addi Scalar.indexCast
  simp only [BitVec.toNat_mul, BitVec.toNat_add, iv_toNat (show k.val < 2 ^ 32 by omega), iv_toNat (show j.val < 2 ^ 32 by omega)]
  rw [show (16#32).toNat = 16 from rfl, Nat.mod_eq_of_lt (a := k.val * 16) (by omega), Nat.mod_eq_of_lt (by omega), Nat.mul_comm]

theorem off7_eq (v : BitVec 32) (a : Fin k0_t8_loop.trips) (b : Fin k0_t9_loop.trips) :
    k0_off7 v a b = ![v.toNat, 128 * a.val + 16 * b.val] := by
  have ha : a.val < 2 := a.isLt
  have hb : b.val < 8 := b.isLt
  unfold k0_off7 Scalar.muli IntOp.muli Scalar.addi IntOp.addi Scalar.indexCast
  simp only [BitVec.toNat_mul, BitVec.toNat_add, iv_toNat (show a.val < 2 ^ 32 by omega), iv_toNat (show b.val < 2 ^ 32 by omega)]
  rw [show (16#32).toNat = 16 from rfl, show (128#32).toNat = 128 from rfl, Nat.mod_eq_of_lt (a := a.val * 128) (by omega),
    Nat.mod_eq_of_lt (a := b.val * 16) (by omega), Nat.mod_eq_of_lt (by omega), Nat.mul_comm, Nat.mul_comm (b.val)]

theorem off9_eq (v : BitVec 32) (a : Fin k0_t8_loop.trips) (b : Fin k0_t9_loop.trips) :
    k0_off9 v a b = ![v.toNat, 256 + (128 * a.val + 16 * b.val)] := by
  have ha : a.val < 2 := a.isLt
  have hb : b.val < 8 := b.isLt
  unfold k0_off9 Scalar.muli IntOp.muli Scalar.addi IntOp.addi Scalar.indexCast
  simp only [BitVec.toNat_mul, BitVec.toNat_add, iv_toNat (show a.val < 2 ^ 32 by omega), iv_toNat (show b.val < 2 ^ 32 by omega)]
  rw [show (16#32).toNat = 16 from rfl, show (128#32).toNat = 128 from rfl, show (256#32).toNat = 256 from rfl, Nat.mod_eq_of_lt (a := a.val * 128) (by omega),
    Nat.mod_eq_of_lt (a := b.val * 16) (by omega), Nat.mod_eq_of_lt (a := a.val * 128 + b.val * 16) (by omega), Nat.mod_eq_of_lt (by omega),
    Nat.mul_comm, Nat.mul_comm (b.val)]

/-- The check after the filter holds of any count a block can give. -/
theorem chk2 {n : ℕ} (hn : n ≤ 5008) {v : BitVec 32} (hv : v = BitVec.ofNat 32 n) : k0_chk2 v := by
  obtain ⟨h6, h10, ht6, ht10⟩ := groups hn hv
  refine ⟨?_, h6, fun k => ?_, fun k j => ?_, h10, fun k => ?_, fun k => ?_⟩
  · rw [off4_eq hn hv]
    intro a
    match a with | ⟨0, _⟩ => show n + 16 ≤ 5040; omega
  · have hk : k.val < 313 := by have := k.isLt; omega
    rw [off5_eq k hk]
    intro a
    match a with | ⟨0, _⟩ => show 16 * k.val + 16 ≤ 5040; omega
  · have hk : k.val < 313 := by have := k.isLt; omega
    have hj : j.val < 16 := j.isLt
    rw [off6_eq k j hk]
    intro a
    match a with | ⟨0, _⟩ => show 16 * k.val + j.val + 16 ≤ 5040; omega
  · exact absurd k.isLt (by omega)
  · exact absurd k.isLt (by omega)

/-- The check of a list's node number holds of any row of the accumulator. -/
theorem chk3 {v : BitVec 32} (hv : v.toNat < 168) : k0_chk3 v := by
  refine ⟨fun a b => ?_, fun a b => ?_⟩
  · have ha : a.val < 2 := a.isLt
    have hb : b.val < 8 := b.isLt
    rw [off7_eq]
    intro x
    match x with
    | ⟨0, _⟩ => show v.toNat + 1 ≤ 168; omega
    | ⟨1, _⟩ => show 128 * a.val + 16 * b.val + 16 ≤ 512; omega
  · have ha : a.val < 2 := a.isLt
    have hb : b.val < 8 := b.isLt
    rw [off9_eq]
    intro x
    match x with
    | ⟨0, _⟩ => show v.toNat + 1 ≤ 168; omega
    | ⟨1, _⟩ => show 256 + (128 * a.val + 16 * b.val) + 16 ≤ 512; omega

end Cert.Proof
-- ==== Proof.Rules.lean ====
/-
  Rules for the vector subcore's operations over `owns`: a memref's elements held and what the memref reads of them,
  whatever buffer lies beneath. A load reads the rectangle of the contents, a store replaces them, and a copy or an
  indirect gather together with its wait is one step.
-/
module

public import Idealize.ShloMosaic.Lib.SparseCore.Ops
public import Idealize.ShloMosaic.Lib.SparseCore.Stream
public import Idealize.ShloMosaic.Lib.SparseCore.Quiescent
public import Idealize.ShloMosaic.Lib.Memref
public import Idealize.ShloMosaic.Lib.Tactic

@[expose] public section

noncomputable section

namespace Cert.Proof

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants)
variable (c : Thread nD τ) (bd : Option 𝒱.V)
variable {sp sp' : Space} {s s₀ si : Shape} {e : EltTy} {a : Nat} {α : Type}
variable {Q : α → sProp (MT nD τ sig Ix (Elt F) Name U Lvl)}

local notation "𝕄" => MT nD τ sig Ix (Elt F) Name U Lvl

/-- What a thread owes, and the waits it has recorded beyond `W`: only ones at the default index. -/
def owing [Inhabited Ix] (c : Thread nD τ) (O : CellTallies nD τ sig Ix) (W : Waits sig Ix) : sProp 𝕄 :=
  iprop(∃ W', ⌜∀ p ∈ W', p ∈ W ∨ p.2 = default⌝ ∗ owes c O W')

/-- A load at the head of a program: the contents' rectangle is read. -/
theorem owns_load {cs : CoreSpace} {m : Memref sig c.2.kind cs s e} {r : LoadRect s} {hl : m.view.LoadsAt r} {q : PosShare TreeShare}
    {X : s.Idx → Elt F e} {k : (r.shape.Idx → Elt F e) → Prog (TpuEff nD τ sig (Elt F) Λ c.2) α} :
    (owns c m q X : sProp 𝕄)
      ⊢ iprop((owns c m q X -∗ wp frame (wpE defs 𝒱 c bd) Set.univ (k (fun x => X (r.idx x))) Q)
        -∗ wp frame (wpE defs 𝒱 c bd) Set.univ (Prog.lift (.load m r hl) >>= k) Q) := by
  unfold owns
  iintro ⟨%f, %hf, H⟩ Hk
  subst hf
  iapply (wp_load (defs := defs) 𝒱 c bd Set.univ (m := m) (r := r) (hl := hl) (k := k) (S := m.view.set) (q := q) (f := f)
    (View.setOn_subset_set _ _)) $$ H
  iintro H
  iapply Hk
  iexists f
  isplitr; · ipureintro; rfl
  iexact H

/-- A store of a whole rectangle at the head of a program: the contents afterwards are any `Y` that is the written
    vector on the rectangle and the old contents off it. -/
theorem owns_store {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {X : s.Idx → Elt F e} (Y : s.Idx → Elt F e)
    (hin : ∀ x, Y (r.emb x) = w x) (hout : ∀ j, j ∉ r.set → Y j = X j) :
    (owns c m fullShare X : sProp 𝕄)
      ⊢ iprop((owns c m fullShare Y -∗ wp frame (wpE defs 𝒱 c bd) Set.univ (k ⟨⟩) Q)
        -∗ wp frame (wpE defs 𝒱 c bd) Set.univ (Prog.lift (.store m r w Finset.univ hx hm) >>= k) Q) := by
  unfold owns
  iintro ⟨%f, %hf, H⟩ Hk
  subst hf
  iapply (wp_store (defs := defs) 𝒱 c bd Set.univ (m := m) (r := r) (w := w) (Mk := Finset.univ) (hx := hx) (hm := hm) (k := k)
    (S := m.view.set) (f := f) ((View.setOn_subset_set _ _).trans (View.set_slice_subset _ _))) $$ H
  iintro H
  iapply Hk
  iexists ((m.access r).write (Elt F) f w Finset.univ)
  isplitr
  · ipureintro
    funext j
    by_cases hj : j ∈ r.set
    · rw [← Rect.map_emb_univ] at hj
      obtain ⟨x, -, rfl⟩ := Finset.mem_map.mp hj
      rw [hin]
      exact View.read_slice_write_emb r f w (Finset.mem_univ x)
    · rw [hout j hj]
      exact View.read_slice_write_of_not_mem r f w Finset.univ (by rwa [Rect.map_emb_univ])
  iexact H

/-- An indexed store at the head of a program: the contents are scattered into. -/
theorem owns_storeIdx {d : Fin 1 → Nat} {base : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (base.access (.whole s)).Stores Finset.univ}
    {k : PUnit → Prog (TpuEff nD τ sig (Elt F) Λ c.2) α} {X : s.Idx → Elt F e} :
    (owns c base fullShare X : sProp 𝕄)
      ⊢ iprop((owns c base fullShare (storeIdx X idxs v mask add h) -∗ wp frame (wpE defs 𝒱 c bd) Set.univ (k ⟨⟩) Q)
        -∗ wp frame (wpE defs 𝒱 c bd) Set.univ (SparseCore.vectorStoreIdx base idxs v mask add h hs >>= k) Q) := by
  rw [SparseCore.vectorStoreIdx_bind]
  iintro H Hk
  have hid : (fun x => X ((Rect.whole s).toLoadRect.idx x)) = X := funext fun x => congrArg X (Rect.emb_whole_apply _ x)
  iapply (owns_load (defs := defs) 𝒱 c bd (m := base) (r := (Rect.whole s).toLoadRect) (hl := View.loadsAt_rect hs.loads)
    (k := fun f' => .op (.store base (.whole s) (storeIdx f' idxs v mask add h) Finset.univ hs (.inl rfl)) k) (q := fullShare) (X := X)) $$ H
  rw [hid]
  iintro H
  have hin : ∀ x, storeIdx X idxs v mask add h ((Rect.whole s).emb x) = storeIdx X idxs v mask add h x := fun x =>
    congrArg _ (Rect.emb_whole_apply _ x)
  have hout : ∀ j, j ∉ (Rect.whole s).set → storeIdx X idxs v mask add h j = X j := fun j hj => absurd (by
    rw [← Rect.map_emb_univ]; exact Finset.mem_map.mpr ⟨j, Finset.mem_univ _, Rect.emb_whole_apply _ j⟩) hj
  iapply (owns_store (defs := defs) 𝒱 c bd (m := base) (r := Rect.whole s) (hx := hs) (hm := .inl rfl) (k := k) (X := X)
    (storeIdx X idxs v mask add h) hin hout) $$ H
  iexact Hk

/-- A gather of lanes out of a memref at the head of a program: the named elements of the contents are read. -/
theorem owns_loadIdx {t : Shape} {base : Memref sig c.2.kind .vmem s e} {idxs : Fin s.rank → IVec t 32}
    {h : ∀ a x, (idxs a x).toNat < s.size a} {hl : base.view.Loads} {q : PosShare TreeShare} {k : Vec F t e → Prog (TpuEff nD τ sig (Elt F) Λ c.2) α}
    {X : s.Idx → Elt F e} :
    (owns c base q X : sProp 𝕄)
      ⊢ iprop((owns c base q X -∗ wp frame (wpE defs 𝒱 c bd) Set.univ (k (loadIdx X idxs h)) Q)
        -∗ wp frame (wpE defs 𝒱 c bd) Set.univ (SparseCore.vectorLoadIdx base idxs h hl >>= k) Q) := by
  rw [SparseCore.vectorLoadIdx_bind]
  iintro H Hk
  have hid : (fun x => X ((Rect.whole s).toLoadRect.idx x)) = X := funext fun x => congrArg X (Rect.emb_whole_apply _ x)
  iapply (owns_load (defs := defs) 𝒱 c bd (m := base) (r := (Rect.whole s).toLoadRect) (hl := View.loadsAt_whole hl)
    (k := fun f => k (loadIdx f idxs h)) (q := q) (X := X)) $$ H
  rw [hid]
  iexact Hk

/-- An assumption at the head of a program, of a proposition that holds. -/
theorem step_assume {P : Prop} {d : Decidable P} {k : PLift P → Prog (TpuEff nD τ sig (Elt F) Λ c.2) α} (h : P) :
    (wp frame (wpE defs 𝒱 c bd) Set.univ (k ⟨h⟩) Q : sProp 𝕄)
      ⊢ wp frame (wpE defs 𝒱 c bd) Set.univ (Prog.lift (.assume P d) >>= k) Q :=
  wp_assume (defs := defs) 𝒱 c bd Set.univ h

include EC
variable [Infinite Name] [EC.LandsIn (upEmb : UEmb _ (MT nD τ sig Ix (Elt F) Name U Lvl))] [Inhabited Ix]

theorem owing_record {O : CellTallies nD τ sig Ix} {W W' : Waits sig Ix} {sm : SemLoc sig} (h : ∀ p ∈ W', p ∈ W ∨ p.2 = default) :
    (owes c O (insert (sm, default) W') : sProp 𝕄) ⊢ owing c O W := by
  unfold owing
  iintro HO
  iexists (insert (sm, default) W')
  isplitr
  · ipureintro
    intro p hp
    rcases Finset.mem_insert.mp hp with hp | hp
    · exact .inr (hp ▸ rfl)
    · exact h p hp
  iexact HO

/-- A copy of a memref's rectangle into another memref and the wait for it: the destination then reads the source's
    rectangle, and everything else is back. -/
theorem owns_fetch {m : Memref sig c.2.kind sp s₀ e} {r : Rect s₀} {hr : ∀ a, r.stride a = 1} {dst : Memref sig c.2.kind sp' r.shape e}
    {srcw : Memref sig c.2.kind sp r.shape e} {sem : DmaSem sig}
    {h₁ : (m.slice r hr).view.WordExact} {h₂ : dst.view.WordExact} {h₃ : DmaTarget.Typed (nD := nD) sp (.dma sem) (.here dst)}
    {h₄ : srcw.view.WordExact} {h₅ : dst.view.WordExact} {q : PosShare TreeShare}
    {k : PUnit → Prog (TpuEff nD τ sig (Elt F) Λ c.2) α} {X : s₀.Idx → Elt F e} {Y : r.shape.Idx → Elt F e}
    {O : CellTallies nD τ sig Ix} {W : Waits sig Ix} (hpos : 0 < dst.view.dmaCredit) :
    iprop(Transfers.MayWaits c (default : Ix) O ∗ owns c m q X ∗ owns c dst fullShare Y ∗ semVal (c, SemLoc.dma sem) 0 ∗ owing c O W)
      ⊢ iprop((iprop(owns c m q X ∗ owns c dst fullShare (fun x => X (r.emb x)) ∗ semVal (c, SemLoc.dma sem) 0 ∗ owing c O W)
          -∗ wp frame (wpE defs 𝒱 c bd) Set.univ (k ⟨⟩) Q : sProp 𝕄)
        -∗ wp frame (wpE defs 𝒱 c bd) Set.univ (Prog.lift (.enqueueDma (m.slice r hr) (.here dst) (.dma sem) h₁ h₂ h₃) >>= fun _ =>
            Prog.lift (.waitDma2 sem srcw dst h₄ h₅) >>= k) Q) := by
  unfold owns
  iintro ⟨#Hmw, ⟨%f, %hf, Hm⟩, ⟨%g, %hg, Hd⟩, Hv, HO⟩ Hk
  ihave HO := (show (owing c O W : sProp 𝕄) ⊢ iprop(∃ W', ⌜∀ p ∈ W', p ∈ W ∨ p.2 = default⌝ ∗ owes c O W') from .rfl) $$ HO
  icases HO with ⟨%W', %hW, HO⟩
  subst hf
  ihave Hs := (pointsTo_split_subset (ℓ := m.view.loc c) (I := (m.slice r hr).view.set) (q := q) (f := f) (S := m.view.set) (View.set_slice_subset (v := m.view) r)).1 $$ Hm
  icases Hs with ⟨Hs, Hrest⟩
  iapply (Transfers.wp_dmaLocal (defs := defs) EC 𝒱 c bd (src := m.slice r hr) (via := .same) (dst := dst) (sm := .dma sem)
    (hsrc := h₁) (hdst := h₂) (hsem := h₃) (q := q) (fs := f) (fd := g) (default : Ix) dst.view.dmaCredit rfl hpos (subset_rfl)) $$ [Hs Hd Hv]
  · isplitl [Hs]; · iexact Hs
    isplitl [Hd]; · iexact Hd
    iexact Hv
  iintro Hfl
  iapply (Transfers.wp_waitLocalO (defs := defs) EC 𝒱 c bd (default : Ix) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  iapply Hk
  ihave Hm := (pointsTo_split_subset (ℓ := m.view.loc c) (I := (m.slice r hr).view.set) (q := q) (f := f) (S := m.view.set) (View.set_slice_subset (v := m.view) r)).2 $$ [Hs Hrest]
  · isplitl [Hs] <;> iassumption
  isplitl [Hm]
  · iexists f; isplitr; · ipureintro; rfl
    iexact Hm
  isplitl [Hd]
  · iexists _; isplitr
    swap; · iexact Hd
    ipureintro; exact View.read_write_univ _ _
  isplitl [Hv]; · iexact Hv
  iapply (owing_record EC c hW); iexact HO

/-- A copy of a whole memref into another of its shape and the wait for it. -/
theorem owns_copy {m : Memref sig c.2.kind sp s e} {dst : Memref sig c.2.kind sp' s e} {srcw : Memref sig c.2.kind sp s e} {sem : DmaSem sig}
    {h₁ : m.view.WordExact} {h₂ : dst.view.WordExact} {h₃ : DmaTarget.Typed (nD := nD) sp (.dma sem) (.here dst)}
    {h₄ : srcw.view.WordExact} {h₅ : dst.view.WordExact} {q : PosShare TreeShare}
    {k : PUnit → Prog (TpuEff nD τ sig (Elt F) Λ c.2) α} {X Y : s.Idx → Elt F e}
    {O : CellTallies nD τ sig Ix} {W : Waits sig Ix} (hpos : 0 < dst.view.dmaCredit) :
    iprop(Transfers.MayWaits c (default : Ix) O ∗ owns c m q X ∗ owns c dst fullShare Y ∗ semVal (c, SemLoc.dma sem) 0 ∗ owing c O W)
      ⊢ iprop((iprop(owns c m q X ∗ owns c dst fullShare X ∗ semVal (c, SemLoc.dma sem) 0 ∗ owing c O W)
          -∗ wp frame (wpE defs 𝒱 c bd) Set.univ (k ⟨⟩) Q : sProp 𝕄)
        -∗ wp frame (wpE defs 𝒱 c bd) Set.univ (Prog.lift (.enqueueDma m (.here dst) (.dma sem) h₁ h₂ h₃) >>= fun _ =>
            Prog.lift (.waitDma2 sem srcw dst h₄ h₅) >>= k) Q) := by
  unfold owns
  iintro ⟨#Hmw, ⟨%f, %hf, Hm⟩, ⟨%g, %hg, Hd⟩, Hv, HO⟩ Hk
  ihave HO := (show (owing c O W : sProp 𝕄) ⊢ iprop(∃ W', ⌜∀ p ∈ W', p ∈ W ∨ p.2 = default⌝ ∗ owes c O W') from .rfl) $$ HO
  icases HO with ⟨%W', %hW, HO⟩
  subst hf
  iapply (Transfers.wp_dmaLocal (defs := defs) EC 𝒱 c bd (src := m) (via := .same) (dst := dst) (sm := .dma sem)
    (hsrc := h₁) (hdst := h₂) (hsem := h₃) (q := q) (fs := f) (fd := g) (default : Ix) dst.view.dmaCredit rfl hpos (subset_rfl)) $$ [Hm Hd Hv]
  · isplitl [Hm]; · iexact Hm
    isplitl [Hd]; · iexact Hd
    iexact Hv
  iintro Hfl
  iapply (Transfers.wp_waitLocalO (defs := defs) EC 𝒱 c bd (default : Ix) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  iapply Hk
  isplitl [Hs]
  · iexists f; isplitr; · ipureintro; rfl
    iexact Hs
  isplitl [Hd]
  · iexists _; isplitr
    swap; · iexact Hd
    ipureintro; exact View.read_write_univ _ _
  isplitl [Hv]; · iexact Hv
  iapply (owing_record EC c hW); iexact HO

/-- An indirect gather over a stretch of a list and the wait for it: the destination's rows are the named rows of the
    source, and everything else is back. -/
theorem owns_gather {m : Memref sig c.2.kind sp s₀ e} {r₀ : Rect s₀} {hr₀ : ∀ a, r₀.stride a = 1}
    {dst : Memref sig c.2.kind .vmem s e} {hg : r₀.shape.Gathers a s}
    {l : Memref sig c.2.kind .vmem si .i32} {r₁ : Rect si} {hr₁ : ∀ a, r₁.stride a = 1} {hn : r₁.shape.numel = s.size hg.axis'} {sem : DmaSem sig}
    {hp : c.2.kind = .scVector} {hsrc : (m.slice r₀ hr₀).view.WordExact} {he : e.bits = 32} {hsp : sp = .hbm ∨ sp = .shared} {hr : r₀.shape.StreamRows a}
    {h₄ : (m.slice r₀ hr₀).view.WordExact} {h₅ : dst.view.WordExact} {q : PosShare TreeShare}
    {k : PUnit → Prog (TpuEff nD τ sig (Elt F) Λ c.2) α} {X : s₀.Idx → Elt F e} {Y : s.Idx → Elt F e} {L : si.Idx → Elt F .i32}
    {O : CellTallies nD τ sig Ix} {W : Waits sig Ix}
    (hN : ∑ j, (dst.slice (s.rowRect hg.axis' j) (s.stride_rowRect hg.axis' j)).view.dmaCredit = dst.view.dmaCredit)
    (hs : 0 < s.numel) (hin : ∀ x, (L (r₁.emb x)).toNat < r₀.shape.size hg.axis) :
    iprop(Transfers.MayWaits c (default : Ix) O ∗ owns c m q X ∗ owns c dst fullShare Y ∗ owns c l fullShare L ∗ semVal (c, SemLoc.dma sem) 0 ∗ owing c O W)
      ⊢ iprop((iprop(owns c m q X
            ∗ owns c dst fullShare (SparseCore.gatherPayload hg (fun x => X (r₀.emb x)) (SparseCore.rows (fun x => L (r₁.emb x)) hn hin))
            ∗ owns c l fullShare L ∗ semVal (c, SemLoc.dma sem) 0 ∗ owing c O W)
          -∗ wp frame (wpE defs 𝒱 c bd) Set.univ (k ⟨⟩) Q : sProp 𝕄)
        -∗ wp frame (wpE defs 𝒱 c bd) Set.univ
            (SparseCore.enqueueIndirectGather hp (m.slice r₀ hr₀) dst hg (l.slice r₁ hr₁) hn sem hsrc he hsp hr >>= fun _ =>
            SparseCore.waitIndirectGather sem (m.slice r₀ hr₀) dst h₄ h₅ >>= k) Q) := by
  unfold owns
  iintro ⟨#Hmw, ⟨%f, %hf, Hm⟩, ⟨%g, %hg', Hd⟩, ⟨%u, %hu, Hl⟩, Hv, HO⟩ Hk
  ihave HO := (show (owing c O W : sProp 𝕄) ⊢ iprop(∃ W', ⌜∀ p ∈ W', p ∈ W ∨ p.2 = default⌝ ∗ owes c O W') from .rfl) $$ HO
  icases HO with ⟨%W', %hW, HO⟩
  subst hf; subst hu
  ihave Hs := (pointsTo_split_subset (ℓ := m.view.loc c) (I := (m.slice r₀ hr₀).view.set) (q := q) (f := f) (S := m.view.set) (View.set_slice_subset (v := m.view) r₀)).1 $$ Hm
  icases Hs with ⟨Hs, Hrest⟩
  ihave Hls := (pointsTo_split_subset (ℓ := l.view.loc c) (I := (l.slice r₁ hr₁).view.set) (q := fullShare) (f := u) (S := l.view.set) (View.set_slice_subset (v := l.view) r₁)).1 $$ Hl
  icases Hls with ⟨Hls, Hlrest⟩
  iapply (SparseCore.wp_indirectGatherLocal (defs := defs) EC 𝒱 c bd (src := m.slice r₀ hr₀) (dst := dst) (hg := hg) (offs := l.slice r₁ hr₁)
    (hn := hn) (sem := sem) (hp := hp) (hsrc := hsrc) (he := he) (hsp := hsp) (hr := hr) (q := q) (qo := fullShare) (fs := f) (fd := g) (fo := u)
    (default : Ix) dst.view.dmaCredit hN hs hin) $$ [Hs Hd Hls Hv]
  · isplitl [Hs]; · iexact Hs
    isplitl [Hd]; · iexact Hd
    isplitl [Hls]; · iexact Hls
    iexact Hv
  iintro Hfl
  rw [SparseCore.waitIndirectGather_bind]
  iapply (Transfers.wp_waitLocalO (defs := defs) EC 𝒱 c bd (default : Ix) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs, Hls⟩, Hv, HO⟩
  iapply Hk
  ihave Hm := (pointsTo_split_subset (ℓ := m.view.loc c) (I := (m.slice r₀ hr₀).view.set) (q := q) (f := f) (S := m.view.set) (View.set_slice_subset (v := m.view) r₀)).2 $$ [Hs Hrest]
  · isplitl [Hs] <;> iassumption
  ihave Hl := (pointsTo_split_subset (ℓ := l.view.loc c) (I := (l.slice r₁ hr₁).view.set) (q := fullShare) (f := u) (S := l.view.set) (View.set_slice_subset (v := l.view) r₁)).2 $$ [Hls Hlrest]
  · isplitl [Hls] <;> iassumption
  isplitl [Hm]
  · iexists f; isplitr; · ipureintro; rfl
    iexact Hm
  isplitl [Hd]
  · iexists _; isplitr
    swap; · iexact Hd
    ipureintro; exact View.read_write_univ _ _
  isplitl [Hl]
  · iexists u; isplitr; · ipureintro; rfl
    iexact Hl
  isplitl [Hv]; · iexact Hv
  iapply (owing_record EC c hW); iexact HO

end Cert.Proof
-- ==== Proof.Rows.lean ====
/-
  One gathered row added into the accumulator: sixteen columns at a time, in both halves.
-/
module

public import proofs.«01_k».proof.Proof.Base
public import proofs.«01_k».proof.Proof.Words
public import proofs.«01_k».proof.Proof.Rules
public import proofs.«01_k».proof.Proof.Gen.KernelIdeal.Skeleton
public import Idealize.ShloMosaic.Lib.Pipeline.Value
public import Idealize.ShloMosaic.Lib.Scf

@[expose] public section

noncomputable section

namespace Cert.Proof

open Idealize.ShloMosaic Idealize.ShloMosaic.ValueIdx
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- `A` with `x` added on the sixteen columns of row `dl` from column `n`. -/
def addCols (A : S168x512.Idx → F .f32) (x : ℕ → F .f32) (dl n : ℕ) : S168x512.Idx → F .f32 := fun y =>
  if (y 0).val = dl ∧ n ≤ (y 1).val ∧ (y 1).val < n + 16 then FloatOps.addf (A y) (x (y 1).val) else A y

/-- `A` with `x` added on the first `n` columns of each half of row `dl`. -/
def addRow (A : S168x512.Idx → F .f32) (x : ℕ → F .f32) (dl n : ℕ) : S168x512.Idx → F .f32 := fun y =>
  if (y 0).val = dl ∧ (y 1).val % 256 < n then FloatOps.addf (A y) (x (y 1).val) else A y

theorem addRow_zero (A : S168x512.Idx → F .f32) (x : ℕ → F .f32) (dl : ℕ) : addRow A x dl 0 = A := by
  funext y
  exact if_neg (by omega)

theorem addRow_step (A : S168x512.Idx → F .f32) (x : ℕ → F .f32) (dl n : ℕ) (hn : n + 16 ≤ 256) :
    addCols (addCols (addRow A x dl n) x dl n) x dl (256 + n) = addRow A x dl (n + 16) := by
  funext y
  have hy : (y 1).val < 512 := (y 1).isLt
  unfold addCols addRow
  by_cases h0 : (y 0).val = dl
  · by_cases h1 : (y 1).val % 256 < n
    · rw [if_neg (by omega), if_neg (by omega), if_pos ⟨h0, h1⟩, if_pos ⟨h0, by omega⟩]
    · by_cases h2 : (y 1).val % 256 < n + 16
      · by_cases h3 : (y 1).val < 256
        · rw [if_neg (by omega), if_pos (by omega), if_neg (by omega), if_pos ⟨h0, h2⟩]
        · rw [if_pos (by omega), if_neg (by omega), if_neg (by omega), if_pos ⟨h0, h2⟩]
      · rw [if_neg (by omega), if_neg (by omega), if_neg (by omega), if_neg (by omega)]
  · rw [if_neg (by omega), if_neg (by omega), if_neg (by omega), if_neg (by omega)]

/-! ## Sixteen columns -/

section Step
variable {Ix : Type} [DecidableEq Ix] {Name : Type} [DecidableEq Name] {U : Type} [URA U] {Lvl : Type} [Preorder Lvl]
variable {Λ : Labels} {defs : Defs nD τ sig (Elt F) Λ} (𝒱 : Variants) (c : Thread nD τ) (bd : Option 𝒱.V)

local notation "𝕄" => MT nD τ sig Ix (Elt F) Name U Lvl

/-- The accumulator's sixteen columns read, the gathered row's read, their sum stored. -/
theorem add16 {m : Memref sig c.2.kind .vmem S168x512 .f32} {s : Memref sig c.2.kind .vmem S16x2x128 .f32} {o : Fin 2 → ℕ} {o' : Fin 3 → ℕ}
    {hi : ∀ a, o a + S1x16.size a ≤ S168x512.size a} {hi' : ∀ a, o' a + S1x1x16.size a ≤ S16x2x128.size a}
    {hl : m.view.LoadsAt (Rect.unit (s := S168x512) o S1x16.size hi).toLoadRect}
    {hl' : s.view.LoadsAt (Rect.unit (s := S16x2x128) o' S1x1x16.size hi').toLoadRect}
    {hx : (m.access (Rect.unit (s := S168x512) o S1x16.size hi)).Stores Finset.univ}
    {hm : (Finset.univ : Finset (Rect.unit (s := S168x512) o S1x16.size hi).shape.Idx) = Finset.univ ∨ ∀ a, (Rect.unit (s := S168x512) o S1x16.size hi).stride a = 1}
    {pay : Vec F S1x16 .f32 → Vec F S1x1x16 .f32 → FVec F S16 .f32} {hc : S16.ShapeCasts S1x16}
    {k : PUnit → Prog (TpuEff nD τ sig (Elt F) Λ c.2) (BitVec 32)} {Q : BitVec 32 → sProp 𝕄}
    (A : S168x512.Idx → F .f32) (X : S16x2x128.Idx → F .f32) (x : ℕ → F .f32) (dl n : ℕ)
    (ho : o = ![dl, n])
    (hpay : ∀ (a : Vec F S1x16 .f32) (b : Vec F S1x1x16 .f32) (l : Fin 16),
      pay a b (ix1 l) = FloatOps.addf (a (ix2 0 l)) (b (ix3 0 0 l)))
    (hX : ∀ l : Fin 16, X ((Rect.unit (s := S16x2x128) o' S1x1x16.size hi').toLoadRect.idx (ix3 0 0 l : (⟨3, ![1, 1, 16]⟩ : Shape).Idx)) = x (n + l.val)) :
    iprop(owns c m fullShare A ∗ owns c s fullShare X : sProp 𝕄)
      ⊢ iprop((iprop(owns c m fullShare (addCols A x dl n) ∗ owns c s fullShare X) -∗ wp frame (wpE defs 𝒱 c bd) Set.univ (k ⟨⟩) Q)
        -∗ wp frame (wpE defs 𝒱 c bd) Set.univ
          (Prog.lift (.load m (Rect.unit (s := S168x512) o S1x16.size hi).toLoadRect hl) >>= fun a =>
            Prog.lift (.load s (Rect.unit (s := S16x2x128) o' S1x1x16.size hi').toLoadRect hl') >>= fun b =>
            Prog.lift (.load m (Rect.unit (s := S168x512) o S1x16.size hi).toLoadRect hl) >>= fun _ =>
            Prog.lift (.store m (Rect.unit (s := S168x512) o S1x16.size hi) (shapeCast S1x16 (pay a b) hc) Finset.univ hx hm) >>= k) Q) := by
  subst ho
  have hemb : ∀ y : S1x16.Idx, ((Rect.unit (s := S168x512) ![dl, n] S1x16.size hi).emb y 0).val = dl
      ∧ ((Rect.unit (s := S168x512) ![dl, n] S1x16.size hi).emb y 1).val = n + (y 1).val := fun y =>
    ⟨show dl + 1 * (y 0).val = dl by have : (y 0).val < 1 := (y 0).isLt; omega, show n + 1 * (y 1).val = n + (y 1).val by omega⟩
  have hin : ∀ y : S1x16.Idx, addCols A x dl n ((Rect.unit (s := S168x512) ![dl, n] S1x16.size hi).emb y)
      = shapeCast S1x16 (pay (fun z => A ((Rect.unit (s := S168x512) ![dl, n] S1x16.size hi).toLoadRect.idx z))
        (fun z => X ((Rect.unit (s := S16x2x128) o' S1x1x16.size hi').toLoadRect.idx z))) hc y := fun y => by
    obtain ⟨l, rfl⟩ : ∃ l : Fin 16, y = ix2 (0 : Fin 1) l := ⟨y 1, by
      rw [eq_ix2 y]
      exact congrArg₂ ix2 (Fin.ext (by have : (y 0).val < 1 := (y 0).isLt; show (y 0).val = 0; omega)) rfl⟩
    have hl := l.isLt
    obtain ⟨e0, e1⟩ := hemb (ix2 (0 : Fin 1) l)
    refine Eq.trans ?_ (shapeCast_apply _ hc _ (ix1 l) (by
      rw [Shape.rowMajor_val_one, Shape.rowMajor_val_two]
      show l.val = 0 * 16 + l.val
      omega)).symm
    rw [hpay, hX]
    unfold addCols
    rw [if_pos ⟨e0, by rw [e1]; show n ≤ n + l.val; omega, by rw [e1]; show n + l.val < n + 16; omega⟩, e1]
    rfl
  have hout : ∀ j, j ∉ (Rect.unit (s := S168x512) ![dl, n] S1x16.size hi).set → addCols A x dl n j = A j := fun j hj => by
    unfold addCols
    refine if_neg fun h => hj (Rect.mem_set_unit.2 fun a => ?_)
    match a with
    | ⟨0, _⟩ => exact ⟨h.1.ge, show (j 0).val < dl + 1 by omega⟩
    | ⟨1, _⟩ => exact ⟨h.2.1, h.2.2⟩
  iintro ⟨Hm, Hs⟩ Hk
  iapply (owns_load (defs := defs) 𝒱 c bd) $$ Hm
  iintro Hm
  iapply (owns_load (defs := defs) 𝒱 c bd) $$ Hs
  iintro Hs
  iapply (owns_load (defs := defs) 𝒱 c bd) $$ Hm
  iintro Hm
  iapply (owns_store (defs := defs) 𝒱 c bd (addCols A x dl n) hin hout) $$ Hm
  iintro Hm
  iapply Hk
  isplitl [Hm] <;> iassumption

end Step

theorem pay3_apply (a : Vec F S1x16 .f32) (b : Vec F S1x1x16 .f32) (l : Fin 16) :
    k0_pay3 a b (ix1 l) = FloatOps.addf (a (ix2 0 l)) (b (ix3 0 0 l)) := by
  have ha : shapeCast S16 a shapeCasts_S1x16_S16 (ix1 l) = a (ix2 0 l) := shapeCast_apply _ _ _ _ (by
    rw [Shape.rowMajor_val_one, Shape.rowMajor_val_two]
    show 0 * 16 + l.val = l.val; omega)
  have hb : shapeCast S16 b shapeCasts_S1x1x16_S16 (ix1 l) = b (ix3 0 0 l) := shapeCast_apply _ _ _ _ (by
    rw [Shape.rowMajor_val_one, Shape.rowMajor_val_three]
    show (0 * 1 + 0) * 16 + l.val = l.val; omega)
  rw [← ha, ← hb]
  rfl

theorem pay4_apply (a : Vec F S1x16 .f32) (b : Vec F S1x1x16 .f32) (l : Fin 16) :
    k0_pay4 a b (ix1 l) = FloatOps.addf (a (ix2 0 l)) (b (ix3 0 0 l)) := pay3_apply a b l

theorem stage_lo (S0 S1 : S16x2x128.Idx → F .f32) (j : Fin k0_t7_loop.trips) (a : Fin k0_t8_loop.trips) (b : Fin k0_t9_loop.trips) (l : Fin 16) :
    S0 ((Rect.unit (s := S16x2x128) (k0_off8 j a b) S1x1x16.size (k0_off8_inb j a b)).toLoadRect.idx (ix3 0 0 l : (⟨3, ![1, 1, 16]⟩ : Shape).Idx))
      = tab S0 S1 j.val (128 * a.val + 16 * b.val + l.val) := by
  have ha : a.val < 2 := a.isLt
  have hb : b.val < 8 := b.isLt
  have hj : j.val < 16 := j.isLt
  have hl := l.isLt
  unfold tab
  rw [if_pos (by omega)]
  refine congrArg S0 (funext fun d => Fin.ext ?_)
  refine (congrArg (fun t => t + 1 * (ix3 (0 : Fin 1) (0 : Fin 1) l d).val) (congrFun (k0_off8_eq j a b) d)).trans ?_
  match d with
  | ⟨0, _⟩ => show j.val + 1 * 0 = j.val % 16; omega
  | ⟨1, _⟩ => show a.val + 1 * 0 = (128 * a.val + 16 * b.val + l.val) / 128 % 2; omega
  | ⟨2, _⟩ => show 16 * b.val + 1 * l.val = (128 * a.val + 16 * b.val + l.val) % 128; omega

theorem stage_hi (S0 S1 : S16x2x128.Idx → F .f32) (j : Fin k0_t7_loop.trips) (a : Fin k0_t8_loop.trips) (b : Fin k0_t9_loop.trips) (l : Fin 16) :
    S1 ((Rect.unit (s := S16x2x128) (k0_off8 j a b) S1x1x16.size (k0_off8_inb j a b)).toLoadRect.idx (ix3 0 0 l : (⟨3, ![1, 1, 16]⟩ : Shape).Idx))
      = tab S0 S1 j.val (256 + (128 * a.val + 16 * b.val) + l.val) := by
  have ha : a.val < 2 := a.isLt
  have hb : b.val < 8 := b.isLt
  have hj : j.val < 16 := j.isLt
  have hl := l.isLt
  unfold tab
  rw [if_neg (by omega)]
  refine congrArg S1 (funext fun d => Fin.ext ?_)
  refine (congrArg (fun t => t + 1 * (ix3 (0 : Fin 1) (0 : Fin 1) l d).val) (congrFun (k0_off8_eq j a b) d)).trans ?_
  match d with
  | ⟨0, _⟩ => show j.val + 1 * 0 = j.val % 16; omega
  | ⟨1, _⟩ => show a.val + 1 * 0 = (256 + (128 * a.val + 16 * b.val) + l.val) / 128 % 2; omega
  | ⟨2, _⟩ => show 16 * b.val + 1 * l.val = (256 + (128 * a.val + 16 * b.val) + l.val) % 128; omega

/-! ## The loops over one row -/

/-- The vector subcore of grid point `i`. -/
abbrev tl (d : Dev nD) (i : grid0.Coords) : Thread nD τ := SparseCore.V d ((i 0).castLE hcore0) ((i 1).castLE hsub0)

section Loops
variable {Ix : Type} [DecidableEq Ix] {Name : Type} [DecidableEq Name] {U : Type} [URA U] {Lvl : Type} [Preorder Lvl]
variable {defs : Defs nD τ sig (Elt F) Λ₀} (𝒱 : Variants) (bd : Option 𝒱.V) (d : Dev nD)
variable (i : grid0.Coords) (arg2 : Memref sig .scVector .hbm S10000x2x128 .f32) (harg2 : arg2.IsWhole) (arg3 : Memref sig .scVector .hbm S10000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240x512 .f32) (harg6 : arg6.IsWhole) (arg7 : Memref sig .scVector .vmem S5008 .i32)
variable (harg7 : arg7.IsWhole) (arg8 : Memref sig .scVector .vmem S5008 .i32) (harg8 : arg8.IsWhole) (arg9 : Memref sig .scVector .vmem S5040 .i32)
variable (harg9 : arg9.IsWhole) (arg10 : Memref sig .scVector .vmem S5040 .i32) (harg10 : arg10.IsWhole) (arg11 : Memref sig .scVector .vmem S16x2x128 .f32)
variable (harg11 : arg11.IsWhole) (arg12 : Memref sig .scVector .vmem S16x2x128 .f32) (harg12 : arg12.IsWhole) (arg13 : Memref sig .scVector .vmem S168x512 .f32)
variable (harg13 : arg13.IsWhole) (arg14 : DmaSems sig S_) (v49_r0 : DmaSems sig S_) (v49_r1 : DmaSems sig S_)
variable (v13_r2 : DmaSems sig S_)

local notation "𝕄" => MT nD τ sig Ix (Elt F) Name U Lvl

theorem t9_trip (A : S168x512.Idx → F .f32) (S0 S1 : S16x2x128.Idx → F .f32) (t7 : Fin k0_t7_loop.trips) (v : BitVec 32) (hv : k0_chk3 v)
    (t8 : Fin k0_t8_loop.trips) (t9 : Fin k0_t9_loop.trips) (z : BitVec 32) :
    iprop(owns (tl d i) arg13 fullShare (addRow A (tab S0 S1 t7.val) v.toNat (128 * t8.val + 16 * t9.val)) ∗ owns (tl d i) arg11 fullShare S0 ∗ owns (tl d i) arg12 fullShare S1 : sProp 𝕄)
      ⊢ wp frame (wpE defs 𝒱 (tl d i) bd) Set.univ (k0_t9_body i arg2 harg2 arg3 harg3 arg4 harg4 arg5 harg5 arg6 harg6 arg7 harg7 arg8 harg8 arg9 harg9 arg10 harg10 arg11 harg11 arg12 harg12 arg13 harg13 arg14 v49_r0 v49_r1 v13_r2 t7 v hv t8 t9 z) fun _ =>
        iprop(owns (tl d i) arg13 fullShare (addRow A (tab S0 S1 t7.val) v.toNat (128 * t8.val + 16 * (t9.val + 1))) ∗ owns (tl d i) arg11 fullShare S0 ∗ owns (tl d i) arg12 fullShare S1) := by
  have h8 : t8.val < 2 := t8.isLt
  have h9 : t9.val < 8 := t9.isLt
  unfold k0_t9_body
  iintro ⟨HA, H0, H1⟩
  iapply (add16 (defs := defs) 𝒱 (tl d i) bd _ S0 (tab S0 S1 t7.val) v.toNat (128 * t8.val + 16 * t9.val) (off7_eq v t8 t9) pay3_apply
    (stage_lo S0 S1 t7 t8 t9)) $$ [HA H0]
  · isplitl [HA] <;> iassumption
  iintro ⟨HA, H0⟩
  iapply (add16 (defs := defs) 𝒱 (tl d i) bd _ S1 (tab S0 S1 t7.val) v.toNat (256 + (128 * t8.val + 16 * t9.val)) (off9_eq v t8 t9) pay4_apply
    (stage_hi S0 S1 t7 t8 t9)) $$ [HA H1]
  · isplitl [HA] <;> iassumption
  iintro ⟨HA, H1⟩
  rw [addRow_step _ _ _ _ (by omega), show 128 * t8.val + 16 * t9.val + 16 = 128 * t8.val + 16 * (t9.val + 1) by omega]
  rw [show (pure 0#32 : Prog (TpuEff nD τ sig (Elt F) Λ₀ (tl d i).2) (BitVec 32)) = .ret 0#32 from rfl, wp_ret]
  imodintro
  isplitl [HA]; · iexact HA
  isplitl [H0] <;> iassumption

theorem t8_trip (A : S168x512.Idx → F .f32) (S0 S1 : S16x2x128.Idx → F .f32) (t7 : Fin k0_t7_loop.trips) (v : BitVec 32) (hv : k0_chk3 v)
    (t8 : Fin k0_t8_loop.trips) (z : BitVec 32) :
    iprop(owns (tl d i) arg13 fullShare (addRow A (tab S0 S1 t7.val) v.toNat (128 * t8.val)) ∗ owns (tl d i) arg11 fullShare S0 ∗ owns (tl d i) arg12 fullShare S1 : sProp 𝕄)
      ⊢ wp frame (wpE defs 𝒱 (tl d i) bd) Set.univ (k0_t8_body i arg2 harg2 arg3 harg3 arg4 harg4 arg5 harg5 arg6 harg6 arg7 harg7 arg8 harg8 arg9 harg9 arg10 harg10 arg11 harg11 arg12 harg12 arg13 harg13 arg14 v49_r0 v49_r1 v13_r2 t7 v hv t8 z) fun _ =>
        iprop(owns (tl d i) arg13 fullShare (addRow A (tab S0 S1 t7.val) v.toNat (128 * (t8.val + 1))) ∗ owns (tl d i) arg11 fullShare S0 ∗ owns (tl d i) arg12 fullShare S1) := by
  unfold k0_t8_body
  iintro H
  iapply (Scf.wp_for_bind frame (wpE defs 𝒱 (tl d i) bd) Set.univ k0_t9_loop.lb k0_t9_loop.ub k0_t9_loop.st k0_t9_ok 0#32 _
    (fun k _ => iprop(owns (tl d i) arg13 fullShare (addRow A (tab S0 S1 t7.val) v.toNat (128 * t8.val + 16 * k)) ∗ owns (tl d i) arg11 fullShare S0 ∗ owns (tl d i) arg12 fullShare S1))
    (fun k acc => t9_trip 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 A S0 S1 t7 v hv t8 k acc)) $$ H
  iintro %acc H
  rw [wp_pure]
  imodintro
  iexact H

/-! ## The loop over one group of sixteen rows -/

/-- On the rows below 160, `A` is `V` with the first `n` entries of a list added: entry `k` adds row `R k` of `X` on the
    accumulator's row `D k`. -/
def Holds (A V : S168x512.Idx → F .f32) (D R : ℕ → ℕ) (X : ℕ → ℕ → F .f32) (n : ℕ) : Prop :=
  ∀ y : S168x512.Idx, (y 0).val < 160 → A y = fold FloatOps.addf (fun k => D k = (y 0).val) (fun k => X (R k) (y 1).val) n (V y)

theorem Holds.step {A V : S168x512.Idx → F .f32} {D R : ℕ → ℕ} {X : ℕ → ℕ → F .f32} {n : ℕ} (h : Holds A V D R X n) (x : ℕ → F .f32)
    (hx : ∀ c < 512, x c = X (R n) c) : Holds (addRow A x (D n) 256) V D R X (n + 1) := fun y hy => by
  have hc : (y 1).val < 512 := (y 1).isLt
  unfold addRow
  rw [fold]
  by_cases hd : D n = (y 0).val
  · rw [if_pos ⟨hd.symm, by omega⟩, if_pos hd, h y hy, hx _ hc]
  · rw [if_neg (fun hp => hd hp.1.symm), if_neg hd, h y hy]

theorem t7_rest (A V : S168x512.Idx → F .f32) (S0 S1 : S16x2x128.Idx → F .f32) (L : S5040.Idx → BitVec 32) (R : ℕ → ℕ) (X : ℕ → ℕ → F .f32)
    (n : ℕ) (t7 : Fin k0_t7_loop.trips) (v : BitVec 32) (hw : v = nth L (n + t7.val)) (h7 : t7.val < 16)
    (hdl : (nth L (n + t7.val)).toNat < 168) (hA : Holds A V (fun k => (nth L k).toNat) R X (n + t7.val))
    (hS : ∀ c < 512, tab S0 S1 t7.val c = X (R (n + t7.val)) c) :
    iprop(owns (tl d i) arg10 fullShare L ∗ owns (tl d i) arg11 fullShare S0 ∗ owns (tl d i) arg12 fullShare S1 ∗ owns (tl d i) arg13 fullShare A : sProp 𝕄)
      ⊢ wp frame (wpE defs 𝒱 (tl d i) bd) Set.univ (Prog.lift (TpuEff.assume (k0_chk3 v) (k0_chk3.dec v)) >>= fun h =>
          Scf.Loop.for k0_t8_loop k0_t8_ok 0#32 (k0_t8_body i arg2 harg2 arg3 harg3 arg4 harg4 arg5 harg5 arg6 harg6 arg7 harg7 arg8 harg8 arg9 harg9 arg10 harg10 arg11 harg11 arg12 harg12 arg13 harg13 arg14 v49_r0 v49_r1 v13_r2 t7 v h.down) >>= fun _ => pure 0#32) fun _ =>
        iprop(owns (tl d i) arg10 fullShare L ∗ owns (tl d i) arg11 fullShare S0 ∗ owns (tl d i) arg12 fullShare S1
        ∗ (∃ A, ⌜Holds A V (fun k => (nth L k).toNat) R X (n + (t7.val + 1))⌝ ∗ owns (tl d i) arg13 fullShare A)) := by
  subst hw
  iintro ⟨HL, H0, H1, HA⟩
  iapply (step_assume (defs := defs) 𝒱 (tl d i) bd (chk3 hdl))
  iapply (Scf.wp_for_bind frame (wpE defs 𝒱 (tl d i) bd) Set.univ k0_t8_loop.lb k0_t8_loop.ub k0_t8_loop.st k0_t8_ok 0#32 _
    (fun k _ => iprop(owns (tl d i) arg13 fullShare (addRow A (tab S0 S1 t7.val) (nth L (n + t7.val)).toNat (128 * k)) ∗ owns (tl d i) arg11 fullShare S0 ∗ owns (tl d i) arg12 fullShare S1))
    (fun k acc => t8_trip 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 A S0 S1 t7 _ (chk3 hdl) k acc)) $$ [HA H0 H1]
  · rw [Nat.mul_zero, addRow_zero]
    isplitl [HA]; · iexact HA
    isplitl [H0] <;> iassumption
  iintro %acc ⟨HA, H0, H1⟩
  rw [wp_pure]
  imodintro
  isplitl [HL]; · iexact HL
  isplitl [H0]; · iexact H0
  isplitl [H1]; · iexact H1
  iexists _
  isplitr
  swap; · iexact HA
  ipureintro
  exact hA.step (tab S0 S1 t7.val) hS

theorem t7_trip (V : S168x512.Idx → F .f32) (S0 S1 : S16x2x128.Idx → F .f32) (L : S5040.Idx → BitVec 32) (R : ℕ → ℕ) (X : ℕ → ℕ → F .f32)
    (v16 : BitVec 32) (hv : k0_chk2 v16) (t6 : Fin (k0_t6_loop v16).trips) (h6 : t6.val < 313) (hL : ∀ k < 16 * (t6.val + 1), (nth L k).toNat < 168)
    (hS : ∀ j < 16, ∀ c < 512, tab S0 S1 j c = X (R (16 * t6.val + j)) c) (t7 : Fin k0_t7_loop.trips) (z : BitVec 32) :
    iprop(owns (tl d i) arg10 fullShare L ∗ owns (tl d i) arg11 fullShare S0 ∗ owns (tl d i) arg12 fullShare S1
        ∗ (∃ A, ⌜Holds A V (fun k => (nth L k).toNat) R X (16 * t6.val + t7.val)⌝ ∗ owns (tl d i) arg13 fullShare A) : sProp 𝕄)
      ⊢ wp frame (wpE defs 𝒱 (tl d i) bd) Set.univ (k0_t7_body i arg2 harg2 arg3 harg3 arg4 harg4 arg5 harg5 arg6 harg6 arg7 harg7 arg8 harg8 arg9 harg9 arg10 harg10 arg11 harg11 arg12 harg12 arg13 harg13 arg14 v49_r0 v49_r1 v13_r2 v16 hv t6 t7 z) fun _ =>
        iprop(owns (tl d i) arg10 fullShare L ∗ owns (tl d i) arg11 fullShare S0 ∗ owns (tl d i) arg12 fullShare S1
        ∗ (∃ A, ⌜Holds A V (fun k => (nth L k).toNat) R X (16 * t6.val + (t7.val + 1))⌝ ∗ owns (tl d i) arg13 fullShare A)) := by
  have h7 : t7.val < 16 := t7.isLt
  unfold k0_t7_body
  iintro ⟨HL, H0, H1, %A, %hA, HA⟩
  iapply (owns_load (defs := defs) 𝒱 (tl d i) bd) $$ HL
  iintro HL
  have hw : extractAt ![0] (k0_pay2 (F := F) fun x => L ((Rect.unit (s := S5040) (k0_off6 v16 t6 t7) S16.size (k0_off6_inb v16 hv t6 t7)).toLoadRect.idx x)) inpos_S1_p0
      = nth L (16 * t6.val + t7.val) := by
    refine congrArg L (funext fun a => Fin.ext ?_)
    match a with
    | ⟨0, _⟩ =>
      show k0_off6 v16 t6 t7 0 + 1 * 0 = (16 * t6.val + t7.val) % 5040
      rw [off6_eq t6 t7 h6]
      show 16 * t6.val + t7.val + 1 * 0 = _
      omega
  iapply (t7_rest 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 A V S0 S1 L R X _ t7 _ hw h7 (hL _ (by omega)) hA (hS _ h7))
  isplitl [HL]; · iexact HL
  isplitl [H0]; · iexact H0
  isplitl [H1]; · iexact H1
  iexact HA

end Loops

end Cert.Proof
-- ==== Proof.Gather.lean ====
/-
  One group of sixteen edges: their source rows gathered from the two halves of the table, then added into the
  accumulator one by one.
-/
module

public import proofs.«01_k».proof.Proof.Rows

@[expose] public section

noncomputable section

namespace Cert.Proof

open Idealize.ShloMosaic Idealize.ShloMosaic.ValueIdx
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What a gather lands -/

/-- A gather of whole rows, read at an index: the named row at the index's own columns. -/
theorem gathered {N : ℕ} {hg : (⟨3, ![N, 2, 128]⟩ : Shape).Gathers 0 ⟨3, ![16, 2, 128]⟩} (T : (⟨3, ![N, 2, 128]⟩ : Shape).Idx → Elt F .f32)
    (r : Fin 16 → Fin N) (a : Fin 16) (b : Fin 2) (c : Fin 128) :
    SparseCore.gatherPayload hg T r (ix3 a b c : (⟨3, ![16, 2, 128]⟩ : Shape).Idx) = T (ix3 (r a) b c) := by
  refine congrArg T (funext fun d => ?_)
  match d with
  | ⟨0, _⟩ => rfl
  | ⟨1, _⟩ => rfl
  | ⟨2, _⟩ => rfl

theorem whole_rows {N : ℕ} (hi : ∀ a, (![0, 0, 0] : Fin 3 → ℕ) a + (⟨3, ![N, 2, 128]⟩ : Shape).size a ≤ (⟨3, ![N, 2, 128]⟩ : Shape).size a)
    (T : (⟨3, ![N, 2, 128]⟩ : Shape).Idx → Elt F .f32) :
    (fun x => T ((Rect.unit (s := (⟨3, ![N, 2, 128]⟩ : Shape)) ![0, 0, 0] (⟨3, ![N, 2, 128]⟩ : Shape).size hi).emb x)) = T := by
  funext x
  refine congrArg T (funext fun d => Fin.ext ?_)
  match d with
  | ⟨0, _⟩ => show 0 + 1 * (x 0).val = (x 0).val; omega
  | ⟨1, _⟩ => show 0 + 1 * (x 1).val = (x 1).val; omega
  | ⟨2, _⟩ => show 0 + 1 * (x 2).val = (x 2).val; omega

/-- An index list's stretch of sixteen, read at `k`. -/
theorem stretch {n : ℕ} [NeZero n] (L : (⟨1, ![n]⟩ : Shape).Idx → BitVec 32) (o : Fin 1 → ℕ) (o0 : ℕ) (ho : o = ![o0])
    (hi : ∀ a, o a + S16.size a ≤ (⟨1, ![n]⟩ : Shape).size a) (x : S16.Idx) :
    L ((Rect.unit (s := (⟨1, ![n]⟩ : Shape)) o S16.size hi).emb x) = nth L (o0 + (x 0).val) := by
  subst ho
  have h0 : o0 + 16 ≤ n := hi 0
  have hx : (x 0).val < 16 := (x 0).isLt
  refine congrArg L (funext fun d => Fin.ext ?_)
  match d with
  | ⟨0, _⟩ =>
    show o0 + 1 * (x 0).val = (o0 + (x 0).val) % n
    rw [Nat.mod_eq_of_lt (by omega)]; omega

theorem rows_stretch {n N : ℕ} [NeZero n] (L : (⟨1, ![n]⟩ : Shape).Idx → BitVec 32) (o : Fin 1 → ℕ) (o0 : ℕ) (ho : o = ![o0])
    (hi : ∀ a, o a + S16.size a ≤ (⟨1, ![n]⟩ : Shape).size a) (hn : (Rect.unit (s := (⟨1, ![n]⟩ : Shape)) o S16.size hi).shape.numel = 16)
    (hin : ∀ x, (L ((Rect.unit (s := (⟨1, ![n]⟩ : Shape)) o S16.size hi).emb x)).toNat < N) (a : Fin 16) :
    (SparseCore.rows (F := F) (si := (Rect.unit (s := (⟨1, ![n]⟩ : Shape)) o S16.size hi).shape)
      (fun x => L ((Rect.unit (s := (⟨1, ![n]⟩ : Shape)) o S16.size hi).emb x)) hn hin a).val = (nth L (o0 + a.val)).toNat := by
  unfold SparseCore.rows
  show (L ((Rect.unit (s := (⟨1, ![n]⟩ : Shape)) o S16.size hi).emb (S16.rowMajor.symm (a.cast hn.symm)))).toNat = _
  rw [stretch L o o0 ho hi]
  have h := Shape.rowMajor_val_one (d := ![16]) (S16.rowMajor.symm (a.cast hn.symm))
  rw [show (⟨1, ![16]⟩ : Shape).rowMajor (S16.rowMajor.symm (a.cast hn.symm)) = a.cast hn.symm from Equiv.apply_symm_apply _ _] at h
  rw [← h]
  rfl

/-- The two gathered halves, read as one table of sixteen rows: the named rows of the table they came from. -/
theorem tab_gathered {N : ℕ} [NeZero N] {hg : (⟨3, ![N, 2, 128]⟩ : Shape).Gathers 0 ⟨3, ![16, 2, 128]⟩} (T0 T1 : (⟨3, ![N, 2, 128]⟩ : Shape).Idx → Elt F .f32)
    (r : Fin 16 → Fin N) (j c : ℕ) (hj : j < 16) :
    tab (n := 16) (SparseCore.gatherPayload hg T0 r : (⟨3, ![16, 2, 128]⟩ : Shape).Idx → F .f32) (SparseCore.gatherPayload hg T1 r) j c
      = tab T0 T1 (r ⟨j, hj⟩).val c := by
  have h1 : (Fin.ofNat 16 j) = ⟨j, hj⟩ := Fin.ext (Nat.mod_eq_of_lt hj)
  have h2 : ∀ x : Fin N, Fin.ofNat N x.val = x := fun x => Fin.ext (Nat.mod_eq_of_lt x.isLt)
  unfold tab
  rw [gathered, gathered, h1, h2]

section Pair
variable {Ix : Type} [DecidableEq Ix] [Inhabited Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable {Λ : Labels} {defs : Defs nD τ sig (Elt F) Λ} (𝒱 : Variants) (c : Thread nD τ) (bd : Option 𝒱.V)

local notation "𝕄" => MT nD τ sig Ix (Elt F) Name U Lvl

include EC

/-- Sixteen rows gathered from each half of a table of `N` rows, by the same stretch of a list: the two destinations, read
    as one table, hold the named rows. -/
theorem gather_pair {N : ℕ} [NeZero N] {sp : Space} {m0 m1 : Memref sig c.2.kind sp ⟨3, ![N, 2, 128]⟩ .f32}
    {hi0 hi1 : ∀ a, (![0, 0, 0] : Fin 3 → ℕ) a + (⟨3, ![N, 2, 128]⟩ : Shape).size a ≤ (⟨3, ![N, 2, 128]⟩ : Shape).size a}
    {hg : (⟨3, ![N, 2, 128]⟩ : Shape).Gathers 0 ⟨3, ![16, 2, 128]⟩} {d0 d1 : Memref sig c.2.kind .vmem S16x2x128 .f32}
    {l : Memref sig c.2.kind .vmem S5040 .i32} {o : Fin 1 → ℕ} {hi : ∀ a, o a + S16.size a ≤ S5040.size a}
    {hn0 hn1 : (Rect.unit (s := S5040) o S16.size hi).shape.numel = S16x2x128.size hg.axis'} {sem : DmaSem sig} {hp0 hp1 : c.2.kind = .scVector}
    {hs0 hs0' : (m0.slice (Rect.unit (s := (⟨3, ![N, 2, 128]⟩ : Shape)) ![0, 0, 0] (⟨3, ![N, 2, 128]⟩ : Shape).size hi0) (fun _ => rfl)).view.WordExact}
    {hs1 hs1' : (m1.slice (Rect.unit (s := (⟨3, ![N, 2, 128]⟩ : Shape)) ![0, 0, 0] (⟨3, ![N, 2, 128]⟩ : Shape).size hi1) (fun _ => rfl)).view.WordExact}
    {he0 he1 : EltTy.f32.bits = 32} {hsp0 hsp1 : sp = .hbm ∨ sp = .shared}
    {hr0 hr1 : (⟨3, ![N, 2, 128]⟩ : Shape).StreamRows 0} {hd0 : d0.view.WordExact} {hd1 : d1.view.WordExact}
    {α : Type} {k : PUnit → Prog (TpuEff nD τ sig (Elt F) Λ c.2) α} {Q : α → sProp 𝕄}
    (T0 T1 : (⟨3, ![N, 2, 128]⟩ : Shape).Idx → F .f32) (L : S5040.Idx → BitVec 32) (q0 q1 : PosShare TreeShare)
    (O : CellTallies nD τ sig Ix) (W : Waits sig Ix)
    (hc0 : ∑ j, (d0.slice (S16x2x128.rowRect hg.axis' j) (S16x2x128.stride_rowRect hg.axis' j)).view.dmaCredit = d0.view.dmaCredit)
    (hc1 : ∑ j, (d1.slice (S16x2x128.rowRect hg.axis' j) (S16x2x128.stride_rowRect hg.axis' j)).view.dmaCredit = d1.view.dmaCredit)
    (n : ℕ) (ho : o = ![n]) (hL : ∀ k < 16, (nth L (n + k)).toNat < N) :
    iprop(Transfers.MayWaits c (default : Ix) O ∗ owns c m0 q0 T0 ∗ owns c m1 q1 T1 ∗ owns c l fullShare L
        ∗ (∃ S0, owns c d0 fullShare S0) ∗ (∃ S1, owns c d1 fullShare S1) ∗ semVal (c, SemLoc.dma sem) 0 ∗ owing c O W : sProp 𝕄)
      ⊢ iprop((∀ S0 S1, iprop(⌜∀ j < 16, ∀ x < 512, tab S0 S1 j x = tab T0 T1 (nth L (n + j)).toNat x⌝
            ∗ owns c m0 q0 T0 ∗ owns c m1 q1 T1 ∗ owns c l fullShare L
            ∗ owns c d0 fullShare S0 ∗ owns c d1 fullShare S1 ∗ semVal (c, SemLoc.dma sem) 0 ∗ owing c O W)
          -∗ wp frame (wpE defs 𝒱 c bd) Set.univ (k ⟨⟩) Q)
        -∗ wp frame (wpE defs 𝒱 c bd) Set.univ
            (SparseCore.enqueueIndirectGather hp0 (m0.slice (Rect.unit (s := (⟨3, ![N, 2, 128]⟩ : Shape)) ![0, 0, 0] (⟨3, ![N, 2, 128]⟩ : Shape).size hi0) (fun _ => rfl)) d0 hg
                (l.slice (Rect.unit (s := S5040) o S16.size hi) (fun _ => rfl)) hn0 sem hs0 he0 hsp0 hr0 >>= fun _ =>
              SparseCore.waitIndirectGather sem (m0.slice (Rect.unit (s := (⟨3, ![N, 2, 128]⟩ : Shape)) ![0, 0, 0] (⟨3, ![N, 2, 128]⟩ : Shape).size hi0) (fun _ => rfl)) d0 hs0' hd0 >>= fun _ =>
              SparseCore.enqueueIndirectGather hp1 (m1.slice (Rect.unit (s := (⟨3, ![N, 2, 128]⟩ : Shape)) ![0, 0, 0] (⟨3, ![N, 2, 128]⟩ : Shape).size hi1) (fun _ => rfl)) d1 hg
                (l.slice (Rect.unit (s := S5040) o S16.size hi) (fun _ => rfl)) hn1 sem hs1 he1 hsp1 hr1 >>= fun _ =>
              SparseCore.waitIndirectGather sem (m1.slice (Rect.unit (s := (⟨3, ![N, 2, 128]⟩ : Shape)) ![0, 0, 0] (⟨3, ![N, 2, 128]⟩ : Shape).size hi1) (fun _ => rfl)) d1 hs1' hd1 >>= k) Q) := by
  have hin : ∀ x, (L ((Rect.unit (s := S5040) o S16.size hi).emb x)).toNat < N := fun x => by
    rw [stretch L _ _ ho]
    exact hL _ (x 0).isLt
  iintro ⟨#Hmw, H0, H1, Hl, ⟨%S0, HS0⟩, ⟨%S1, HS1⟩, Hv, HO⟩ Hk
  iapply (owns_gather (defs := defs) EC 𝒱 c bd hc0 (by decide) hin) $$ [H0 HS0 Hl Hv HO]
  · isplitr; · iexact Hmw
    isplitl [H0]; · iexact H0
    isplitl [HS0]; · iexact HS0
    isplitl [Hl]; · iexact Hl
    isplitl [Hv] <;> iassumption
  iintro ⟨H0, HS0, Hl, Hv, HO⟩
  iapply (owns_gather (defs := defs) EC 𝒱 c bd hc1 (by decide) hin) $$ [H1 HS1 Hl Hv HO]
  · isplitr; · iexact Hmw
    isplitl [H1]; · iexact H1
    isplitl [HS1]; · iexact HS1
    isplitl [Hl]; · iexact Hl
    isplitl [Hv] <;> iassumption
  iintro ⟨H1, HS1, Hl, Hv, HO⟩
  rw [whole_rows, whole_rows]
  iapply Hk
  isplitr
  · ipureintro
    intro j hj x _
    refine (tab_gathered (F := F) (hg := hg) T0 T1 (SparseCore.rows (F := F) (fun x => L ((Rect.unit (s := S5040) o S16.size hi).emb x)) hn0 hin) j x hj).trans ?_
    exact congrArg (fun r => tab T0 T1 r x) (rows_stretch (F := F) L _ _ ho _ hn0 hin ⟨j, hj⟩)
  isplitl [H0]; · iexact H0
  isplitl [H1]; · iexact H1
  isplitl [Hl]; · iexact Hl
  isplitl [HS0]; · iexact HS0
  isplitl [HS1]; · iexact HS1
  isplitl [Hv] <;> iassumption

end Pair

section Loops
variable {Ix : Type} [DecidableEq Ix] [Inhabited Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable {defs : Defs nD τ sig (Elt F) Λ₀} (𝒱 : Variants) (bd : Option 𝒱.V) (d : Dev nD)
variable (i : grid0.Coords) (arg2 : Memref sig .scVector .hbm S10000x2x128 .f32) (harg2 : arg2.IsWhole) (arg3 : Memref sig .scVector .hbm S10000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240x512 .f32) (harg6 : arg6.IsWhole) (arg7 : Memref sig .scVector .vmem S5008 .i32)
variable (harg7 : arg7.IsWhole) (arg8 : Memref sig .scVector .vmem S5008 .i32) (harg8 : arg8.IsWhole) (arg9 : Memref sig .scVector .vmem S5040 .i32)
variable (harg9 : arg9.IsWhole) (arg10 : Memref sig .scVector .vmem S5040 .i32) (harg10 : arg10.IsWhole) (arg11 : Memref sig .scVector .vmem S16x2x128 .f32)
variable (harg11 : arg11.IsWhole) (arg12 : Memref sig .scVector .vmem S16x2x128 .f32) (harg12 : arg12.IsWhole) (arg13 : Memref sig .scVector .vmem S168x512 .f32)
variable (harg13 : arg13.IsWhole) (arg14 : DmaSems sig S_) (v49_r0 : DmaSems sig S_) (v49_r1 : DmaSems sig S_)
variable (v13_r2 : DmaSems sig S_)

local notation "𝕄" => MT nD τ sig Ix (Elt F) Name U Lvl

theorem t6_rest (V : S168x512.Idx → F .f32) (S0 S1 : S16x2x128.Idx → F .f32) (L : S5040.Idx → BitVec 32) (R : ℕ → ℕ) (X : ℕ → ℕ → F .f32)
    (v16 : BitVec 32) (hv : k0_chk2 v16) (t6 : Fin (k0_t6_loop v16).trips) (h6 : t6.val < 313) (hL : ∀ k < 16 * (t6.val + 1), (nth L k).toNat < 168)
    (hS : ∀ j < 16, ∀ c < 512, tab S0 S1 j c = X (R (16 * t6.val + j)) c) {Q : BitVec 32 → sProp 𝕄} :
    iprop(owns (tl d i) arg10 fullShare L ∗ owns (tl d i) arg11 fullShare S0 ∗ owns (tl d i) arg12 fullShare S1
        ∗ (∃ A, ⌜Holds A V (fun k => (nth L k).toNat) R X (16 * t6.val)⌝ ∗ owns (tl d i) arg13 fullShare A) : sProp 𝕄)
      ⊢ iprop((iprop(owns (tl d i) arg10 fullShare L ∗ owns (tl d i) arg11 fullShare S0 ∗ owns (tl d i) arg12 fullShare S1
          ∗ (∃ A, ⌜Holds A V (fun k => (nth L k).toNat) R X (16 * (t6.val + 1))⌝ ∗ owns (tl d i) arg13 fullShare A)) -∗ Q 0#32)
        -∗ wp frame (wpE defs 𝒱 (tl d i) bd) Set.univ
          (Scf.Loop.for k0_t7_loop k0_t7_ok 0#32 (k0_t7_body i arg2 harg2 arg3 harg3 arg4 harg4 arg5 harg5 arg6 harg6 arg7 harg7 arg8 harg8 arg9 harg9 arg10 harg10 arg11 harg11 arg12 harg12 arg13 harg13 arg14 v49_r0 v49_r1 v13_r2 v16 hv t6) >>= fun _ => pure 0#32) Q) := by
  iintro H Hk
  iapply (Scf.wp_for_bind frame (wpE defs 𝒱 (tl d i) bd) Set.univ k0_t7_loop.lb k0_t7_loop.ub k0_t7_loop.st k0_t7_ok 0#32 _
    (fun k _ => iprop(owns (tl d i) arg10 fullShare L ∗ owns (tl d i) arg11 fullShare S0 ∗ owns (tl d i) arg12 fullShare S1
        ∗ (∃ A, ⌜Holds A V (fun k => (nth L k).toNat) R X (16 * t6.val + k)⌝ ∗ owns (tl d i) arg13 fullShare A)))
    (fun k acc => t7_trip 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 V S0 S1 L R X v16 hv t6 h6 hL hS k acc)) $$ H
  iintro %acc H
  rw [wp_pure]
  imodintro
  iapply Hk
  iexact H

include EC

/-- The transfers of a gather's sixteen rows credit the semaphore what the whole destination does. -/
abbrev RowCredits (m : Memref sig .scVector .vmem S16x2x128 .f32) : Prop :=
  ∑ j, (m.slice (S16x2x128.rowRect gathers_S10000x2x128_S16x2x128.axis' j) (S16x2x128.stride_rowRect gathers_S10000x2x128_S16x2x128.axis' j)).view.dmaCredit
    = m.view.dmaCredit

variable (hc11 : RowCredits arg11) (hc12 : RowCredits arg12)
include hc11 hc12

theorem t6_trip (V : S168x512.Idx → F .f32) (T0 T1 : S10000x2x128.Idx → F .f32) (L9 L10 : S5040.Idx → BitVec 32) (q2 q3 : PosShare TreeShare)
    (O : CellTallies nD τ sig Ix) (W : Waits sig Ix)
    (v16 : BitVec 32) (hv : k0_chk2 v16) (n : ℕ) (hn : n ≤ 313) (hL9 : ∀ k < 16 * n, (nth L9 k).toNat < 10000) (hL10 : ∀ k < 16 * n, (nth L10 k).toNat < 168)
    (t6 : Fin (k0_t6_loop v16).trips) (h6 : t6.val < n) (z : BitVec 32) :
    iprop(Transfers.MayWaits (tl d i) (default : Ix) O
        ∗ owns (tl d i) arg2 q2 T0 ∗ owns (tl d i) arg3 q3 T1 ∗ owns (tl d i) arg9 fullShare L9 ∗ owns (tl d i) arg10 fullShare L10
        ∗ (∃ S0, owns (tl d i) arg11 fullShare S0) ∗ (∃ S1, owns (tl d i) arg12 fullShare S1)
        ∗ (∃ A, ⌜Holds A V (fun k => (nth L10 k).toNat) (fun k => (nth L9 k).toNat) (tab T0 T1) (16 * t6.val)⌝ ∗ owns (tl d i) arg13 fullShare A)
        ∗ semVal (tl d i, SemLoc.dma arg14.sem) 0 ∗ owing (tl d i) O W : sProp 𝕄)
      ⊢ wp frame (wpE defs 𝒱 (tl d i) bd) Set.univ (k0_t6_body i arg2 harg2 arg3 harg3 arg4 harg4 arg5 harg5 arg6 harg6 arg7 harg7 arg8 harg8 arg9 harg9 arg10 harg10 arg11 harg11 arg12 harg12 arg13 harg13 arg14 v49_r0 v49_r1 v13_r2 v16 hv t6 z) fun _ =>
        iprop(Transfers.MayWaits (tl d i) (default : Ix) O
        ∗ owns (tl d i) arg2 q2 T0 ∗ owns (tl d i) arg3 q3 T1 ∗ owns (tl d i) arg9 fullShare L9 ∗ owns (tl d i) arg10 fullShare L10
        ∗ (∃ S0, owns (tl d i) arg11 fullShare S0) ∗ (∃ S1, owns (tl d i) arg12 fullShare S1)
        ∗ (∃ A, ⌜Holds A V (fun k => (nth L10 k).toNat) (fun k => (nth L9 k).toNat) (tab T0 T1) (16 * (t6.val + 1))⌝ ∗ owns (tl d i) arg13 fullShare A)
        ∗ semVal (tl d i, SemLoc.dma arg14.sem) 0 ∗ owing (tl d i) O W) := by
  unfold k0_t6_body
  iintro ⟨#Hmw, H2, H3, H9, H10, HS0, HS1, ⟨%A, %hA, HA⟩, Hv, HO⟩
  iapply (gather_pair (defs := defs) EC 𝒱 (tl d i) bd T0 T1 L9 q2 q3 O W hc11 hc12 (16 * t6.val) (off5_eq t6 (by omega)) (fun k hk => hL9 _ (by omega))) $$ [H2 H3 H9 HS0 HS1 Hv HO]
  · isplitr; · iexact Hmw
    isplitl [H2]; · iexact H2
    isplitl [H3]; · iexact H3
    isplitl [H9]; · iexact H9
    isplitl [HS0]; · iexact HS0
    isplitl [HS1]; · iexact HS1
    isplitl [Hv] <;> iassumption
  iintro %S0 %S1 ⟨%hS, H2, H3, H9, HS0, HS1, Hv, HO⟩
  iapply (t6_rest 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 V S0 S1 L10 (fun k => (nth L9 k).toNat) (tab T0 T1) v16 hv t6 (by omega) (fun k hk => hL10 k (by omega)) hS) $$ [H10 HS0 HS1 HA]
  · isplitl [H10]; · iexact H10
    isplitl [HS0]; · iexact HS0
    isplitl [HS1]; · iexact HS1
    iexists A
    isplitr; · ipureintro; exact hA
    iexact HA
  iintro ⟨H10, HS0, HS1, HA⟩
  isplitr; · iexact Hmw
  isplitl [H2]; · iexact H2
  isplitl [H3]; · iexact H3
  isplitl [H9]; · iexact H9
  isplitl [H10]; · iexact H10
  isplitl [HS0]; · iexists _; iexact HS0
  isplitl [HS1]; · iexists _; iexact HS1
  isplitl [HA]; · iexact HA
  isplitl [Hv] <;> iassumption

end Loops

end Cert.Proof
-- ==== Proof.Filter.lean ====
/-
  The filter over one block of edges: sixteen edges a trip, the ones whose target node is the tile's appended to the two
  lists.
-/
module

public import proofs.«01_k».proof.Proof.Base
public import proofs.«01_k».proof.Proof.Words
public import proofs.«01_k».proof.Proof.Rules
public import proofs.«01_k».proof.Proof.Gather

@[expose] public section

noncomputable section

namespace Cert.Proof

open Idealize.ShloMosaic Idealize.ShloMosaic.ValueIdx
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The mask, the positions and the new count -/

/-- The lane numbers. -/
abbrev lanes : IVec S16 32 := iota .scVector S16 32 [0] iota_S16_d0_w32_scVector

/-- Edge `i` of block `b` counts for the tile whose nodes start at `base`. -/
def Counts (b base : ℕ) (d : ℕ → ℕ) (i : ℕ) : Prop := 5008 * b + i < 160000 ∧ base ≤ d i ∧ d i < base + 160

instance (b base : ℕ) (d : ℕ → ℕ) : DecidablePred (Counts b base d) := fun i => by unfold Counts; infer_instance

theorem lanes_apply (l : Fin 16) : lanes (ix1 l) = BitVec.ofNat 32 l.val := by
  show BitVec.ofNat 32 (0 * 16 + l.val) = _
  rw [Nat.zero_mul, Nat.zero_add]

theorem and_one (a b : BitVec 1) : a &&& b = 1#1 ↔ a = 1#1 ∧ b = 1#1 := by
  revert a b; decide

theorem ofBool_one (b : Bool) : BitVec.ofBool b = 1#1 ↔ b = true := by
  cases b <;> decide

theorem slt_small {a b : BitVec 32} (ha : a.toNat < 2 ^ 31) (hb : b.toNat < 2 ^ 31) : a.slt b = true ↔ a.toNat < b.toNat := by
  rw [BitVec.slt_iff_toInt_lt, BitVec.toInt_eq_toNat_of_lt (by omega), BitVec.toInt_eq_toNat_of_lt (by omega)]
  omega

theorem sle_small {a b : BitVec 32} (ha : a.toNat < 2 ^ 31) (hb : b.toNat < 2 ^ 31) : a.sle b = true ↔ a.toNat ≤ b.toNat := by
  rw [BitVec.sle_iff_toInt_le, BitVec.toInt_eq_toNat_of_lt (by omega), BitVec.toInt_eq_toNat_of_lt (by omega)]
  omega

section Mask
variable (D : S5008.Idx → BitVec 32) (hD : ∀ i < 5008, (nth D i).toNat < 10000) (base : ℕ) (hbase : base + 160 ≤ 10240)
variable (t4 : Fin k0_t4_loop.trips) (t5 : Fin k0_t5_loop.trips)

/-- The sixteen words trip `t5` reads. -/
abbrev chunkOf (D : S5008.Idx → BitVec 32) (t5 : Fin k0_t5_loop.trips) : Vec F S16 .i32 :=
  fun x => D ((Rect.unit (s := S5008) (k0_off3 t5) S16.size (k0_off3_inb t5)).toLoadRect.idx x)

theorem chunk_apply (l : Fin 16) : chunkOf (F := F) D t5 (ix1 l) = nth D (16 * t5.val + l.val) :=
  stretch D (k0_off3 t5) _ (k0_off3_eq t5) (k0_off3_inb t5) (ix1 l)

theorem nth_chunk (l : ℕ) (hl : l < 16) : nth (n := 16) (chunkOf (F := F) D t5) l = nth D (16 * t5.val + l) := by
  rw [← chunk_apply (F := F) D t5 ⟨l, hl⟩]
  exact congrArg (chunkOf (F := F) D t5) (congrArg ix1 (Fin.ext (Nat.mod_eq_of_lt hl)))

include hD hbase in
theorem mask_iff (l : Fin 16) : k0_pay8 (F := F) lanes (BitVec.ofNat 32 base) 0#32 1#32 t4 t5 (chunkOf D t5) (ix1 l) = 1
    ↔ Counts t4.val base (fun i => (nth D i).toNat) (16 * t5.val + l.val) := by
  have h4 : t4.val < 32 := t4.isLt
  have h5 : t5.val < 313 := t5.isLt
  have hl := l.isLt
  have hd := hD (16 * t5.val + l.val) (by omega)
  have hw : (IntOp.addi (IntOp.addi (IntOp.muli (Scf.iv 0#32 1#32 t4.val) 5008#32) (IntOp.muli (Scf.iv 0#32 1#32 t5.val) 16#32)) (lanes (ix1 l))).toNat
      = 5008 * t4.val + (16 * t5.val + l.val) := by
    unfold IntOp.addi IntOp.muli
    rw [lanes_apply, BitVec.toNat_add, BitVec.toNat_add, BitVec.toNat_mul, BitVec.toNat_mul, iv_toNat (by omega), iv_toNat (by omega), BitVec.toNat_ofNat,
      BitVec.toNat_ofNat, BitVec.toNat_ofNat]
    omega
  have hb : (BitVec.ofNat 32 base).toNat = base := by rw [BitVec.toNat_ofNat]; omega
  have hb' : (IntOp.addi (BitVec.ofNat 32 base) 160#32).toNat = base + 160 := by
    unfold IntOp.addi
    rw [BitVec.toNat_add, hb, show (160#32).toNat = 160 from rfl]; omega
  show (BitVec.ofBool (BitVec.slt (IntOp.addi (IntOp.addi (IntOp.muli (Scf.iv 0#32 1#32 t4.val) 5008#32) (IntOp.muli (Scf.iv 0#32 1#32 t5.val) 16#32)) (lanes (ix1 l))) 160000#32) &&& BitVec.ofBool (BitVec.sle (BitVec.ofNat 32 base) (chunkOf (F := F) D t5 (ix1 l))))
    &&& BitVec.ofBool (BitVec.slt (chunkOf (F := F) D t5 (ix1 l)) (IntOp.addi (BitVec.ofNat 32 base) 160#32)) = 1#1 ↔ _
  rw [and_one, and_one, ofBool_one, ofBool_one, ofBool_one, chunk_apply, slt_small (by rw [hw]; omega) (by decide), hw, slt_small (by omega) (by rw [hb']; omega), hb',
    sle_small (by rw [hb]; omega) (by omega), hb, show (160000#32).toNat = 160000 from rfl]
  unfold Counts
  rw [and_assoc]

/-- The edges of the chunk that count, by lane. -/
abbrev hits (l : ℕ) : Prop := Counts t4.val base (fun i => (nth D i).toNat) (16 * t5.val + l)

include hD hbase in
theorem count_pre (w : ℕ) (hw : w ≤ 16) : pre (k0_pay9 (F := F) lanes (BitVec.ofNat 32 base) 0#32 1#32 t4 t5 (chunkOf D t5)) w
    = BitVec.ofNat 32 (rank (hits D base t4 t5) w) := by
  refine pre_rank _ _ w fun l hl => ?_
  have h := mask_iff (F := F) D hD base hbase t4 t5 ⟨l, by omega⟩
  have hmod : (Fin.ofNat 16 l) = ⟨l, by omega⟩ := Fin.ext (Nat.mod_eq_of_lt (by omega))
  unfold nth
  rw [hmod]
  show (k0_pay8 (F := F) lanes (BitVec.ofNat 32 base) 0#32 1#32 t4 t5 (chunkOf D t5) (ix1 _)).setWidth 32 = _
  by_cases hc : hits D base t4 t5 l
  · refine Eq.trans ?_ (if_pos hc).symm
    rw [h.2 hc]; rfl
  · refine Eq.trans ?_ (if_neg hc).symm
    have h0 : ∀ b : BitVec 1, b ≠ 1 → b.setWidth 32 = 0#32 := by decide
    exact h0 _ fun e => hc (h.1 e)

include hD hbase in
theorem pos_toNat (n : ℕ) (hn : n ≤ 16 * t5.val) (l : Fin 16) :
    (k0_pay10 (F := F) lanes (BitVec.ofNat 32 base) 0#32 1#32 t4 t5 (BitVec.ofNat 32 n) (chunkOf D t5) (ix1 l)).toNat
      = n + rank (hits D base t4 t5) l.val := by
  have h5 : t5.val < 313 := t5.isLt
  have hr := rank_le (hits D base t4 t5) l.val
  have hl := l.isLt
  have hs : scan .sum (k0_pay9 (F := F) lanes (BitVec.ofNat 32 base) 0#32 1#32 t4 t5 (chunkOf D t5)) (ix1 l)
      - k0_pay9 (F := F) lanes (BitVec.ofNat 32 base) 0#32 1#32 t4 t5 (chunkOf D t5) (ix1 l) = BitVec.ofNat 32 (rank (hits D base t4 t5) l.val) := by
    rw [scan_sum, pre, count_pre D hD base hbase t4 t5 l.val (by omega)]
    rw [show nth (k0_pay9 (F := F) lanes (BitVec.ofNat 32 base) 0#32 1#32 t4 t5 (chunkOf D t5)) l.val
      = k0_pay9 (F := F) lanes (BitVec.ofNat 32 base) 0#32 1#32 t4 t5 (chunkOf D t5) (ix1 l) from nth_val _ (ix1 l)]
    exact BitVec.add_sub_cancel _ _
  show (BitVec.ofNat 32 n + (scan .sum (k0_pay9 (F := F) lanes (BitVec.ofNat 32 base) 0#32 1#32 t4 t5 (chunkOf D t5)) (ix1 l)
      - k0_pay9 (F := F) lanes (BitVec.ofNat 32 base) 0#32 1#32 t4 t5 (chunkOf D t5) (ix1 l))).toNat = _
  rw [hs, BitVec.toNat_add, BitVec.toNat_ofNat, BitVec.toNat_ofNat]
  omega

include hD hbase in
theorem new_count (n : ℕ) : Scalar.addi (BitVec.ofNat 32 n) (extractAt ![15] (k0_pay12 (F := F) lanes (BitVec.ofNat 32 base) 0#32 1#32 t4 t5 (chunkOf D t5)) inpos_S16_p15)
    = BitVec.ofNat 32 (n + rank (hits D base t4 t5) 16) := by
  have h : extractAt ![15] (k0_pay12 (F := F) lanes (BitVec.ofNat 32 base) 0#32 1#32 t4 t5 (chunkOf D t5)) inpos_S16_p15
      = scan .sum (k0_pay9 (F := F) lanes (BitVec.ofNat 32 base) 0#32 1#32 t4 t5 (chunkOf D t5)) (ix1 (15 : Fin 16)) := by
    unfold k0_pay12 extractAt
    generalize k0_pay9 (F := F) lanes (BitVec.ofNat 32 base) 0#32 1#32 t4 t5 (chunkOf D t5) = v
    refine congrArg (scan .sum v) (funext fun a => ?_)
    match a with | ⟨0, _⟩ => rfl
  rw [h, scan_sum, show (15 : Fin 16).val + 1 = 16 from rfl, count_pre D hD base hbase t4 t5 16 le_rfl, BitVec.ofNat_add]
  rfl

include hD hbase in
theorem chk1 (n : ℕ) (hn : n ≤ 16 * t5.val) :
    k0_chk1 (k0_pay10 (F := F) lanes (BitVec.ofNat 32 base) 0#32 1#32 t4 t5 (BitVec.ofNat 32 n) (chunkOf D t5)) := by
  have h5 : t5.val < 313 := t5.isLt
  have h : ∀ (a : Fin 1) (x : S16.Idx), ((![k0_pay10 (F := F) lanes (BitVec.ofNat 32 base) 0#32 1#32 t4 t5 (BitVec.ofNat 32 n) (chunkOf D t5)] : Fin 1 → IVec S16 32) a x).toNat
      < S5040.size a := fun a x => by
    match a with
    | ⟨0, _⟩ =>
      show (k0_pay10 (F := F) lanes (BitVec.ofNat 32 base) 0#32 1#32 t4 t5 (BitVec.ofNat 32 n) (chunkOf D t5) x).toNat < 5040
      obtain ⟨l, rfl⟩ : ∃ l : Fin 16, x = ix1 l := ⟨x 0, eq_ix1 x⟩
      rw [pos_toNat D hD base hbase t4 t5 n hn l]
      have hr := rank_le (hits D base t4 t5) l.val
      have hl := l.isLt
      omega
  exact ⟨h, h⟩

include hD hbase in
/-- The two lists after the chunk's stores stand for the edges up to the chunk's end. -/
theorem compact_step {N : ℕ} (R : ℕ → ℕ) (hR : ∀ i < 5008, R i < N) (rv : Vec F S16 .i32) (hrv : ∀ l < 16, (nth (n := 16) rv l).toNat = R (16 * t5.val + l))
    (R9 R10 : S5040.Idx → BitVec 32) (n : ℕ)
    (h : Compact N base (Counts t4.val base fun i => (nth D i).toNat) R (fun i => (nth D i).toNat)
      (fun k => (nth R9 k).toNat) (fun k => (nth R10 k).toNat) n (16 * t5.val))
    (h1 : ∀ (a : Fin 1) (x : S16.Idx), ((![k0_pay10 (F := F) lanes (BitVec.ofNat 32 base) 0#32 1#32 t4 t5 (BitVec.ofNat 32 n) (chunkOf D t5)] : Fin 1 → IVec S16 32) a x).toNat < S5040.size a)
    (h2 : ∀ (a : Fin 1) (x : S16.Idx), ((![k0_pay10 (F := F) lanes (BitVec.ofNat 32 base) 0#32 1#32 t4 t5 (BitVec.ofNat 32 n) (chunkOf D t5)] : Fin 1 → IVec S16 32) a x).toNat < S5040.size a) :
    Compact N base (Counts t4.val base fun i => (nth D i).toNat) R (fun i => (nth D i).toNat)
      (fun k => (nth (n := 5040) (storeIdx (F := F) (e := .i32) R9 ![k0_pay10 (F := F) lanes (BitVec.ofNat 32 base) 0#32 1#32 t4 t5 (BitVec.ofNat 32 n) (chunkOf D t5)]
        rv (k0_pay8 (F := F) lanes (BitVec.ofNat 32 base) 0#32 1#32 t4 t5 (chunkOf D t5)) false h1) k).toNat)
      (fun k => (nth (n := 5040) (storeIdx (F := F) (e := .i32) R10 ![k0_pay10 (F := F) lanes (BitVec.ofNat 32 base) 0#32 1#32 t4 t5 (BitVec.ofNat 32 n) (chunkOf D t5)]
        (k0_pay11 (F := F) (BitVec.ofNat 32 base) (chunkOf D t5)) (k0_pay8 (F := F) lanes (BitVec.ofNat 32 base) 0#32 1#32 t4 t5 (chunkOf D t5)) false h2) k).toNat)
      (n + rank (hits D base t4 t5) 16) (16 * t5.val + 16) := by
  have h5 : t5.val < 313 := t5.isLt
  have hn : n ≤ 16 * t5.val := h.le
  obtain ⟨lo9, at9⟩ := storeIdx_rank (F := F) (e := .i32) (f := R9) (v := rv) (h := h1) (hits D base t4 t5) n (by omega)
    (mask_iff (F := F) D hD base hbase t4 t5) (pos_toNat (F := F) D hD base hbase t4 t5 n hn)
  obtain ⟨lo10, at10⟩ := storeIdx_rank (F := F) (e := .i32) (f := R10) (v := k0_pay11 (F := F) (BitVec.ofNat 32 base) (chunkOf D t5)) (h := h2) (hits D base t4 t5) n (by omega)
    (mask_iff (F := F) D hD base hbase t4 t5) (pos_toNat (F := F) D hD base hbase t4 t5 n hn)
  refine h.chunk 16 (fun k hk => congrArg BitVec.toNat (lo9 k hk)) (fun k hk => congrArg BitVec.toNat (lo10 k hk)) fun l hl hp => ?_
  have hsub : nth (n := 16) (k0_pay11 (F := F) (BitVec.ofNat 32 base) (chunkOf D t5)) l = nth D (16 * t5.val + l) - BitVec.ofNat 32 base := by
    rw [← nth_chunk (F := F) D t5 l hl]; rfl
  have hd := hD (16 * t5.val + l) (by omega)
  obtain ⟨-, hp1, hp2⟩ := id hp
  replace hp1 : base ≤ (nth D (16 * t5.val + l)).toNat := hp1
  have hsub' : (nth D (16 * t5.val + l) - BitVec.ofNat 32 base).toNat = (nth D (16 * t5.val + l)).toNat - base := by
    rw [BitVec.toNat_sub, BitVec.toNat_ofNat]
    omega
  have e9 := at9 l hl hp
  have e10 := at10 l hl hp
  rw [hsub] at e10
  refine ⟨(congrArg BitVec.toNat e9).trans (hrv l hl), ?_, hR _ (by omega), ?_⟩
  · refine (congrArg (fun w : BitVec 32 => w.toNat + base) e10).trans ?_
    show (nth D (16 * t5.val + l) - BitVec.ofNat 32 base).toNat + base = (nth D (16 * t5.val + l)).toNat
    rw [hsub']; exact Nat.sub_add_cancel hp1
  · refine lt_of_eq_of_lt (congrArg BitVec.toNat e10) ?_
    rw [hsub']
    show _ < 160
    have : (nth D (16 * t5.val + l)).toNat < base + 160 := hp2
    omega

end Mask

section Loops
variable {Ix : Type} [DecidableEq Ix] [Inhabited Ix] {Name : Type} [DecidableEq Name] [Infinite Name] {U : Type} [URA U] {Lvl : Type} [Preorder Lvl]
variable {defs : Defs nD τ sig (Elt F) Λ₀} (𝒱 : Variants) (bd : Option 𝒱.V) (d : Dev nD)
variable (i : grid0.Coords) (arg2 : Memref sig .scVector .hbm S10000x2x128 .f32) (harg2 : arg2.IsWhole) (arg3 : Memref sig .scVector .hbm S10000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240x512 .f32) (harg6 : arg6.IsWhole) (arg7 : Memref sig .scVector .vmem S5008 .i32)
variable (harg7 : arg7.IsWhole) (arg8 : Memref sig .scVector .vmem S5008 .i32) (harg8 : arg8.IsWhole) (arg9 : Memref sig .scVector .vmem S5040 .i32)
variable (harg9 : arg9.IsWhole) (arg10 : Memref sig .scVector .vmem S5040 .i32) (harg10 : arg10.IsWhole) (arg11 : Memref sig .scVector .vmem S16x2x128 .f32)
variable (harg11 : arg11.IsWhole) (arg12 : Memref sig .scVector .vmem S16x2x128 .f32) (harg12 : arg12.IsWhole) (arg13 : Memref sig .scVector .vmem S168x512 .f32)
variable (harg13 : arg13.IsWhole) (arg14 : DmaSems sig S_) (v49_r0 : DmaSems sig S_) (v49_r1 : DmaSems sig S_)
variable (v13_r2 : DmaSems sig S_)

local notation "𝕄" => MT nD τ sig Ix (Elt F) Name U Lvl

/-- The two lists and the count, after the block's first `m` edges: edge `i` reads row `R i` of a table of `N` rows. -/
def listed (N b base : ℕ) (R : ℕ → ℕ) (D : S5008.Idx → BitVec 32) (m : ℕ) (z : BitVec 32) : sProp 𝕄 :=
  iprop(∃ (n : ℕ) (R9 R10 : S5040.Idx → BitVec 32), ⌜z = BitVec.ofNat 32 n ∧
      Compact N base (Counts b base fun i => (nth D i).toNat) R (fun i => (nth D i).toNat)
        (fun k => (nth R9 k).toNat) (fun k => (nth R10 k).toNat) n m⌝
    ∗ owns (tl d i) arg9 fullShare R9 ∗ owns (tl d i) arg10 fullShare R10)

theorem t5_trip (S D : S5008.Idx → BitVec 32) (R : ℕ → ℕ) (hS : ∀ i < 5008, (nth S i).toNat = R i) (hR : ∀ i < 5008, R i < 10000) (hD : ∀ i < 5008, (nth D i).toNat < 10000)
    (base : ℕ) (hbase : base + 160 ≤ 10240) (t4 : Fin k0_t4_loop.trips) (t5 : Fin k0_t5_loop.trips) (z : BitVec 32) :
    iprop(owns (tl d i) arg7 fullShare S ∗ owns (tl d i) arg8 fullShare D ∗ listed d i arg9 arg10 10000 t4.val base R D (16 * t5.val) z : sProp 𝕄)
      ⊢ wp frame (wpE defs 𝒱 (tl d i) bd) Set.univ (k0_t5_body i arg2 harg2 arg3 harg3 arg4 harg4 arg5 harg5 arg6 harg6 arg7 harg7 arg8 harg8 arg9 harg9 arg10 harg10 arg11 harg11 arg12 harg12 arg13 harg13 arg14 v49_r0 v49_r1 v13_r2 lanes (BitVec.ofNat 32 base) 0#32 1#32 t4 t5 z) fun z =>
        iprop(owns (tl d i) arg7 fullShare S ∗ owns (tl d i) arg8 fullShare D ∗ listed d i arg9 arg10 10000 t4.val base R D (16 * (t5.val + 1)) z) := by
  unfold k0_t5_body listed
  iintro ⟨HS, HD, %n, %R9, %R10, ⟨%hz, %hc⟩, H9, H10⟩
  subst hz
  iapply (owns_load (defs := defs) 𝒱 (tl d i) bd) $$ HD
  iintro HD
  iapply (owns_load (defs := defs) 𝒱 (tl d i) bd) $$ HS
  iintro HS
  have h1 := chk1 (F := F) D hD base hbase t4 t5 n hc.le
  iapply (step_assume (defs := defs) 𝒱 (tl d i) bd h1)
  iapply (owns_storeIdx (defs := defs) 𝒱 (tl d i) bd) $$ H9
  iintro H9
  iapply (owns_storeIdx (defs := defs) 𝒱 (tl d i) bd) $$ H10
  iintro H10
  rw [wp_pure]
  imodintro
  isplitl [HS]; · iexact HS
  isplitl [HD]; · iexact HD
  iexists (n + rank (hits D base t4 t5) 16), _, _
  isplitr
  swap
  · isplitl [H9] <;> iassumption
  ipureintro
  exact ⟨new_count (F := F) D hD base hbase t4 t5 n, compact_step (F := F) D hD base hbase t4 t5 R hR (chunkOf S t5)
    (fun l hl => (congrArg BitVec.toNat (nth_chunk (F := F) S t5 l hl)).trans (hS _ (by have h5 : t5.val < 313 := t5.isLt; omega))) R9 R10 n hc _ _⟩

end Loops

end Cert.Proof
-- ==== Proof.Parts.lean ====
/-
  The program both calls share, over the three steps in which they differ: the filter of one chunk, the gather of one group
  of rows, and the loop over the rest of a group.
-/
module

public import proofs.«01_k».proof.Proof.Filter

@[expose] public section

noncomputable section

namespace Cert.Proof

open Idealize.ShloMosaic Idealize.ShloMosaic.ValueIdx
open Cert.KernelIdeal Cert.KernelIdeal.Gen
open Idealize.SL.Sem

variable {F : FTy → Type} [FloatOps F]

/-! ## The shared program -/

/-- A program of a vector subcore. -/
abbrev TP (F : FTy → Type) (i : grid0.Coords) (α : Type) := Prog (TpuEff nD τ sig (Elt F) Λ₀ (.scVector ((i 0).castLE hcore0) ((i 1).castLE hsub0))) α

section Program
variable (i : grid0.Coords) (arg2 : Memref sig .scVector .hbm S10000x2x128 .f32) (harg2 : arg2.IsWhole) (arg3 : Memref sig .scVector .hbm S10000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240x512 .f32) (harg6 : arg6.IsWhole) (arg7 : Memref sig .scVector .vmem S5008 .i32)
variable (harg7 : arg7.IsWhole) (arg8 : Memref sig .scVector .vmem S5008 .i32) (harg8 : arg8.IsWhole) (arg9 : Memref sig .scVector .vmem S5040 .i32)
variable (harg9 : arg9.IsWhole) (arg10 : Memref sig .scVector .vmem S5040 .i32) (harg10 : arg10.IsWhole) (arg11 : Memref sig .scVector .vmem S16x2x128 .f32)
variable (harg11 : arg11.IsWhole) (arg12 : Memref sig .scVector .vmem S16x2x128 .f32) (harg12 : arg12.IsWhole) (arg13 : Memref sig .scVector .vmem S168x512 .f32)
variable (harg13 : arg13.IsWhole) (arg14 : DmaSems sig S_) (v49_r0 : DmaSems sig S_) (v49_r1 : DmaSems sig S_)
variable (v13_r2 : DmaSems sig S_)

/-- A block's copies, filter and pads. -/
def part1P (body5 : Fin k0_t4_loop.trips → Fin k0_t5_loop.trips → BitVec 32 → TP F i (BitVec 32)) (t4 : Fin k0_t4_loop.trips) :
    TP F i (Σ' (v16 : BitVec 32) (_ : k0_chk2 v16) (_ : BitVec 32) (_ : BitVec 1), BitVec 32) := do
  Prog.lift (.enqueueDma (arg5.slice (Rect.unit (s := S160256) (k0_off2 t4) S5008.size (k0_off2_inb t4)) (fun _ => rfl)) (.here arg8) (.dma v49_r0.sem)
    (View.wordExact_bits rfl) harg8.wordExact ⟨Or.inl rfl, trivial⟩)
  Prog.lift (.waitDma2 v49_r0.sem (arg5.slice (Rect.unit (s := S160256) (k0_off2 t4) S5008.size (k0_off2_inb t4)) (fun _ => rfl)) arg8 (View.wordExact_bits rfl) harg8.wordExact)
  Prog.lift (.enqueueDma (arg4.slice (Rect.unit (s := S160256) (k0_off2 t4) S5008.size (k0_off2_inb t4)) (fun _ => rfl)) (.here arg7) (.dma v49_r1.sem)
    (View.wordExact_bits rfl) harg7.wordExact ⟨Or.inl rfl, trivial⟩)
  Prog.lift (.waitDma2 v49_r1.sem (arg4.slice (Rect.unit (s := S160256) (k0_off2 t4) S5008.size (k0_off2_inb t4)) (fun _ => rfl)) arg7 (View.wordExact_bits rfl) harg7.wordExact)
  let v16 ← Scf.Loop.for k0_t5_loop k0_t5_ok 0#32 (body5 t4)
  have hw : k0_chk2 v16 := (← Prog.lift (TpuEff.assume (k0_chk2 v16) (k0_chk2.dec v16))).down
  let _ ← Prog.lift (.load arg9 (Rect.unit (s := S5040) (k0_off4 v16) S16.size (k0_off4_inb v16 hw)).toLoadRect (View.loadsAt_vmem h_S16))
  Prog.lift (.store arg9 (Rect.unit (s := S5040) (k0_off4 v16) S16.size (k0_off4_inb v16 hw)) k0_pay13 Finset.univ (View.stores_vmem_bits_univ h_S16 rfl) (.inl rfl))
  let _ ← Prog.lift (.load arg10 (Rect.unit (s := S5040) (k0_off4 v16) S16.size (k0_off4_inb v16 hw)).toLoadRect (View.loadsAt_vmem h_S16))
  Prog.lift (.store arg10 (Rect.unit (s := S5040) (k0_off4 v16) S16.size (k0_off4_inb v16 hw)) k0_pay14 Finset.univ (View.stores_vmem_bits_univ h_S16 rfl) (.inl rfl))
  let v24 : BitVec 32 := Scalar.subi (Scalar.addi v16 16#32) 1#32
  let v30 : BitVec 32 := Scalar.subi (Scalar.extui (Scalar.cmpi .sgt v24 0#32)) (Scalar.extui (Scalar.cmpi .slt v24 0#32))
  let v35 : BitVec 32 := Scalar.subi (Scalar.extui (Scalar.cmpi .sgt 16#32 0#32)) (Scalar.extui (Scalar.cmpi .slt 16#32 0#32))
  pure ⟨v16, hw, Scalar.divsi v24 16#32, Scalar.andi (Scalar.cmpi .ne v30 v35) (Scalar.cmpi .ne (Scalar.remsi v24 16#32) 0#32), 1#32⟩

variable (body5 : BitVec 32 → Fin k0_t4_loop.trips → Fin k0_t5_loop.trips → BitVec 32 → TP F i (BitVec 32))
variable (body6 : ∀ v16 : BitVec 32, k0_chk2 v16 → Fin (k0_t6_loop v16).trips → BitVec 32 → TP F i (BitVec 32))
variable (body10 : ∀ v16 : BitVec 32, k0_chk2 v16 → Fin (k0_t10_loop v16).trips → BitVec 32 → TP F i (BitVec 32))

/-- One block: its first part, then its groups. -/
def blockP (v7 : BitVec 32) (t4 : Fin k0_t4_loop.trips) (_z : BitVec 32) : TP F i (BitVec 32) := do
  let ⟨v16, hw, _, _, _⟩ ← part1P i arg4 arg5 arg7 harg7 arg8 harg8 arg9 arg10 v49_r0 v49_r1 (body5 v7) t4
  let z ← Scf.Loop.for (k0_t6_loop v16) (k0_t6_ok v16 hw) 0#32 (body6 v16 hw)
  let _ ← Scf.Loop.for (k0_t10_loop v16) (k0_t10_ok v16 hw) z (body10 v16 hw)
  pure 0#32

/-- One pass: the accumulator cleared, the blocks, the copy of the sums to the result. -/
def passP (v1 : BitVec 32) (t1 : Fin k0_t1_loop.trips) (_z : BitVec 32) : TP F i (BitVec 32) := do
  let _ ← Scf.Loop.for k0_t2_loop k0_t2_ok 0#32 (k0_t2_body i arg2 harg2 arg3 harg3 arg4 harg4 arg5 harg5 arg6 harg6 arg7 harg7 arg8 harg8 arg9 harg9 arg10 harg10 arg11 harg11 arg12 harg12 arg13 harg13 arg14 v49_r0 v49_r1 v13_r2)
  let _ ← Scf.Loop.for k0_t4_loop k0_t4_ok 0#32 (blockP i arg4 arg5 arg7 harg7 arg8 harg8 arg9 arg10 v49_r0 v49_r1 body5 body6 body10
    (Scalar.addi (Scalar.muli (Scf.iv 0#32 1#32 t1) 5120#32) (Scalar.muli v1 160#32)))
  Prog.lift (.enqueueDma (arg13.slice (Rect.unit (s := S168x512) ![0, 0] S160x512.size inb_S168x512_S160x512_0_0) (fun _ => rfl))
    (.here (arg6.slice (Rect.unit (s := S10240x512) (k0_off15 i t1) S160x512.size (k0_off15_inb i t1)) (fun _ => rfl))) (.dma v13_r2.sem)
    (View.wordExact_bits rfl) (View.wordExact_bits rfl) ⟨Or.inl rfl, trivial⟩)
  Prog.lift (.waitDma2 v13_r2.sem (arg13.slice (Rect.unit (s := S168x512) ![0, 0] S160x512.size inb_S168x512_S160x512_0_0) (fun _ => rfl))
    (arg6.slice (Rect.unit (s := S10240x512) (k0_off15 i t1) S160x512.size (k0_off15_inb i t1)) (fun _ => rfl)) (View.wordExact_bits rfl) (View.wordExact_bits rfl))
  pure 0#32

/-- The two passes of a tile. -/
def tileP : TP F i PUnit := do
  let _ ← Scf.Loop.for k0_t1_loop k0_t1_ok 0#32 (passP i arg2 harg2 arg3 harg3 arg4 harg4 arg5 harg5 arg6 harg6 arg7 harg7 arg8 harg8 arg9 harg9 arg10 harg10 arg11 harg11 arg12 harg12 arg13 harg13 arg14 v49_r0 v49_r1 v13_r2 body5 body6 body10
    (Scalar.addi (Scalar.muli (BitVec.ofNat 32 (i 0).val) 16#32) (BitVec.ofNat 32 (i 1).val)))
  pure ⟨⟩

theorem cc0_body_shared : cc0_body (F := F) i arg2 harg2 arg3 harg3 arg4 harg4 arg5 harg5 arg6 harg6 arg7 harg7 arg8 harg8 arg9 harg9 arg10 harg10 arg11 harg11 arg12 harg12 arg13 harg13 arg14 v49_r0 v49_r1 v13_r2
    = tileP i arg2 harg2 arg3 harg3 arg4 harg4 arg5 harg5 arg6 harg6 arg7 harg7 arg8 harg8 arg9 harg9 arg10 harg10 arg11 harg11 arg12 harg12 arg13 harg13 arg14 v49_r0 v49_r1 v13_r2 (fun v7 => k0_t5_body i arg2 harg2 arg3 harg3 arg4 harg4 arg5 harg5 arg6 harg6 arg7 harg7 arg8 harg8 arg9 harg9 arg10 harg10 arg11 harg11 arg12 harg12 arg13 harg13 arg14 v49_r0 v49_r1 v13_r2 lanes v7 0#32 1#32) (k0_t6_body i arg2 harg2 arg3 harg3 arg4 harg4 arg5 harg5 arg6 harg6 arg7 harg7 arg8 harg8 arg9 harg9 arg10 harg10 arg11 harg11 arg12 harg12 arg13 harg13 arg14 v49_r0 v49_r1 v13_r2) (k0_t10_body i arg2 harg2 arg3 harg3 arg4 harg4 arg5 harg5 arg6 harg6 arg7 harg7 arg8 harg8 arg9 harg9 arg10 harg10 arg11 harg11 arg12 harg12 arg13 harg13 arg14 v49_r0 v49_r1 v13_r2) := rfl

end Program

section Program1
variable (i : grid2.Coords) (arg2 : Memref sig .scVector .hbm S80000x2x128 .f32) (harg2 : arg2.IsWhole) (arg3 : Memref sig .scVector .hbm S80000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240 .i32) (harg6 : arg6.IsWhole) (arg7 : Memref sig .scVector .hbm S10240x512 .f32)
variable (harg7 : arg7.IsWhole) (arg8 : Memref sig .scVector .vmem S5008 .i32) (harg8 : arg8.IsWhole) (arg9 : Memref sig .scVector .vmem S5008 .i32)
variable (harg9 : arg9.IsWhole) (arg10 : Memref sig .scVector .vmem S10240 .i32) (harg10 : arg10.IsWhole) (arg11 : Memref sig .scVector .vmem S5040 .i32)
variable (harg11 : arg11.IsWhole) (arg12 : Memref sig .scVector .vmem S5040 .i32) (harg12 : arg12.IsWhole) (arg13 : Memref sig .scVector .vmem S16x2x128 .f32)
variable (harg13 : arg13.IsWhole) (arg14 : Memref sig .scVector .vmem S16x2x128 .f32) (harg14 : arg14.IsWhole) (arg15 : Memref sig .scVector .vmem S168x512 .f32)
variable (harg15 : arg15.IsWhole) (arg16 : DmaSems sig S_) (v5_r0 : DmaSems sig S_) (v49_r1 : DmaSems sig S_)
variable (v49_r2 : DmaSems sig S_) (v13_r3 : DmaSems sig S_)
variable (e2 : Memref sig .scVector .hbm S10000x2x128 .f32) (he2 : e2.IsWhole)

theorem cc2_body_shared : cc2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3
    = (do
        Prog.lift (.enqueueDma arg6 (.here arg10) (.dma v5_r0.sem) harg6.wordExact harg10.wordExact ⟨Or.inl rfl, trivial⟩)
        Prog.lift (.waitDma2 v5_r0.sem arg6 arg10 harg6.wordExact harg10.wordExact)
        tileP i e2 he2 e2 he2 arg4 harg4 arg5 harg5 arg7 harg7 arg8 harg8 arg9 harg9 arg11 harg11 arg12 harg12 arg13 harg13 arg14 harg14 arg15 harg15 arg16 v49_r1 v49_r2 v13_r3 (fun v7 => k2_t5_body i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3 lanes v7 0#32 1#32)
          (k2_t6_body i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3) (k2_t10_body i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3)) := rfl

end Program1

end Cert.Proof
-- ==== Proof.Block.lean ====
/-
  One block of edges: its two stretches of the edge list copied in, filtered into two lists, the lists padded to a whole
  number of groups, and the groups added into the accumulator.
-/
module

public import proofs.«01_k».proof.Proof.Parts

@[expose] public section

noncomputable section

namespace Cert.Proof

open Idealize.ShloMosaic Idealize.ShloMosaic.ValueIdx
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The pads -/

/-- `X` with the sixteen entries from `n` set to `w`. -/
def filled (X : S5040.Idx → BitVec 32) (n : ℕ) (w : BitVec 32) : S5040.Idx → BitVec 32 := fun j =>
  if n ≤ (j 0).val ∧ (j 0).val < n + 16 then w else X j

theorem filled_lo (X : S5040.Idx → BitVec 32) (n : ℕ) (w : BitVec 32) (hn : n ≤ 5008) (k : ℕ) (hk : k < n) : nth (filled X n w) k = nth X k := by
  have h : k % 5040 = k := Nat.mod_eq_of_lt (by omega)
  refine if_neg fun hp => ?_
  have h1 : n ≤ k % 5040 := hp.1
  omega

theorem filled_at (X : S5040.Idx → BitVec 32) (n : ℕ) (w : BitVec 32) (hn : n ≤ 5008) (k : ℕ) (hk : k < 16) : nth (filled X n w) (n + k) = w := by
  have h : (n + k) % 5040 = n + k := Nat.mod_eq_of_lt (by omega)
  refine if_pos ⟨?_, ?_⟩
  · show n ≤ (n + k) % 5040; omega
  · show (n + k) % 5040 < n + 16; omega

section Step
variable {Ix : Type} [DecidableEq Ix] {Name : Type} [DecidableEq Name] {U : Type} [URA U] {Lvl : Type} [Preorder Lvl]
variable {Λ : Labels} {defs : Defs nD τ sig (Elt F) Λ} (𝒱 : Variants) (c : Thread nD τ) (bd : Option 𝒱.V)

local notation "𝕄" => MT nD τ sig Ix (Elt F) Name U Lvl

/-- Sixteen entries of a list read, and all set to one word. -/
theorem fill16 {m : Memref sig c.2.kind .vmem S5040 .i32} {o : Fin 1 → ℕ} {hi : ∀ a, o a + S16.size a ≤ S5040.size a}
    {hl : m.view.LoadsAt (Rect.unit (s := S5040) o S16.size hi).toLoadRect}
    {hx : (m.access (Rect.unit (s := S5040) o S16.size hi)).Stores Finset.univ}
    {hm : (Finset.univ : Finset (Rect.unit (s := S5040) o S16.size hi).shape.Idx) = Finset.univ ∨ ∀ a, (Rect.unit (s := S5040) o S16.size hi).stride a = 1}
    {v : Vec F S16 .i32} {α : Type} {k : PUnit → Prog (TpuEff nD τ sig (Elt F) Λ c.2) α} {Q : α → sProp 𝕄}
    (X : S5040.Idx → BitVec 32) (n : ℕ) (w : BitVec 32) (ho : o = ![n]) (hv : ∀ x, v x = w) :
    (owns c m fullShare X : sProp 𝕄)
      ⊢ iprop((owns c m fullShare (filled X n w) -∗ wp frame (wpE defs 𝒱 c bd) Set.univ (k ⟨⟩) Q)
        -∗ wp frame (wpE defs 𝒱 c bd) Set.univ
          (Prog.lift (.load m (Rect.unit (s := S5040) o S16.size hi).toLoadRect hl) >>= fun _ =>
            Prog.lift (.store m (Rect.unit (s := S5040) o S16.size hi) v Finset.univ hx hm) >>= k) Q) := by
  subst ho
  have hin : ∀ x, filled X n w ((Rect.unit (s := S5040) ![n] S16.size hi).emb x) = v x := fun x => by
    have hx : (x 0).val < 16 := (x 0).isLt
    have e : ((Rect.unit (s := S5040) ![n] S16.size hi).emb x 0).val = n + 1 * (x 0).val := rfl
    rw [hv]
    refine if_pos ⟨?_, ?_⟩
    · rw [e]; omega
    · rw [e]; omega
  have hout : ∀ j, j ∉ (Rect.unit (s := S5040) ![n] S16.size hi).set → filled X n w j = X j := fun j hj => by
    refine if_neg fun h => hj (Rect.mem_set_unit.2 fun a => ?_)
    match a with
    | ⟨0, _⟩ => exact h
  iintro H Hk
  iapply (owns_load (defs := defs) 𝒱 c bd) $$ H
  iintro H
  iapply (owns_store (defs := defs) 𝒱 c bd (filled X n w) hin hout) $$ H
  iexact Hk

end Step

/-! ## What a block leaves -/

/-- On the rows below 160, `A` is, from zero, the sum of the table rows of those of the first `n` edges whose target is
    `base` plus the row: edge `e` reads row `Row e` of the table `X`. -/
def Summed (X : ℕ → ℕ → F .f32) (Row : ℕ → ℕ) (Dp : S160256.Idx → BitVec 32) (base : ℕ) (A : S168x512.Idx → F .f32) (n : ℕ) : Prop :=
  ∀ y : S168x512.Idx, (y 0).val < 160 → A y = fold FloatOps.addf (fun e => e < 160000 ∧ (nth Dp e).toNat = base + (y 0).val)
    (fun e => X (Row e) (y 1).val) n (Scalar.ofBits .f32 0x00000000#32)

theorem Summed.block {N : ℕ} {X : ℕ → ℕ → F .f32} {Row : ℕ → ℕ} {Dp : S160256.Idx → BitVec 32} {base : ℕ} {A A' : S168x512.Idx → F .f32} {b : ℕ}
    (h : Summed X Row Dp base A (5008 * b)) {D : S5008.Idx → BitVec 32}
    (hD : ∀ i < 5008, nth D i = nth Dp (5008 * b + i)) {L9 L10 : S5040.Idx → BitVec 32} {n : ℕ}
    (hc : Compact N base (Counts b base fun i => (nth D i).toNat) (fun i => Row (5008 * b + i)) (fun i => (nth D i).toNat)
      (fun k => (nth L9 k).toNat) (fun k => (nth L10 k).toNat) n 5008)
    (hp : ∀ k < 16, (nth L10 (n + k)).toNat = 160)
    (hA : Holds A' A (fun k => (nth L10 k).toNat) (fun k => (nth L9 k).toNat) X (16 * ((n + 15) / 16))) :
    Summed X Row Dp base A' (5008 * (b + 1)) := fun y hy => by
  rw [hA y hy, show 16 * ((n + 15) / 16) = n + (16 * ((n + 15) / 16) - n) by omega]
  refine (fold_tail _ _ fun k hk => ?_).trans ?_
  · have e := hp k (by omega)
    show ¬(nth L10 (n + k)).toNat = (y 0).val
    omega
  rw [hc.sum (F .f32) FloatOps.addf (fun r => X r (y 1).val) (A y) (y 0).val, h y hy, Nat.mul_succ, fold_add]
  refine fold_congr _ _ (fun i hi => ?_) (fun i hi _ => rfl)
  unfold Counts
  simp only [hD i hi]
  omega

section Loops
variable {Ix : Type} [DecidableEq Ix] [Inhabited Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable {defs : Defs nD τ sig (Elt F) Λ₀} (𝒱 : Variants) (bd : Option 𝒱.V) (d : Dev nD)
variable (i : grid0.Coords) (arg2 : Memref sig .scVector .hbm S10000x2x128 .f32) (harg2 : arg2.IsWhole) (arg3 : Memref sig .scVector .hbm S10000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240x512 .f32) (harg6 : arg6.IsWhole) (arg7 : Memref sig .scVector .vmem S5008 .i32)
variable (harg7 : arg7.IsWhole) (arg8 : Memref sig .scVector .vmem S5008 .i32) (harg8 : arg8.IsWhole) (arg9 : Memref sig .scVector .vmem S5040 .i32)
variable (harg9 : arg9.IsWhole) (arg10 : Memref sig .scVector .vmem S5040 .i32) (harg10 : arg10.IsWhole) (arg11 : Memref sig .scVector .vmem S16x2x128 .f32)
variable (harg11 : arg11.IsWhole) (arg12 : Memref sig .scVector .vmem S16x2x128 .f32) (harg12 : arg12.IsWhole) (arg13 : Memref sig .scVector .vmem S168x512 .f32)
variable (harg13 : arg13.IsWhole) (arg14 : DmaSems sig S_) (v49_r0 : DmaSems sig S_) (v49_r1 : DmaSems sig S_)
variable (v13_r2 : DmaSems sig S_)

local notation "𝕄" => MT nD τ sig Ix (Elt F) Name U Lvl

/-- The block's stretch of an edge array. -/
abbrev blockOf (Xp : S160256.Idx → BitVec 32) (t4 : Fin k0_t4_loop.trips) : S5008.Idx → BitVec 32 :=
  fun x => Xp ((Rect.unit (s := S160256) (k0_off2 t4) S5008.size (k0_off2_inb t4)).emb x)

theorem nth_block (Xp : S160256.Idx → BitVec 32) (t4 : Fin k0_t4_loop.trips) (i : ℕ) (hi : i < 5008) :
    nth (blockOf Xp t4) i = nth Xp (5008 * t4.val + i) := by
  have h4 : t4.val < 32 := t4.isLt
  refine congrArg Xp (funext fun a => Fin.ext ?_)
  match a with
  | ⟨0, _⟩ =>
    show k0_off2 t4 0 + 1 * (i % 5008) = (5008 * t4.val + i) % 160256
    rw [k0_off2_eq t4, Nat.mod_eq_of_lt hi, Nat.mod_eq_of_lt (show 5008 * t4.val + i < 160256 by omega)]
    show 5008 * t4.val + 1 * i = _
    omega

/-- The lists of block `b` after its filter and its pads: `n` entries, then sixteen of row 0 and node 160. -/
structure Filtered (N b base : ℕ) (R : ℕ → ℕ) (D : S5008.Idx → BitVec 32) (L9 L10 : S5040.Idx → BitVec 32) (n : ℕ) : Prop where
  compact : Compact N base (Counts b base fun i => (nth D i).toNat) R (fun i => (nth D i).toNat)
    (fun k => (nth L9 k).toNat) (fun k => (nth L10 k).toNat) n 5008
  pad9 : ∀ k < 16, (nth L9 (n + k)).toNat = 0
  pad10 : ∀ k < 16, (nth L10 (n + k)).toNat = 160

theorem Filtered.lt9 {N b base : ℕ} {R : ℕ → ℕ} {D : S5008.Idx → BitVec 32} {L9 L10 : S5040.Idx → BitVec 32} {n : ℕ} (h : Filtered N b base R D L9 L10 n)
    (hN : 0 < N) (k : ℕ) (hk : k < n + 16) : (nth L9 k).toNat < N := by
  rcases Nat.lt_or_ge k n with hlt | hge
  · exact h.compact.row k hlt
  · have e := h.pad9 (k - n) (by omega)
    rw [show n + (k - n) = k by omega] at e
    omega

theorem Filtered.lt10 {N b base : ℕ} {R : ℕ → ℕ} {D : S5008.Idx → BitVec 32} {L9 L10 : S5040.Idx → BitVec 32} {n : ℕ} (h : Filtered N b base R D L9 L10 n)
    (k : ℕ) (hk : k < n + 16) : (nth L10 k).toNat < 168 := by
  rcases Nat.lt_or_ge k n with hlt | hge
  · have e : (nth L10 k).toNat < 160 := h.compact.node k hlt
    omega
  · have e := h.pad10 (k - n) (by omega)
    rw [show n + (k - n) = k by omega] at e
    omega

theorem Filtered.intro {N b base : ℕ} {R : ℕ → ℕ} {D : S5008.Idx → BitVec 32} {R9 R10 : S5040.Idx → BitVec 32} {n : ℕ}
    (h : Compact N base (Counts b base fun i => (nth D i).toNat) R (fun i => (nth D i).toNat)
      (fun k => (nth R9 k).toNat) (fun k => (nth R10 k).toNat) n 5008) :
    Filtered N b base R D (filled R9 n 0#32) (filled R10 n 160#32) n :=
  ⟨h.congr (fun k hk => congrArg BitVec.toNat (filled_lo R9 n _ h.le k hk)) (fun k hk => congrArg BitVec.toNat (filled_lo R10 n _ h.le k hk)),
    fun k hk => congrArg BitVec.toNat (filled_at R9 n _ h.le k hk), fun k hk => congrArg BitVec.toNat (filled_at R10 n _ h.le k hk)⟩

/-- What the filter of one chunk does, whatever else (`Rs`) it needs: the chunk's edges join the lists. -/
def FilterStep (Rs : sProp 𝕄) (N : ℕ) (Row : ℕ → ℕ) (Sp Dp : S160256.Idx → BitVec 32) (base : ℕ)
    (body5 : Fin k0_t4_loop.trips → Fin k0_t5_loop.trips → BitVec 32 → TP F i (BitVec 32)) : Prop :=
  ∀ t4 t5 z, iprop(Rs ∗ owns (tl d i) arg7 fullShare (blockOf Sp t4) ∗ owns (tl d i) arg8 fullShare (blockOf Dp t4)
      ∗ listed d i arg9 arg10 N t4.val base (fun k => Row (5008 * t4.val + k)) (blockOf Dp t4) (16 * t5.val) z : sProp 𝕄)
    ⊢ wp frame (wpE defs 𝒱 (tl d i) bd) Set.univ (body5 t4 t5 z) fun z =>
      iprop(Rs ∗ owns (tl d i) arg7 fullShare (blockOf Sp t4) ∗ owns (tl d i) arg8 fullShare (blockOf Dp t4)
      ∗ listed d i arg9 arg10 N t4.val base (fun k => Row (5008 * t4.val + k)) (blockOf Dp t4) (16 * (t5.val + 1)) z)

/-- What one group does, whatever else (`Rs`) it needs: sixteen rows of the table `X` join the accumulator. -/
def GroupStep (Rs : sProp 𝕄) (N : ℕ) (X : ℕ → ℕ → F .f32) (O : CellTallies nD τ sig Ix) (W : Waits sig Ix)
    (body6 : ∀ v16 : BitVec 32, k0_chk2 v16 → Fin (k0_t6_loop v16).trips → BitVec 32 → TP F i (BitVec 32)) : Prop :=
  ∀ (V : S168x512.Idx → F .f32) (L9 L10 : S5040.Idx → BitVec 32) (v16 : BitVec 32) (hv : k0_chk2 v16) (n : ℕ), n ≤ 313 →
    (∀ k < 16 * n, (nth L9 k).toNat < N) → (∀ k < 16 * n, (nth L10 k).toNat < 168) → ∀ (t6 : Fin (k0_t6_loop v16).trips), t6.val < n → ∀ z : BitVec 32,
    iprop(Transfers.MayWaits (tl d i) (default : Ix) O
        ∗ Rs ∗ owns (tl d i) arg9 fullShare L9 ∗ owns (tl d i) arg10 fullShare L10
        ∗ (∃ S0, owns (tl d i) arg11 fullShare S0) ∗ (∃ S1, owns (tl d i) arg12 fullShare S1)
        ∗ (∃ A, ⌜Holds A V (fun k => (nth L10 k).toNat) (fun k => (nth L9 k).toNat) X (16 * t6.val)⌝ ∗ owns (tl d i) arg13 fullShare A)
        ∗ semVal (tl d i, SemLoc.dma arg14.sem) 0 ∗ owing (tl d i) O W : sProp 𝕄)
      ⊢ wp frame (wpE defs 𝒱 (tl d i) bd) Set.univ (body6 v16 hv t6 z) fun _ =>
        iprop(Transfers.MayWaits (tl d i) (default : Ix) O
        ∗ Rs ∗ owns (tl d i) arg9 fullShare L9 ∗ owns (tl d i) arg10 fullShare L10
        ∗ (∃ S0, owns (tl d i) arg11 fullShare S0) ∗ (∃ S1, owns (tl d i) arg12 fullShare S1)
        ∗ (∃ A, ⌜Holds A V (fun k => (nth L10 k).toNat) (fun k => (nth L9 k).toNat) X (16 * (t6.val + 1))⌝ ∗ owns (tl d i) arg13 fullShare A)
        ∗ semVal (tl d i, SemLoc.dma arg14.sem) 0 ∗ owing (tl d i) O W)

include EC

/-- The block's copies, filter and pads. -/
theorem part1_run (Rs : sProp 𝕄) (N : ℕ) (Row : ℕ → ℕ) (Sp Dp : S160256.Idx → BitVec 32) (base : ℕ)
    (body5 : Fin k0_t4_loop.trips → Fin k0_t5_loop.trips → BitVec 32 → TP F i (BitVec 32))
    (h5 : FilterStep (defs := defs) 𝒱 bd d i arg7 arg8 arg9 arg10 Rs N Row Sp Dp base body5) (q4 q5 : PosShare TreeShare) (O : CellTallies nD τ sig Ix) (W : Waits sig Ix)
    (h7 : 0 < arg7.view.dmaCredit) (h8 : 0 < arg8.view.dmaCredit) (t4 : Fin k0_t4_loop.trips)
    {Q : (Σ' (v16 : BitVec 32) (k0_hw2 : k0_chk2 v16) (v25 : BitVec 32) (v39 : BitVec 1), BitVec 32) → sProp 𝕄} :
    iprop(Transfers.MayWaits (tl d i) (default : Ix) O ∗ Rs ∗ owns (tl d i) arg4 q4 Sp ∗ owns (tl d i) arg5 q5 Dp
        ∗ (∃ X7, owns (tl d i) arg7 fullShare X7) ∗ (∃ X8, owns (tl d i) arg8 fullShare X8)
        ∗ (∃ X9, owns (tl d i) arg9 fullShare X9) ∗ (∃ X10, owns (tl d i) arg10 fullShare X10)
        ∗ semVal (tl d i, SemLoc.dma v49_r0.sem) 0 ∗ semVal (tl d i, SemLoc.dma v49_r1.sem) 0 ∗ owing (tl d i) O W : sProp 𝕄)
      ⊢ iprop((∀ v16 hw v25 v39 u, iprop(∃ n L9 L10, ⌜v16 = BitVec.ofNat 32 n ∧ Filtered N t4.val base (fun k => Row (5008 * t4.val + k)) (blockOf Dp t4) L9 L10 n⌝
            ∗ Rs ∗ owns (tl d i) arg4 q4 Sp ∗ owns (tl d i) arg5 q5 Dp
            ∗ (∃ X7, owns (tl d i) arg7 fullShare X7) ∗ (∃ X8, owns (tl d i) arg8 fullShare X8)
            ∗ owns (tl d i) arg9 fullShare L9 ∗ owns (tl d i) arg10 fullShare L10
            ∗ semVal (tl d i, SemLoc.dma v49_r0.sem) 0 ∗ semVal (tl d i, SemLoc.dma v49_r1.sem) 0 ∗ owing (tl d i) O W)
          -∗ Q ⟨v16, hw, v25, v39, u⟩)
        -∗ wp frame (wpE defs 𝒱 (tl d i) bd) Set.univ (part1P i arg4 arg5 arg7 harg7 arg8 harg8 arg9 arg10 v49_r0 v49_r1 body5 t4) Q) := by
  have h4 : t4.val < 32 := t4.isLt
  unfold part1P
  iintro ⟨#Hmw, HR, H4, H5, ⟨%X7, H7⟩, ⟨%X8, H8⟩, ⟨%X9, H9⟩, ⟨%X10, H10⟩, Hv0, Hv1, HO⟩ Hk
  iapply (owns_fetch (defs := defs) EC 𝒱 (tl d i) bd h8) $$ [H5 H8 Hv0 HO]
  · isplitr; · iexact Hmw
    isplitl [H5]; · iexact H5
    isplitl [H8]; · iexact H8
    isplitl [Hv0] <;> iassumption
  iintro ⟨H5, H8, Hv0, HO⟩
  iapply (owns_fetch (defs := defs) EC 𝒱 (tl d i) bd h7) $$ [H4 H7 Hv1 HO]
  · isplitr; · iexact Hmw
    isplitl [H4]; · iexact H4
    isplitl [H7]; · iexact H7
    isplitl [Hv1] <;> iassumption
  iintro ⟨H4, H7, Hv1, HO⟩
  iapply (Scf.wp_for_bind frame (wpE defs 𝒱 (tl d i) bd) Set.univ k0_t5_loop.lb k0_t5_loop.ub k0_t5_loop.st k0_t5_ok 0#32 _
    (fun k z => iprop(Rs ∗ owns (tl d i) arg7 fullShare (blockOf Sp t4) ∗ owns (tl d i) arg8 fullShare (blockOf Dp t4)
      ∗ listed d i arg9 arg10 N t4.val base (fun k => Row (5008 * t4.val + k)) (blockOf Dp t4) (16 * k) z))
    (fun k z => h5 t4 k z)) $$ [HR H7 H8 H9 H10]
  · isplitl [HR]; · iexact HR
    isplitl [H7]; · iexact H7
    isplitl [H8]; · iexact H8
    unfold listed
    iexists 0, X9, X10
    isplitr
    · ipureintro; exact ⟨rfl, Compact.nil⟩
    isplitl [H9] <;> iassumption
  iintro %v16 ⟨HR, H7, H8, HL⟩
  ihave HL := (show (listed d i arg9 arg10 N t4.val base (fun k => Row (5008 * t4.val + k)) (blockOf Dp t4) (16 * k0_t5_loop.trips) v16 : sProp 𝕄)
    ⊢ listed d i arg9 arg10 N t4.val base (fun k => Row (5008 * t4.val + k)) (blockOf Dp t4) 5008 v16 from .rfl) $$ HL
  unfold listed
  icases HL with ⟨%n, %R9, %R10, ⟨%hz, %hc⟩, H9, H10⟩
  have hn : n ≤ 5008 := hc.le
  iapply (step_assume (defs := defs) 𝒱 (tl d i) bd (chk2 hn hz))
  iapply (fill16 (defs := defs) 𝒱 (tl d i) bd R9 n 0#32 (off4_eq hn hz) (fun _ => rfl)) $$ H9
  iintro H9
  iapply (fill16 (defs := defs) 𝒱 (tl d i) bd R10 n 160#32 (off4_eq hn hz) (fun _ => rfl)) $$ H10
  iintro H10
  rw [wp_pure]
  imodintro
  iapply Hk
  iexists n, _, _
  isplitr
  · ipureintro; exact ⟨hz, Filtered.intro hc⟩
  isplitl [HR]; · iexact HR
  isplitl [H4]; · iexact H4
  isplitl [H5]; · iexact H5
  isplitl [H7]; · iexists _; iexact H7
  isplitl [H8]; · iexists _; iexact H8
  isplitl [H9]; · iexact H9
  isplitl [H10]; · iexact H10
  isplitl [Hv0]; · iexact Hv0
  isplitl [Hv1] <;> iassumption

theorem t4_trip (Rs : sProp 𝕄) (N : ℕ) (hN : 0 < N) (X : ℕ → ℕ → F .f32) (Row : ℕ → ℕ) (Sp Dp : S160256.Idx → BitVec 32) (base : ℕ)
    (body5 : BitVec 32 → Fin k0_t4_loop.trips → Fin k0_t5_loop.trips → BitVec 32 → TP F i (BitVec 32))
    (body6 : ∀ v16 : BitVec 32, k0_chk2 v16 → Fin (k0_t6_loop v16).trips → BitVec 32 → TP F i (BitVec 32))
    (body10 : ∀ v16 : BitVec 32, k0_chk2 v16 → Fin (k0_t10_loop v16).trips → BitVec 32 → TP F i (BitVec 32)) (q4 q5 : PosShare TreeShare) (O : CellTallies nD τ sig Ix) (W : Waits sig Ix)
    (h7 : 0 < arg7.view.dmaCredit) (h8 : 0 < arg8.view.dmaCredit) (v7 : BitVec 32)
    (h5 : FilterStep (defs := defs) 𝒱 bd d i arg7 arg8 arg9 arg10 Rs N Row Sp Dp base (body5 v7))
    (hg : GroupStep (defs := defs) 𝒱 bd d i arg9 arg10 arg11 arg12 arg13 arg14 Rs N X O W body6)
    (t4 : Fin k0_t4_loop.trips) (z : BitVec 32) :
    iprop(Transfers.MayWaits (tl d i) (default : Ix) O
        ∗ Rs ∗ owns (tl d i) arg4 q4 Sp ∗ owns (tl d i) arg5 q5 Dp
        ∗ (∃ X7, owns (tl d i) arg7 fullShare X7) ∗ (∃ X8, owns (tl d i) arg8 fullShare X8)
        ∗ (∃ X9, owns (tl d i) arg9 fullShare X9) ∗ (∃ X10, owns (tl d i) arg10 fullShare X10)
        ∗ (∃ S0, owns (tl d i) arg11 fullShare S0) ∗ (∃ S1, owns (tl d i) arg12 fullShare S1)
        ∗ (∃ A, ⌜Summed X Row Dp base A (5008 * t4.val)⌝ ∗ owns (tl d i) arg13 fullShare A)
        ∗ semVal (tl d i, SemLoc.dma arg14.sem) 0 ∗ semVal (tl d i, SemLoc.dma v49_r0.sem) 0 ∗ semVal (tl d i, SemLoc.dma v49_r1.sem) 0
        ∗ owing (tl d i) O W : sProp 𝕄)
      ⊢ wp frame (wpE defs 𝒱 (tl d i) bd) Set.univ (blockP i arg4 arg5 arg7 harg7 arg8 harg8 arg9 arg10 v49_r0 v49_r1 body5 body6 body10 v7 t4 z) fun _ =>
        iprop(Transfers.MayWaits (tl d i) (default : Ix) O
        ∗ Rs ∗ owns (tl d i) arg4 q4 Sp ∗ owns (tl d i) arg5 q5 Dp
        ∗ (∃ X7, owns (tl d i) arg7 fullShare X7) ∗ (∃ X8, owns (tl d i) arg8 fullShare X8)
        ∗ (∃ X9, owns (tl d i) arg9 fullShare X9) ∗ (∃ X10, owns (tl d i) arg10 fullShare X10)
        ∗ (∃ S0, owns (tl d i) arg11 fullShare S0) ∗ (∃ S1, owns (tl d i) arg12 fullShare S1)
        ∗ (∃ A, ⌜Summed X Row Dp base A (5008 * (t4.val + 1))⌝ ∗ owns (tl d i) arg13 fullShare A)
        ∗ semVal (tl d i, SemLoc.dma arg14.sem) 0 ∗ semVal (tl d i, SemLoc.dma v49_r0.sem) 0 ∗ semVal (tl d i, SemLoc.dma v49_r1.sem) 0
        ∗ owing (tl d i) O W) := by
  unfold blockP
  iintro ⟨#Hmw, HR, H4, H5, H7, H8, H9, H10, HS0, HS1, ⟨%A, %hA, HA⟩, Hv, Hv0, Hv1, HO⟩
  rw [wp_bind]
  iapply (part1_run (defs := defs) EC 𝒱 bd d i arg4 arg5 arg7 harg7 arg8 harg8 arg9 arg10 v49_r0 v49_r1 Rs N Row Sp Dp base (body5 v7) h5 q4 q5 O W h7 h8 t4) $$ [HR H4 H5 H7 H8 H9 H10 Hv0 Hv1 HO]
  · isplitr; · iexact Hmw
    isplitl [HR]; · iexact HR
    isplitl [H4]; · iexact H4
    isplitl [H5]; · iexact H5
    isplitl [H7]; · iexact H7
    isplitl [H8]; · iexact H8
    isplitl [H9]; · iexact H9
    isplitl [H10]; · iexact H10
    isplitl [Hv0]; · iexact Hv0
    isplitl [Hv1] <;> iassumption
  iintro %v16 %hw %v25 %v39 %u ⟨%n, %L9, %L10, ⟨%hz, %hf⟩, HR, H4, H5, H7, H8, H9, H10, Hv0, Hv1, HO⟩
  have hn : n ≤ 5008 := hf.compact.le
  obtain ⟨-, -, ht6, ht10⟩ := groups hn hz
  iapply (Scf.wp_for_bind frame (wpE defs 𝒱 (tl d i) bd) Set.univ (k0_t6_loop v16).lb (k0_t6_loop v16).ub (k0_t6_loop v16).st (k0_t6_ok v16 hw) 0#32 _
    (fun k _ => iprop(Transfers.MayWaits (tl d i) (default : Ix) O
        ∗ Rs ∗ owns (tl d i) arg9 fullShare L9 ∗ owns (tl d i) arg10 fullShare L10
        ∗ (∃ S0, owns (tl d i) arg11 fullShare S0) ∗ (∃ S1, owns (tl d i) arg12 fullShare S1)
        ∗ (∃ A', ⌜Holds A' A (fun k => (nth L10 k).toNat) (fun k => (nth L9 k).toNat) X (16 * k)⌝ ∗ owns (tl d i) arg13 fullShare A')
        ∗ semVal (tl d i, SemLoc.dma arg14.sem) 0 ∗ owing (tl d i) O W))
    (fun k z => hg A L9 L10 v16 hw ((n + 15) / 16) (by omega)
      (fun j hj => hf.lt9 hN j (by omega)) (fun j hj => hf.lt10 j (by omega)) k (lt_of_lt_of_eq k.isLt ht6) z)) $$ [HR H9 H10 HS0 HS1 HA Hv HO]
  · isplitr; · iexact Hmw
    isplitl [HR]; · iexact HR
    isplitl [H9]; · iexact H9
    isplitl [H10]; · iexact H10
    isplitl [HS0]; · iexact HS0
    isplitl [HS1]; · iexact HS1
    isplitl [HA]
    · iexists A
      isplitr; · ipureintro; exact fun y _ => rfl
      iexact HA
    isplitl [Hv] <;> iassumption
  iintro %z1 H
  iapply (Scf.wp_for_bind frame (wpE defs 𝒱 (tl d i) bd) Set.univ (k0_t10_loop v16).lb (k0_t10_loop v16).ub (k0_t10_loop v16).st (k0_t10_ok v16 hw) z1 _
    (fun _ _ => iprop(Transfers.MayWaits (tl d i) (default : Ix) O
        ∗ Rs ∗ owns (tl d i) arg9 fullShare L9 ∗ owns (tl d i) arg10 fullShare L10
        ∗ (∃ S0, owns (tl d i) arg11 fullShare S0) ∗ (∃ S1, owns (tl d i) arg12 fullShare S1)
        ∗ (∃ A', ⌜Holds A' A (fun k => (nth L10 k).toNat) (fun k => (nth L9 k).toNat) X (16 * (k0_t6_loop v16).trips)⌝ ∗ owns (tl d i) arg13 fullShare A')
        ∗ semVal (tl d i, SemLoc.dma arg14.sem) 0 ∗ owing (tl d i) O W))
    (fun k _ => absurd (show k.val < 0 from ht10 ▸ k.isLt) (Nat.not_lt_zero _))) $$ H
  iintro %z2 ⟨-, HR, H9, H10, HS0, HS1, ⟨%A', %hA', HA⟩, Hv, HO⟩
  rw [ht6] at hA'
  rw [wp_pure]
  imodintro
  isplitr; · iexact Hmw
  isplitl [HR]; · iexact HR
  isplitl [H4]; · iexact H4
  isplitl [H5]; · iexact H5
  isplitl [H7]; · iexact H7
  isplitl [H8]; · iexact H8
  isplitl [H9]; · iexists _; iexact H9
  isplitl [H10]; · iexists _; iexact H10
  isplitl [HS0]; · iexact HS0
  isplitl [HS1]; · iexact HS1
  isplitl [HA]
  · iexists A'
    isplitr
    swap; · iexact HA
    ipureintro
    exact hA.block (nth_block Dp t4) hf.compact hf.pad10 hA'
  isplitl [Hv]; · iexact Hv
  isplitl [Hv0]; · iexact Hv0
  isplitl [Hv1] <;> iassumption

end Loops

end Cert.Proof
-- ==== Proof.Tile.lean ====
/-
  The program of one vector subcore: twice, the accumulator cleared, every block of edges added, and the sums copied to
  the tile's rows of the result.
-/
module

public import proofs.«01_k».proof.Proof.Block

@[expose] public section

noncomputable section

namespace Cert.Proof

open Idealize.ShloMosaic Idealize.ShloMosaic.ValueIdx
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The values -/

/-- The accumulator's rows below `r`, and the first `n` columns of row `r`, are zero. -/
def Cleared (A : S168x512.Idx → F .f32) (r n : ℕ) : Prop :=
  ∀ y : S168x512.Idx, ((y 0).val < r ∨ (y 0).val = r ∧ (y 1).val < n) → A y = Scalar.ofBits .f32 0x00000000#32

theorem Cleared.row {A : S168x512.Idx → F .f32} {r : ℕ} (h : Cleared A r 512) : Cleared A (r + 1) 0 := fun y hy =>
  h y (by have : (y 1).val < 512 := (y 1).isLt; omega)

/-- `A` with sixteen columns of row `r` set to zero. -/
def clearCols (A : S168x512.Idx → F .f32) (r n : ℕ) : S168x512.Idx → F .f32 := fun y =>
  if (y 0).val = r ∧ n ≤ (y 1).val ∧ (y 1).val < n + 16 then Scalar.ofBits .f32 0x00000000#32 else A y

theorem Cleared.step {A : S168x512.Idx → F .f32} {r n : ℕ} (h : Cleared A r n) : Cleared (clearCols A r n) r (n + 16) := fun y hy => by
  unfold clearCols
  by_cases hc : (y 0).val = r ∧ n ≤ (y 1).val ∧ (y 1).val < n + 16
  · exact if_pos hc
  · rw [if_neg hc]
    exact h y (by omega)

/-- Row `r`, column `c` of the result: the sum, from zero and in the edges' order, of the rows of the table `X` that the edges into
    `r` read: edge `e` reads row `Row e`. -/
@[irreducible] def total (X : ℕ → ℕ → F .f32) (Row : ℕ → ℕ) (Dp : S160256.Idx → BitVec 32) : S10240x512.Idx → F .f32 := fun y =>
  fold FloatOps.addf (fun e => e < 160000 ∧ (nth Dp e).toNat = (y 0).val) (fun e => X (Row e) (y 1).val) 160256 (Scalar.ofBits .f32 0x00000000#32)

section Loops
variable {Ix : Type} [DecidableEq Ix] [Inhabited Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable {defs : Defs nD τ sig (Elt F) Λ₀} (𝒱 : Variants) (bd : Option 𝒱.V) (d : Dev nD)
variable (i : grid0.Coords) (arg2 : Memref sig .scVector .hbm S10000x2x128 .f32) (harg2 : arg2.IsWhole) (arg3 : Memref sig .scVector .hbm S10000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240x512 .f32) (harg6 : arg6.IsWhole) (arg7 : Memref sig .scVector .vmem S5008 .i32)
variable (harg7 : arg7.IsWhole) (arg8 : Memref sig .scVector .vmem S5008 .i32) (harg8 : arg8.IsWhole) (arg9 : Memref sig .scVector .vmem S5040 .i32)
variable (harg9 : arg9.IsWhole) (arg10 : Memref sig .scVector .vmem S5040 .i32) (harg10 : arg10.IsWhole) (arg11 : Memref sig .scVector .vmem S16x2x128 .f32)
variable (harg11 : arg11.IsWhole) (arg12 : Memref sig .scVector .vmem S16x2x128 .f32) (harg12 : arg12.IsWhole) (arg13 : Memref sig .scVector .vmem S168x512 .f32)
variable (harg13 : arg13.IsWhole) (arg14 : DmaSems sig S_) (v49_r0 : DmaSems sig S_) (v49_r1 : DmaSems sig S_)
variable (v13_r2 : DmaSems sig S_)

local notation "𝕄" => MT nD τ sig Ix (Elt F) Name U Lvl

/-! ## Clearing -/

theorem t3_trip (t2 : Fin k0_t2_loop.trips) (t3 : Fin k0_t3_loop.trips) (z : BitVec 32) :
    iprop(∃ A, ⌜Cleared A t2.val (16 * t3.val)⌝ ∗ owns (tl d i) arg13 fullShare A : sProp 𝕄)
      ⊢ wp frame (wpE defs 𝒱 (tl d i) bd) Set.univ (k0_t3_body i arg2 harg2 arg3 harg3 arg4 harg4 arg5 harg5 arg6 harg6 arg7 harg7 arg8 harg8 arg9 harg9 arg10 harg10 arg11 harg11 arg12 harg12 arg13 harg13 arg14 v49_r0 v49_r1 v13_r2 t2 t3 z) fun _ =>
        iprop(∃ A, ⌜Cleared A t2.val (16 * (t3.val + 1))⌝ ∗ owns (tl d i) arg13 fullShare A) := by
  have h2 : t2.val < 160 := t2.isLt
  have h3 : t3.val < 32 := t3.isLt
  have e0 : ∀ y : S1x16.Idx, ((Rect.unit (s := S168x512) (k0_off1 t2 t3) S1x16.size (k0_off1_inb t2 t3)).emb y 0).val = t2.val := fun y => by
    have hy : (y 0).val < 1 := (y 0).isLt
    refine (congrArg (fun t => t + 1 * (y 0).val) (congrFun (k0_off1_eq t2 t3) 0)).trans ?_
    show t2.val + 1 * (y 0).val = t2.val
    omega
  have e1 : ∀ y : S1x16.Idx, ((Rect.unit (s := S168x512) (k0_off1 t2 t3) S1x16.size (k0_off1_inb t2 t3)).emb y 1).val = 16 * t3.val + (y 1).val := fun y => by
    refine (congrArg (fun t => t + 1 * (y 1).val) (congrFun (k0_off1_eq t2 t3) 1)).trans ?_
    show 16 * t3.val + 1 * (y 1).val = _
    omega
  unfold k0_t3_body
  iintro ⟨%A, %hA, HA⟩
  iapply (owns_load (defs := defs) 𝒱 (tl d i) bd) $$ HA
  iintro HA
  have hin : ∀ y, clearCols A t2.val (16 * t3.val) ((Rect.unit (s := S168x512) (k0_off1 t2 t3) S1x16.size (k0_off1_inb t2 t3)).emb y)
      = shapeCast S1x16 (k0_pay1 (F := F)) shapeCasts_S16_S1x16 y := fun y => by
    have hy : (y 1).val < 16 := (y 1).isLt
    refine if_pos ⟨e0 y, ?_, ?_⟩
    · rw [e1 y]; omega
    · rw [e1 y]; omega
  have hout : ∀ j, j ∉ (Rect.unit (s := S168x512) (k0_off1 t2 t3) S1x16.size (k0_off1_inb t2 t3)).set → clearCols A t2.val (16 * t3.val) j = A j := fun j hj => by
    refine if_neg fun h => hj (Rect.mem_set_unit.2 fun a => ?_)
    rw [k0_off1_eq]
    match a with
    | ⟨0, _⟩ => exact ⟨h.1.ge, show (j 0).val < t2.val + 1 by omega⟩
    | ⟨1, _⟩ => exact ⟨h.2.1, h.2.2⟩
  iapply (owns_store (defs := defs) 𝒱 (tl d i) bd (clearCols A t2.val (16 * t3.val)) hin hout) $$ HA
  iintro HA
  rw [wp_pure]
  imodintro
  iexists _
  isplitr
  swap; · iexact HA
  ipureintro
  exact hA.step

theorem t2_trip (t2 : Fin k0_t2_loop.trips) (z : BitVec 32) :
    iprop(∃ A, ⌜Cleared A t2.val 0⌝ ∗ owns (tl d i) arg13 fullShare A : sProp 𝕄)
      ⊢ wp frame (wpE defs 𝒱 (tl d i) bd) Set.univ (k0_t2_body i arg2 harg2 arg3 harg3 arg4 harg4 arg5 harg5 arg6 harg6 arg7 harg7 arg8 harg8 arg9 harg9 arg10 harg10 arg11 harg11 arg12 harg12 arg13 harg13 arg14 v49_r0 v49_r1 v13_r2 t2 z) fun _ =>
        iprop(∃ A, ⌜Cleared A (t2.val + 1) 0⌝ ∗ owns (tl d i) arg13 fullShare A) := by
  unfold k0_t2_body
  iintro H
  iapply (Scf.wp_for_bind frame (wpE defs 𝒱 (tl d i) bd) Set.univ k0_t3_loop.lb k0_t3_loop.ub k0_t3_loop.st k0_t3_ok 0#32 _
    (fun k _ => iprop(∃ A, ⌜Cleared A t2.val (16 * k)⌝ ∗ owns (tl d i) arg13 fullShare A))
    (fun k acc => t3_trip 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 t2 k acc)) $$ H
  iintro %acc ⟨%A, %hA, HA⟩
  rw [wp_pure]
  imodintro
  iexists A
  isplitr
  swap; · iexact HA
  ipureintro
  exact Cleared.row (r := t2.val) hA

/-! ## One pass -/

/-- The first row of the tile's rows in pass `t1`. -/
abbrev baseOf (i : grid0.Coords) (t1 : ℕ) : ℕ := 5120 * t1 + 2560 * (i 0).val + 160 * (i 1).val

/-- The two passes. -/
abbrev pass0 : Fin k0_t1_loop.trips := ⟨0, by decide⟩
abbrev pass1 : Fin k0_t1_loop.trips := ⟨1, by decide⟩

/-- The tile's rows of the result in pass `t1`. -/
abbrev rowsOf (i : grid0.Coords) (t1 : Fin k0_t1_loop.trips) : Rect S10240x512 := Rect.unit (s := S10240x512) (k0_off15 i t1) S160x512.size (k0_off15_inb i t1)

theorem total_rows (X : ℕ → ℕ → F .f32) (Row : ℕ → ℕ) (Dp : S160256.Idx → BitVec 32) (t1 : Fin k0_t1_loop.trips) (A : S168x512.Idx → F .f32)
    (h : Summed X Row Dp (baseOf i t1.val) A 160256) :
    (fun x => A ((Rect.unit (s := S168x512) ![0, 0] S160x512.size inb_S168x512_S160x512_0_0).emb x)) = fun x => total X Row Dp ((rowsOf i t1).emb x) := by
  funext x
  have hx : (x 0).val < 160 := (x 0).isLt
  have a0 : ((Rect.unit (s := S168x512) ![0, 0] S160x512.size inb_S168x512_S160x512_0_0).emb x 0).val = (x 0).val := by
    show 0 + 1 * (x 0).val = _; omega
  have a1 : ((Rect.unit (s := S168x512) ![0, 0] S160x512.size inb_S168x512_S160x512_0_0).emb x 1).val = (x 1).val := by
    show 0 + 1 * (x 1).val = _; omega
  have b0 : ((rowsOf i t1).emb x 0).val = baseOf i t1.val + (x 0).val := by
    refine (congrArg (fun t => t + 1 * (x 0).val) (congrFun (k0_off15_eq i t1) 0)).trans ?_
    show baseOf i t1.val + 1 * (x 0).val = _; omega
  have b1 : ((rowsOf i t1).emb x 1).val = (x 1).val := by
    refine (congrArg (fun t => t + 1 * (x 1).val) (congrFun (k0_off15_eq i t1) 1)).trans ?_
    show 0 + 1 * (x 1).val = _; omega
  rw [h _ (by rw [a0]; exact hx), a0, a1]
  unfold total
  rw [b0, b1]

include EC

/-- What a tile works on beside the result: what its filter and its groups read (`Rs`), the edge arrays, the scratch
    buffers, the semaphores. -/
def kit (Rs : sProp 𝕄) (Sp Dp : S160256.Idx → BitVec 32) (q4 q5 : PosShare TreeShare) (O : CellTallies nD τ sig Ix) (W : Waits sig Ix) : sProp 𝕄 :=
  iprop(Transfers.MayWaits (tl d i) (default : Ix) O
    ∗ Rs ∗ owns (tl d i) arg4 q4 Sp ∗ owns (tl d i) arg5 q5 Dp
    ∗ (∃ X7, owns (tl d i) arg7 fullShare X7) ∗ (∃ X8, owns (tl d i) arg8 fullShare X8)
    ∗ (∃ X9, owns (tl d i) arg9 fullShare X9) ∗ (∃ X10, owns (tl d i) arg10 fullShare X10)
    ∗ (∃ S0, owns (tl d i) arg11 fullShare S0) ∗ (∃ S1, owns (tl d i) arg12 fullShare S1)
    ∗ (∃ A, owns (tl d i) arg13 fullShare A)
    ∗ semVal (tl d i, SemLoc.dma arg14.sem) 0 ∗ semVal (tl d i, SemLoc.dma v49_r0.sem) 0 ∗ semVal (tl d i, SemLoc.dma v49_r1.sem) 0
    ∗ semVal (tl d i, SemLoc.dma v13_r2.sem) 0 ∗ owing (tl d i) O W)

set_option maxHeartbeats 2000000 in
theorem t1_trip (Rs : sProp 𝕄) (N : ℕ) (hN : 0 < N) (X : ℕ → ℕ → F .f32) (Row : ℕ → ℕ) (Sp Dp : S160256.Idx → BitVec 32)
    (body5 : BitVec 32 → Fin k0_t4_loop.trips → Fin k0_t5_loop.trips → BitVec 32 → TP F i (BitVec 32))
    (body6 : ∀ v16 : BitVec 32, k0_chk2 v16 → Fin (k0_t6_loop v16).trips → BitVec 32 → TP F i (BitVec 32))
    (body10 : ∀ v16 : BitVec 32, k0_chk2 v16 → Fin (k0_t10_loop v16).trips → BitVec 32 → TP F i (BitVec 32)) (q4 q5 : PosShare TreeShare) (O : CellTallies nD τ sig Ix) (W : Waits sig Ix)
    (h7 : 0 < arg7.view.dmaCredit) (h8 : 0 < arg8.view.dmaCredit)
    (h5 : ∀ base, base + 160 ≤ 10240 → FilterStep (defs := defs) 𝒱 bd d i arg7 arg8 arg9 arg10 Rs N Row Sp Dp base (body5 (BitVec.ofNat 32 base)))
    (hg : GroupStep (defs := defs) 𝒱 bd d i arg9 arg10 arg11 arg12 arg13 arg14 Rs N X O W body6) (v1 : BitVec 32) (hv1 : v1.toNat = 16 * (i 0).val + (i 1).val)
    (t1 : Fin k0_t1_loop.trips) (h6 : 0 < (arg6.slice (rowsOf i t1) (fun _ => rfl)).view.dmaCredit) (z : BitVec 32) :
    iprop(kit d i arg4 arg5 arg7 arg8 arg9 arg10 arg11 arg12 arg13 arg14 v49_r0 v49_r1 v13_r2 Rs Sp Dp q4 q5 O W ∗ (∃ Y, owns (tl d i) (arg6.slice (rowsOf i t1) (fun _ => rfl)) fullShare Y) : sProp 𝕄)
      ⊢ wp frame (wpE defs 𝒱 (tl d i) bd) Set.univ (passP i arg2 harg2 arg3 harg3 arg4 harg4 arg5 harg5 arg6 harg6 arg7 harg7 arg8 harg8 arg9 harg9 arg10 harg10 arg11 harg11 arg12 harg12 arg13 harg13 arg14 v49_r0 v49_r1 v13_r2 body5 body6 body10 v1 t1 z) fun _ =>
        iprop(kit d i arg4 arg5 arg7 arg8 arg9 arg10 arg11 arg12 arg13 arg14 v49_r0 v49_r1 v13_r2 Rs Sp Dp q4 q5 O W
          ∗ owns (tl d i) (arg6.slice (rowsOf i t1) (fun _ => rfl)) fullShare (fun x => total X Row Dp ((rowsOf i t1).emb x))) := by
  have h1 : t1.val < 2 := t1.isLt
  have hi0 : (i 0).val < 2 := (i 0).isLt
  have hi1 : (i 1).val < 16 := (i 1).isLt
  have hv7 : Scalar.addi (Scalar.muli (Scf.iv 0#32 1#32 t1.val) 5120#32) (Scalar.muli v1 160#32) = BitVec.ofNat 32 (baseOf i t1.val) := by
    apply BitVec.eq_of_toNat_eq
    unfold Scalar.addi Scalar.muli IntOp.addi IntOp.muli
    rw [BitVec.toNat_add, BitVec.toNat_mul, BitVec.toNat_mul, iv_toNat (by omega), hv1, BitVec.toNat_ofNat, BitVec.toNat_ofNat, BitVec.toNat_ofNat]
    unfold baseOf
    omega
  unfold passP kit
  iintro ⟨⟨#Hmw, HR, H4, H5, H7, H8, H9, H10, HS0, HS1, ⟨%A0, HA⟩, Hv, Hv0, Hv1, Hv2, HO⟩, ⟨%Y, HY⟩⟩
  iapply (Scf.wp_for_bind frame (wpE defs 𝒱 (tl d i) bd) Set.univ k0_t2_loop.lb k0_t2_loop.ub k0_t2_loop.st k0_t2_ok 0#32 _
    (fun k _ => iprop(∃ A, ⌜Cleared A k 0⌝ ∗ owns (tl d i) arg13 fullShare A))
    (fun k acc => t2_trip 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 k acc)) $$ [HA]
  · iexists A0
    isplitr
    · ipureintro; exact fun y hy => absurd hy (by omega)
    iexact HA
  iintro %z1 ⟨%A1, %hA1, HA⟩
  iapply (Scf.wp_for_bind frame (wpE defs 𝒱 (tl d i) bd) Set.univ k0_t4_loop.lb k0_t4_loop.ub k0_t4_loop.st k0_t4_ok 0#32 _
    (fun k _ => iprop(Transfers.MayWaits (tl d i) (default : Ix) O
        ∗ Rs ∗ owns (tl d i) arg4 q4 Sp ∗ owns (tl d i) arg5 q5 Dp
        ∗ (∃ X7, owns (tl d i) arg7 fullShare X7) ∗ (∃ X8, owns (tl d i) arg8 fullShare X8)
        ∗ (∃ X9, owns (tl d i) arg9 fullShare X9) ∗ (∃ X10, owns (tl d i) arg10 fullShare X10)
        ∗ (∃ S0, owns (tl d i) arg11 fullShare S0) ∗ (∃ S1, owns (tl d i) arg12 fullShare S1)
        ∗ (∃ A, ⌜Summed X Row Dp (baseOf i t1.val) A (5008 * k)⌝ ∗ owns (tl d i) arg13 fullShare A)
        ∗ semVal (tl d i, SemLoc.dma arg14.sem) 0 ∗ semVal (tl d i, SemLoc.dma v49_r0.sem) 0 ∗ semVal (tl d i, SemLoc.dma v49_r1.sem) 0
        ∗ owing (tl d i) O W))
    (fun k acc => t4_trip EC 𝒱 bd d i arg4 arg5 arg7 harg7 arg8 harg8 arg9 arg10 arg11 arg12 arg13 arg14 v49_r0 v49_r1 Rs N hN X Row Sp Dp (baseOf i t1.val) body5 body6 body10 q4 q5 O W h7 h8 _
      (hv7 ▸ h5 _ (by unfold baseOf; omega)) hg k acc))
    $$ [HR H4 H5 H7 H8 H9 H10 HS0 HS1 HA Hv Hv0 Hv1 HO]
  · isplitr; · iexact Hmw
    isplitl [HR]; · iexact HR
    isplitl [H4]; · iexact H4
    isplitl [H5]; · iexact H5
    isplitl [H7]; · iexact H7
    isplitl [H8]; · iexact H8
    isplitl [H9]; · iexact H9
    isplitl [H10]; · iexact H10
    isplitl [HS0]; · iexact HS0
    isplitl [HS1]; · iexact HS1
    isplitl [HA]
    · iexists A1
      isplitr; · ipureintro; exact fun y hy => hA1 y (.inl hy)
      iexact HA
    isplitl [Hv]; · iexact Hv
    isplitl [Hv0]; · iexact Hv0
    isplitl [Hv1] <;> iassumption
  iintro %z2 ⟨-, HR, H4, H5, H7, H8, H9, H10, HS0, HS1, ⟨%A, %hA, HA⟩, Hv, Hv0, Hv1, HO⟩
  iapply (owns_fetch (defs := defs) EC 𝒱 (tl d i) bd (m := arg13) (r := Rect.unit (s := S168x512) ![0, 0] S160x512.size inb_S168x512_S160x512_0_0)
    (dst := arg6.slice (rowsOf i t1) (fun _ => rfl)) h6) $$ [HA HY Hv2 HO]
  · isplitr; · iexact Hmw
    isplitl [HA]; · iexact HA
    isplitl [HY]; · iexact HY
    isplitl [Hv2] <;> iassumption
  iintro ⟨HA, HY, Hv2, HO⟩
  have hA' : Summed X Row Dp (baseOf i t1.val) A 160256 :=
    Eq.mp (congrArg (Summed X Row Dp (baseOf i t1.val) A) (show 5008 * k0_t4_loop.trips = 160256 from by decide)) hA
  rw [total_rows i X Row Dp t1 A hA']
  rw [wp_pure]
  imodintro
  isplitr [HY]
  swap; · iexact HY
  isplitr; · iexact Hmw
  isplitl [HR]; · iexact HR
  isplitl [H4]; · iexact H4
  isplitl [H5]; · iexact H5
  isplitl [H7]; · iexact H7
  isplitl [H8]; · iexact H8
  isplitl [H9]; · iexact H9
  isplitl [H10]; · iexact H10
  isplitl [HS0]; · iexact HS0
  isplitl [HS1]; · iexact HS1
  isplitl [HA]; · iexists A; iexact HA
  isplitl [Hv]; · iexact Hv
  isplitl [Hv0]; · iexact Hv0
  isplitl [Hv1]; · iexact Hv1
  isplitl [Hv2] <;> iassumption

/-! ## The whole program of a tile -/

theorem body_run (Rs : sProp 𝕄) (N : ℕ) (hN : 0 < N) (X : ℕ → ℕ → F .f32) (Row : ℕ → ℕ) (Sp Dp : S160256.Idx → BitVec 32)
    (body5 : BitVec 32 → Fin k0_t4_loop.trips → Fin k0_t5_loop.trips → BitVec 32 → TP F i (BitVec 32))
    (body6 : ∀ v16 : BitVec 32, k0_chk2 v16 → Fin (k0_t6_loop v16).trips → BitVec 32 → TP F i (BitVec 32))
    (body10 : ∀ v16 : BitVec 32, k0_chk2 v16 → Fin (k0_t10_loop v16).trips → BitVec 32 → TP F i (BitVec 32)) (q4 q5 : PosShare TreeShare) (O : CellTallies nD τ sig Ix) (W : Waits sig Ix)
    (h7 : 0 < arg7.view.dmaCredit) (h8 : 0 < arg8.view.dmaCredit)
    (h5 : ∀ base, base + 160 ≤ 10240 → FilterStep (defs := defs) 𝒱 bd d i arg7 arg8 arg9 arg10 Rs N Row Sp Dp base (body5 (BitVec.ofNat 32 base)))
    (hg : GroupStep (defs := defs) 𝒱 bd d i arg9 arg10 arg11 arg12 arg13 arg14 Rs N X O W body6)
    (h6 : ∀ t1, 0 < (arg6.slice (rowsOf i t1) (fun _ => rfl)).view.dmaCredit) :
    iprop(kit d i arg4 arg5 arg7 arg8 arg9 arg10 arg11 arg12 arg13 arg14 v49_r0 v49_r1 v13_r2 Rs Sp Dp q4 q5 O W
        ∗ (∃ Y, owns (tl d i) (arg6.slice (rowsOf i pass0) (fun _ => rfl)) fullShare Y) ∗ (∃ Y, owns (tl d i) (arg6.slice (rowsOf i pass1) (fun _ => rfl)) fullShare Y) : sProp 𝕄)
      ⊢ wp frame (wpE defs 𝒱 (tl d i) bd) Set.univ (tileP i arg2 harg2 arg3 harg3 arg4 harg4 arg5 harg5 arg6 harg6 arg7 harg7 arg8 harg8 arg9 harg9 arg10 harg10 arg11 harg11 arg12 harg12 arg13 harg13 arg14 v49_r0 v49_r1 v13_r2 body5 body6 body10) fun _ =>
        iprop(kit d i arg4 arg5 arg7 arg8 arg9 arg10 arg11 arg12 arg13 arg14 v49_r0 v49_r1 v13_r2 Rs Sp Dp q4 q5 O W
          ∗ owns (tl d i) (arg6.slice (rowsOf i pass0) (fun _ => rfl)) fullShare (fun x => total X Row Dp ((rowsOf i pass0).emb x))
          ∗ owns (tl d i) (arg6.slice (rowsOf i pass1) (fun _ => rfl)) fullShare (fun x => total X Row Dp ((rowsOf i pass1).emb x))) := by
  have hi0 : (i 0).val < 2 := (i 0).isLt
  have hi1 : (i 1).val < 16 := (i 1).isLt
  have hv1 : (Scalar.addi (Scalar.muli (BitVec.ofNat 32 (i 0).val) 16#32) (BitVec.ofNat 32 (i 1).val)).toNat = 16 * (i 0).val + (i 1).val := by
    unfold Scalar.addi Scalar.muli IntOp.addi IntOp.muli
    rw [BitVec.toNat_add, BitVec.toNat_mul, BitVec.toNat_ofNat, BitVec.toNat_ofNat, BitVec.toNat_ofNat]
    omega
  unfold tileP
  iintro H
  iapply (Scf.wp_for_bind frame (wpE defs 𝒱 (tl d i) bd) Set.univ k0_t1_loop.lb k0_t1_loop.ub k0_t1_loop.st k0_t1_ok 0#32 _
    (fun k _ => iprop(kit d i arg4 arg5 arg7 arg8 arg9 arg10 arg11 arg12 arg13 arg14 v49_r0 v49_r1 v13_r2 Rs Sp Dp q4 q5 O W
        ∗ (∃ Y, ⌜0 < k → Y = fun x => total X Row Dp ((rowsOf i pass0).emb x)⌝ ∗ owns (tl d i) (arg6.slice (rowsOf i pass0) (fun _ => rfl)) fullShare Y)
        ∗ (∃ Y, ⌜1 < k → Y = fun x => total X Row Dp ((rowsOf i pass1).emb x)⌝ ∗ owns (tl d i) (arg6.slice (rowsOf i pass1) (fun _ => rfl)) fullShare Y)))
    (fun k acc => by
      match k with
      | ⟨0, hk⟩ =>
        iintro ⟨HK, ⟨%Y0, %hY0, HY0⟩, HY1⟩
        iapply (wp_mono frame (wpE defs 𝒱 (tl d i) bd) Set.univ (Q := fun _ => iprop((kit d i arg4 arg5 arg7 arg8 arg9 arg10 arg11 arg12 arg13 arg14 v49_r0 v49_r1 v13_r2 Rs Sp Dp q4 q5 O W
          ∗ owns (tl d i) (arg6.slice (rowsOf i pass0) (fun _ => rfl)) fullShare (fun x => total X Row Dp ((rowsOf i pass0).emb x)))
          ∗ (∃ Y, ⌜1 < 0 → Y = fun x => total X Row Dp ((rowsOf i pass1).emb x)⌝ ∗ owns (tl d i) (arg6.slice (rowsOf i pass1) (fun _ => rfl)) fullShare Y))) (fun _ => by
            iintro ⟨⟨HK, H0⟩, ⟨%Y1, -, H1⟩⟩
            isplitl [HK]; · iexact HK
            isplitl [H0]
            · iexists _; isplitr
              swap; · iexact H0
              ipureintro; exact fun _ => rfl
            · iexists _; isplitr
              swap; · iexact H1
              ipureintro; exact fun h => absurd (show 1 < 0 + 1 from h) (by omega)))
        iapply (wp_frame_r frame (wpE defs 𝒱 (tl d i) bd) Set.univ)
        isplitr [HY1]
        swap; · iexact HY1
        iapply (t1_trip (defs := defs) EC 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 Rs N hN X Row Sp Dp body5 body6 body10 q4 q5 O W h7 h8 h5 hg _ hv1 pass0 (h6 pass0) acc)
        isplitl [HK]; · iexact HK
        iexists Y0; iexact HY0
      | ⟨1, hk⟩ =>
        iintro ⟨HK, HY0, ⟨%Y1, %hY1, HY1⟩⟩
        iapply (wp_mono frame (wpE defs 𝒱 (tl d i) bd) Set.univ (Q := fun _ => iprop((kit d i arg4 arg5 arg7 arg8 arg9 arg10 arg11 arg12 arg13 arg14 v49_r0 v49_r1 v13_r2 Rs Sp Dp q4 q5 O W
          ∗ owns (tl d i) (arg6.slice (rowsOf i pass1) (fun _ => rfl)) fullShare (fun x => total X Row Dp ((rowsOf i pass1).emb x)))
          ∗ (∃ Y, ⌜0 < 1 → Y = fun x => total X Row Dp ((rowsOf i pass0).emb x)⌝ ∗ owns (tl d i) (arg6.slice (rowsOf i pass0) (fun _ => rfl)) fullShare Y))) (fun _ => by
            iintro ⟨⟨HK, H1⟩, ⟨%Y0, %h0, H0⟩⟩
            isplitl [HK]; · iexact HK
            isplitl [H0]
            · iexists _; isplitr
              swap; · iexact H0
              ipureintro; exact fun _ => h0 (by decide)
            · iexists _; isplitr
              swap; · iexact H1
              ipureintro; exact fun _ => rfl))
        iapply (wp_frame_r frame (wpE defs 𝒱 (tl d i) bd) Set.univ)
        isplitr [HY0]
        swap; · iexact HY0
        iapply (t1_trip (defs := defs) EC 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 Rs N hN X Row Sp Dp body5 body6 body10 q4 q5 O W h7 h8 h5 hg _ hv1 pass1 (h6 pass1) acc)
        isplitl [HK]; · iexact HK
        iexists Y1; iexact HY1)) $$ [H]
  · icases H with ⟨HK, ⟨%Y0, H0⟩, ⟨%Y1, H1⟩⟩
    isplitl [HK]; · iexact HK
    isplitl [H0]
    · iexists Y0; isplitr
      · ipureintro; exact fun h => absurd h (by decide)
      iexact H0
    · iexists Y1; isplitr
      · ipureintro; exact fun h => absurd h (by decide)
      iexact H1
  iintro %acc ⟨HK, ⟨%Y0, %h0, H0⟩, ⟨%Y1, %h1, H1⟩⟩
  obtain rfl := h0 (by decide)
  obtain rfl := h1 (by decide)
  rw [wp_pure]
  imodintro
  isplitl [HK]; · iexact HK
  isplitl [H0] <;> iassumption

end Loops

end Cert.Proof
-- ==== Proof.Steps.lean ====
/-
  The two programs the subcores run. Both filter, gather and add in the same way; the second looks up each edge's table in
  the choice of the edge's destination first.
-/
module

public import proofs.«01_k».proof.Proof.Tile

@[expose] public section

noncomputable section

namespace Cert.Proof

open Idealize.ShloMosaic Idealize.ShloMosaic.ValueIdx
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

section First
variable {Ix : Type} [DecidableEq Ix] [Inhabited Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable {defs : Defs nD τ sig (Elt F) Λ₀} (𝒱 : Variants) (bd : Option 𝒱.V) (d : Dev nD)
variable (i : grid0.Coords) (arg2 : Memref sig .scVector .hbm S10000x2x128 .f32) (harg2 : arg2.IsWhole) (arg3 : Memref sig .scVector .hbm S10000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240x512 .f32) (harg6 : arg6.IsWhole) (arg7 : Memref sig .scVector .vmem S5008 .i32)
variable (harg7 : arg7.IsWhole) (arg8 : Memref sig .scVector .vmem S5008 .i32) (harg8 : arg8.IsWhole) (arg9 : Memref sig .scVector .vmem S5040 .i32)
variable (harg9 : arg9.IsWhole) (arg10 : Memref sig .scVector .vmem S5040 .i32) (harg10 : arg10.IsWhole) (arg11 : Memref sig .scVector .vmem S16x2x128 .f32)
variable (harg11 : arg11.IsWhole) (arg12 : Memref sig .scVector .vmem S16x2x128 .f32) (harg12 : arg12.IsWhole) (arg13 : Memref sig .scVector .vmem S168x512 .f32)
variable (harg13 : arg13.IsWhole) (arg14 : DmaSems sig S_) (v49_r0 : DmaSems sig S_) (v49_r1 : DmaSems sig S_)
variable (v13_r2 : DmaSems sig S_)
local notation "𝕄" => MT nD τ sig Ix (Elt F) Name U Lvl

theorem filter0 (Rs : sProp 𝕄) (Sp Dp : S160256.Idx → BitVec 32) (hSp : ∀ k < 160256, (nth Sp k).toNat < 10000) (hDp : ∀ k < 160256, (nth Dp k).toNat < 10000)
    (base : ℕ) (hbase : base + 160 ≤ 10240) :
    FilterStep (defs := defs) 𝒱 bd d i arg7 arg8 arg9 arg10 Rs 10000 (fun e => (nth Sp e).toNat) Sp Dp base
      (k0_t5_body i arg2 harg2 arg3 harg3 arg4 harg4 arg5 harg5 arg6 harg6 arg7 harg7 arg8 harg8 arg9 harg9 arg10 harg10 arg11 harg11 arg12 harg12 arg13 harg13 arg14 v49_r0 v49_r1 v13_r2 lanes (BitVec.ofNat 32 base) 0#32 1#32) := by
  intro t4 t5 z
  have h4 : t4.val < 32 := t4.isLt
  have h := t5_trip (defs := defs) (Name := Name) (U := U) (Lvl := Lvl) (Ix := Ix) 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 (blockOf Sp t4) (blockOf Dp t4) (fun k => (nth Sp (5008 * t4.val + k)).toNat)
    (fun k hk => congrArg BitVec.toNat (nth_block Sp t4 k hk)) (fun k hk => hSp _ (by omega)) (fun k hk => by rw [nth_block Dp t4 k hk]; exact hDp _ (by omega)) base hbase t4 t5 z
  exact (BI.sep_mono_r h).trans (wp_frame_l frame (wpE defs 𝒱 (tl d i) bd) Set.univ)

include EC
theorem group0 (T0 T1 : S10000x2x128.Idx → F .f32) (q2 q3 : PosShare TreeShare) (O : CellTallies nD τ sig Ix) (W : Waits sig Ix)
    (hc11 : RowCredits arg11) (hc12 : RowCredits arg12) :
    GroupStep (defs := defs) 𝒱 bd d i arg9 arg10 arg11 arg12 arg13 arg14 (iprop(owns (tl d i) arg2 q2 T0 ∗ owns (tl d i) arg3 q3 T1) : sProp 𝕄) 10000 (tab T0 T1) O W (k0_t6_body i arg2 harg2 arg3 harg3 arg4 harg4 arg5 harg5 arg6 harg6 arg7 harg7 arg8 harg8 arg9 harg9 arg10 harg10 arg11 harg11 arg12 harg12 arg13 harg13 arg14 v49_r0 v49_r1 v13_r2) := by
  intro V L9 L10 v16 hv n hn hL9 hL10 t6 h6 z
  have h := t6_trip (defs := defs) EC 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 hc11 hc12 V T0 T1 L9 L10 q2 q3 O W v16 hv n hn hL9 hL10 t6 h6 z
  refine (BI.sep_mono_r BI.sep_assoc).trans (h.trans (wp_mono frame (wpE defs 𝒱 (tl d i) bd) Set.univ fun _ => BI.sep_mono_r BI.sep_assoc'))

/-- The first call's program, from a tile's kit and rows to its rows summed. -/
theorem cc0_run (T0 T1 : S10000x2x128.Idx → F .f32) (Sp Dp : S160256.Idx → BitVec 32) (hSp : ∀ k < 160256, (nth Sp k).toNat < 10000)
    (hDp : ∀ k < 160256, (nth Dp k).toNat < 10000) (q2 q3 q4 q5 : PosShare TreeShare) (O : CellTallies nD τ sig Ix) (W : Waits sig Ix)
    (hc11 : RowCredits arg11) (hc12 : RowCredits arg12) (h7 : 0 < arg7.view.dmaCredit) (h8 : 0 < arg8.view.dmaCredit)
    (h6 : ∀ t1, 0 < (arg6.slice (rowsOf i t1) (fun _ => rfl)).view.dmaCredit) :
    iprop(kit d i arg4 arg5 arg7 arg8 arg9 arg10 arg11 arg12 arg13 arg14 v49_r0 v49_r1 v13_r2 iprop(owns (tl d i) arg2 q2 T0 ∗ owns (tl d i) arg3 q3 T1) Sp Dp q4 q5 O W
        ∗ (∃ Y, owns (tl d i) (arg6.slice (rowsOf i pass0) (fun _ => rfl)) fullShare Y) ∗ (∃ Y, owns (tl d i) (arg6.slice (rowsOf i pass1) (fun _ => rfl)) fullShare Y) : sProp 𝕄)
      ⊢ wp frame (wpE defs 𝒱 (tl d i) bd) Set.univ (cc0_body i arg2 harg2 arg3 harg3 arg4 harg4 arg5 harg5 arg6 harg6 arg7 harg7 arg8 harg8 arg9 harg9 arg10 harg10 arg11 harg11 arg12 harg12 arg13 harg13 arg14 v49_r0 v49_r1 v13_r2) fun _ =>
        iprop(kit d i arg4 arg5 arg7 arg8 arg9 arg10 arg11 arg12 arg13 arg14 v49_r0 v49_r1 v13_r2 iprop(owns (tl d i) arg2 q2 T0 ∗ owns (tl d i) arg3 q3 T1) Sp Dp q4 q5 O W
          ∗ owns (tl d i) (arg6.slice (rowsOf i pass0) (fun _ => rfl)) fullShare (fun x => total (tab T0 T1) (fun e => (nth Sp e).toNat) Dp ((rowsOf i pass0).emb x))
          ∗ owns (tl d i) (arg6.slice (rowsOf i pass1) (fun _ => rfl)) fullShare (fun x => total (tab T0 T1) (fun e => (nth Sp e).toNat) Dp ((rowsOf i pass1).emb x))) := by
  rw [cc0_body_shared]
  exact body_run (defs := defs) EC 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 _ 10000 (by decide) (tab T0 T1) (fun e => (nth Sp e).toNat) Sp Dp _ _ _ q4 q5 O W h7 h8
    (fun base hb => filter0 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 _ Sp Dp hSp hDp base hb) (group0 EC 𝒱 bd d i arg2 harg2 arg3 harg3 arg4 harg4 arg5 harg5 arg6 harg6 arg7 harg7 arg8 harg8 arg9 harg9 arg10 harg10 arg11 harg11 arg12 harg12 arg13 harg13 arg14 v49_r0 v49_r1 v13_r2 T0 T1 q2 q3 O W hc11 hc12) h6

end First

section Second
variable {Ix : Type} [DecidableEq Ix] [Inhabited Ix] {Name : Type} [DecidableEq Name] [Infinite Name] {U : Type} [URA U] {Lvl : Type} [Preorder Lvl]
variable (EC : UEmb Counters (MT nD τ sig Ix (Elt F) Name U Lvl)) [EC.LandsIn (upEmb : UEmb _ (MT nD τ sig Ix (Elt F) Name U Lvl))]
variable {defs : Defs nD τ sig (Elt F) Λ₀} (𝒱 : Variants) (bd : Option 𝒱.V) (d : Dev nD)
variable (i : grid2.Coords) (arg2 : Memref sig .scVector .hbm S80000x2x128 .f32) (harg2 : arg2.IsWhole) (arg3 : Memref sig .scVector .hbm S80000x2x128 .f32)
variable (harg3 : arg3.IsWhole) (arg4 : Memref sig .scVector .hbm S160256 .i32) (harg4 : arg4.IsWhole) (arg5 : Memref sig .scVector .hbm S160256 .i32)
variable (harg5 : arg5.IsWhole) (arg6 : Memref sig .scVector .hbm S10240 .i32) (harg6 : arg6.IsWhole) (arg7 : Memref sig .scVector .hbm S10240x512 .f32)
variable (harg7 : arg7.IsWhole) (arg8 : Memref sig .scVector .vmem S5008 .i32) (harg8 : arg8.IsWhole) (arg9 : Memref sig .scVector .vmem S5008 .i32)
variable (harg9 : arg9.IsWhole) (arg10 : Memref sig .scVector .vmem S10240 .i32) (harg10 : arg10.IsWhole) (arg11 : Memref sig .scVector .vmem S5040 .i32)
variable (harg11 : arg11.IsWhole) (arg12 : Memref sig .scVector .vmem S5040 .i32) (harg12 : arg12.IsWhole) (arg13 : Memref sig .scVector .vmem S16x2x128 .f32)
variable (harg13 : arg13.IsWhole) (arg14 : Memref sig .scVector .vmem S16x2x128 .f32) (harg14 : arg14.IsWhole) (arg15 : Memref sig .scVector .vmem S168x512 .f32)
variable (harg15 : arg15.IsWhole) (arg16 : DmaSems sig S_) (v5_r0 : DmaSems sig S_) (v49_r1 : DmaSems sig S_)
variable (v49_r2 : DmaSems sig S_) (v13_r3 : DmaSems sig S_)
variable (e2 : Memref sig .scVector .hbm S10000x2x128 .f32) (he2 : e2.IsWhole)
local notation "𝕄" => MT nD τ sig Ix (Elt F) Name U Lvl

/-- The sixteen choices looked up for a chunk, times 10000, plus the sources: the rows of the second call's table. -/
theorem sel_rows (Se : S10240.Idx → BitVec 32) (S D : S5008.Idx → BitVec 32) (t5 : Fin k0_t5_loop.trips)
    (h : ∀ (a : Fin 1) (x : S16.Idx), ((![chunkOf (F := F) D t5] : Fin 1 → IVec S16 32) a x).toNat < S10240.size a)
    (hSe : ∀ k < 10240, (nth Se k).toNat < 8) (hS : ∀ k < 5008, (nth S k).toNat < 10000) (hD : ∀ k < 5008, (nth D k).toNat < 10000) (l : ℕ) (hl : l < 16) :
    (nth (n := 16) (k2_pay9 (F := F) (chunkOf S t5) (loadIdx (F := F) (e := .i32) Se ![chunkOf (F := F) D t5] h)) l).toNat
      = (nth Se (nth D (16 * t5.val + l)).toNat).toNat * 10000 + (nth S (16 * t5.val + l)).toNat := by
  have h5 : t5.val < 313 := t5.isLt
  have e1 : nth (n := 16) (loadIdx (F := F) (e := .i32) Se ![chunkOf (F := F) D t5] h) l = nth Se (nth D (16 * t5.val + l)).toNat := by
    rw [← nth_chunk (F := F) D t5 l hl]
    refine congrArg Se (funext fun a => Fin.ext ?_)
    match a with
    | ⟨0, _⟩ => exact (Nat.mod_eq_of_lt (h 0 (ix1 (Fin.ofNat 16 l)))).symm
  have e2 := nth_chunk (F := F) S t5 l hl
  have e3 : nth (n := 16) (k2_pay9 (F := F) (chunkOf S t5) (loadIdx (F := F) (e := .i32) Se ![chunkOf (F := F) D t5] h)) l
      = nth (n := 16) (loadIdx (F := F) (e := .i32) Se ![chunkOf (F := F) D t5] h) l * 10000#32 + nth (n := 16) (chunkOf (F := F) S t5) l := rfl
  have b1 := hD (16 * t5.val + l) (by omega)
  have b2 := hSe (nth D (16 * t5.val + l)).toNat (by omega)
  have b3 := hS (16 * t5.val + l) (by omega)
  rw [e3, e1, e2, BitVec.toNat_add, BitVec.toNat_mul, BitVec.toNat_ofNat]
  omega

theorem t5_trip1 (Se : S10240.Idx → BitVec 32) (S D : S5008.Idx → BitVec 32) (R : ℕ → ℕ)
    (hSe : ∀ k < 10240, (nth Se k).toNat < 8) (hS : ∀ k < 5008, (nth S k).toNat < 10000) (hD : ∀ i < 5008, (nth D i).toNat < 10000)
    (hR : ∀ i < 5008, R i = (nth Se (nth D i).toNat).toNat * 10000 + (nth S i).toNat)
    (base : ℕ) (hbase : base + 160 ≤ 10240) (t4 : Fin k0_t4_loop.trips) (t5 : Fin k0_t5_loop.trips) (z : BitVec 32) :
    iprop(owns (tl d i) arg10 fullShare Se ∗ owns (tl d i) arg8 fullShare S ∗ owns (tl d i) arg9 fullShare D ∗ listed d i arg11 arg12 80000 t4.val base R D (16 * t5.val) z : sProp 𝕄)
      ⊢ wp frame (wpE defs 𝒱 (tl d i) bd) Set.univ (k2_t5_body i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3 lanes (BitVec.ofNat 32 base) 0#32 1#32 t4 t5 z) fun z =>
        iprop(owns (tl d i) arg10 fullShare Se ∗ owns (tl d i) arg8 fullShare S ∗ owns (tl d i) arg9 fullShare D ∗ listed d i arg11 arg12 80000 t4.val base R D (16 * (t5.val + 1)) z) := by
  unfold k2_t5_body listed
  iintro ⟨HE, HS, HD, %n, %R9, %R10, ⟨%hz, %hc⟩, H9, H10⟩
  subst hz
  have h5 : t5.val < 313 := t5.isLt
  iapply (owns_load (defs := defs) 𝒱 (tl d i) bd) $$ HD
  iintro HD
  have hk : k2_chk1 (chunkOf (F := F) D t5) := fun a x => by
    match a with
    | ⟨0, _⟩ =>
      have hx : (x 0).val < 16 := (x 0).isLt
      have e : chunkOf (F := F) D t5 x = nth D (16 * t5.val + (x 0).val) := by
        rw [← nth_chunk (F := F) D t5 (x 0).val hx, nth_val]
      have b := hD (16 * t5.val + (x 0).val) (by omega)
      show (chunkOf (F := F) D t5 x).toNat < 10240
      rw [e]; omega
  iapply (step_assume (defs := defs) 𝒱 (tl d i) bd hk)
  iapply (owns_load (defs := defs) 𝒱 (tl d i) bd) $$ HS
  iintro HS
  iapply (owns_loadIdx (defs := defs) 𝒱 (tl d i) bd) $$ HE
  iintro HE
  have h1 := chk1 (F := F) D hD base hbase t4 t5 n hc.le
  iapply (step_assume (defs := defs) 𝒱 (tl d i) bd h1)
  iapply (owns_storeIdx (defs := defs) 𝒱 (tl d i) bd) $$ H9
  iintro H9
  iapply (owns_storeIdx (defs := defs) 𝒱 (tl d i) bd) $$ H10
  iintro H10
  rw [wp_pure]
  imodintro
  isplitl [HE]; · iexact HE
  isplitl [HS]; · iexact HS
  isplitl [HD]; · iexact HD
  iexists (n + rank (hits D base t4 t5) 16), _, _
  isplitr
  swap
  · isplitl [H9] <;> iassumption
  ipureintro
  exact ⟨new_count (F := F) D hD base hbase t4 t5 n, compact_step (F := F) D hD base hbase t4 t5 R
    (fun k hk' => by have b1 := hD k hk'; have b2 := hSe (nth D k).toNat (by omega); have b3 := hS k hk'; have b4 := hR k hk'; omega)
    (k2_pay9 (F := F) (chunkOf S t5) (loadIdx (F := F) (e := .i32) Se ![chunkOf (F := F) D t5] hk))
    (fun l hl => (sel_rows (F := F) Se S D t5 hk hSe hS hD l hl).trans (hR _ (by omega)).symm) R9 R10 n hc _ _⟩

/-- The second call's rows: the chosen table's stretch of 10000 rows, and the source in it. -/
def rowSel (Se : S10240.Idx → BitVec 32) (Sp Dp : S160256.Idx → BitVec 32) (e : ℕ) : ℕ := (nth Se (nth Dp e).toNat).toNat * 10000 + (nth Sp e).toNat

theorem filter1 (T0 T1 : S80000x2x128.Idx → F .f32) (q2 q3 : PosShare TreeShare) (Se : S10240.Idx → BitVec 32) (Sp Dp : S160256.Idx → BitVec 32)
    (hSe : ∀ k < 10240, (nth Se k).toNat < 8) (hSp : ∀ k < 160256, (nth Sp k).toNat < 10000) (hDp : ∀ k < 160256, (nth Dp k).toNat < 10000)
    (base : ℕ) (hbase : base + 160 ≤ 10240) :
    FilterStep (defs := defs) 𝒱 bd d i arg8 arg9 arg11 arg12
      (iprop((owns (tl d i) arg2 q2 T0 ∗ owns (tl d i) arg3 q3 T1) ∗ owns (tl d i) arg10 fullShare Se) : sProp 𝕄) 80000 (rowSel Se Sp Dp) Sp Dp base
      (k2_t5_body i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3 lanes (BitVec.ofNat 32 base) 0#32 1#32) := by
  intro t4 t5 z
  have h4 : t4.val < 32 := t4.isLt
  have h := t5_trip1 (defs := defs) (Name := Name) (U := U) (Lvl := Lvl) (Ix := Ix) 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3 Se (blockOf Sp t4) (blockOf Dp t4) (fun k => rowSel Se Sp Dp (5008 * t4.val + k)) hSe
    (fun k hk => by rw [nth_block Sp t4 k hk]; exact hSp _ (by omega)) (fun k hk => by rw [nth_block Dp t4 k hk]; exact hDp _ (by omega))
    (fun k hk => by rw [nth_block Sp t4 k hk, nth_block Dp t4 k hk]; rfl) base hbase t4 t5 z
  exact BI.sep_assoc.trans ((BI.sep_mono_r h).trans ((wp_frame_l frame (wpE defs 𝒱 (tl d i) bd) Set.univ).trans
    (wp_mono frame (wpE defs 𝒱 (tl d i) bd) Set.univ fun _ => BI.sep_assoc')))

include EC he2
theorem t6_trip1 (Rs : sProp 𝕄) (V : S168x512.Idx → F .f32) (T0 T1 : S80000x2x128.Idx → F .f32) (L9 L10 : S5040.Idx → BitVec 32) (q2 q3 : PosShare TreeShare)
    (O : CellTallies nD τ sig Ix) (W : Waits sig Ix) (hc13 : RowCredits arg13) (hc14 : RowCredits arg14)
    (v16 : BitVec 32) (hv : k2_chk3 v16) (n : ℕ) (hn : n ≤ 313) (hL9 : ∀ k < 16 * n, (nth L9 k).toNat < 80000) (hL10 : ∀ k < 16 * n, (nth L10 k).toNat < 168)
    (t6 : Fin (k2_t6_loop v16).trips) (h6 : t6.val < n) (z : BitVec 32) :
    iprop(Transfers.MayWaits (tl d i) (default : Ix) O
        ∗ ((owns (tl d i) arg2 q2 T0 ∗ owns (tl d i) arg3 q3 T1) ∗ Rs) ∗ owns (tl d i) arg11 fullShare L9 ∗ owns (tl d i) arg12 fullShare L10
        ∗ (∃ S0, owns (tl d i) arg13 fullShare S0) ∗ (∃ S1, owns (tl d i) arg14 fullShare S1)
        ∗ (∃ A, ⌜Holds A V (fun k => (nth L10 k).toNat) (fun k => (nth L9 k).toNat) (tab T0 T1) (16 * t6.val)⌝ ∗ owns (tl d i) arg15 fullShare A)
        ∗ semVal (tl d i, SemLoc.dma arg16.sem) 0 ∗ owing (tl d i) O W : sProp 𝕄)
      ⊢ wp frame (wpE defs 𝒱 (tl d i) bd) Set.univ (k2_t6_body i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3 v16 hv t6 z) fun _ =>
        iprop(Transfers.MayWaits (tl d i) (default : Ix) O
        ∗ ((owns (tl d i) arg2 q2 T0 ∗ owns (tl d i) arg3 q3 T1) ∗ Rs) ∗ owns (tl d i) arg11 fullShare L9 ∗ owns (tl d i) arg12 fullShare L10
        ∗ (∃ S0, owns (tl d i) arg13 fullShare S0) ∗ (∃ S1, owns (tl d i) arg14 fullShare S1)
        ∗ (∃ A, ⌜Holds A V (fun k => (nth L10 k).toNat) (fun k => (nth L9 k).toNat) (tab T0 T1) (16 * (t6.val + 1))⌝ ∗ owns (tl d i) arg15 fullShare A)
        ∗ semVal (tl d i, SemLoc.dma arg16.sem) 0 ∗ owing (tl d i) O W) := by
  unfold k2_t6_body
  iintro ⟨#Hmw, ⟨⟨H2, H3⟩, HR⟩, H9, H10, HS0, HS1, ⟨%A, %hA, HA⟩, Hv, HO⟩
  iapply (gather_pair (defs := defs) EC 𝒱 (tl d i) bd T0 T1 L9 q2 q3 O W hc13 hc14 (16 * t6.val) (off5_eq t6 (by omega)) (fun k hk => hL9 _ (by omega))) $$ [H2 H3 H9 HS0 HS1 Hv HO]
  · isplitr; · iexact Hmw
    isplitl [H2]; · iexact H2
    isplitl [H3]; · iexact H3
    isplitl [H9]; · iexact H9
    isplitl [HS0]; · iexact HS0
    isplitl [HS1]; · iexact HS1
    isplitl [Hv] <;> iassumption
  iintro %S0 %S1 ⟨%hS, H2, H3, H9, HS0, HS1, Hv, HO⟩
  iapply (t6_rest 𝒱 bd d i e2 he2 e2 he2 arg4 harg4 arg5 harg5 arg7 harg7 arg8 harg8 arg9 harg9 arg11 harg11 arg12 harg12 arg13 harg13 arg14 harg14 arg15 harg15 arg16 v49_r1 v49_r2 v13_r3 V S0 S1 L10 (fun k => (nth L9 k).toNat) (tab T0 T1) v16 hv t6 (by omega) (fun k hk => hL10 k (by omega)) hS) $$ [H10 HS0 HS1 HA]
  · isplitl [H10]; · iexact H10
    isplitl [HS0]; · iexact HS0
    isplitl [HS1]; · iexact HS1
    iexists A
    isplitr; · ipureintro; exact hA
    iexact HA
  iintro ⟨H10, HS0, HS1, HA⟩
  isplitr; · iexact Hmw
  isplitl [H2 H3 HR]
  · isplitl [H2 H3]; · isplitl [H2] <;> iassumption
    iexact HR
  isplitl [H9]; · iexact H9
  isplitl [H10]; · iexact H10
  isplitl [HS0]; · iexists _; iexact HS0
  isplitl [HS1]; · iexists _; iexact HS1
  isplitl [HA]; · iexact HA
  isplitl [Hv] <;> iassumption

theorem group1 (Rs : sProp 𝕄) (T0 T1 : S80000x2x128.Idx → F .f32) (q2 q3 : PosShare TreeShare) (O : CellTallies nD τ sig Ix) (W : Waits sig Ix)
    (hc13 : RowCredits arg13) (hc14 : RowCredits arg14) :
    GroupStep (defs := defs) 𝒱 bd d i arg11 arg12 arg13 arg14 arg15 arg16 (iprop((owns (tl d i) arg2 q2 T0 ∗ owns (tl d i) arg3 q3 T1) ∗ Rs) : sProp 𝕄) 80000 (tab T0 T1) O W (k2_t6_body i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3) := by
  intro V L9 L10 v16 hv n hn hL9 hL10 t6 h6 z
  exact t6_trip1 (defs := defs) EC 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3 e2 he2 Rs V T0 T1 L9 L10 q2 q3 O W hc13 hc14 v16 hv n hn hL9 hL10 t6 h6 z

/-- The second call's program: the choices copied in, then as the first from the kit that the copied choices complete. -/
theorem cc2_run (T0 T1 : S80000x2x128.Idx → F .f32) (Se : S10240.Idx → BitVec 32) (Sp Dp : S160256.Idx → BitVec 32) (hSe : ∀ k < 10240, (nth Se k).toNat < 8)
    (hSp : ∀ k < 160256, (nth Sp k).toNat < 10000) (hDp : ∀ k < 160256, (nth Dp k).toNat < 10000) (q2 q3 q4 q5 q6 : PosShare TreeShare) (O : CellTallies nD τ sig Ix) (W : Waits sig Ix)
    (hc13 : RowCredits arg13) (hc14 : RowCredits arg14) (h8 : 0 < arg8.view.dmaCredit) (h9 : 0 < arg9.view.dmaCredit) (h10 : 0 < arg10.view.dmaCredit)
    (h7 : ∀ t1, 0 < (arg7.slice (rowsOf i t1) (fun _ => rfl)).view.dmaCredit) :
    iprop(Transfers.MayWaits (tl d i) (default : Ix) O ∗ owns (tl d i) arg6 q6 Se ∗ (∃ X, owns (tl d i) arg10 fullShare X) ∗ semVal (tl d i, SemLoc.dma v5_r0.sem) 0 ∗ owing (tl d i) O W
        ∗ (owns (tl d i) arg10 fullShare Se -∗ owing (tl d i) O W -∗ kit d i arg4 arg5 arg8 arg9 arg11 arg12 arg13 arg14 arg15 arg16 v49_r1 v49_r2 v13_r3
            iprop((owns (tl d i) arg2 q2 T0 ∗ owns (tl d i) arg3 q3 T1) ∗ owns (tl d i) arg10 fullShare Se) Sp Dp q4 q5 O W)
        ∗ (∃ Y, owns (tl d i) (arg7.slice (rowsOf i pass0) (fun _ => rfl)) fullShare Y) ∗ (∃ Y, owns (tl d i) (arg7.slice (rowsOf i pass1) (fun _ => rfl)) fullShare Y) : sProp 𝕄)
      ⊢ wp frame (wpE defs 𝒱 (tl d i) bd) Set.univ (cc2_body i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3) fun _ =>
        iprop((owns (tl d i) arg6 q6 Se ∗ semVal (tl d i, SemLoc.dma v5_r0.sem) 0)
          ∗ kit d i arg4 arg5 arg8 arg9 arg11 arg12 arg13 arg14 arg15 arg16 v49_r1 v49_r2 v13_r3
            iprop((owns (tl d i) arg2 q2 T0 ∗ owns (tl d i) arg3 q3 T1) ∗ owns (tl d i) arg10 fullShare Se) Sp Dp q4 q5 O W
          ∗ owns (tl d i) (arg7.slice (rowsOf i pass0) (fun _ => rfl)) fullShare (fun x => total (tab T0 T1) (rowSel Se Sp Dp) Dp ((rowsOf i pass0).emb x))
          ∗ owns (tl d i) (arg7.slice (rowsOf i pass1) (fun _ => rfl)) fullShare (fun x => total (tab T0 T1) (rowSel Se Sp Dp) Dp ((rowsOf i pass1).emb x))) := by
  rw [cc2_body_shared (e2 := e2) (he2 := he2)]
  iintro ⟨#Hmw, H6, ⟨%X, H10⟩, Hv, HO, HK, HY0, HY1⟩
  iapply (owns_copy (defs := defs) EC 𝒱 (tl d i) bd h10) $$ [H6 H10 Hv HO]
  · isplitr; · iexact Hmw
    isplitl [H6]; · iexact H6
    isplitl [H10]; · iexact H10
    isplitl [Hv] <;> iassumption
  iintro ⟨H6, H10, Hv, HO⟩
  iapply (wp_frame_l frame (wpE defs 𝒱 (tl d i) bd) Set.univ)
  isplitl [H6 Hv]
  · isplitl [H6] <;> iassumption
  iapply (body_run (defs := defs) EC 𝒱 bd d i e2 he2 e2 he2 arg4 harg4 arg5 harg5 arg7 harg7 arg8 harg8 arg9 harg9 arg11 harg11 arg12 harg12 arg13 harg13 arg14 harg14 arg15 harg15 arg16 v49_r1 v49_r2 v13_r3 _ 80000 (by decide) (tab T0 T1) (rowSel Se Sp Dp) Sp Dp _ _ _ q4 q5 O W h8 h9
    (fun base hb => filter1 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3 T0 T1 q2 q3 Se Sp Dp hSe hSp hDp base hb) (group1 EC 𝒱 bd d i arg2 harg2 arg3 harg3 arg4 harg4 arg5 harg5 arg6 harg6 arg7 harg7 arg8 harg8 arg9 harg9 arg10 harg10 arg11 harg11 arg12 harg12 arg13 harg13 arg14 harg14 arg15 harg15 arg16 v5_r0 v49_r1 v49_r2 v13_r3 e2 he2 _ T0 T1 q2 q3 O W hc13 hc14) h7)
  isplitr [HY0 HY1]
  · iapply HK $$ H10 HO
  isplitl [HY0] <;> iassumption

end Second

end Cert.Proof
-- ==== Proof.Launch.lean ====
/-
  The two launches of the segment sum: what the host hands each of the thirty-two tiles and what it takes back, and a
  tile's task from that.
-/
module

public import proofs.«01_k».proof.Proof.Steps
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.ShareLeaves

@[expose] public section

noncomputable section

namespace Cert.Proof

open Idealize.ShloMosaic Idealize.ShloMosaic.ValueIdx
open Idealize.ShloMosaic.SparseCore (S V T)
open Idealize.ShloMosaic.SparseCore.Cfg (HIx Pay ownBufs ownSems0 ownCells ownRefs mem_ownCells)
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as its launch sees it -/

abbrev ΛP : Labels := Pipeline.Sig Λ₀ (Fin 2) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem launched : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
/-- The ghost state: the SparseCore calls' rounds, the rounds of the TensorCore calls' staging, the copies' counters. -/
abbrev UU : Type := (UH × UR sig nD τ) × Counters

local notation "𝕄" => MT nD τ sig (HIx 2) (Elt F) ℕ UU ℕ

def EH : Emb UH (MT nD τ sig (HIx 2) (Elt F) ℕ UU ℕ) := (Emb.inl : Emb UH (UH × UR sig nD τ)).trans embL
def EP : Emb (UR sig nD τ) (MT nD τ sig (HIx 2) (Elt F) ℕ UU ℕ) := (Emb.inr : Emb (UR sig nD τ) (UH × UR sig nD τ)).trans embL

instance : (EH : Emb UH (MT nD τ sig (HIx 2) (Elt F) ℕ UU ℕ)).LandsIn upEmb := by unfold EH; infer_instance
instance : (EP : Emb (UR sig nD τ) (MT nD τ sig (HIx 2) (Elt F) ℕ UU ℕ)).LandsIn upEmb := by unfold EP; infer_instance

/-! ## The arrays -/

abbrev t0Loc (d : Dev nD) : Loc nD τ sig := (SparseCore.T d).loc main_v12
abbrev t1Loc (d : Dev nD) : Loc nD τ sig := (SparseCore.T d).loc main_v14
abbrev spLoc (d : Dev nD) : Loc nD τ sig := (SparseCore.T d).loc main_v6
abbrev dpLoc (d : Dev nD) : Loc nD τ sig := (SparseCore.T d).loc main_v9
abbrev u0Loc (d : Dev nD) : Loc nD τ sig := (SparseCore.T d).loc main_v24
abbrev u1Loc (d : Dev nD) : Loc nD τ sig := (SparseCore.T d).loc main_v26
abbrev seLoc (d : Dev nD) : Loc nD τ sig := (SparseCore.T d).loc main_v21

/-- The coordinates of subcore `s` of core `c`. -/
def coordsOf (c : Fin 2) (s : Fin 16) : grid0.Coords :=
  fun | 0 => c | 1 => s | ⟨_ + 2, h⟩ => absurd h (Nat.not_lt.2 (Nat.le_add_left _ _))

/-- The two cores' sixteen subcores, numbered. -/
def tileNo : Fin 2 × Fin 16 ≃ Fin (2 ^ 5) := finProdFinEquiv.trans (finCongr (by decide))

/-- A tile's share of an array that all tiles read. -/
abbrev tileShare (c : Fin 2) (s : Fin 16) : PosShare TreeShare := ShareLeaves.leaf 5 fullShare (tileNo (c, s))

/-- The two calls' results. -/
abbrev ou0 : Memref sig .scVector .hbm S10240x512 .f32 := Memref.whole main_v15_scv
abbrev ou1 : Memref sig .scVector .hbm S10240x512 .f32 := Memref.whole main_v27_scv

/-- The tile's rows of a result in pass `t`, as the tile holds them. -/
abbrev outRows (ou : Memref sig .scVector .hbm S10240x512 .f32) (c : Fin 2) (s : Fin 16) (t : Fin k0_t1_loop.trips) : Memref sig .scVector .hbm S160x512 .f32 :=
  ou.slice (rowsOf (coordsOf c s) t) (fun _ => rfl)

variable [FloatOps F]

/-- What a call computes from: the two halves of its table, and the sources and the destinations of the edges. -/
structure Inputs (F : FTy → Type) (N : ℕ) where
  t0 : (⟨3, ![N, 2, 128]⟩ : Shape).Idx → F .f32
  t1 : (⟨3, ![N, 2, 128]⟩ : Shape).Idx → F .f32
  sp : S160256.Idx → BitVec 32
  dp : S160256.Idx → BitVec 32

/-- The edges' ends are nodes. -/
structure Inputs.Ok {N : ℕ} (I : Inputs F N) : Prop where
  sp : ∀ k < 160256, (nth I.sp k).toNat < 10000
  dp : ∀ k < 160256, (nth I.dp k).toNat < 10000

/-- What both calls compute from: each its table, and the second the choices. -/
structure Both (F : FTy → Type) where
  a : Inputs F 10000
  b : Inputs F 80000
  se : S10240.Idx → BitVec 32

structure Both.Ok (I : Both F) : Prop where
  a : I.a.Ok
  b : I.b.Ok
  se : ∀ k < 10240, (nth I.se k).toNat < 8

/-- The results of the calls. -/
abbrev Inputs.sums (A : Inputs F 10000) : S10240x512.Idx → F .f32 := total (tab A.t0 A.t1) (fun e => (nth A.sp e).toNat) A.dp
abbrev Both.out0 (I : Both F) : S10240x512.Idx → F .f32 := I.a.sums
abbrev Both.out1 (I : Both F) : S10240x512.Idx → F .f32 := total (tab I.b.t0 I.b.t1) (rowSel I.se I.b.sp I.b.dp) I.b.dp

variable (I : Dev nD → Both F)

/-- A tile's shares of what it reads in the first call. -/
def reads0 (d : Dev nD) (c : Fin 2) (s : Fin 16) : sProp 𝕄 :=
  iprop((t0Loc d ↦{tileShare c s} (I d).a.t0) ∗ (t1Loc d ↦{tileShare c s} (I d).a.t1) ∗ (spLoc d ↦{tileShare c s} (I d).a.sp) ∗ (dpLoc d ↦{tileShare c s} (I d).a.dp))

/-- A tile's shares of what it reads in the second call. -/
def reads1 (d : Dev nD) (c : Fin 2) (s : Fin 16) : sProp 𝕄 :=
  iprop((u0Loc d ↦{tileShare c s} (I d).b.t0) ∗ (u1Loc d ↦{tileShare c s} (I d).b.t1) ∗ (spLoc d ↦{tileShare c s} (I d).b.sp) ∗ (dpLoc d ↦{tileShare c s} (I d).b.dp)
    ∗ (seLoc d ↦{tileShare c s} (I d).se))

/-- What a tile is handed: what it reads (`Rd`), and its rows of the result `ou`. -/
def goPts (Rd : sProp 𝕄) (ou : Memref sig .scVector .hbm S10240x512 .f32) (d : Dev nD) (c : Fin 2) (s : Fin 16) : sProp 𝕄 :=
  iprop(Rd ∗ (∃ Y, owns (Val := Elt F) (tl d (coordsOf c s)) (outRows ou c s pass0) fullShare Y) ∗ ∃ Y, owns (Val := Elt F) (tl d (coordsOf c s)) (outRows ou c s pass1) fullShare Y)

/-- What a tile hands back: what it read, and its rows of `f`. -/
def tdPts (Rd : sProp 𝕄) (ou : Memref sig .scVector .hbm S10240x512 .f32) (f : S10240x512.Idx → F .f32) (d : Dev nD) (c : Fin 2) (s : Fin 16) : sProp 𝕄 :=
  iprop(Rd ∗ owns (Val := Elt F) (tl d (coordsOf c s)) (outRows ou c s pass0) fullShare (fun x => f ((rowsOf (coordsOf c s) pass0).emb x))
    ∗ owns (Val := Elt F) (tl d (coordsOf c s)) (outRows ou c s pass1) fullShare (fun x => f ((rowsOf (coordsOf c s) pass1).emb x)))

/-- What the calls hand a tile and take back. -/
abbrev go0 (d : Dev nD) (c : Fin 2) (s : Fin 16) : sProp 𝕄 := goPts (reads0 I d c s) ou0 d c s
abbrev td0 (d : Dev nD) (c : Fin 2) (s : Fin 16) : sProp 𝕄 := tdPts (reads0 I d c s) ou0 (I d).out0 d c s
abbrev go1 (d : Dev nD) (c : Fin 2) (s : Fin 16) : sProp 𝕄 := goPts (reads1 I d c s) ou1 d c s
abbrev td1 (d : Dev nD) (c : Fin 2) (s : Fin 16) : sProp 𝕄 := tdPts (reads1 I d c s) ou1 (I d).out1 d c s

instance reads0_storable (d : Dev nD) (c : Fin 2) (s : Fin 16) : BI.Storable (upEmb : UEmb _ 𝕄) (reads0 I d c s) := by unfold reads0; infer_instance
instance reads1_storable (d : Dev nD) (c : Fin 2) (s : Fin 16) : BI.Storable (upEmb : UEmb _ 𝕄) (reads1 I d c s) := by unfold reads1; infer_instance
instance goPts_storable (Rd : sProp 𝕄) [BI.Storable (upEmb : UEmb _ 𝕄) Rd] (ou : Memref sig .scVector .hbm S10240x512 .f32) (d : Dev nD) (c : Fin 2) (s : Fin 16) :
    BI.Storable (upEmb : UEmb _ 𝕄) (goPts Rd ou d c s) := by unfold goPts; infer_instance
instance tdPts_storable (Rd : sProp 𝕄) [BI.Storable (upEmb : UEmb _ 𝕄) Rd] (ou : Memref sig .scVector .hbm S10240x512 .f32) (f : S10240x512.Idx → F .f32) (d : Dev nD) (c : Fin 2) (s : Fin 16) :
    BI.Storable (upEmb : UEmb _ 𝕄) (tdPts Rd ou f d c s) := by unfold tdPts; infer_instance

/-- A core is handed what its tiles are, and hands back what they do. -/
def P : (K (F := F)).Pay (nD := nD) (Val := Elt F) (Name := ℕ) (U := UU) where
  st := fun q d c => match q with
    | 0 => bigSep Finset.univ fun s : Fin 16 => go0 I d c s
    | 1 => bigSep Finset.univ fun s : Fin 16 => go1 I d c s
  dn := fun q d c => match q with
    | 0 => bigSep Finset.univ fun s : Fin 16 => td0 I d c s
    | 1 => bigSep Finset.univ fun s : Fin 16 => td1 I d c s
  go := fun q d c i => match q with | 0 => go0 I d c i | 1 => go1 I d c i
  td := fun q d c i => match q with | 0 => td0 I d c i | 1 => td1 I d c i
  x := fun _ _ => iprop(emp)

instance P_storable : (P I).IsStorable where
  st q d c := match q with
    | 0 => (inferInstance : BI.Storable (upEmb : UEmb _ 𝕄) (bigSep Finset.univ fun s : Fin 16 => go0 I d c s))
    | 1 => (inferInstance : BI.Storable (upEmb : UEmb _ 𝕄) (bigSep Finset.univ fun s : Fin 16 => go1 I d c s))
  dn q d c := match q with
    | 0 => (inferInstance : BI.Storable (upEmb : UEmb _ 𝕄) (bigSep Finset.univ fun s : Fin 16 => td0 I d c s))
    | 1 => (inferInstance : BI.Storable (upEmb : UEmb _ 𝕄) (bigSep Finset.univ fun s : Fin 16 => td1 I d c s))
  go q d c i := match q with
    | 0 => (inferInstance : BI.Storable (upEmb : UEmb _ 𝕄) (go0 I d c i))
    | 1 => (inferInstance : BI.Storable (upEmb : UEmb _ 𝕄) (go1 I d c i))
  td q d c i := match q with
    | 0 => (inferInstance : BI.Storable (upEmb : UEmb _ 𝕄) (td0 I d c i))
    | 1 => (inferInstance : BI.Storable (upEmb : UEmb _ 𝕄) (td1 I d c i))

/-! ## A tile's own buffers and semaphores -/

section Own
variable (d : Dev nD) (c : Fin τ.nSC) (j : Fin τ.nSub)

omit [FloatOps F] in
theorem own_bufs (A : Finset (Ref sig .scVector)) (hA : ∀ r ∈ A, ((Proc.scVector c j).devRef r).owner = Owner.proc (Proc.scVector c j)) :
    ∃ R : sProp 𝕄, (ownBufs (V d c j) : sProp 𝕄) = iprop((bigSep A fun r => iprop(∃ f, (V d c j).loc r ↦{fullShare} f)) ∗ R) := by
  refine ⟨bigSep (ownRefs (.scVector c j) \ A.map ⟨(Proc.scVector c j).devRef, Proc.devRef_injective _⟩) fun b => iprop(∃ f, ((d, b) : Loc nD τ sig) ↦{fullShare} f), ?_⟩
  have hs : A.map ⟨(Proc.scVector c j).devRef, Proc.devRef_injective _⟩ ⊆ ownRefs (τ := τ) (.scVector c j) := fun b hb => by
    obtain ⟨r, hr, rfl⟩ := Finset.mem_map.mp hb
    exact SparseCore.Cfg.mem_ownRefs_of_owner (p := Proc.scVector c j) (hA r hr)
  unfold SparseCore.Cfg.ownBufs
  refine (SparseCore.bigSep_sdiff_split' hs).trans ?_
  rw [bigSep_map]
  rfl

omit [FloatOps F] in
theorem own_sems (A : Finset (SemLoc sig)) (hA : ∀ r ∈ A, (r : SemLoc sig).isScoped .scVector = true) :
    ∃ R : sProp 𝕄, (ownSems0 (V d c j) : sProp 𝕄) = iprop((bigSep A fun r => semVal (V d c j, r) 0) ∗ R) := by
  refine ⟨bigSep (ownCells (V d c j) \ A.map ⟨fun s => ((V d c j, s) : GSem nD τ sig), fun _ _ h => (Prod.mk.inj h).2⟩) fun g => semVal g 0, ?_⟩
  have hs : A.map ⟨fun s => ((V d c j, s) : GSem nD τ sig), fun _ _ h => (Prod.mk.inj h).2⟩ ⊆ ownCells (V d c j) := fun b hb => by
    obtain ⟨r, hr, rfl⟩ := Finset.mem_map.mp hb
    exact mem_ownCells.mpr ⟨rfl, hA r hr⟩
  unfold SparseCore.Cfg.ownSems0
  refine (SparseCore.bigSep_sdiff_split' hs).trans ?_
  rw [bigSep_map]
  rfl

/-- The buffers of a tile that the first call's task uses, and the second's. -/
abbrev scratches0 : Finset (Ref sig .scVector) := {cc0_scratch0, cc0_scratch1, cc0_scratch2, cc0_scratch3, cc0_scratch4, cc0_scratch5, cc0_scratch6}
abbrev scratches1 : Finset (Ref sig .scVector) := {cc2_scratch0, cc2_scratch1, cc2_scratch2, cc2_scratch3, cc2_scratch4, cc2_scratch5, cc2_scratch6, cc2_scratch7}

omit [FloatOps F] in
theorem scratches0_sep (Φ : Ref sig .scVector → sProp 𝕄) : bigSep scratches0 Φ
    = iprop(Φ cc0_scratch0 ∗ Φ cc0_scratch1 ∗ Φ cc0_scratch2 ∗ Φ cc0_scratch3 ∗ Φ cc0_scratch4 ∗ Φ cc0_scratch5 ∗ Φ cc0_scratch6) := by
  unfold scratches0
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem scratches1_sep (Φ : Ref sig .scVector → sProp 𝕄) : bigSep scratches1 Φ
    = iprop(Φ cc2_scratch0 ∗ Φ cc2_scratch1 ∗ Φ cc2_scratch2 ∗ Φ cc2_scratch3 ∗ Φ cc2_scratch4 ∗ Φ cc2_scratch5 ∗ Φ cc2_scratch6 ∗ Φ cc2_scratch7) := by
  unfold scratches1
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

theorem scratches0_own (r : Ref sig .scVector) (hr : r ∈ scratches0) : ((Proc.scVector c j).devRef r).owner = Owner.proc (Proc.scVector c j) := by
  simp only [Finset.mem_insert, Finset.mem_singleton] at hr
  rcases hr with rfl | rfl | rfl | rfl | rfl | rfl | rfl <;> rfl

theorem scratches1_own (r : Ref sig .scVector) (hr : r ∈ scratches1) : ((Proc.scVector c j).devRef r).owner = Owner.proc (Proc.scVector c j) := by
  simp only [Finset.mem_insert, Finset.mem_singleton] at hr
  rcases hr with rfl | rfl | rfl | rfl | rfl | rfl | rfl | rfl <;> rfl

/-- The semaphores of a tile that the first call's task uses, and the second's. -/
abbrev sems0 : Finset (SemLoc sig) := {.dma cc0_scratch7.sem, .dma cc0_scoped0.sem, .dma cc0_scoped1.sem, .dma cc0_scoped2.sem}
abbrev sems1 : Finset (SemLoc sig) := {.dma cc2_scratch8.sem, .dma cc2_scoped0.sem, .dma cc2_scoped1.sem, .dma cc2_scoped2.sem, .dma cc2_scoped3.sem}

omit [FloatOps F] in
theorem sems0_sep (Φ : SemLoc sig → sProp 𝕄) : bigSep sems0 Φ
    = iprop(Φ (.dma cc0_scratch7.sem) ∗ Φ (.dma cc0_scoped0.sem) ∗ Φ (.dma cc0_scoped1.sem) ∗ Φ (.dma cc0_scoped2.sem)) := by
  unfold sems0
  rw [SparseCore.bigSep_insert' (by decide), SparseCore.bigSep_insert' (by decide), SparseCore.bigSep_insert' (by decide), bigSep_singleton]

omit [FloatOps F] in
theorem sems1_sep (Φ : SemLoc sig → sProp 𝕄) : bigSep sems1 Φ
    = iprop(Φ (.dma cc2_scratch8.sem) ∗ Φ (.dma cc2_scoped0.sem) ∗ Φ (.dma cc2_scoped1.sem) ∗ Φ (.dma cc2_scoped2.sem) ∗ Φ (.dma cc2_scoped3.sem)) := by
  unfold sems1
  rw [SparseCore.bigSep_insert' (by decide), SparseCore.bigSep_insert' (by decide), SparseCore.bigSep_insert' (by decide), SparseCore.bigSep_insert' (by decide), bigSep_singleton]

end Own

/-! ## The tasks -/

section Task
variable (d : Dev nD) (c : Fin 2) (s : Fin 16)

theorem scratch4_credits : RowCredits (Memref.whole cc0_scratch4) := by decide
theorem scratch5_credits : RowCredits (Memref.whole cc0_scratch5) := by decide
theorem scratch5_credits1 : RowCredits (Memref.whole cc2_scratch5) := by decide
theorem scratch6_credits1 : RowCredits (Memref.whole cc2_scratch6) := by decide

/-- A tile's task in the first call, from what the tile is handed to what it hands back. -/
theorem task0 (hI : ∀ d, (I d).Ok) (O : CellTallies nD τ sig (HIx 2)) (W : Waits sig (HIx 2)) (hO : ∀ g, O g none = 0) :
    iprop(levAts (K (F := F)).L (K (F := F)).lev ∗ emp ∗ go0 I d c s
        ∗ scopedBufs (tl d (coordsOf c s)) ∗ scopedSems0 (tl d (coordsOf c s)) ∗ owes (tl d (coordsOf c s)) O W)
      ⊢ wp frame (wpE (defs₀ (F := F)) 𝒱₀ (tl d (coordsOf c s)) none) Set.univ
          (cc0_body (coordsOf c s) (Memref.whole main_v12_scv) (Memref.isWhole_whole _) (Memref.whole main_v14_scv) (Memref.isWhole_whole _)
            (Memref.whole main_v6_scv) (Memref.isWhole_whole _) (Memref.whole main_v9_scv) (Memref.isWhole_whole _) (Memref.whole main_v15_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) cc0_scratch7 cc0_scoped0 cc0_scoped1 cc0_scoped2)
          fun _ => iprop(td0 I d c s ∗ scopedBufs (tl d (coordsOf c s)) ∗ scopedSems0 (tl d (coordsOf c s))
            ∗ ∃ W', ⌜∀ p ∈ W', p ∈ W ∨ p.2 = none⌝ ∗ owes (tl d (coordsOf c s)) O W') := by
  have run := cc0_run (F := F) (countersEmb : UEmb Counters 𝕄) (defs := defs₀ (F := F)) 𝒱₀ none d (coordsOf c s) (Memref.whole main_v12_scv) (Memref.isWhole_whole _) (Memref.whole main_v14_scv) (Memref.isWhole_whole _)
            (Memref.whole main_v6_scv) (Memref.isWhole_whole _) (Memref.whole main_v9_scv) (Memref.isWhole_whole _) (Memref.whole main_v15_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) cc0_scratch7 cc0_scoped0 cc0_scoped1 cc0_scoped2
    (I d).a.t0 (I d).a.t1 (I d).a.sp (I d).a.dp (hI d).a.sp (hI d).a.dp (tileShare c s) (tileShare c s) (tileShare c s) (tileShare c s) O W scratch4_credits scratch5_credits
    (View.dmaCredit_pos _ (by decide)) (View.dmaCredit_pos _ (by decide)) (fun _ => View.dmaCredit_pos _ (show 0 < S160x512.numel by decide))
  unfold kit owing at run
  simp only [owns_whole] at run
  obtain ⟨RB, hB⟩ := own_bufs (F := F) d ((coordsOf c s 0).castLE hcore0) ((coordsOf c s 1).castLE hsub0) scratches0 (scratches0_own _ _)
  obtain ⟨RS, hS⟩ := own_sems (F := F) d ((coordsOf c s 0).castLE hcore0) ((coordsOf c s 1).castLE hsub0) sems0 (by decide)
  rw [(K (F := F)).scopedBufs_V launched d ((coordsOf c s 0).castLE hcore0) ((coordsOf c s 1).castLE hsub0),
    SparseCore.Cfg.scopedSems0_V (Val := Elt F) d ((coordsOf c s 0).castLE hcore0) ((coordsOf c s 1).castLE hsub0), hB, hS, scratches0_sep, sems0_sep]
  unfold go0 td0 goPts tdPts reads0
  iintro ⟨#Hlv, -, ⟨⟨H2, H3, H4, H5⟩, HY0, HY1⟩, ⟨⟨⟨%f0, Hf0⟩, ⟨%f1, Hf1⟩, ⟨%f2, Hf2⟩, ⟨%f3, Hf3⟩, ⟨%f4, Hf4⟩, ⟨%f5, Hf5⟩, ⟨%f6, Hf6⟩⟩, HRB⟩, ⟨⟨Hs0, Hs1, Hs2, Hs3⟩, HRS⟩, HO⟩
  ihave Hmw := (show levAts (K (F := F)).L (K (F := F)).lev ⊢ Transfers.MayWaits (tl d (coordsOf c s)) (default : HIx 2) O from
    (K (F := F)).mayWaits_none (thr := tl d (coordsOf c s)) hO) $$ Hlv
  iapply (wp_wand_r frame (wpE (defs₀ (F := F)) 𝒱₀ (tl d (coordsOf c s)) none) Set.univ)
  isplitr [HRB HRS]
  · iapply run
    isplitr [HY0 HY1]
    · isplitr; · iexact Hmw
      isplitl [H2 H3]; · isplitl [H2] <;> iassumption
      isplitl [H4]; · iexact H4
      isplitl [H5]; · iexact H5
      isplitl [Hf0]; · iexists _; iexact Hf0
      isplitl [Hf1]; · iexists _; iexact Hf1
      isplitl [Hf2]; · iexists _; iexact Hf2
      isplitl [Hf3]; · iexists _; iexact Hf3
      isplitl [Hf4]; · iexists _; iexact Hf4
      isplitl [Hf5]; · iexists _; iexact Hf5
      isplitl [Hf6]; · iexists _; iexact Hf6
      isplitl [Hs0]; · iexact Hs0
      isplitl [Hs1]; · iexact Hs1
      isplitl [Hs2]; · iexact Hs2
      isplitl [Hs3]; · iexact Hs3
      iexists W
      isplitr
      · ipureintro; exact fun p hp => Or.inl hp
      iexact HO
    isplitl [HY0]; · iexact HY0
    iexact HY1
  iintro %z ⟨⟨-, ⟨H2, H3⟩, H4, H5, Hf0, Hf1, Hf2, Hf3, Hf4, Hf5, Hf6, Hs0, Hs1, Hs2, Hs3, HO⟩, HY0, HY1⟩
  isplitl [H2 H3 H4 H5 HY0 HY1]
  · isplitl [H2 H3 H4 H5]
    · isplitl [H2]; · iexact H2
      isplitl [H3]; · iexact H3
      isplitl [H4]; · iexact H4
      iexact H5
    isplitl [HY0]; · iexact HY0
    iexact HY1
  isplitl [Hf0 Hf1 Hf2 Hf3 Hf4 Hf5 Hf6 HRB]
  · isplitr [HRB]
    · isplitl [Hf0]; · iexact Hf0
      isplitl [Hf1]; · iexact Hf1
      isplitl [Hf2]; · iexact Hf2
      isplitl [Hf3]; · iexact Hf3
      isplitl [Hf4]; · iexact Hf4
      isplitl [Hf5]; · iexact Hf5
      iexact Hf6
    iexact HRB
  isplitr [HO]
  · isplitr [HRS]
    · isplitl [Hs0]; · iexact Hs0
      isplitl [Hs1]; · iexact Hs1
      isplitl [Hs2]; · iexact Hs2
      iexact Hs3
    iexact HRS
  iexact HO

/-- A tile's task in the second call. -/
theorem task1 (hI : ∀ d, (I d).Ok) (O : CellTallies nD τ sig (HIx 2)) (W : Waits sig (HIx 2)) (hO : ∀ g, O g none = 0) :
    iprop(levAts (K (F := F)).L (K (F := F)).lev ∗ emp ∗ go1 I d c s
        ∗ scopedBufs (tl d (coordsOf c s)) ∗ scopedSems0 (tl d (coordsOf c s)) ∗ owes (tl d (coordsOf c s)) O W)
      ⊢ wp frame (wpE (defs₀ (F := F)) 𝒱₀ (tl d (coordsOf c s)) none) Set.univ
          (cc2_body (coordsOf c s) (Memref.whole main_v24_scv) (Memref.isWhole_whole _) (Memref.whole main_v26_scv) (Memref.isWhole_whole _)
            (Memref.whole main_v6_scv) (Memref.isWhole_whole _) (Memref.whole main_v9_scv) (Memref.isWhole_whole _) (Memref.whole main_v21_scv) (Memref.isWhole_whole _)
            (Memref.whole main_v27_scv) (Memref.isWhole_whole _)
            (Memref.whole cc2_scratch0) (Memref.isWhole_whole _) (Memref.whole cc2_scratch1) (Memref.isWhole_whole _) (Memref.whole cc2_scratch2) (Memref.isWhole_whole _)
            (Memref.whole cc2_scratch3) (Memref.isWhole_whole _) (Memref.whole cc2_scratch4) (Memref.isWhole_whole _) (Memref.whole cc2_scratch5) (Memref.isWhole_whole _)
            (Memref.whole cc2_scratch6) (Memref.isWhole_whole _) (Memref.whole cc2_scratch7) (Memref.isWhole_whole _) cc2_scratch8 cc2_scoped0 cc2_scoped1 cc2_scoped2 cc2_scoped3)
          fun _ => iprop(td1 I d c s ∗ scopedBufs (tl d (coordsOf c s)) ∗ scopedSems0 (tl d (coordsOf c s))
            ∗ ∃ W', ⌜∀ p ∈ W', p ∈ W ∨ p.2 = none⌝ ∗ owes (tl d (coordsOf c s)) O W') := by
  have run := cc2_run (F := F) (countersEmb : UEmb Counters 𝕄) (defs := defs₀ (F := F)) 𝒱₀ none d (coordsOf c s) (Memref.whole main_v24_scv) (Memref.isWhole_whole _) (Memref.whole main_v26_scv) (Memref.isWhole_whole _)
            (Memref.whole main_v6_scv) (Memref.isWhole_whole _) (Memref.whole main_v9_scv) (Memref.isWhole_whole _) (Memref.whole main_v21_scv) (Memref.isWhole_whole _)
            (Memref.whole main_v27_scv) (Memref.isWhole_whole _)
            (Memref.whole cc2_scratch0) (Memref.isWhole_whole _) (Memref.whole cc2_scratch1) (Memref.isWhole_whole _) (Memref.whole cc2_scratch2) (Memref.isWhole_whole _)
            (Memref.whole cc2_scratch3) (Memref.isWhole_whole _) (Memref.whole cc2_scratch4) (Memref.isWhole_whole _) (Memref.whole cc2_scratch5) (Memref.isWhole_whole _)
            (Memref.whole cc2_scratch6) (Memref.isWhole_whole _) (Memref.whole cc2_scratch7) (Memref.isWhole_whole _) cc2_scratch8 cc2_scoped0 cc2_scoped1 cc2_scoped2 cc2_scoped3
    (Memref.whole main_v12_scv) (Memref.isWhole_whole _)
    (I d).b.t0 (I d).b.t1 (I d).se (I d).b.sp (I d).b.dp (hI d).se (hI d).b.sp (hI d).b.dp (tileShare c s) (tileShare c s) (tileShare c s) (tileShare c s) (tileShare c s) O W scratch5_credits1 scratch6_credits1
    (View.dmaCredit_pos _ (by decide)) (View.dmaCredit_pos _ (by decide)) (View.dmaCredit_pos _ (by decide)) (fun _ => View.dmaCredit_pos _ (show 0 < S160x512.numel by decide))
  unfold kit owing at run
  simp only [owns_whole] at run
  obtain ⟨RB, hB⟩ := own_bufs (F := F) d ((coordsOf c s 0).castLE hcore0) ((coordsOf c s 1).castLE hsub0) scratches1 (scratches1_own _ _)
  obtain ⟨RS, hS⟩ := own_sems (F := F) d ((coordsOf c s 0).castLE hcore0) ((coordsOf c s 1).castLE hsub0) sems1 (by decide)
  rw [(K (F := F)).scopedBufs_V launched d ((coordsOf c s 0).castLE hcore0) ((coordsOf c s 1).castLE hsub0),
    SparseCore.Cfg.scopedSems0_V (Val := Elt F) d ((coordsOf c s 0).castLE hcore0) ((coordsOf c s 1).castLE hsub0), hB, hS, scratches1_sep, sems1_sep]
  unfold go1 td1 goPts tdPts reads1
  iintro ⟨#Hlv, -, ⟨⟨H2, H3, H4, H5, H6⟩, HY0, HY1⟩, ⟨⟨⟨%f0, Hf0⟩, ⟨%f1, Hf1⟩, ⟨%f2, Hf2⟩, ⟨%f3, Hf3⟩, ⟨%f4, Hf4⟩, ⟨%f5, Hf5⟩, ⟨%f6, Hf6⟩, ⟨%f7, Hf7⟩⟩, HRB⟩, ⟨⟨Hs0, Hs1, Hs2, Hs3, Hs4⟩, HRS⟩, HO⟩
  ihave Hmw := (show levAts (K (F := F)).L (K (F := F)).lev ⊢ Transfers.MayWaits (tl d (coordsOf c s)) (default : HIx 2) O from
    (K (F := F)).mayWaits_none (thr := tl d (coordsOf c s)) hO) $$ Hlv
  iapply (wp_wand_r frame (wpE (defs₀ (F := F)) 𝒱₀ (tl d (coordsOf c s)) none) Set.univ)
  isplitr [HRB HRS]
  · iapply run
    isplitr; · iexact Hmw
    isplitl [H6]; · iexact H6
    isplitl [Hf2]; · iexists _; iexact Hf2
    isplitl [Hs1]; · iexact Hs1
    isplitl [HO]
    · iexists W
      isplitr
      · ipureintro; exact fun p hp => Or.inl hp
      iexact HO
    isplitr [HY0 HY1]
    · iintro Hf2 HO
      isplitr; · iexact Hmw
      isplitl [H2 H3 Hf2]
      · isplitl [H2 H3]; · isplitl [H2] <;> iassumption
        iexact Hf2
      isplitl [H4]; · iexact H4
      isplitl [H5]; · iexact H5
      isplitl [Hf0]; · iexists _; iexact Hf0
      isplitl [Hf1]; · iexists _; iexact Hf1
      isplitl [Hf3]; · iexists _; iexact Hf3
      isplitl [Hf4]; · iexists _; iexact Hf4
      isplitl [Hf5]; · iexists _; iexact Hf5
      isplitl [Hf6]; · iexists _; iexact Hf6
      isplitl [Hf7]; · iexists _; iexact Hf7
      isplitl [Hs0]; · iexact Hs0
      isplitl [Hs2]; · iexact Hs2
      isplitl [Hs3]; · iexact Hs3
      isplitl [Hs4]; · iexact Hs4
      iexact HO
    isplitl [HY0]; · iexact HY0
    iexact HY1
  iintro %z ⟨⟨H6, Hs1⟩, ⟨-, ⟨⟨H2, H3⟩, Hf2⟩, H4, H5, Hf0, Hf1, Hf3, Hf4, Hf5, Hf6, Hf7, Hs0, Hs2, Hs3, Hs4, HO⟩, HY0, HY1⟩
  isplitl [H2 H3 H4 H5 H6 HY0 HY1]
  · isplitl [H2 H3 H4 H5 H6]
    · isplitl [H2]; · iexact H2
      isplitl [H3]; · iexact H3
      isplitl [H4]; · iexact H4
      isplitl [H5]; · iexact H5
      iexact H6
    isplitl [HY0]; · iexact HY0
    iexact HY1
  isplitl [Hf0 Hf1 Hf2 Hf3 Hf4 Hf5 Hf6 Hf7 HRB]
  · isplitr [HRB]
    · isplitl [Hf0]; · iexact Hf0
      isplitl [Hf1]; · iexact Hf1
      isplitl [Hf2]; · iexists _; iexact Hf2
      isplitl [Hf3]; · iexact Hf3
      isplitl [Hf4]; · iexact Hf4
      isplitl [Hf5]; · iexact Hf5
      isplitl [Hf6]; · iexact Hf6
      iexact Hf7
    iexact HRB
  isplitr [HO]
  · isplitr [HRS]
    · isplitl [Hs0]; · iexact Hs0
      isplitl [Hs1]; · iexact Hs1
      isplitl [Hs2]; · iexact Hs2
      isplitl [Hs3]; · iexact Hs3
      iexact Hs4
    iexact HRS
  iexact HO

theorem defs₀_tile0 (c : Fin τ.nSC) (s : Fin τ.nSub) :
    defs₀ (F := F) (.scVector c s) 0 ⟨⟩
      = SparseCore.onTile hcore0 hsub0 (fun c s => cc0_body (coordsOf c s) (Memref.whole main_v12_scv) (Memref.isWhole_whole _) (Memref.whole main_v14_scv) (Memref.isWhole_whole _)
            (Memref.whole main_v6_scv) (Memref.isWhole_whole _) (Memref.whole main_v9_scv) (Memref.isWhole_whole _) (Memref.whole main_v15_scv) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) cc0_scratch7 cc0_scoped0 cc0_scoped1 cc0_scoped2) ⟨⟩ c s := rfl

theorem defs₀_tile1 (c : Fin τ.nSC) (s : Fin τ.nSub) :
    defs₀ (F := F) (.scVector c s) 2 ⟨⟩
      = SparseCore.onTile hcore2 hsub2 (fun c s => cc2_body (coordsOf c s) (Memref.whole main_v24_scv) (Memref.isWhole_whole _) (Memref.whole main_v26_scv) (Memref.isWhole_whole _)
            (Memref.whole main_v6_scv) (Memref.isWhole_whole _) (Memref.whole main_v9_scv) (Memref.isWhole_whole _) (Memref.whole main_v21_scv) (Memref.isWhole_whole _)
            (Memref.whole main_v27_scv) (Memref.isWhole_whole _)
            (Memref.whole cc2_scratch0) (Memref.isWhole_whole _) (Memref.whole cc2_scratch1) (Memref.isWhole_whole _) (Memref.whole cc2_scratch2) (Memref.isWhole_whole _)
            (Memref.whole cc2_scratch3) (Memref.isWhole_whole _) (Memref.whole cc2_scratch4) (Memref.isWhole_whole _) (Memref.whole cc2_scratch5) (Memref.isWhole_whole _)
            (Memref.whole cc2_scratch6) (Memref.isWhole_whole _) (Memref.whole cc2_scratch7) (Memref.isWhole_whole _) cc2_scratch8 cc2_scoped0 cc2_scoped1 cc2_scoped2 cc2_scoped3) ⟨⟩ c s := rfl

theorem task_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hI : ∀ d, (I d).Ok) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ⟨⟩)) _
  refine BI.Entails.trans ?_ (Pipeline.wp_liftProg (D (F := F)) (Pipeline.defs_kernel pcfgs defs₀) 𝒱₀ _ Set.univ none _ _)
  rw [defs₀_tile0]; simp only [SparseCore.onTile, hci, and_self, ↓reduceDIte]
  exact (task0 I d ⟨_, hci.1⟩ ⟨_, hci.2⟩ hI O W hO).trans (wp_mono frame _ _ fun _ => task_post)

set_option maxRecDepth 16384 in
theorem tileObl1 (hI : ∀ d, (I d).Ok) : (K (F := F)).TileObl (D (F := F)) 𝒱 (P I) v₀ 1 := by
  intro d c i O W hO _ _
  simp only [show (P I).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ⟨⟩)) _
  refine BI.Entails.trans ?_ (Pipeline.wp_liftProg (D (F := F)) (Pipeline.defs_kernel pcfgs defs₀) 𝒱₀ _ Set.univ none _ _)
  rw [defs₀_tile1]; simp only [SparseCore.onTile, hci, and_self, ↓reduceDIte]
  exact (task1 I d ⟨_, hci.1⟩ ⟨_, hci.2⟩ hI O W hO).trans (wp_mono frame _ _ fun _ => task_post)

end Task

end Cert.Proof

end
-- ==== Proof.Region.lean ====
/-
  A TensorCore call beside the SparseCore calls: the step of `@main` that runs one of them, from the arrays its
  windows stage at a valuation to those arrays at another, what the core owes the later SparseCore call untouched.
-/
module

public import proofs.«01_k».proof.Proof.Launch
public import Idealize.ShloMosaic.Lib.Pipeline.RegionArrays
public import Idealize.ShloMosaic.Lib.Pipeline.FrameBody
public import Idealize.ShloMosaic.Lib.Pipeline.Value

@[expose] public section

noncomputable section

namespace Cert.Proof

open Idealize.ShloMosaic Idealize.ShloMosaic.ValueIdx
open Idealize.ShloMosaic.SparseCore (S V T)
open Idealize.ShloMosaic.SparseCore.Cfg (HIx Pay)
open Idealize.ShloMosaic.StableHlo (held)
open Idealize.ShloMosaic.Pipeline (Dat RegionSeg)
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The staging cells of the two calls -/

/-- The staging semaphores of each call. -/
abbrev stagingOf : Fin 2 → List (DmaSem sig)
  | 0 => Pipeline.specSems spec1
  | 1 => Pipeline.specSems spec3
  | ⟨_ + 2, h⟩ => absurd h (Nat.not_lt.2 (Nat.le_add_left _ _))

theorem staging_cells : Function.Injective (Pipeline.cellOf (nD := nD) (τ := τ) cfgs) :=
  Pipeline.cellOf_injective_of_table cfgs stagingOf (fun | 0 => rfl | 1 => rfl | ⟨_ + 2, h⟩ => absurd h (Nat.not_lt.2 (Nat.le_add_left _ _)))
    (by decide) (by decide)

/-- No table precedes the windows. -/
abbrev adm : (p : Fin 2) → (pcfgs (F := F) p).Adm := fun p => (cfgs p).toPCfg_adm

/-- The layout facts of a call's windows. -/
theorem layout1 : Pipeline.LaunchFacts (nD := nD) (τ := τ) cfgs 0 :=
  ⟨staging_cells, (by decide : Pipeline.WinFacts spec1), (by decide : ∀ w : Fin 6, 0 < (spec1 w).block.numel),
    fun | 0 => Memref.isWhole_whole _ | 1 => Memref.isWhole_whole _ | 2 => Memref.isWhole_whole _ | 3 => Memref.isWhole_whole _
        | 4 => Memref.isWhole_whole _ | 5 => Memref.isWhole_whole _ | ⟨_ + 6, h⟩ => absurd h (Nat.not_lt.2 (Nat.le_add_left _ _)),
    fun | 0 => fun s => hstage1_0 (s.cast nbuf1_0) | 1 => fun s => hstage1_1 (s.cast nbuf1_1) | 2 => fun s => hstage1_2 (s.cast nbuf1_2)
        | 3 => fun s => hstage1_3 (s.cast nbuf1_3) | 4 => fun s => hstage1_4 (s.cast nbuf1_4) | 5 => fun s => hstage1_5 (s.cast nbuf1_5)
        | ⟨_ + 6, h⟩ => absurd h (Nat.not_lt.2 (Nat.le_add_left _ _))⟩

theorem layout3 : Pipeline.LaunchFacts (nD := nD) (τ := τ) cfgs 1 :=
  ⟨staging_cells, (by decide : Pipeline.WinFacts spec3), (by decide : ∀ w : Fin 7, 0 < (spec3 w).block.numel),
    fun | 0 => Memref.isWhole_whole _ | 1 => Memref.isWhole_whole _ | 2 => Memref.isWhole_whole _ | 3 => Memref.isWhole_whole _
        | 4 => Memref.isWhole_whole _ | 5 => Memref.isWhole_whole _ | 6 => Memref.isWhole_whole _ | ⟨_ + 7, h⟩ => absurd h (Nat.not_lt.2 (Nat.le_add_left _ _)),
    fun | 0 => fun s => hstage3_0 (s.cast nbuf3_0) | 1 => fun s => hstage3_1 (s.cast nbuf3_1) | 2 => fun s => hstage3_2 (s.cast nbuf3_2)
        | 3 => fun s => hstage3_3 (s.cast nbuf3_3) | 4 => fun s => hstage3_4 (s.cast nbuf3_4) | 5 => fun s => hstage3_5 (s.cast nbuf3_5)
        | 6 => fun s => hstage3_6 (s.cast nbuf3_6) | ⟨_ + 7, h⟩ => absurd h (Nat.not_lt.2 (Nat.le_add_left _ _))⟩

/-! ## The step -/

/-- The waits the core may have on record after `n` SparseCore calls. -/
abbrev below (d : Dev nD) (n : ℕ) : Set (SemLoc sig × HIx 2) := {p | (K (F := F)).lev (SparseCore.T d, p.1) p.2 ≤ 8 * SparseCore.Cfg.Blocks.fst (Q := 2) (N := 2) n}

/-- A call's proof data as `@main` meets it after `n` SparseCore calls: the core owes what the later calls take, its
    recorded waits are bounded, the scoped buffers no window stages pass through. -/
structure Beside (pd : (p : Fin 2) → (c : Dev nD) → Dat τ (Elt F) (HIx 2) ℕ UU ℕ (cfgs p) c) (p : Fin 2) (n : ℕ) : Prop where
  owed : ∀ c t, (pd p c).owed t = (K (F := F)).Otc c n
  recorded : ∀ c t, (pd p c).recorded t = below (F := F) c n
  inv : ∀ c t, (pd p c).Φ t = Pipeline.scopedRest (cfgs p).spec c
  share : ∀ c w, (pd p c).share w = fullShare

theorem owed_none (d : Dev nD) (n : ℕ) (g : GSem nD τ sig) : (K (F := F)).Otc (N := 2) d n g none = 0 :=
  Nat.eq_zero_of_not_pos fun h => by
    have h' := (K (F := F)).lev_of_Otc_pos h
    rw [SparseCore.Cfg.lev_none] at h'
    omega

variable [FloatOps F]

section Step

variable (pd : (p : Fin 2) → (c : Dev nD) → Dat τ (Elt F) (HIx 2) ℕ UU ℕ (cfgs p) c) (p : Fin 2) (n : ℕ)
  (kit : Pipeline.LaunchFacts (nD := nD) (τ := τ) cfgs p)
  (hbody : ∀ c, Pipeline.BodyObligationLoose (pd p c) (defs₀ (F := F)) 𝒱₀ none Set.univ) (hb : Beside pd p n)
  (W W' : Dev nD → Valuation τ sig (Elt F))
  (hW : ∀ c w, (pd p c).arrAt w 0 = W c (Proc.devRef .tc (Pipeline.arrRef (cfgs p).spec w)))
  (hW' : ∀ c w, (pd p c).arrAt w (cfgs p).N = W' c (Proc.devRef .tc (Pipeline.arrRef (cfgs p).spec w)))

/-- The arrays the windows of call `p` stage. -/
abbrev staged (p : Fin 2) : Finset (DevRef τ sig) := Pipeline.arrRefs (cfgs p).spec

/-- What the core owes and has on record. -/
abbrev dues (d : Dev nD) (n : ℕ) : sProp 𝕄 :=
  iprop(∃ W, ⌜(K (F := F)).WBelow (SparseCore.T d) W (8 * SparseCore.Cfg.Blocks.fst (Q := 2) (N := 2) n)⌝ ∗ owes (SparseCore.T d) ((K (F := F)).Otc d n) W)

/-- The call as a region over the arrays its windows stage. -/
def regionOf : RegionSeg (pcfgs (F := F)) adm pd none (defs₀ (F := F)) 𝒱₀ (K (F := F)).L (K (F := F)).lev p where
  win := kit.win.to₀
  block_pos := kit.block_pos
  stage_whole := kit.stage_whole
  K := PEmpty
  osem k := k.elim
  ho := Pipeline.OwnSemFacts.none _
  hbody := hbody
  hwaits c := Pipeline.cellsWaits_intro cfgs pd none p c fun w s t => by
    rw [hb.owed]
    exact (K (F := F)).mayWait_none _ (owed_none c n)
  pre c := iprop(held (c.tc : Thread nD τ) (staged p) (W c) ∗ dues c n)
  post c := iprop(held (c.tc : Thread nD τ) (staged p) (W' c) ∗ dues c n)
  X _ := iprop(emp)
  Y _ := iprop(emp)
  Z _ := iprop(emp)
  hentry c := by
    rw [Pipeline.ownSems0_none, Pipeline.prefHeld_of_none _ rfl,
      ← Pipeline.arrays_held (pcfgs (F := F)) adm pd p kit.toP c (hb.share c) ((pd p c).arrAt · 0) (W c) (hW c)]
    iintro ⟨⟨Ha, %Wt, %hWt, HO⟩, -, -⟩
    imodintro
    isplitl [Ha]; · iexact Ha
    isplitr; · iempintro
    isplitl [HO]
    · unfold Dat.owesAt Pipeline.owesWithin Dat.bound
      rw [hb.owed c 0, hb.recorded c 0]
      iexists Wt; isplitr
      · ipureintro; exact fun q hq => Or.inl (hWt q hq)
      iexact HO
    isplitr <;> iempintro
  hin c := by
    rw [hb.inv c 0]
    iintro ⟨-, -, Hr⟩
    iexact Hr
  hout c := by
    rw [Pipeline.ownSems0_none, hb.inv c (Fin.last _)]
    iintro Hr
    isplitr; · iempintro
    isplitr; · iempintro
    iexact Hr
  hexit c := by
    rw [← Pipeline.arrays_held (pcfgs (F := F)) adm pd p kit.toP c (hb.share c) ((pd p c).arrAt · (cfgs p).N) (W' c) (hW' c)]
    iintro ⟨Ha, HO, -, -⟩
    imodintro
    isplitl [Ha]; · iexact Ha
    unfold Dat.owesAt Pipeline.owesWithin Dat.bound
    rw [hb.owed c (Fin.last _), hb.recorded c (Fin.last _)]
    icases HO with ⟨%Wt, %hWt, HO⟩
    iexists Wt; isplitr
    · ipureintro
      intro q hq
      rcases hWt hq with h | ⟨w, s, h⟩
      · exact h
      · rw [h, SparseCore.Cfg.lev_none]; exact Nat.zero_le _
    iexact HO

/-- A TensorCore call in the signature the SparseCore calls' is built on, -/
abbrev layerCall (p : Fin 2) : Prog (TpuEff nD τ sig (Elt F) (ΛP (F := F)) .tc) PUnit := .op (.customCall (Pipeline.entry p) ()) fun _ => .ret ⟨⟩

/-- and as `@main` makes it. -/
abbrev layerCallMain (p : Fin 2) : Prog (TpuEff nD τ sig (Elt F) (SparseCore.Sig (ΛP (F := F)) 2) .tc) PUnit :=
  Prog.lift (.customCall (SparseCore.inner (Pipeline.entry p)) ())

theorem layerCall_lift (p : Fin 2) : layerCallMain (F := F) p = SparseCore.liftProg (layerCall (F := F) p) := rfl

include kit hbody hb hW hW' in
/-- The TensorCore call in `@main`, after `n` SparseCore calls. -/
theorem wp_layer [∀ e, Nonempty (Elt F e)] {P : (K (F := F)).Pay (nD := nD) (Val := Elt F) (Name := ℕ) (U := UU)} (κ : GSem nD τ sig → ℕ) (d : Dev nD)
    (Q : PUnit → sProp 𝕄) :
    iprop((K (F := F)).ctx EH P κ ∗ (K (F := F)).tcSt EH d n ∗ boundary (SparseCore.T d) ∗ held (SparseCore.T d) (staged p) (W d)
        ∗ Pipeline.cellsGhost cfgs EP p d ∗ Pipeline.toksInit cfgs EP p d
        ∗ (iprop((K (F := F)).tcSt EH d n ∗ boundary (SparseCore.T d) ∗ held (SparseCore.T d) (staged p) (W' d)) -∗ Q ⟨⟩))
      ⊢ wp frame (wpE ((K (F := F)).defs (D (F := F))) 𝒱 (SparseCore.T d) none) Set.univ
          (layerCallMain (F := F) p) Q := by
  have hstep := RegionSeg.wp (pcfgs (F := F)) adm pd none staging_cells EP (defs₀ (F := F)) 𝒱₀ (K (F := F)).L (K (F := F)).lev
    (regionOf pd p n kit hbody hb W W' hW hW') d none (fun _ h => absurd h (by simp)) (fun _ => .ret ⟨⟩) Q
  have hpre : (regionOf pd p n kit hbody hb W W' hW hW').pre d = iprop(held (d.tc : Thread nD τ) (staged p) (W d) ∗ dues d n) := rfl
  have hpost : (regionOf pd p n kit hbody hb W W' hW hW').post d = iprop(held (d.tc : Thread nD τ) (staged p) (W' d) ∗ dues d n) := rfl
  rw [hpre, hpost] at hstep
  rw [layerCall_lift]
  have hlift := (K (F := F)).wp_liftProg (D (F := F)) 𝒱 (SparseCore.T d) Set.univ none (layerCall (F := F) p) Q
  refine BIBase.Entails.trans ?_ (hstep.trans hlift)
  unfold SparseCore.Cfg.tcSt
  iintro ⟨#Hctx, ⟨HO, Hat, Hre, Hrs, Hto⟩, Hb, Hh, Hg, Ht, Hk⟩
  ihave Hl := (SparseCore.Cfg.ctx_levAts κ) $$ Hctx
  isplitl [Hk Hat Hre Hrs Hto]
  · iintro ⟨Hb, Hh, HO⟩
    rw [wp_ret]
    imodintro
    iapply Hk
    isplitl [HO Hat Hre Hrs Hto]
    · isplitl [HO]; · iexact HO
      isplitl [Hat]; · iexact Hat
      isplitl [Hre]; · iexact Hre
      isplitl [Hrs]; · iexact Hrs
      iexact Hto
    isplitl [Hb]; · iexact Hb
    iexact Hh
  isplitl [Hb]; · iexact Hb
  isplitl [Hh HO]
  · isplitl [Hh]; · iexact Hh
    iexact HO
  isplitl [Hl]; · iexact Hl
  isplitl [Hg]; · iexact Hg
  iexact Ht

end Step

end Cert.Proof

end
-- ==== Proof.Layer1.lean ====
/-
  The first layer's call on the TensorCore: at each point its body turns the point's blocks of the features, the
  neighbour sums, the two weight matrices and the bias into a block of the hidden features.
-/
module

public import proofs.«01_k».proof.Proof.Region
public import Idealize.ShloMosaic.Lib.Ring
public import Idealize.ShloMosaic.Lib.Tactic
public import Idealize.ShloMosaic.Lib.WordCmp

@[expose] public section

set_option maxRecDepth 16384

noncomputable section

namespace Cert.Proof

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.ShloMosaic.Pipeline (Dat Window BodyObligation)
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ
theorem N_1 : grid1.N = 80 := by decide
theorem N_3 : grid3.N = 80 := by decide

theorem hz2 : (![0, 0] : Fin 2 → Nat) = fun _ => 0 := funext fun a => by fin_cases a <;> rfl
theorem hz3 : (![0, 0, 0] : Fin 3 → Nat) = fun _ => 0 := funext fun a => by fin_cases a <;> rfl

set_option maxHeartbeats 1000000 in
/-- The first layer's body at any point: the output buffer ends at the layer's block of the five inputs'. -/
theorem body1 (c : Dev nD) (i : grid1.Coords) (a0 : Memref sig .tc .vmem S1000x512 .f32) (h0 : a0.IsWhole) (a1 : Memref sig .tc .vmem S1000x512 .f32) (h1 : a1.IsWhole) (a2 : Memref sig .tc .vmem S1x512x512 .f32) (h2 : a2.IsWhole) (a3 : Memref sig .tc .vmem S1x512x512 .f32) (h3 : a3.IsWhole) (a4 : Memref sig .tc .vmem S1x1x512 .f32) (h4 : a4.IsWhole) (a5 : Memref sig .tc .vmem S1x1000x512 .f32) (h5 : a5.IsWhole)
    (x0 : Vec F S1000x512 .f32) (x1 : Vec F S1000x512 .f32) (x2 : Vec F S1x512x512 .f32) (x3 : Vec F S1x512x512 .f32) (x4 : Vec F S1x1x512 .f32) (E : Set ℕ) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ (∃ d, owns (c : Thread nD τ) a5 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare (k1_pay1 x0 x2 x1 x3 x4)) -∗ Q ⟨⟩))
      ⊢ wp frame (wpE (defs₀ (F := F)) 𝒱₀ c none) E (cc1__layer1_body i a0 h0 a1 h1 a2 h2 a3 h3 a4 h4 a5 h5) Q := by
  simp only [cc1__layer1_body_eq_skeleton]; unfold cc1__layer1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := h0.eq_unread hf0; obtain rfl := h1.eq_unread hf1; obtain rfl := h2.eq_unread hf2; obtain rfl := h3.eq_unread hf3; obtain rfl := h4.eq_unread hf4
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  iexists _; isplitr
  swap; · iexact H5
  ipureintro
  rw [View.read_writes_eq_canon _ _ _ (fun y => View.cover_of_tiledL _ S1x1000x512.size (by sl_kernel_rfl) y)]
  try sl_unfold_words
  rw [View.canon_unit_zero hz3]
  simp only [View.readAt_eq_ld, h0.read_unread, h1.read_unread, h2.read_unread, h3.read_unread, h4.read_unread, h5.read_unread, View.ld_unit_zero (S := S1000x512) hz2, View.ld_unit_zero (S := S1x1000x512) hz3, View.ld_unit_zero (S := S1x1x512) hz3, View.ld_unit_zero (S := S1x512x512) hz3, shapeCast_self]

/-! ## The proof data -/

variable (V : Dev nD → Valuation τ sig (Elt F))

/-- Window `w`'s block at point `t`, of its array at `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- What the body leaves in the output buffer at point `t`. -/
def res1 (c : Dev nD) (t : Fin cfg1.N) : Vec F S1x1000x512 .f32 := k1_pay1 (blk1 V c 0 t) (blk1 V c 2 t) (blk1 V c 1 t) (blk1 V c 3 t) (blk1 V c 4 t)

/-- The call's proof data over arrays at `V`, made after `1` SparseCore call. -/
def dat1 (c : Dev nD) : Dat τ (Elt F) (HIx 2) ℕ UU ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => res1 V c t
  Φ _ := Pipeline.scopedRest spec1 c
  q _ := fullShare
  owed _ := (K (F := F)).Otc c 1
  recorded _ := below (F := F) c 1

theorem arr1_A (c : Dev nD) (w : Fin cfg1.W) : (dat1 V c).A w = V c (Proc.devRef .tc (Pipeline.arrRef spec1 w)) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = res1 V c t := by dsimp only [dat1]

/-! An input's buffer holds its block at every point. -/

theorem before1_0 (c : Dev nD) (t : Fin cfg1.N) (d) : (dat1 V c).before 0 t d = blk1 V c 0 t :=
  ((dat1 V c).before_in_eq_fetched 0 rfl (fun _ => rfl) (fun _ _ _ => rfl)
    (fun t => by rw [after1_0]; unfold Dat.blockOf blk1; rw [arr1_A]; try rfl) t d).trans
    (by unfold Dat.fetched Dat.blockOf blk1; rw [arr1_A]; try rfl)
theorem before1_1 (c : Dev nD) (t : Fin cfg1.N) (d) : (dat1 V c).before 1 t d = blk1 V c 1 t :=
  ((dat1 V c).before_in_eq_fetched 1 rfl (fun _ => rfl) (fun _ _ _ => rfl)
    (fun t => by rw [after1_1]; unfold Dat.blockOf blk1; rw [arr1_A]; try rfl) t d).trans
    (by unfold Dat.fetched Dat.blockOf blk1; rw [arr1_A]; try rfl)
theorem before1_2 (c : Dev nD) (t : Fin cfg1.N) (d) : (dat1 V c).before 2 t d = blk1 V c 2 t :=
  ((dat1 V c).before_in_eq_fetched 2 rfl (fun _ => rfl) (fun _ _ _ => rfl)
    (fun t => by rw [after1_2]; unfold Dat.blockOf blk1; rw [arr1_A]; try rfl) t d).trans
    (by unfold Dat.fetched Dat.blockOf blk1; rw [arr1_A]; try rfl)
theorem before1_3 (c : Dev nD) (t : Fin cfg1.N) (d) : (dat1 V c).before 3 t d = blk1 V c 3 t :=
  ((dat1 V c).before_in_eq_fetched 3 rfl (fun _ => rfl) (fun _ _ _ => rfl)
    (fun t => by rw [after1_3]; unfold Dat.blockOf blk1; rw [arr1_A]; try rfl) t d).trans
    (by unfold Dat.fetched Dat.blockOf blk1; rw [arr1_A]; try rfl)
theorem before1_4 (c : Dev nD) (t : Fin cfg1.N) (d) : (dat1 V c).before 4 t d = blk1 V c 4 t :=
  ((dat1 V c).before_in_eq_fetched 4 rfl (fun _ => rfl) (fun _ _ _ => rfl)
    (fun t => by rw [after1_4]; unfold Dat.blockOf blk1; rw [arr1_A]; try rfl) t d).trans
    (by unfold Dat.fetched Dat.blockOf blk1; rw [arr1_A]; try rfl)

/-- The body at point `t`, on the buffers the windows are at. -/
abbrev bodyAt1 (t : Fin cfg1.N) : Prog (TpuEff nD τ sig (Elt F) Λ₀ .tc) PUnit :=
  cc1__layer1_body (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5))

theorem row1 (t : Fin cfg1.N) : defs₀ (F := F) .tc cfg1.body (cfg1.bodyArgs t (cfg1.slots t)) = bodyAt1 t := by
  unfold defs₀; rfl

theorem sep6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

set_option maxHeartbeats 1000000 in
/-- The body at any point, from what the pipeline hands it to what it takes back. -/
theorem sound1 (c : Dev nD) (t : Fin cfg1.N) :
    iprop((dat1 V c).Φ t.castSucc ∗ (dat1 V c).owesAt none t.castSucc ∗ (∃ d, owns (c : Thread nD τ) (win1_0.stage (cfg1.slots t 0) : Memref sig .tc .vmem S1000x512 .f32) fullShare ((dat1 V c).before 0 t d)) ∗ (∃ d, owns (c : Thread nD τ) (win1_1.stage (cfg1.slots t 1) : Memref sig .tc .vmem S1000x512 .f32) fullShare ((dat1 V c).before 1 t d)) ∗ (∃ d, owns (c : Thread nD τ) (win1_2.stage (cfg1.slots t 2) : Memref sig .tc .vmem S1x512x512 .f32) fullShare ((dat1 V c).before 2 t d)) ∗ (∃ d, owns (c : Thread nD τ) (win1_3.stage (cfg1.slots t 3) : Memref sig .tc .vmem S1x512x512 .f32) fullShare ((dat1 V c).before 3 t d)) ∗ (∃ d, owns (c : Thread nD τ) (win1_4.stage (cfg1.slots t 4) : Memref sig .tc .vmem S1x1x512 .f32) fullShare ((dat1 V c).before 4 t d)) ∗ (∃ d, owns (c : Thread nD τ) (win1_5.stage (cfg1.slots t 5) : Memref sig .tc .vmem S1x1000x512 .f32) fullShare ((dat1 V c).before 5 t d)))
      ⊢ wp frame (wpE (defs₀ (F := F)) 𝒱₀ c none) Set.univ (bodyAt1 t)
          (fun _ => iprop((dat1 V c).Φ t.succ ∗ (dat1 V c).owesAt none t.succ ∗ owns (c : Thread nD τ) (win1_0.stage (cfg1.slots t 0) : Memref sig .tc .vmem S1000x512 .f32) fullShare ((dat1 V c).after 0 t) ∗ owns (c : Thread nD τ) (win1_1.stage (cfg1.slots t 1) : Memref sig .tc .vmem S1000x512 .f32) fullShare ((dat1 V c).after 1 t) ∗ owns (c : Thread nD τ) (win1_2.stage (cfg1.slots t 2) : Memref sig .tc .vmem S1x512x512 .f32) fullShare ((dat1 V c).after 2 t) ∗ owns (c : Thread nD τ) (win1_3.stage (cfg1.slots t 3) : Memref sig .tc .vmem S1x512x512 .f32) fullShare ((dat1 V c).after 3 t) ∗ owns (c : Thread nD τ) (win1_4.stage (cfg1.slots t 4) : Memref sig .tc .vmem S1x1x512 .f32) fullShare ((dat1 V c).after 4 t) ∗ owns (c : Thread nD τ) (win1_5.stage (cfg1.slots t 5) : Memref sig .tc .vmem S1x1000x512 .f32) fullShare ((dat1 V c).after 5 t))) := by
  unfold bodyAt1
  simp only [before1_0, before1_1, before1_2, before1_3, before1_4]
  rw [show (dat1 V c).Φ t.succ = (dat1 V c).Φ t.castSucc from rfl,
    show (dat1 V c).owesAt none t.succ = (dat1 V c).owesAt none t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (body1 c (grid1.coords t) _ _ _ _ _ _ _ _ _ _ _ _ (blk1 V c 0 t) (blk1 V c 1 t) (blk1 V c 2 t) (blk1 V c 3 t) (blk1 V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem obligation1 (c : Dev nD) : BodyObligation (dat1 (F := F) V c) (defs₀ (F := F)) 𝒱₀ none Set.univ := fun t => by
  rw [sep6, sep6, row1]
  exact triple_restated (sound1 V c t) rfl .rfl fun _ => .rfl

/-! ## The array the call leaves -/

set_option backward.proofsInPublic true in
/-- The hidden features: at each entry what the body left at the point of its expert and block of rows. -/
def hidden1 (c : Dev nD) : Buf (Elt F) ((c : Thread nD τ).loc main_v18) := fun i =>
  res1 V c ⟨8 * ((i 1).val / 1000) + (i 0).val, by
    have h0 : (i 0).val < 8 := (i 0).isLt
    have h1 : (i 1).val < 10000 := (i 1).isLt
    show _ < grid1.N
    rw [N_1]; omega⟩ (ix3 (0 : Fin 1) (Fin.ofNat 1000 (i 1).val) (Fin.ofNat 512 (i 2).val))

/-- Every point's block of the hidden features is at its expert and its block of rows. -/
theorem place1 : ∀ t : Fin cfg1.N, win1_5.index t (0 : Fin 3) = t.val % 8 ∧ win1_5.index t (1 : Fin 3) = t.val / 8 ∧ win1_5.index t (2 : Fin 3) = 0 :=
  (by decide +kernel : ∀ t : Fin grid1.N, _)

theorem flush1 : ∀ t : Fin cfg1.N, (cfg1.win 5).flush t = true :=
  (by decide +kernel : ∀ t : Fin grid1.N, win1_5.flush t = true)

theorem flushed1 (c : Dev nD) (t : Fin cfg1.N) : (dat1 V c).flushed 5 t = ((cfg1.win 5).blk t).view.read (Elt F) (hidden1 V c) := by
  show (cfg1.win 5).cut (grid1.coords t) ((dat1 V c).after 5 t) = _
  rw [after1_5]
  obtain ⟨e0, e1, e2⟩ := place1 t
  have hN : t.val < 80 := lt_of_lt_of_eq t.isLt (show cfg1.N = 80 from N_1)
  funext y
  have hy0 : (y 0).val < 1 := (y 0).isLt
  have hy1 : (y 1).val < 1000 := (y 1).isLt
  have hy2 : (y 2).val < 512 := (y 2).isLt
  have hb0 : (((cfg1.win 5).blk t).view.emb y 0).val = win1_5.index t (0 : Fin 3) * 1 + 1 * (y 0).val := rfl
  have hb1 : (((cfg1.win 5).blk t).view.emb y 1).val = win1_5.index t (1 : Fin 3) * 1000 + 1 * (y 1).val := rfl
  have hb2 : (((cfg1.win 5).blk t).view.emb y 2).val = win1_5.index t (2 : Fin 3) * 512 + 1 * (y 2).val := rfl
  show res1 V c t ((cfg1.win 5).xinj (grid1.coords t) y) = hidden1 V c (((cfg1.win 5).blk t).view.emb y)
  unfold hidden1
  have ht : ∀ h, t = (⟨8 * ((((cfg1.win 5).blk t).view.emb y 1).val / 1000) + (((cfg1.win 5).blk t).view.emb y 0).val, h⟩ : Fin cfg1.N) := by
    intro h; apply Fin.ext; show t.val = 8 * ((((cfg1.win 5).blk t).view.emb y 1).val / 1000) + (((cfg1.win 5).blk t).view.emb y 0).val; rw [hb0, hb1, e0, e1]; omega
  have hl : (cfg1.win 5).xinj (grid1.coords t) y
      = ix3 (0 : Fin 1) (Fin.ofNat 1000 (((cfg1.win 5).blk t).view.emb y 1).val) (Fin.ofNat 512 (((cfg1.win 5).blk t).view.emb y 2).val) := by
    funext a; apply Fin.ext
    match a with
    | ⟨0, _⟩ => show (y 0).val = 0; omega
    | ⟨1, _⟩ => show (y 1).val = (((cfg1.win 5).blk t).view.emb y 1).val % 1000; rw [hb1]; omega
    | ⟨2, _⟩ => show (y 2).val = (((cfg1.win 5).blk t).view.emb y 2).val % 512; rw [hb2, e2]; omega
  rw [hl]
  exact congrFun (congrArg (res1 V c) (ht _)) _

theorem mem_blk1 (t : Fin cfg1.N) (i : S8x10000x512.Idx) :
    i ∈ ((cfg1.win 5).blk t).view.set ↔ ∀ a : Fin 3, win1_5.index t a * S1x1000x512.size a ≤ (i a).val ∧ (i a).val < win1_5.index t a * S1x1000x512.size a + S1x1000x512.size a := by
  show i ∈ ((View.whole main_v18).slice (win1_5.rect t)).set ↔ _
  rw [View.set_slice_whole, Rect.mem_set_unit]
  exact Iff.rfl

theorem final1 (c : Dev nD) : (dat1 V c).arrAt 5 cfg1.N = hidden1 V c :=
  (dat1 V c).arrAt_eq_of_cover 5 _ (fun t _ => flushed1 V c t) fun i => by
    have h0 : (i 0).val < 8 := (i 0).isLt
    have h1 : (i 1).val < 10000 := (i 1).isLt
    have h2 : (i 2).val < 512 := (i 2).isLt
    have hN : 8 * ((i 1).val / 1000) + (i 0).val < cfg1.N := by show _ < grid1.N; rw [N_1]; omega
    obtain ⟨e0, e1, e2⟩ := place1 ⟨_, hN⟩
    dsimp only at e0 e1 e2
    refine ⟨⟨_, hN⟩, flush1 _, (mem_blk1 _ _).mpr fun a => ?_⟩
    match a with
    | ⟨0, _⟩ => show win1_5.index _ (0 : Fin 3) * 1 ≤ (i 0).val ∧ (i 0).val < win1_5.index _ (0 : Fin 3) * 1 + 1; rw [e0]; omega
    | ⟨1, _⟩ => show win1_5.index _ (1 : Fin 3) * 1000 ≤ (i 1).val ∧ (i 1).val < win1_5.index _ (1 : Fin 3) * 1000 + 1000; rw [e1]; omega
    | ⟨2, _⟩ => show win1_5.index _ (2 : Fin 3) * 512 ≤ (i 2).val ∧ (i 2).val < win1_5.index _ (2 : Fin 3) * 512 + 512; rw [e2]; omega

/-- The arrays after the call. -/
def after1 (c : Dev nD) : Valuation τ sig (Elt F) := Function.update (V c) (Proc.devRef .tc (main_v18 : Ref sig .tc)) (hidden1 V c)

theorem ends1 (c : Dev nD) (w : Fin 6) : (dat1 V c).arrAt w cfg1.N = after1 V c (Proc.devRef .tc (Pipeline.arrRef spec1 w)) := by
  unfold after1
  match w with
  | ⟨0, _⟩ => exact ((dat1 V c).arrAt_in 0 rfl _).trans ((arr1_A V c 0).trans (Function.update_of_ne (by decide) _ _).symm)
  | ⟨1, _⟩ => exact ((dat1 V c).arrAt_in 1 rfl _).trans ((arr1_A V c 1).trans (Function.update_of_ne (by decide) _ _).symm)
  | ⟨2, _⟩ => exact ((dat1 V c).arrAt_in 2 rfl _).trans ((arr1_A V c 2).trans (Function.update_of_ne (by decide) _ _).symm)
  | ⟨3, _⟩ => exact ((dat1 V c).arrAt_in 3 rfl _).trans ((arr1_A V c 3).trans (Function.update_of_ne (by decide) _ _).symm)
  | ⟨4, _⟩ => exact ((dat1 V c).arrAt_in 4 rfl _).trans ((arr1_A V c 4).trans (Function.update_of_ne (by decide) _ _).symm)
  | ⟨5, _⟩ => exact (final1 V c).trans (Function.update_self (Proc.devRef .tc (main_v18 : Ref sig .tc)) (hidden1 V c) (V c)).symm

end Cert.Proof

end
-- ==== Proof.Layer2.lean ====
/-
  The second layer's call on the TensorCore: for each block of rows the eight experts' shares are added up in the
  output buffer, which is written back after the last.
-/
module

public import proofs.«01_k».proof.Proof.Region
public import Idealize.ShloMosaic.Lib.Ring
public import Idealize.ShloMosaic.Lib.Tactic
public import Idealize.ShloMosaic.Lib.WordCmp
public import proofs.«01_k».proof.Proof.Layer1

@[expose] public section

set_option maxRecDepth 16384

noncomputable section

namespace Cert.Proof

open Idealize.ShloMosaic Idealize.ShloMosaic.TcCoe Idealize.ShloMosaic.Tactic Idealize.ShloMosaic.ValueIdx
open Idealize.ShloMosaic.SparseCore (S V T)
open Idealize.ShloMosaic.SparseCore.Cfg (HIx Pay)
open Idealize.ShloMosaic.Pipeline (Dat Window BodyObligation)
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ
/-- Whether the body starts a new sum: on the first expert. -/
abbrev fresh2 (i : grid3.Coords) : Prop := (Scalar.cmpi .ne (Scalar.extui (Scalar.cmpi .eq (BitVec.ofNat 32 (i 1).val) 0#32)) 0#32) = 1#1

theorem fresh2_iff : ∀ t : Fin cfg3.N, fresh2 (grid3.coords t) ↔ t.val % 8 = 0 :=
  (fun t => by
    have ht : t.val < 80 := Nat.lt_of_lt_of_eq t.isLt N_3
    have e1 : (grid3.coords t 1).val = t.val / 1 % 8 := Pipeline.Grid.coords_val t 1 (by decide) rfl
    simp only [fresh2, e1]
    word_cmp : ∀ t : Fin grid3.N, fresh2 (grid3.coords t) ↔ t.val % 8 = 0)

set_option maxHeartbeats 1000000 in
/-- The second layer's body on the first expert: the output buffer ends at that expert's share over zero. -/
theorem body2_first (c : Dev nD) (i : grid3.Coords) (a0 : Memref sig .tc .vmem S1x1000x512 .f32) (h0 : a0.IsWhole) (a1 : Memref sig .tc .vmem S1000x512 .f32) (h1 : a1.IsWhole) (a2 : Memref sig .tc .vmem S1x512x256 .f32) (h2 : a2.IsWhole) (a3 : Memref sig .tc .vmem S1x512x256 .f32) (h3 : a3.IsWhole) (a4 : Memref sig .tc .vmem S1x1x256 .f32) (h4 : a4.IsWhole) (a5 : Memref sig .tc .vmem S1x1x1000 .i32) (h5 : a5.IsWhole) (a6 : Memref sig .tc .vmem S1000x256 .f32) (h6 : a6.IsWhole) (hc : fresh2 i)
    (x0 : Vec F S1x1000x512 .f32) (x1 : Vec F S1000x512 .f32) (x2 : Vec F S1x512x256 .f32) (x3 : Vec F S1x512x256 .f32) (x4 : Vec F S1x1x256 .f32) (x5 : Vec F S1x1x1000 .i32) (E : Set ℕ) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (k3_pay2 i x5 x0 x2 x1 x3 x4 (k3_pay1 (F := F)))) -∗ Q ⟨⟩))
      ⊢ wp frame (wpE (defs₀ (F := F)) 𝒱₀ c none) E (cc3__layer2_body i a0 h0 a1 h1 a2 h2 a3 h3 a4 h4 a5 h5 a6 h6) Q := by
  simp only [cc3__layer2_body_eq_skeleton]; unfold cc3__layer2_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [View.read_writes_eq_canon _ _ _ (fun y => View.cover_of_tiledL _ S1000x256.size (by sl_kernel_rfl) y)]
  try sl_unfold_words
  rw [View.canon_cons_unit_zero (S := S1000x256) hz2, View.readCov_unit_zero (S := S1000x256) _ hz2]
  simp only [View.readAt_eq_ld, h0.read_unread, h1.read_unread, h2.read_unread, h3.read_unread, h4.read_unread, h5.read_unread, h6.read_unread, View.ld_unit_zero (S := S1000x256) hz2, View.ld_unit_zero (S := S1000x512) hz2, View.ld_unit_zero (S := S1x1000x512) hz3, View.ld_unit_zero (S := S1x1x1000) hz3, View.ld_unit_zero (S := S1x1x256) hz3, View.ld_unit_zero (S := S1x512x256) hz3, shapeCast_self]

set_option maxHeartbeats 1000000 in
/-- The second layer's body on a later expert: that expert's share is added to what the buffer held. -/
theorem body2_next (c : Dev nD) (i : grid3.Coords) (a0 : Memref sig .tc .vmem S1x1000x512 .f32) (h0 : a0.IsWhole) (a1 : Memref sig .tc .vmem S1000x512 .f32) (h1 : a1.IsWhole) (a2 : Memref sig .tc .vmem S1x512x256 .f32) (h2 : a2.IsWhole) (a3 : Memref sig .tc .vmem S1x512x256 .f32) (h3 : a3.IsWhole) (a4 : Memref sig .tc .vmem S1x1x256 .f32) (h4 : a4.IsWhole) (a5 : Memref sig .tc .vmem S1x1x1000 .i32) (h5 : a5.IsWhole) (a6 : Memref sig .tc .vmem S1000x256 .f32) (h6 : a6.IsWhole) (hc : ¬fresh2 i)
    (x0 : Vec F S1x1000x512 .f32) (x1 : Vec F S1000x512 .f32) (x2 : Vec F S1x512x256 .f32) (x3 : Vec F S1x512x256 .f32) (x4 : Vec F S1x1x256 .f32) (x5 : Vec F S1x1x1000 .i32) (acc : Vec F S1000x256 .f32) (E : Set ℕ) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare acc
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (k3_pay2 i x5 x0 x2 x1 x3 x4 acc)) -∗ Q ⟨⟩))
      ⊢ wp frame (wpE (defs₀ (F := F)) 𝒱₀ c none) E (cc3__layer2_body i a0 h0 a1 h1 a2 h2 a3 h3 a4 h4 a5 h5 a6 h6) Q := by
  simp only [cc3__layer2_body_eq_skeleton]; unfold cc3__layer2_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
  sl_exec (disch := first | sl_exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [View.read_writes_eq_canon _ _ _ (fun y => View.cover_of_tiledL _ S1000x256.size (by sl_kernel_rfl) y)]
  try sl_unfold_words
  rw [View.canon_unit_zero hz2]
  simp only [View.readAt_eq_ld, h0.read_unread, h1.read_unread, h2.read_unread, h3.read_unread, h4.read_unread, h5.read_unread, h6.read_unread, View.ld_unit_zero (S := S1000x256) hz2, View.ld_unit_zero (S := S1000x512) hz2, View.ld_unit_zero (S := S1x1000x512) hz3, View.ld_unit_zero (S := S1x1x1000) hz3, View.ld_unit_zero (S := S1x1x256) hz3, View.ld_unit_zero (S := S1x512x256) hz3, shapeCast_self]

/-! ## The proof data -/

variable (V : Dev nD → Valuation τ sig (Elt F))

/-- Window `w`'s block at point `t`, of its array at `V`. -/
def blk2 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- One expert's addition to the running sum `acc` at point `t`. -/
def add2 (c : Dev nD) (t : Fin cfg3.N) (acc : Vec F S1000x256 .f32) : Vec F S1000x256 .f32 :=
  k3_pay2 (grid3.coords t) (blk2 V c 5 t) (blk2 V c 0 t) (blk2 V c 2 t) (blk2 V c 1 t) (blk2 V c 3 t) (blk2 V c 4 t) acc

/-- The running sum after point `n`: from zero on each first expert, over the point before elsewhere. -/
def sum2 (c : Dev nD) : (n : ℕ) → n < cfg3.N → Vec F S1000x256 .f32
  | 0, h => add2 V c ⟨0, h⟩ (k3_pay1 (F := F))
  | n + 1, h => add2 V c ⟨n + 1, h⟩ (if (n + 1) % 8 = 0 then k3_pay1 (F := F) else sum2 c n (Nat.lt_of_succ_lt h))

abbrev res2 (c : Dev nD) (t : Fin cfg3.N) : Vec F S1000x256 .f32 := sum2 V c t.val t.isLt

theorem sum2_first (c : Dev nD) (t : Fin cfg3.N) (h : t.val % 8 = 0) : res2 V c t = add2 V c t (k3_pay1 (F := F)) := by
  obtain ⟨n, hn⟩ := t
  cases n with
  | zero => rfl
  | succ n => exact congrArg (add2 V c ⟨n + 1, hn⟩) (if_pos h)

theorem sum2_next (c : Dev nD) (t : Fin cfg3.N) (h : ¬t.val % 8 = 0) :
    res2 V c t = add2 V c t (sum2 V c (t.val - 1) (Nat.lt_of_le_of_lt (Nat.sub_le _ _) t.isLt)) := by
  obtain ⟨n, hn⟩ := t
  cases n with
  | zero => exact absurd (Nat.zero_mod _) h
  | succ n => exact congrArg (add2 V c ⟨n + 1, hn⟩) (if_neg h)

/-- The call's proof data over arrays at `V`, made after `2` SparseCore calls. -/
def dat2 (c : Dev nD) : Dat τ (Elt F) (HIx 2) ℕ UU ℕ cfg3 c where
  A w := V c (Proc.devRef .tc (Pipeline.arrRef spec3 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => res2 V c t
  Φ _ := Pipeline.scopedRest spec3 c
  q _ := fullShare
  owed _ := (K (F := F)).Otc c 2
  recorded _ := below (F := F) c 2

theorem arr2_A (c : Dev nD) (w : Fin cfg3.W) : (dat2 V c).A w = V c (Proc.devRef .tc (Pipeline.arrRef spec3 w)) := by dsimp only [dat2]
theorem after2_0 (c : Dev nD) (t : Fin cfg3.N) : (dat2 V c).after 0 t = blk2 V c 0 t := by dsimp only [dat2]
theorem after2_1 (c : Dev nD) (t : Fin cfg3.N) : (dat2 V c).after 1 t = blk2 V c 1 t := by dsimp only [dat2]
theorem after2_2 (c : Dev nD) (t : Fin cfg3.N) : (dat2 V c).after 2 t = blk2 V c 2 t := by dsimp only [dat2]
theorem after2_3 (c : Dev nD) (t : Fin cfg3.N) : (dat2 V c).after 3 t = blk2 V c 3 t := by dsimp only [dat2]
theorem after2_4 (c : Dev nD) (t : Fin cfg3.N) : (dat2 V c).after 4 t = blk2 V c 4 t := by dsimp only [dat2]
theorem after2_5 (c : Dev nD) (t : Fin cfg3.N) : (dat2 V c).after 5 t = blk2 V c 5 t := by dsimp only [dat2]
theorem after2_6 (c : Dev nD) (t : Fin cfg3.N) : (dat2 V c).after 6 t = res2 V c t := by dsimp only [dat2]

/-! An input's buffer holds its block at every point. -/

theorem before2_0 (c : Dev nD) (t : Fin cfg3.N) (d) : (dat2 V c).before 0 t d = blk2 V c 0 t :=
  ((dat2 V c).before_in_eq_fetched 0 rfl (fun _ => rfl) (fun _ _ _ => rfl)
    (fun t => by rw [after2_0]; unfold Dat.blockOf blk2; rw [arr2_A]; try rfl) t d).trans
    (by unfold Dat.fetched Dat.blockOf blk2; rw [arr2_A]; try rfl)
theorem before2_1 (c : Dev nD) (t : Fin cfg3.N) (d) : (dat2 V c).before 1 t d = blk2 V c 1 t :=
  ((dat2 V c).before_in_eq_fetched 1 rfl (fun _ => rfl) (fun _ _ _ => rfl)
    (fun t => by rw [after2_1]; unfold Dat.blockOf blk2; rw [arr2_A]; try rfl) t d).trans
    (by unfold Dat.fetched Dat.blockOf blk2; rw [arr2_A]; try rfl)
theorem before2_2 (c : Dev nD) (t : Fin cfg3.N) (d) : (dat2 V c).before 2 t d = blk2 V c 2 t :=
  ((dat2 V c).before_in_eq_fetched 2 rfl (fun _ => rfl) (fun _ _ _ => rfl)
    (fun t => by rw [after2_2]; unfold Dat.blockOf blk2; rw [arr2_A]; try rfl) t d).trans
    (by unfold Dat.fetched Dat.blockOf blk2; rw [arr2_A]; try rfl)
theorem before2_3 (c : Dev nD) (t : Fin cfg3.N) (d) : (dat2 V c).before 3 t d = blk2 V c 3 t :=
  ((dat2 V c).before_in_eq_fetched 3 rfl (fun _ => rfl) (fun _ _ _ => rfl)
    (fun t => by rw [after2_3]; unfold Dat.blockOf blk2; rw [arr2_A]; try rfl) t d).trans
    (by unfold Dat.fetched Dat.blockOf blk2; rw [arr2_A]; try rfl)
theorem before2_4 (c : Dev nD) (t : Fin cfg3.N) (d) : (dat2 V c).before 4 t d = blk2 V c 4 t :=
  ((dat2 V c).before_in_eq_fetched 4 rfl (fun _ => rfl) (fun _ _ _ => rfl)
    (fun t => by rw [after2_4]; unfold Dat.blockOf blk2; rw [arr2_A]; try rfl) t d).trans
    (by unfold Dat.fetched Dat.blockOf blk2; rw [arr2_A]; try rfl)
theorem before2_5 (c : Dev nD) (t : Fin cfg3.N) (d) : (dat2 V c).before 5 t d = blk2 V c 5 t :=
  ((dat2 V c).before_in_eq_fetched 5 rfl (fun _ => rfl) (fun _ _ _ => rfl)
    (fun t => by rw [after2_5]; unfold Dat.blockOf blk2; rw [arr2_A]; try rfl) t d).trans
    (by unfold Dat.fetched Dat.blockOf blk2; rw [arr2_A]; try rfl)

/-- The sums are written back on each last expert. -/
theorem flush2_iff : ∀ t : Fin cfg3.N, (cfg3.win 6).flush t = true ↔ t.val % 8 = 7 :=
  (fun t => Pipeline.Window.flush_reads win3_6 rfl 0 (by decide) (by decide) (Pipeline.Window.sep_of_coord cc3_transform_6 0 0 (fun _ => rfl) (by decide)) (P := 8) (m := 7) (by decide) rfl t : ∀ t : Fin grid3.N, win3_6.flush t = true ↔ t.val % 8 = 7)

theorem before2_6 (c : Dev nD) (t : Fin cfg3.N) (h : ¬t.val % 8 = 0) (d) :
    (dat2 V c).before 6 t d = sum2 V c (t.val - 1) (Nat.lt_of_le_of_lt (Nat.sub_le _ _) t.isLt) := by
  have hN : t.val < 80 := lt_of_lt_of_eq t.isLt (show cfg3.N = 80 from N_3)
  rw [Dat.before_out_kept _ 6 rfl t (by omega) (Bool.eq_false_iff.mpr fun h => by have := (flush2_iff _).mp h; dsimp only at this; omega)
    (fun _ => rfl) (fun _ _ => rfl), after2_6]

/-- The body at point `t`, on the buffers the windows are at. -/
abbrev bodyAt2 (t : Fin cfg3.N) : Prog (TpuEff nD τ sig (Elt F) Λ₀ .tc) PUnit :=
  cc3__layer2_body (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6))

theorem row2 (t : Fin cfg3.N) : defs₀ (F := F) .tc cfg3.body (cfg3.bodyArgs t (cfg3.slots t)) = bodyAt2 t := by
  unfold defs₀; rfl

theorem sep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

set_option maxHeartbeats 1000000 in
/-- The body at any point, from what the pipeline hands it to what it takes back. -/
theorem sound2 (c : Dev nD) (t : Fin cfg3.N) :
    iprop((dat2 V c).Φ t.castSucc ∗ (dat2 V c).owesAt none t.castSucc ∗ (∃ d, owns (c : Thread nD τ) (win3_0.stage (cfg3.slots t 0) : Memref sig .tc .vmem S1x1000x512 .f32) fullShare ((dat2 V c).before 0 t d)) ∗ (∃ d, owns (c : Thread nD τ) (win3_1.stage (cfg3.slots t 1) : Memref sig .tc .vmem S1000x512 .f32) fullShare ((dat2 V c).before 1 t d)) ∗ (∃ d, owns (c : Thread nD τ) (win3_2.stage (cfg3.slots t 2) : Memref sig .tc .vmem S1x512x256 .f32) fullShare ((dat2 V c).before 2 t d)) ∗ (∃ d, owns (c : Thread nD τ) (win3_3.stage (cfg3.slots t 3) : Memref sig .tc .vmem S1x512x256 .f32) fullShare ((dat2 V c).before 3 t d)) ∗ (∃ d, owns (c : Thread nD τ) (win3_4.stage (cfg3.slots t 4) : Memref sig .tc .vmem S1x1x256 .f32) fullShare ((dat2 V c).before 4 t d)) ∗ (∃ d, owns (c : Thread nD τ) (win3_5.stage (cfg3.slots t 5) : Memref sig .tc .vmem S1x1x1000 .i32) fullShare ((dat2 V c).before 5 t d)) ∗ (∃ d, owns (c : Thread nD τ) (win3_6.stage (cfg3.slots t 6) : Memref sig .tc .vmem S1000x256 .f32) fullShare ((dat2 V c).before 6 t d)))
      ⊢ wp frame (wpE (defs₀ (F := F)) 𝒱₀ c none) Set.univ (bodyAt2 t)
          (fun _ => iprop((dat2 V c).Φ t.succ ∗ (dat2 V c).owesAt none t.succ ∗ owns (c : Thread nD τ) (win3_0.stage (cfg3.slots t 0) : Memref sig .tc .vmem S1x1000x512 .f32) fullShare ((dat2 V c).after 0 t) ∗ owns (c : Thread nD τ) (win3_1.stage (cfg3.slots t 1) : Memref sig .tc .vmem S1000x512 .f32) fullShare ((dat2 V c).after 1 t) ∗ owns (c : Thread nD τ) (win3_2.stage (cfg3.slots t 2) : Memref sig .tc .vmem S1x512x256 .f32) fullShare ((dat2 V c).after 2 t) ∗ owns (c : Thread nD τ) (win3_3.stage (cfg3.slots t 3) : Memref sig .tc .vmem S1x512x256 .f32) fullShare ((dat2 V c).after 3 t) ∗ owns (c : Thread nD τ) (win3_4.stage (cfg3.slots t 4) : Memref sig .tc .vmem S1x1x256 .f32) fullShare ((dat2 V c).after 4 t) ∗ owns (c : Thread nD τ) (win3_5.stage (cfg3.slots t 5) : Memref sig .tc .vmem S1x1x1000 .i32) fullShare ((dat2 V c).after 5 t) ∗ owns (c : Thread nD τ) (win3_6.stage (cfg3.slots t 6) : Memref sig .tc .vmem S1000x256 .f32) fullShare ((dat2 V c).after 6 t))) := by
  unfold bodyAt2
  simp only [before2_0, before2_1, before2_2, before2_3, before2_4, before2_5]
  rw [show (dat2 V c).Φ t.succ = (dat2 V c).Φ t.castSucc from rfl,
    show (dat2 V c).owesAt none t.succ = (dat2 V c).owesAt none t.castSucc from rfl,
    after2_0, after2_1, after2_2, after2_3, after2_4, after2_5, after2_6]
  by_cases h0 : t.val % 8 = 0
  · rw [sum2_first V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body2_first c (grid3.coords t) _ _ _ _ _ _ _ _ _ _ _ _ _ _ ((fresh2_iff t).mpr h0) (blk2 V c 0 t) (blk2 V c 1 t) (blk2 V c 2 t) (blk2 V c 3 t) (blk2 V c 4 t) (blk2 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [sum2_next V c t h0]
    simp only [before2_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body2_next c (grid3.coords t) _ _ _ _ _ _ _ _ _ _ _ _ _ _ (fun h => h0 ((fresh2_iff t).mp h)) (blk2 V c 0 t) (blk2 V c 1 t) (blk2 V c 2 t) (blk2 V c 3 t) (blk2 V c 4 t) (blk2 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem obligation2 (c : Dev nD) : BodyObligation (dat2 (F := F) V c) (defs₀ (F := F)) 𝒱₀ none Set.univ := fun t => by
  rw [sep7, sep7, row2]
  exact triple_restated (sound2 V c t) rfl .rfl fun _ => .rfl

/-! ## The array the call leaves -/

set_option backward.proofsInPublic true in
/-- The output: at each entry the running sum after the last expert of its block of rows. -/
def output2 (c : Dev nD) : Buf (Elt F) ((c : Thread nD τ).loc main_v30) := fun i =>
  sum2 V c (8 * ((i 0).val / 1000) + 7) (by
    have h0 : (i 0).val < 10000 := (i 0).isLt
    show _ < grid3.N
    rw [N_3]; omega) (ix2 (Fin.ofNat 1000 (i 0).val) (Fin.ofNat 256 (i 1).val))

theorem place2 : ∀ t : Fin cfg3.N, win3_6.index t (0 : Fin 2) = t.val / 8 ∧ win3_6.index t (1 : Fin 2) = 0 :=
  (by decide +kernel : ∀ t : Fin grid3.N, _)

theorem flushed2 (c : Dev nD) (t : Fin cfg3.N) (hf : (cfg3.win 6).flush t = true) :
    (dat2 V c).flushed 6 t = ((cfg3.win 6).blk t).view.read (Elt F) (output2 V c) := by
  show (cfg3.win 6).cut (grid3.coords t) ((dat2 V c).after 6 t) = _
  rw [after2_6]
  obtain ⟨e0, e1⟩ := place2 t
  have hm : t.val % 8 = 7 := (flush2_iff t).mp hf
  have hN : t.val < 80 := lt_of_lt_of_eq t.isLt (show cfg3.N = 80 from N_3)
  funext y
  have hy0 : (y 0).val < 1000 := (y 0).isLt
  have hy1 : (y 1).val < 256 := (y 1).isLt
  have hb0 : (((cfg3.win 6).blk t).view.emb y 0).val = win3_6.index t (0 : Fin 2) * 1000 + 1 * (y 0).val := rfl
  have hb1 : (((cfg3.win 6).blk t).view.emb y 1).val = win3_6.index t (1 : Fin 2) * 256 + 1 * (y 1).val := rfl
  show sum2 V c t.val t.isLt ((cfg3.win 6).xinj (grid3.coords t) y) = output2 V c (((cfg3.win 6).blk t).view.emb y)
  unfold output2
  have hl : (cfg3.win 6).xinj (grid3.coords t) y
      = ix2 (Fin.ofNat 1000 (((cfg3.win 6).blk t).view.emb y 0).val) (Fin.ofNat 256 (((cfg3.win 6).blk t).view.emb y 1).val) := by
    funext a; apply Fin.ext
    match a with
    | ⟨0, _⟩ => show (y 0).val = (((cfg3.win 6).blk t).view.emb y 0).val % 1000; rw [hb0]; omega
    | ⟨1, _⟩ => show (y 1).val = (((cfg3.win 6).blk t).view.emb y 1).val % 256; rw [hb1, e1]; omega
  rw [hl]
  have e : ∀ (n n' : ℕ) (h : n < cfg3.N) (h' : n' < cfg3.N), n = n' → sum2 V c n h = sum2 V c n' h' := by
    intro n n' h h' hn; subst hn; rfl
  exact congrFun (e _ _ _ _ (by rw [hb0, e0]; omega)) _

theorem mem_blk2 (t : Fin cfg3.N) (i : S10000x256.Idx) :
    i ∈ ((cfg3.win 6).blk t).view.set ↔ ∀ a : Fin 2, win3_6.index t a * S1000x256.size a ≤ (i a).val ∧ (i a).val < win3_6.index t a * S1000x256.size a + S1000x256.size a := by
  show i ∈ ((View.whole main_v30).slice (win3_6.rect t)).set ↔ _
  rw [View.set_slice_whole, Rect.mem_set_unit]
  exact Iff.rfl

theorem final2 (c : Dev nD) : (dat2 V c).arrAt 6 cfg3.N = output2 V c :=
  (dat2 V c).arrAt_eq_of_cover 6 _ (fun t hf => flushed2 V c t hf) fun i => by
    have h0 : (i 0).val < 10000 := (i 0).isLt
    have h1 : (i 1).val < 256 := (i 1).isLt
    have hN : 8 * ((i 0).val / 1000) + 7 < cfg3.N := by show _ < grid3.N; rw [N_3]; omega
    obtain ⟨e0, e1⟩ := place2 ⟨_, hN⟩
    dsimp only at e0 e1
    refine ⟨⟨_, hN⟩, (flush2_iff _).mpr (by dsimp only; omega), (mem_blk2 _ _).mpr fun a => ?_⟩
    match a with
    | ⟨0, _⟩ => show win3_6.index _ (0 : Fin 2) * 1000 ≤ (i 0).val ∧ (i 0).val < win3_6.index _ (0 : Fin 2) * 1000 + 1000; rw [e0]; omega
    | ⟨1, _⟩ => show win3_6.index _ (1 : Fin 2) * 256 ≤ (i 1).val ∧ (i 1).val < win3_6.index _ (1 : Fin 2) * 256 + 256; rw [e1]; omega

/-- The arrays after the call. -/
def after2 (c : Dev nD) : Valuation τ sig (Elt F) := Function.update (V c) (Proc.devRef .tc (main_v30 : Ref sig .tc)) (output2 V c)

theorem ends2 (c : Dev nD) (w : Fin 7) : (dat2 V c).arrAt w cfg3.N = after2 V c (Proc.devRef .tc (Pipeline.arrRef spec3 w)) := by
  unfold after2
  match w with
  | ⟨0, _⟩ => exact ((dat2 V c).arrAt_in 0 rfl _).trans ((arr2_A V c 0).trans (Function.update_of_ne (by decide) _ _).symm)
  | ⟨1, _⟩ => exact ((dat2 V c).arrAt_in 1 rfl _).trans ((arr2_A V c 1).trans (Function.update_of_ne (by decide) _ _).symm)
  | ⟨2, _⟩ => exact ((dat2 V c).arrAt_in 2 rfl _).trans ((arr2_A V c 2).trans (Function.update_of_ne (by decide) _ _).symm)
  | ⟨3, _⟩ => exact ((dat2 V c).arrAt_in 3 rfl _).trans ((arr2_A V c 3).trans (Function.update_of_ne (by decide) _ _).symm)
  | ⟨4, _⟩ => exact ((dat2 V c).arrAt_in 4 rfl _).trans ((arr2_A V c 4).trans (Function.update_of_ne (by decide) _ _).symm)
  | ⟨5, _⟩ => exact ((dat2 V c).arrAt_in 5 rfl _).trans ((arr2_A V c 5).trans (Function.update_of_ne (by decide) _ _).symm)
  | ⟨6, _⟩ => exact (final2 V c).trans (Function.update_self (Proc.devRef .tc (main_v30 : Ref sig .tc)) (output2 V c) (V c)).symm

/-! ## The two calls as steps of `@main` -/

/-- The two calls' proof data over one valuation; each is used at its own. -/
def both : (p : Fin 2) → (c : Dev nD) → Dat τ (Elt F) (HIx 2) ℕ UU ℕ (cfgs p) c := fun
  | ⟨0, _⟩ => dat1 V
  | ⟨1, _⟩ => dat2 V
  | ⟨_ + 2, h⟩ => absurd h (Nat.not_lt.2 (Nat.le_add_left _ _))

theorem beside1 : Beside (both (F := F) V) 0 1 where
  owed _ _ := rfl
  recorded _ _ := rfl
  inv _ _ := rfl
  share c := (dat1 V c).share_full fun _ => rfl

theorem beside2 : Beside (both (F := F) V) 1 2 where
  owed _ _ := rfl
  recorded _ _ := rfl
  inv _ _ := rfl
  share c := (dat2 V c).share_full fun _ => rfl

theorem wp_layer1 [∀ e, Nonempty (Elt F e)] {P : (K (F := F)).Pay (nD := nD) (Val := Elt F) (Name := ℕ) (U := UU)} (κ : GSem nD τ sig → ℕ) (d : Dev nD) (Q : PUnit → sProp 𝕄) :
    iprop((K (F := F)).ctx EH P κ ∗ (K (F := F)).tcSt EH d 1 ∗ boundary (SparseCore.T d) ∗ StableHlo.held (SparseCore.T d) (staged 0) (V d)
        ∗ Pipeline.cellsGhost cfgs EP 0 d ∗ Pipeline.toksInit cfgs EP 0 d
        ∗ (iprop((K (F := F)).tcSt EH d 1 ∗ boundary (SparseCore.T d) ∗ StableHlo.held (SparseCore.T d) (staged 0) (after1 V d)) -∗ Q ⟨⟩))
      ⊢ wp frame (wpE ((K (F := F)).defs (D (F := F))) 𝒱 (SparseCore.T d) none) Set.univ (layerCallMain (F := F) 0) Q :=
  wp_layer (both V) 0 1 layout1 (fun c => (obligation1 V c).loose) (beside1 V) V (after1 V) (fun c w => arr1_A V c w) (fun c w => ends1 V c w) κ d Q

theorem wp_layer2 [∀ e, Nonempty (Elt F e)] {P : (K (F := F)).Pay (nD := nD) (Val := Elt F) (Name := ℕ) (U := UU)} (κ : GSem nD τ sig → ℕ) (d : Dev nD) (Q : PUnit → sProp 𝕄) :
    iprop((K (F := F)).ctx EH P κ ∗ (K (F := F)).tcSt EH d 2 ∗ boundary (SparseCore.T d) ∗ StableHlo.held (SparseCore.T d) (staged 1) (V d)
        ∗ Pipeline.cellsGhost cfgs EP 1 d ∗ Pipeline.toksInit cfgs EP 1 d
        ∗ (iprop((K (F := F)).tcSt EH d 2 ∗ boundary (SparseCore.T d) ∗ StableHlo.held (SparseCore.T d) (staged 1) (after2 V d)) -∗ Q ⟨⟩))
      ⊢ wp frame (wpE ((K (F := F)).defs (D (F := F))) 𝒱 (SparseCore.T d) none) Set.univ (layerCallMain (F := F) 1) Q :=
  wp_layer (both V) 1 2 layout3 (fun c => (obligation2 V c).loose) (beside2 V) V (after2 V) (fun c w => arr2_A V c w) (fun c w => ends2 V c w) κ d Q

end Cert.Proof

end
-- ==== Proof.Host.lean ====
/-
  The host's part of the run: the arrays it prepares, their shares for the tiles, the two calls on the SparseCores and
  the two layers between and after them.
-/
module

public import proofs.«01_k».proof.Proof.Layer2

@[expose] public section

noncomputable section

namespace Cert.Proof

open Idealize.ShloMosaic Idealize.ShloMosaic.ValueIdx
open Idealize.ShloMosaic.SparseCore (S V T)
open Idealize.ShloMosaic.SparseCore.Cfg (HIx Pay)
open Idealize.ShloMosaic.StableHlo (held held_sub_split held_congr wp_hlo_within wp_seq after seq seqK seq_bind_seqK)
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The shares of what every tile reads -/

theorem shares {ℓ : Loc nD τ sig} (f : Buf (Elt F) ℓ) :
    (ℓ ↦{fullShare} f : sProp 𝕄) = bigSep Finset.univ fun c : Fin 2 => bigSep Finset.univ fun s : Fin 16 => ℓ ↦{tileShare c s} f := by
  rw [ShareLeaves.pointsTo_leaves Finset.univ f 5 fullShare, bigSep_univ_equiv tileNo, bigSep_univ_prod]

/-! ## The rows of the result -/

/-- The two passes, numbered. -/
abbrev passOf : Fin 2 → Fin k0_t1_loop.trips := Fin.cast (by decide)

/-- The rows of a tile in a pass. -/
abbrev rowsAt (t : (Fin 2 × Fin 16) × Fin 2) : Rect S10240x512 := rowsOf (coordsOf t.1.1 t.1.2) (passOf t.2)

theorem mem_rowsAt (t : (Fin 2 × Fin 16) × Fin 2) (y : S10240x512.Idx) :
    y ∈ (rowsAt t).set ↔ 5120 * t.2.val + 2560 * t.1.1.val + 160 * t.1.2.val ≤ (y 0).val ∧ (y 0).val < 5120 * t.2.val + 2560 * t.1.1.val + 160 * t.1.2.val + 160 := by
  have h := k0_off15_eq (coordsOf t.1.1 t.1.2) (passOf t.2)
  have h0 : k0_off15 (coordsOf t.1.1 t.1.2) (passOf t.2) 0 = 5120 * t.2.val + 2560 * t.1.1.val + 160 * t.1.2.val := congrFun h 0
  have h1 : k0_off15 (coordsOf t.1.1 t.1.2) (passOf t.2) 1 = 0 := congrFun h 1
  have hy : (y 1).val < 512 := (y 1).isLt
  refine Rect.mem_set_unit.trans ⟨fun hh => ?_, fun hh a => ?_⟩
  · have := hh 0
    rw [h0] at this
    exact this
  · match a with
    | 0 => rw [h0]; exact hh
    | 1 => rw [h1]; exact ⟨Nat.zero_le _, by show (y 1).val < 0 + 512; omega⟩

theorem rowsAt_disjoint (t t' : (Fin 2 × Fin 16) × Fin 2) (h : t ≠ t') : Disjoint (rowsAt t).set (rowsAt t').set := by
  refine Finset.disjoint_left.mpr fun y hy hy' => h ?_
  rw [mem_rowsAt] at hy hy'
  obtain ⟨⟨⟨c, hc⟩, ⟨s, hs⟩⟩, ⟨p, hp⟩⟩ := t
  obtain ⟨⟨⟨c', hc'⟩, ⟨s', hs'⟩⟩, ⟨p', hp'⟩⟩ := t'
  dsimp only at hy hy'
  obtain rfl : p = p' := by omega
  obtain rfl : c = c' := by omega
  obtain rfl : s = s' := by omega
  rfl

theorem rowsAt_cover : (Finset.univ : Finset ((Fin 2 × Fin 16) × Fin 2)).biUnion (fun t => (rowsAt t).set) = Finset.univ := by
  refine Finset.eq_univ_of_forall fun y => Finset.mem_biUnion.mpr ?_
  have hy : (y 0).val < 10240 := (y 0).isLt
  refine ⟨((⟨(y 0).val % 5120 / 2560, by omega⟩, ⟨(y 0).val % 2560 / 160, by omega⟩), ⟨(y 0).val / 5120, by omega⟩), Finset.mem_univ _, ?_⟩
  rw [mem_rowsAt]
  dsimp only
  omega

/-- A tile's rows in both passes. -/
theorem rows_split (ou : Memref sig .scVector .hbm S10240x512 .f32) (d : Dev nD) (f : S10240x512.Idx → F .f32) :
    (owns (Val := Elt F) (tl d (coordsOf 0 0)) ou fullShare f : sProp 𝕄) ⊢ bigSep Finset.univ fun c : Fin 2 => bigSep Finset.univ fun s : Fin 16 =>
      iprop(owns (Val := Elt F) (tl d (coordsOf c s)) (outRows ou c s pass0) fullShare (fun x => f ((rowsOf (coordsOf c s) pass0).emb x))
        ∗ owns (Val := Elt F) (tl d (coordsOf c s)) (outRows ou c s pass1) fullShare (fun x => f ((rowsOf (coordsOf c s) pass1).emb x))) := by
  have h := owns_rects (Val := Elt F) (Ix := HIx 2) (Name := ℕ) (U := UU) (Lvl := ℕ) (tl d (coordsOf 0 0)) ou fullShare rowsAt (fun _ _ => rfl) rowsAt_disjoint rowsAt_cover f
  rw [bigSep_univ_prod] at h
  simp only [bigSep_fin_two] at h
  rw [bigSep_univ_prod] at h
  exact h

theorem rows_join [∀ e, Nonempty (Elt F e)] (ou : Memref sig .scVector .hbm S10240x512 .f32) (d : Dev nD) (f : S10240x512.Idx → F .f32) :
    (bigSep Finset.univ fun c : Fin 2 => bigSep Finset.univ fun s : Fin 16 =>
      iprop(owns (Val := Elt F) (tl d (coordsOf c s)) (outRows ou c s pass0) fullShare (fun x => f ((rowsOf (coordsOf c s) pass0).emb x))
        ∗ owns (Val := Elt F) (tl d (coordsOf c s)) (outRows ou c s pass1) fullShare (fun x => f ((rowsOf (coordsOf c s) pass1).emb x))))
      ⊢ (owns (Val := Elt F) (tl d (coordsOf 0 0)) ou fullShare f : sProp 𝕄) := by
  have h := owns_of_rects (Val := Elt F) (Ix := HIx 2) (Name := ℕ) (U := UU) (Lvl := ℕ) (tl d (coordsOf 0 0)) ou fullShare rowsAt (fun _ _ => rfl) rowsAt_disjoint rowsAt_cover f
  rw [bigSep_univ_prod] at h
  simp only [bigSep_fin_two] at h
  rw [bigSep_univ_prod] at h
  exact h

/-- What a tile takes, whatever its rows of the result hold. -/
theorem goPts_intro (Rd : sProp 𝕄) (ou : Memref sig .scVector .hbm S10240x512 .f32) (d : Dev nD) (c : Fin 2) (s : Fin 16) (f : S10240x512.Idx → F .f32) :
    iprop(Rd
      ∗ owns (Val := Elt F) (tl d (coordsOf c s)) (outRows ou c s pass0) fullShare (fun x => f ((rowsOf (coordsOf c s) pass0).emb x))
      ∗ owns (Val := Elt F) (tl d (coordsOf c s)) (outRows ou c s pass1) fullShare (fun x => f ((rowsOf (coordsOf c s) pass1).emb x)))
    ⊢ (goPts Rd ou d c s : sProp 𝕄) := by
  unfold goPts
  iintro ⟨HR, HY0, HY1⟩
  isplitl [HR]; · iexact HR
  isplitl [HY0]
  · iexists _; iexact HY0
  · iexists _; iexact HY1

/-- The tiles' reads and the whole result together are what the tiles take. -/
theorem split (Rd : Fin 2 → Fin 16 → sProp 𝕄) (ou : Memref sig .scVector .hbm S10240x512 .f32) (d : Dev nD) (f : S10240x512.Idx → F .f32) :
    iprop((bigSep Finset.univ fun c : Fin 2 => bigSep Finset.univ fun s : Fin 16 => Rd c s) ∗ owns (Val := Elt F) (tl d (coordsOf 0 0)) ou fullShare f)
      ⊢ bigSep Finset.univ fun c : Fin 2 => bigSep Finset.univ fun s : Fin 16 => goPts (Rd c s) ou d c s := by
  refine entails_trans ?_ (bigSep_mono fun c _ => bigSep_mono fun s _ => goPts_intro (Rd c s) ou d c s f)
  refine entails_trans (sep_mono_right (rows_split ou d f)) ?_
  simp only [bigSep_sep']
  exact .rfl

theorem join [∀ e, Nonempty (Elt F e)] (Rd : Fin 2 → Fin 16 → sProp 𝕄) (ou : Memref sig .scVector .hbm S10240x512 .f32) (d : Dev nD) (f : S10240x512.Idx → F .f32) :
    (bigSep Finset.univ fun c : Fin 2 => bigSep Finset.univ fun s : Fin 16 => tdPts (Rd c s) ou f d c s)
      ⊢ iprop((bigSep Finset.univ fun c : Fin 2 => bigSep Finset.univ fun s : Fin 16 => Rd c s) ∗ owns (Val := Elt F) (tl d (coordsOf 0 0)) ou fullShare f) := by
  refine entails_trans ?_ (sep_mono_right (rows_join ou d f))
  unfold tdPts
  simp only [bigSep_sep']
  exact .rfl

variable [FloatOps F]

/-- The tiles' reads in the first call are shares of four whole arrays. -/
theorem reads0_all (I : Dev nD → Both F) (d : Dev nD) : (bigSep Finset.univ fun c : Fin 2 => bigSep Finset.univ fun s : Fin 16 => reads0 I d c s : sProp 𝕄)
    = iprop((t0Loc d ↦{fullShare} (I d).a.t0) ∗ (t1Loc d ↦{fullShare} (I d).a.t1) ∗ (spLoc d ↦{fullShare} (I d).a.sp) ∗ (dpLoc d ↦{fullShare} (I d).a.dp)) := by
  rw [shares (F := F) (ℓ := t0Loc d), shares (F := F) (ℓ := t1Loc d), shares (F := F) (ℓ := spLoc d), shares (F := F) (ℓ := dpLoc d)]
  unfold reads0
  simp only [bigSep_sep']

/-- The tiles' reads in the second call are shares of five whole arrays. -/
theorem reads1_all (I : Dev nD → Both F) (d : Dev nD) : (bigSep Finset.univ fun c : Fin 2 => bigSep Finset.univ fun s : Fin 16 => reads1 I d c s : sProp 𝕄)
    = iprop((u0Loc d ↦{fullShare} (I d).b.t0) ∗ (u1Loc d ↦{fullShare} (I d).b.t1) ∗ (spLoc d ↦{fullShare} (I d).b.sp) ∗ (dpLoc d ↦{fullShare} (I d).b.dp)
      ∗ (seLoc d ↦{fullShare} (I d).se)) := by
  rw [shares (F := F) (ℓ := u0Loc d), shares (F := F) (ℓ := u1Loc d), shares (F := F) (ℓ := spLoc d), shares (F := F) (ℓ := dpLoc d), shares (F := F) (ℓ := seLoc d)]
  unfold reads1
  simp only [bigSep_sep']

/-! ## The host's operations -/

/-- The host's operations before the first call on the SparseCores, -/
abbrev hostOps : List (HloOp τ sig (Elt F)) :=
  [StableHlo.unary main_arg2 main_v0 ((extractStridedSlice S1x160000 ![0, 0] · slices_S2x160000_S1x160000_0_0) : (⟨S2x160000, .i32⟩ : BufTy).Contents (Elt F) → (⟨S1x160000, .i32⟩ : BufTy).Contents (Elt F)),
    StableHlo.reshape main_v0 main_v1 (rfl : (.i32 : EltTy) = .i32) shapeCasts_S1x160000_S160000,
    StableHlo.unary main_arg2 main_v2 ((extractStridedSlice S1x160000 ![1, 0] · slices_S2x160000_S1x160000_1_0) : (⟨S2x160000, .i32⟩ : BufTy).Contents (Elt F) → (⟨S1x160000, .i32⟩ : BufTy).Contents (Elt F)),
    StableHlo.reshape main_v2 main_v3 (rfl : (.i32 : EltTy) = .i32) shapeCasts_S1x160000_S160000,
    StableHlo.nullary main_c (constantI S_ 32 0#32),
    StableHlo.unary main_c main_v4 (broadcastInDim S160256 ![] bcast_S_S160256 : (⟨S_, .i32⟩ : BufTy).Contents (Elt F) → (⟨S160256, .i32⟩ : BufTy).Contents (Elt F)),
    StableHlo.nullary main_c_0 (constantI S_ 32 0#32),
    StableHlo.unary main_c_0 main_v5 (broadcastInDim S1 ![] bcast_S_S1 : (⟨S_, .i32⟩ : BufTy).Contents (Elt F) → (⟨S1, .i32⟩ : BufTy).Contents (Elt F)),
    StableHlo.ternary main_v4 main_v5 main_v1 main_v6 ((fun x i u => Host.scatter scatter_S160256_S1_S160000_0_n_0_0 (fun _ b => b) x i u) : (⟨S160256, .i32⟩ : BufTy).Contents (Elt F) → (⟨S1, .i32⟩ : BufTy).Contents (Elt F) → (⟨S160000, .i32⟩ : BufTy).Contents (Elt F) → (⟨S160256, .i32⟩ : BufTy).Contents (Elt F)),
    StableHlo.nullary main_c_1 (constantI S_ 32 0#32),
    StableHlo.unary main_c_1 main_v7 (broadcastInDim S160256 ![] bcast_S_S160256 : (⟨S_, .i32⟩ : BufTy).Contents (Elt F) → (⟨S160256, .i32⟩ : BufTy).Contents (Elt F)),
    StableHlo.nullary main_c_2 (constantI S_ 32 0#32),
    StableHlo.unary main_c_2 main_v8 (broadcastInDim S1 ![] bcast_S_S1 : (⟨S_, .i32⟩ : BufTy).Contents (Elt F) → (⟨S1, .i32⟩ : BufTy).Contents (Elt F)),
    StableHlo.ternary main_v7 main_v8 main_v3 main_v9 ((fun x i u => Host.scatter scatter_S160256_S1_S160000_0_n_0_0 (fun _ b => b) x i u) : (⟨S160256, .i32⟩ : BufTy).Contents (Elt F) → (⟨S1, .i32⟩ : BufTy).Contents (Elt F) → (⟨S160000, .i32⟩ : BufTy).Contents (Elt F) → (⟨S160256, .i32⟩ : BufTy).Contents (Elt F)),
    StableHlo.reshape main_arg1 main_v10 (rfl : (.i32 : EltTy) = .i32) shapeCasts_S10000_S10x1x1000,
    StableHlo.unary main_arg0 main_v11 ((extractStridedSlice S10000x256 ![0, 0] · slices_S10000x512_S10000x256_0_0) : (⟨S10000x512, .f32⟩ : BufTy).Contents (Elt F) → (⟨S10000x256, .f32⟩ : BufTy).Contents (Elt F)),
    StableHlo.reshape main_v11 main_v12 (rfl : (.f32 : EltTy) = .f32) shapeCasts_S10000x256_S10000x2x128,
    StableHlo.unary main_arg0 main_v13 ((extractStridedSlice S10000x256 ![0, 256] · slices_S10000x512_S10000x256_0_256) : (⟨S10000x512, .f32⟩ : BufTy).Contents (Elt F) → (⟨S10000x256, .f32⟩ : BufTy).Contents (Elt F)),
    StableHlo.reshape main_v13 main_v14 (rfl : (.f32 : EltTy) = .f32) shapeCasts_S10000x256_S10000x2x128]

/-- before the first layer's call, -/
abbrev preOps : List (HloOp τ sig (Elt F)) :=
  [StableHlo.unary main_v15 main_v16 ((extractStridedSlice S10000x512 ![0, 0] · slices_S10240x512_S10000x512_0_0) : (⟨S10240x512, .f32⟩ : BufTy).Contents (Elt F) → (⟨S10000x512, .f32⟩ : BufTy).Contents (Elt F)),
    StableHlo.reshape main_arg5 main_v17 (rfl : (.f32 : EltTy) = .f32) shapeCasts_S8x512_S8x1x512]

/-- before the second call on the SparseCores, -/
abbrev midOps : List (HloOp τ sig (Elt F)) :=
  [StableHlo.nullary main_c_3 (constantI S_ 32 0#32),
    StableHlo.unary main_c_3 main_v19 (broadcastInDim S10240 ![] bcast_S_S10240 : (⟨S_, .i32⟩ : BufTy).Contents (Elt F) → (⟨S10240, .i32⟩ : BufTy).Contents (Elt F)),
    StableHlo.nullary main_c_4 (constantI S_ 32 0#32),
    StableHlo.unary main_c_4 main_v20 (broadcastInDim S1 ![] bcast_S_S1 : (⟨S_, .i32⟩ : BufTy).Contents (Elt F) → (⟨S1, .i32⟩ : BufTy).Contents (Elt F)),
    StableHlo.ternary main_v19 main_v20 main_arg1 main_v21 ((fun x i u => Host.scatter scatter_S10240_S1_S10000_0_n_0_0 (fun _ b => b) x i u) : (⟨S10240, .i32⟩ : BufTy).Contents (Elt F) → (⟨S1, .i32⟩ : BufTy).Contents (Elt F) → (⟨S10000, .i32⟩ : BufTy).Contents (Elt F) → (⟨S10240, .i32⟩ : BufTy).Contents (Elt F)),
    StableHlo.reshape main_v18 main_v22 (rfl : (.f32 : EltTy) = .f32) shapeCasts_S8x10000x512_S80000x512,
    StableHlo.unary main_v22 main_v23 ((extractStridedSlice S80000x256 ![0, 0] · slices_S80000x512_S80000x256_0_0) : (⟨S80000x512, .f32⟩ : BufTy).Contents (Elt F) → (⟨S80000x256, .f32⟩ : BufTy).Contents (Elt F)),
    StableHlo.reshape main_v23 main_v24 (rfl : (.f32 : EltTy) = .f32) shapeCasts_S80000x256_S80000x2x128,
    StableHlo.unary main_v22 main_v25 ((extractStridedSlice S80000x256 ![0, 256] · slices_S80000x512_S80000x256_0_256) : (⟨S80000x512, .f32⟩ : BufTy).Contents (Elt F) → (⟨S80000x256, .f32⟩ : BufTy).Contents (Elt F)),
    StableHlo.reshape main_v25 main_v26 (rfl : (.f32 : EltTy) = .f32) shapeCasts_S80000x256_S80000x2x128]

/-- and before the second layer's call. -/
abbrev lastOps : List (HloOp τ sig (Elt F)) :=
  [StableHlo.unary main_v27 main_v28 ((extractStridedSlice S10000x512 ![0, 0] · slices_S10240x512_S10000x512_0_0) : (⟨S10240x512, .f32⟩ : BufTy).Contents (Elt F) → (⟨S10000x512, .f32⟩ : BufTy).Contents (Elt F)),
    StableHlo.reshape main_arg8 main_v29 (rfl : (.f32 : EltTy) = .f32) shapeCasts_S8x256_S8x1x256]

theorem main_eq (d : Dev nD) : (main (F := F) d) = seqK hostOps (sc.run d 0 >>= fun _ => seqK preOps (layerCallMain 0 >>= fun _ => seqK midOps (sc.run d 1 >>= fun _ =>
    seqK lastOps (layerCallMain 1 >>= fun _ => Pure.pure PUnit.unit)))) := rfl

/-! ## The arrays' contents -/

variable (m : (ℓ : Loc nD τ sig) → Buf (Elt F) ℓ) (ρ : Dev nD → PrngReg)

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev a8' : DevRef τ sig := Proc.devRef .tc (main_arg8 : Ref sig .tc)
abbrev ch' : DevRef τ sig := Proc.devRef .tc (main_v10 : Ref sig .tc)
abbrev t0' : DevRef τ sig := Proc.devRef .tc (main_v12 : Ref sig .tc)
abbrev t1' : DevRef τ sig := Proc.devRef .tc (main_v14 : Ref sig .tc)
abbrev sp' : DevRef τ sig := Proc.devRef .tc (main_v6 : Ref sig .tc)
abbrev dp' : DevRef τ sig := Proc.devRef .tc (main_v9 : Ref sig .tc)
abbrev ou0' : DevRef τ sig := Proc.devRef .tc (main_v15 : Ref sig .tc)
abbrev ne0' : DevRef τ sig := Proc.devRef .tc (main_v16 : Ref sig .tc)
abbrev bi0' : DevRef τ sig := Proc.devRef .tc (main_v17 : Ref sig .tc)
abbrev hi' : DevRef τ sig := Proc.devRef .tc (main_v18 : Ref sig .tc)
abbrev u0' : DevRef τ sig := Proc.devRef .tc (main_v24 : Ref sig .tc)
abbrev u1' : DevRef τ sig := Proc.devRef .tc (main_v26 : Ref sig .tc)
abbrev se' : DevRef τ sig := Proc.devRef .tc (main_v21 : Ref sig .tc)
abbrev ou1' : DevRef τ sig := Proc.devRef .tc (main_v27 : Ref sig .tc)
abbrev ne1' : DevRef τ sig := Proc.devRef .tc (main_v28 : Ref sig .tc)
abbrev bi1' : DevRef τ sig := Proc.devRef .tc (main_v29 : Ref sig .tc)
abbrev re' : DevRef τ sig := Proc.devRef .tc (main_v30 : Ref sig .tc)

/-- What the arrays hold at the launch and after each of the host's lists and each of the calls. -/
def V0 (d : Dev nD) : Valuation τ sig (Elt F) := fun b => m (d, b)
@[irreducible] def V1 (d : Dev nD) : Valuation τ sig (Elt F) := after hostOps (V0 m d)
theorem V1_eq (d : Dev nD) : V1 m d = after hostOps (V0 m d) := by unfold V1; rfl
/-- The inputs of the first call on the SparseCores. -/
def inA (d : Dev nD) : Inputs F 10000 := ⟨V1 m d t0', V1 m d t1', V1 m d sp', V1 m d dp'⟩
def V2 (d : Dev nD) : Valuation τ sig (Elt F) := Function.update (V1 m d) ou0' (inA m d).sums
@[irreducible] def V3 (d : Dev nD) : Valuation τ sig (Elt F) := after preOps (V2 m d)
theorem V3_eq (d : Dev nD) : V3 m d = after preOps (V2 m d) := by unfold V3; rfl
def V4 (d : Dev nD) : Valuation τ sig (Elt F) := Function.update (V3 m d) hi' (hidden1 (V3 m) d)
@[irreducible] def V5 (d : Dev nD) : Valuation τ sig (Elt F) := after midOps (V4 m d)
theorem V5_eq (d : Dev nD) : V5 m d = after midOps (V4 m d) := by unfold V5; rfl
/-- The inputs of both. -/
def inputs (d : Dev nD) : Both F := ⟨inA m d, ⟨V5 m d u0', V5 m d u1', V5 m d sp', V5 m d dp'⟩, V5 m d se'⟩
def V6 (d : Dev nD) : Valuation τ sig (Elt F) := Function.update (V5 m d) ou1' (inputs m d).out1
@[irreducible] def V7 (d : Dev nD) : Valuation τ sig (Elt F) := after lastOps (V6 m d)
theorem V7_eq (d : Dev nD) : V7 m d = after lastOps (V6 m d) := by unfold V7; rfl
def V8 (d : Dev nD) : Valuation τ sig (Elt F) := Function.update (V7 m d) re' (output2 (V7 m) d)

/-- The TensorCore's arrays. -/
abbrev SA : Finset (DevRef τ sig) := (Finset.univ.filter fun b : Ref sig .tc => ¬ b.isScoped).map ⟨Proc.devRef .tc, Proc.devRef_injective _⟩
/-- The arrays of each call, and those of the claim. -/
abbrev SC0 : Finset (DevRef τ sig) := {t0', t1', sp', dp', ou0'}
abbrev SC1 : Finset (DevRef τ sig) := {u0', u1', sp', dp', se', ou1'}
abbrev SR : Finset (DevRef τ sig) := {a0', a1', a2', a3', a4', a5', a6', a7', a8', re'}

theorem mem_SA (b : Ref sig .tc) (h : ¬ b.isScoped) : Proc.devRef (τ := τ) .tc b ∈ SA :=
  Finset.mem_map_of_mem ⟨Proc.devRef .tc, Proc.devRef_injective _⟩ (Finset.mem_filter.mpr ⟨Finset.mem_univ b, h⟩)

theorem SC0_subset : SC0 ⊆ SA := by
  intro b hb
  simp only [SC0, Finset.mem_insert, Finset.mem_singleton] at hb
  rcases hb with rfl | rfl | rfl | rfl | rfl <;> exact mem_SA _ (by decide)

theorem SC1_subset : SC1 ⊆ SA := by
  intro b hb
  simp only [SC1, Finset.mem_insert, Finset.mem_singleton] at hb
  rcases hb with rfl | rfl | rfl | rfl | rfl | rfl <;> exact mem_SA _ (by decide)

theorem SR_subset : SR ⊆ SA := by
  intro b hb
  simp only [SR, Finset.mem_insert, Finset.mem_singleton] at hb
  rcases hb with rfl | rfl | rfl | rfl | rfl | rfl | rfl | rfl | rfl | rfl <;> exact mem_SA _ (by decide)

/-- The arrays a layer's call stages are the core's. -/
theorem staged_subset (p : Fin 2) : staged p ⊆ SA := by
  intro b hb
  obtain ⟨r, hr, rfl⟩ := Finset.mem_map.mp hb
  obtain ⟨w, -, rfl⟩ := Finset.mem_image.mp hr
  match p with
  | 0 => exact mem_SA _ ((by decide : ∀ w, ¬ (Pipeline.arrRef spec1 w).isScoped) w)
  | 1 => exact mem_SA _ ((by decide : ∀ w, ¬ (Pipeline.arrRef spec3 w).isScoped) w)

theorem unscoped_held (d : Dev nD) : (unscopedBufs d (fun b => m ((SparseCore.T d).loc b)) : sProp 𝕄) = held (SparseCore.T d) SA (V0 m d) := by
  unfold unscopedBufs held SA
  rw [bigSep_map]
  rfl

theorem held_SC0 (d : Dev nD) (W : Valuation τ sig (Elt F)) : (held (SparseCore.T d) SC0 W : sProp 𝕄)
    = iprop((t0Loc d ↦{fullShare} W t0') ∗ (t1Loc d ↦{fullShare} W t1') ∗ (spLoc d ↦{fullShare} W sp') ∗ (dpLoc d ↦{fullShare} W dp') ∗ (SparseCore.T d).loc main_v15 ↦{fullShare} W ou0') := by
  unfold held SC0
  rw [SparseCore.bigSep_insert' (by decide), SparseCore.bigSep_insert' (by decide), SparseCore.bigSep_insert' (by decide), SparseCore.bigSep_insert' (by decide), bigSep_singleton]

theorem held_SC1 (d : Dev nD) (W : Valuation τ sig (Elt F)) : (held (SparseCore.T d) SC1 W : sProp 𝕄)
    = iprop((u0Loc d ↦{fullShare} W u0') ∗ (u1Loc d ↦{fullShare} W u1') ∗ (spLoc d ↦{fullShare} W sp') ∗ (dpLoc d ↦{fullShare} W dp') ∗ (seLoc d ↦{fullShare} W se')
      ∗ (SparseCore.T d).loc main_v27 ↦{fullShare} W ou1') := by
  unfold held SC1
  rw [SparseCore.bigSep_insert' (by decide), SparseCore.bigSep_insert' (by decide), SparseCore.bigSep_insert' (by decide), SparseCore.bigSep_insert' (by decide), SparseCore.bigSep_insert' (by decide), bigSep_singleton]

theorem held_SR (d : Dev nD) (W : Valuation τ sig (Elt F)) : (held (SparseCore.T d) SR W : sProp 𝕄)
    = iprop(((SparseCore.T d).loc main_arg0 ↦{fullShare} W a0') ∗ ((SparseCore.T d).loc main_arg1 ↦{fullShare} W a1') ∗ ((SparseCore.T d).loc main_arg2 ↦{fullShare} W a2') ∗ ((SparseCore.T d).loc main_arg3 ↦{fullShare} W a3') ∗ ((SparseCore.T d).loc main_arg4 ↦{fullShare} W a4') ∗ ((SparseCore.T d).loc main_arg5 ↦{fullShare} W a5') ∗ ((SparseCore.T d).loc main_arg6 ↦{fullShare} W a6') ∗ ((SparseCore.T d).loc main_arg7 ↦{fullShare} W a7') ∗ ((SparseCore.T d).loc main_arg8 ↦{fullShare} W a8') ∗ (SparseCore.T d).loc main_v30 ↦{fullShare} W re') := by
  unfold held SR
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem hostOps_bufs : ∀ op ∈ hostOps (F := F), op.bufs ⊆ SA := by
  intro op hop b hb
  simp only [hostOps, List.mem_cons, List.not_mem_nil, or_false] at hop
  rcases hop with rfl | rfl | rfl | rfl | rfl | rfl | rfl | rfl | rfl | rfl | rfl | rfl | rfl | rfl | rfl | rfl | rfl | rfl | rfl <;>
    (simp only [StableHlo.unary, StableHlo.nullary, StableHlo.ternary, StableHlo.reshape, Finset.mem_insert, Finset.mem_singleton, Finset.mem_union] at hb;
     first
      | (obtain rfl := hb; exact mem_SA _ (by decide))
      | (rcases hb with rfl | rfl <;> exact mem_SA _ (by decide))
      | (rcases hb with rfl | rfl | rfl <;> exact mem_SA _ (by decide))
      | (rcases hb with rfl | rfl | rfl | rfl <;> exact mem_SA _ (by decide)))

theorem hostOps_fresh : ∀ op ∈ hostOps (F := F), op.fresh = ∅ := by
  intro op hop
  simp only [hostOps, List.mem_cons, List.not_mem_nil, or_false] at hop
  rcases hop with rfl | rfl | rfl | rfl | rfl | rfl | rfl | rfl | rfl | rfl | rfl | rfl | rfl | rfl | rfl | rfl | rfl | rfl | rfl <;> rfl

theorem preOps_bufs : ∀ op ∈ preOps (F := F), op.bufs ⊆ SA := by
  intro op hop b hb
  simp only [preOps, List.mem_cons, List.not_mem_nil, or_false] at hop
  rcases hop with rfl | rfl <;>
    (simp only [StableHlo.unary, StableHlo.nullary, StableHlo.ternary, StableHlo.reshape, Finset.mem_insert, Finset.mem_singleton, Finset.mem_union] at hb;
     first
      | (obtain rfl := hb; exact mem_SA _ (by decide))
      | (rcases hb with rfl | rfl <;> exact mem_SA _ (by decide))
      | (rcases hb with rfl | rfl | rfl <;> exact mem_SA _ (by decide))
      | (rcases hb with rfl | rfl | rfl | rfl <;> exact mem_SA _ (by decide)))

theorem preOps_fresh : ∀ op ∈ preOps (F := F), op.fresh = ∅ := by
  intro op hop
  simp only [preOps, List.mem_cons, List.not_mem_nil, or_false] at hop
  rcases hop with rfl | rfl <;> rfl

theorem midOps_bufs : ∀ op ∈ midOps (F := F), op.bufs ⊆ SA := by
  intro op hop b hb
  simp only [midOps, List.mem_cons, List.not_mem_nil, or_false] at hop
  rcases hop with rfl | rfl | rfl | rfl | rfl | rfl | rfl | rfl | rfl | rfl <;>
    (simp only [StableHlo.unary, StableHlo.nullary, StableHlo.ternary, StableHlo.reshape, Finset.mem_insert, Finset.mem_singleton, Finset.mem_union] at hb;
     first
      | (obtain rfl := hb; exact mem_SA _ (by decide))
      | (rcases hb with rfl | rfl <;> exact mem_SA _ (by decide))
      | (rcases hb with rfl | rfl | rfl <;> exact mem_SA _ (by decide))
      | (rcases hb with rfl | rfl | rfl | rfl <;> exact mem_SA _ (by decide)))

theorem midOps_fresh : ∀ op ∈ midOps (F := F), op.fresh = ∅ := by
  intro op hop
  simp only [midOps, List.mem_cons, List.not_mem_nil, or_false] at hop
  rcases hop with rfl | rfl | rfl | rfl | rfl | rfl | rfl | rfl | rfl | rfl <;> rfl

theorem lastOps_bufs : ∀ op ∈ lastOps (F := F), op.bufs ⊆ SA := by
  intro op hop b hb
  simp only [lastOps, List.mem_cons, List.not_mem_nil, or_false] at hop
  rcases hop with rfl | rfl <;>
    (simp only [StableHlo.unary, StableHlo.nullary, StableHlo.ternary, StableHlo.reshape, Finset.mem_insert, Finset.mem_singleton, Finset.mem_union] at hb;
     first
      | (obtain rfl := hb; exact mem_SA _ (by decide))
      | (rcases hb with rfl | rfl <;> exact mem_SA _ (by decide))
      | (rcases hb with rfl | rfl | rfl <;> exact mem_SA _ (by decide))
      | (rcases hb with rfl | rfl | rfl | rfl <;> exact mem_SA _ (by decide)))

theorem lastOps_fresh : ∀ op ∈ lastOps (F := F), op.fresh = ∅ := by
  intro op hop
  simp only [lastOps, List.mem_cons, List.not_mem_nil, or_false] at hop
  rcases hop with rfl | rfl <;> rfl

/-- An array that a call writes is the only one of all that changes. -/
theorem held_rest (d : Dev nD) (A : Finset (DevRef τ sig)) (W : Valuation τ sig (Elt F)) (o : DevRef τ sig) (f) (ho : o ∈ A) :
    (held (SparseCore.T d) (SA \ A) W : sProp 𝕄) = held (SparseCore.T d) (SA \ A) (Function.update W o f) :=
  held_congr (SparseCore.T d) fun b hb => (Function.update_of_ne (fun e : b = o => (Finset.mem_sdiff.mp hb).2 (e ▸ ho)) _ _).symm

theorem V2_other (d : Dev nD) (b : DevRef τ sig) (h : b ≠ ou0') : V2 m d b = V1 m d b := Function.update_of_ne h _ _
theorem V4_other (d : Dev nD) (b : DevRef τ sig) (h : b ≠ hi') : V4 m d b = V3 m d b := Function.update_of_ne h _ _
theorem V6_other (d : Dev nD) (b : DevRef τ sig) (h : b ≠ ou1') : V6 m d b = V5 m d b := Function.update_of_ne h _ _
theorem V8_other (d : Dev nD) (b : DevRef τ sig) (h : b ≠ re') : V8 m d b = V7 m d b := Function.update_of_ne h _ _

section Payloads
variable (I : Dev nD → Both F) (d : Dev nD)

theorem P_st0 (c : Fin ((K (F := F)).nCore 0)) : (P I).st 0 d c = bigSep Finset.univ fun s : Fin ((K (F := F)).nSub 0) => go0 I d c s := by unfold P; dsimp only
theorem P_dn0 (c : Fin ((K (F := F)).nCore 0)) : (P I).dn 0 d c = bigSep Finset.univ fun s : Fin ((K (F := F)).nSub 0) => td0 I d c s := by unfold P; dsimp only
theorem P_go0 (c : Fin ((K (F := F)).nCore 0)) (s : Fin ((K (F := F)).nSub 0)) : (P I).go 0 d c s = go0 I d c s := by unfold P; dsimp only
theorem P_td0 (c : Fin ((K (F := F)).nCore 0)) (s : Fin ((K (F := F)).nSub 0)) : (P I).td 0 d c s = td0 I d c s := by unfold P; dsimp only
theorem P_st1 (c : Fin ((K (F := F)).nCore 1)) : (P I).st 1 d c = bigSep Finset.univ fun s : Fin ((K (F := F)).nSub 1) => go1 I d c s := by unfold P; dsimp only
theorem P_dn1 (c : Fin ((K (F := F)).nCore 1)) : (P I).dn 1 d c = bigSep Finset.univ fun s : Fin ((K (F := F)).nSub 1) => td1 I d c s := by unfold P; dsimp only
theorem P_go1 (c : Fin ((K (F := F)).nCore 1)) (s : Fin ((K (F := F)).nSub 1)) : (P I).go 1 d c s = go1 I d c s := by unfold P; dsimp only
theorem P_td1 (c : Fin ((K (F := F)).nCore 1)) (s : Fin ((K (F := F)).nSub 1)) : (P I).td 1 d c s = td1 I d c s := by unfold P; dsimp only

end Payloads

/-- The arrays `W` holds are the first call's inputs, and `f` its result. -/
structure Carries0 (W : Valuation τ sig (Elt F)) (I : Both F) (f : S10240x512.Idx → F .f32) : Prop where
  t0 : W t0' = I.a.t0
  t1 : W t1' = I.a.t1
  sp : W sp' = I.a.sp
  dp : W dp' = I.a.dp
  ou : W ou0' = f

/-- The arrays `W` holds are the second call's inputs, and `f` its result. -/
structure Carries1 (W : Valuation τ sig (Elt F)) (I : Both F) (f : S10240x512.Idx → F .f32) : Prop where
  t0 : W u0' = I.b.t0
  t1 : W u1' = I.b.t1
  sp : W sp' = I.b.sp
  dp : W dp' = I.b.dp
  se : W se' = I.se
  ou : W ou1' = f

theorem assoc_eq (A B C : sProp 𝕄) : iprop((A ∗ B) ∗ C) = iprop(A ∗ B ∗ C) := equiv_iff.mp ⟨BI.sep_assoc, BI.sep_assoc'⟩

/-- The first call's arrays are the tiles' reads and the whole result. -/
theorem held_reads0 (I : Dev nD → Both F) (d : Dev nD) (W : Valuation τ sig (Elt F)) (f : S10240x512.Idx → F .f32) (h : Carries0 W (I d) f) :
    (held (SparseCore.T d) SC0 W : sProp 𝕄)
      = iprop((bigSep Finset.univ fun c : Fin 2 => bigSep Finset.univ fun s : Fin 16 => reads0 I d c s) ∗ owns (Val := Elt F) (tl d (coordsOf 0 0)) ou0 fullShare f) := by
  rw [held_SC0, h.t0, h.t1, h.sp, h.dp, h.ou, reads0_all, owns_whole]
  simp only [assoc_eq]

theorem held_reads1 (I : Dev nD → Both F) (d : Dev nD) (W : Valuation τ sig (Elt F)) (f : S10240x512.Idx → F .f32) (h : Carries1 W (I d) f) :
    (held (SparseCore.T d) SC1 W : sProp 𝕄)
      = iprop((bigSep Finset.univ fun c : Fin 2 => bigSep Finset.univ fun s : Fin 16 => reads1 I d c s) ∗ owns (Val := Elt F) (tl d (coordsOf 0 0)) ou1 fullShare f) := by
  rw [held_SC1, h.t0, h.t1, h.sp, h.dp, h.se, h.ou, reads1_all, owns_whole]
  simp only [assoc_eq]

theorem st_split0 (I : Dev nD → Both F) (d : Dev nD) (W : Valuation τ sig (Elt F)) (f : S10240x512.Idx → F .f32) (h : Carries0 W (I d) f) :
    (held (SparseCore.T d) SC0 W : sProp 𝕄) ⊢ bigSep Finset.univ fun c : Fin ((K (F := F)).nCore 0) => (P I).st 0 d c := by
  rw [held_reads0 I d W f h]
  simp only [P_st0]
  exact split (fun c s => reads0 I d c s) ou0 d f

theorem st_split1 (I : Dev nD → Both F) (d : Dev nD) (W : Valuation τ sig (Elt F)) (f : S10240x512.Idx → F .f32) (h : Carries1 W (I d) f) :
    (held (SparseCore.T d) SC1 W : sProp 𝕄) ⊢ bigSep Finset.univ fun c : Fin ((K (F := F)).nCore 1) => (P I).st 1 d c := by
  rw [held_reads1 I d W f h]
  simp only [P_st1]
  exact split (fun c s => reads1 I d c s) ou1 d f

theorem dn_join0 [∀ e, Nonempty (Elt F e)] (I : Dev nD → Both F) (d : Dev nD) (W : Valuation τ sig (Elt F)) (h : Carries0 W (I d) (I d).out0) :
    (bigSep Finset.univ fun c : Fin ((K (F := F)).nCore 0) => (P I).dn 0 d c) ⊢ (held (SparseCore.T d) SC0 W : sProp 𝕄) := by
  rw [held_reads0 I d W _ h]
  simp only [P_dn0]
  exact join (fun c s => reads0 I d c s) ou0 d (I d).out0

theorem dn_join1 [∀ e, Nonempty (Elt F e)] (I : Dev nD → Both F) (d : Dev nD) (W : Valuation τ sig (Elt F)) (h : Carries1 W (I d) (I d).out1) :
    (bigSep Finset.univ fun c : Fin ((K (F := F)).nCore 1) => (P I).dn 1 d c) ⊢ (held (SparseCore.T d) SC1 W : sProp 𝕄) := by
  rw [held_reads1 I d W _ h]
  simp only [P_dn1]
  exact join (fun c s => reads1 I d c s) ou1 d (I d).out1

theorem carriesV1 (d : Dev nD) : Carries0 (V1 m d) (inputs m d) (V1 m d ou0') := by
  unfold inputs inA
  generalize V1 m d = W
  exact ⟨rfl, rfl, rfl, rfl, rfl⟩

theorem carriesV2 (d : Dev nD) : Carries0 (V2 m d) (inputs m d) (inputs m d).out0 := by
  have h := carriesV1 m d
  constructor
  · exact (V2_other m d t0' (by decide)).trans h.t0
  · exact (V2_other m d t1' (by decide)).trans h.t1
  · exact (V2_other m d sp' (by decide)).trans h.sp
  · exact (V2_other m d dp' (by decide)).trans h.dp
  · unfold V2 inputs
    exact Function.update_self _ _ _

theorem carriesV5 (d : Dev nD) : Carries1 (V5 m d) (inputs m d) (V5 m d ou1') := by
  unfold inputs
  generalize V5 m d = W
  exact ⟨rfl, rfl, rfl, rfl, rfl, rfl⟩

theorem carriesV6 (d : Dev nD) : Carries1 (V6 m d) (inputs m d) (inputs m d).out1 := by
  have h := carriesV5 m d
  constructor
  · exact (V6_other m d u0' (by decide)).trans h.t0
  · exact (V6_other m d u1' (by decide)).trans h.t1
  · exact (V6_other m d sp' (by decide)).trans h.sp
  · exact (V6_other m d dp' (by decide)).trans h.dp
  · exact (V6_other m d se' (by decide)).trans h.se
  · unfold V6
    exact Function.update_self _ _ _

/-! ## The launch's ghost state -/

/-- The launch protocol's part, the staging cells', the counters'. -/
def u₀ : UU := ((initOf (K (F := F)).hsCells (K (F := F)).hsToks, initOf (Pipeline.cells (nD := nD) (τ := τ) cfgs staging_cells) (Pipeline.launchToks cfgs staging_cells)), 1)

/-- What a core starts the layers' calls from. -/
abbrev ghosts (d : Dev nD) : sProp 𝕄 :=
  iprop((Pipeline.cellsGhost cfgs EP 0 d ∗ Pipeline.cellsGhost cfgs EP 1 d) ∗ (Pipeline.toksInit cfgs EP 0 d ∗ Pipeline.toksInit cfgs EP 1 d))

theorem two (Φ : Fin 2 → sProp 𝕄) : bigSep Finset.univ Φ = iprop(Φ 0 ∗ Φ 1) := bigSep_univ_eq_bigSepL [0, 1] (by decide) (by decide) Φ

theorem emps {I : Type} (s : Finset I) : (bigSep s fun _ => iprop(emp)) = (iprop(emp) : sProp 𝕄) := bigSep_emp_const s

theorem fund : (BI.own (EP (initOf (Pipeline.cells (nD := nD) (τ := τ) cfgs staging_cells) (Pipeline.launchToks cfgs staging_cells))) : sProp 𝕄)
    ⊢ |==> bigSep Finset.univ fun d : Dev nD => ghosts (F := F) d := by
  have h := Pipeline.fund_ghost (Val := Elt F) (Ix := HIx 2) (Name := ℕ) (U := UU) (Lvl := ℕ) (nD := nD) (τ := τ) cfgs EP staging_cells
  simp only [two] at h
  rw [← bigSep_sep'] at h
  exact h

theorem halves (a : UH) (b : UR sig nD τ) : (BI.own ((embL : Emb (UH × UR sig nD τ) 𝕄) (a, b)) : sProp 𝕄) ⊢ iprop(BI.own (EH a) ∗ BI.own (EP b)) := by
  unfold EH EP
  exact own_pair_emb _ _ _

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 2 => (P (inputs m)).x q thr) := by
  unfold u₀
  iintro Hu
  ihave H := (ownU_pair (initOf (K (F := F)).hsCells (K (F := F)).hsToks, initOf (Pipeline.cells (nD := nD) (τ := τ) cfgs staging_cells) (Pipeline.launchToks cfgs staging_cells)) (1 : Counters)) $$ Hu
  icases H with ⟨HH, -⟩
  ihave H := (halves _ _) $$ HH
  icases H with ⟨HH, HP⟩
  ihave HG := (fund (F := F)) $$ HP
  imod HG
  imodintro
  isplitl [HH]; · iexact HH
  isplitl [HG]; · iexact HG
  rw [show (bigSep Finset.univ fun thr : Thread nD τ => bigSep Finset.univ fun q : Fin 2 => (P (F := F) (inputs m)).x q thr) = bigSep Finset.univ fun _ => iprop(emp) from
    bigSep_congr fun _ _ => emps _, emps]
  iempintro

/-- A call's tiles together take what the call takes. -/
theorem vecSplit0 (I : Dev nD → Both F) (d : Dev nD) (c : Fin ((K (F := F)).nCore 0)) :
    ((P I).st 0 d c) ⊢ |={Set.univ}=> iprop((bigSep Finset.univ fun i : Fin ((K (F := F)).nSub 0) => (P I).go 0 d c i)
      ∗ ((bigSep Finset.univ fun i : Fin ((K (F := F)).nSub 0) => (P I).td 0 d c i) -∗ (P I).dn 0 d c)) := by
  simp only [P_st0, P_dn0, P_go0, P_td0]
  iintro H
  imodintro
  isplitl [H]; · iexact H
  iintro H
  iexact H

theorem vecSplit1 (I : Dev nD → Both F) (d : Dev nD) (c : Fin ((K (F := F)).nCore 1)) :
    ((P I).st 1 d c) ⊢ |={Set.univ}=> iprop((bigSep Finset.univ fun i : Fin ((K (F := F)).nSub 1) => (P I).go 1 d c i)
      ∗ ((bigSep Finset.univ fun i : Fin ((K (F := F)).nSub 1) => (P I).td 1 d c i) -∗ (P I).dn 1 d c)) := by
  simp only [P_st1, P_dn1, P_go1, P_td1]
  iintro H
  imodintro
  isplitl [H]; · iexact H
  iintro H
  iexact H

/-! ## The run -/

/-- What is kept at the end. -/
abbrev FIN (d : Dev nD) : sProp 𝕄 := held (SparseCore.T d) SR (V8 m d)

theorem V1_sub (d : Dev nD) : (held (SparseCore.T d) SA (after hostOps (V0 m d)) : sProp 𝕄) = iprop(held (SparseCore.T d) SC0 (V1 m d) ∗ held (SparseCore.T d) (SA \ SC0) (V1 m d)) :=
  by rw [← V1_eq]; exact held_sub_split (c := SparseCore.T d) SC0_subset (V1 m d)
theorem V3_sub (d : Dev nD) : (held (SparseCore.T d) SA (after preOps (V2 m d)) : sProp 𝕄) = iprop(held (SparseCore.T d) (staged 0) (V3 m d) ∗ held (SparseCore.T d) (SA \ staged 0) (V3 m d)) :=
  by rw [← V3_eq]; exact held_sub_split (c := SparseCore.T d) (staged_subset 0) (V3 m d)
theorem V5_sub (d : Dev nD) : (held (SparseCore.T d) SA (after midOps (V4 m d)) : sProp 𝕄) = iprop(held (SparseCore.T d) SC1 (V5 m d) ∗ held (SparseCore.T d) (SA \ SC1) (V5 m d)) :=
  by rw [← V5_eq]; exact held_sub_split (c := SparseCore.T d) SC1_subset (V5 m d)
theorem V7_sub (d : Dev nD) : (held (SparseCore.T d) SA (after lastOps (V6 m d)) : sProp 𝕄) = iprop(held (SparseCore.T d) (staged 1) (V7 m d) ∗ held (SparseCore.T d) (SA \ staged 1) (V7 m d)) :=
  by rw [← V7_eq]; exact held_sub_split (c := SparseCore.T d) (staged_subset 1) (V7 m d)
theorem V8_sub (d : Dev nD) : (held (SparseCore.T d) SA (V8 m d) : sProp 𝕄) = iprop(held (SparseCore.T d) SR (V8 m d) ∗ held (SparseCore.T d) (SA \ SR) (V8 m d)) :=
  held_sub_split (c := SparseCore.T d) SR_subset (V8 m d)

theorem hi_staged : hi' ∈ staged 0 := Finset.mem_map_of_mem ⟨Proc.devRef .tc, Proc.devRef_injective _⟩ (Finset.mem_image_of_mem (Pipeline.arrRef spec1) (Finset.mem_univ (5 : Fin 6)))
theorem re_staged : re' ∈ staged 1 := Finset.mem_map_of_mem ⟨Proc.devRef .tc, Proc.devRef_injective _⟩ (Finset.mem_image_of_mem (Pipeline.arrRef spec3) (Finset.mem_univ (6 : Fin 7)))

theorem hmain [∀ e, Nonempty (Elt F e)] (κ : GSem nD τ sig → ℕ) (d : Dev nD) :
    iprop((K (F := F)).ctx EH (P (inputs m)) κ ∗ (K (F := F)).tcSt EH d 0 ∗ (K (F := F)).tcRes m ρ d ∗ ghosts d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held, main_eq, ← seq_bind_seqK]
  iintro ⟨#Hctx, Hst, ⟨Hb, Hheld, Hts, -⟩, ⟨⟨Hg0, Hg1⟩, Ht0, Ht1⟩⟩
  iapply (wp_seq 𝒱 none Set.univ d SA _ hostOps hostOps_bufs hostOps_fresh (V0 m d)) $$ [Hb Hheld]
  · isplitl [Hb]; · iexact Hb
    iexact Hheld
  iintro ⟨Hb, Hheld⟩
  ihave Hh := (Entails.of_eq (V1_sub m d)) $$ Hheld
  icases Hh with ⟨Hc, Hr⟩
  rw [wp_bind]
  iapply ((K (F := F)).wp_run (D (F := F)) 𝒱 (EH := EH) (P := P (inputs m)) κ d 0) $$ [Hst Hc Hb Hr Hts Hg0 Hg1 Ht0 Ht1]
  isplitr; · iexact Hctx
  isplitl [Hst]; · iexact Hst
  isplitl [Hc]
  · iapply (st_split0 (inputs m) d _ _ (carriesV1 m d)); iexact Hc
  iintro ⟨Hst, Hdn⟩
  ihave Hc := (dn_join0 (inputs m) d _ (carriesV2 m d)) $$ Hdn
  ihave Hr := (Entails.of_eq (held_rest d SC0 (V1 m d) ou0' (inA m d).sums (by decide))) $$ Hr
  rw [← seq_bind_seqK]
  iapply (wp_seq 𝒱 none Set.univ d SA _ preOps preOps_bufs preOps_fresh (V2 m d)) $$ [Hb Hc Hr]
  · isplitl [Hb]; · iexact Hb
    iapply (Entails.of_eq (held_sub_split (c := (d.tc : Thread nD τ)) SC0_subset (V2 m d)).symm)
    isplitl [Hc]; · iexact Hc
    iexact Hr
  iintro ⟨Hb, Hheld⟩
  ihave Hh := (Entails.of_eq (V3_sub m d)) $$ Hheld
  icases Hh with ⟨Hc, Hr⟩
  rw [wp_bind]
  iapply (wp_layer1 (V3 m) (P := P (inputs m)) κ d)
  isplitr; · iexact Hctx
  isplitl [Hst]; · iexact Hst
  isplitl [Hb]; · iexact Hb
  isplitl [Hc]; · iexact Hc
  isplitl [Hg0]; · iexact Hg0
  isplitl [Ht0]; · iexact Ht0
  iintro ⟨Hst, Hb, Hc⟩
  ihave Hr := (Entails.of_eq (held_rest d (staged 0) (V3 m d) hi' (hidden1 (V3 m) d) hi_staged)) $$ Hr
  rw [← seq_bind_seqK]
  iapply (wp_seq 𝒱 none Set.univ d SA _ midOps midOps_bufs midOps_fresh (V4 m d)) $$ [Hb Hc Hr]
  · isplitl [Hb]; · iexact Hb
    iapply (Entails.of_eq (held_sub_split (c := (d.tc : Thread nD τ)) (staged_subset 0) (V4 m d)).symm)
    isplitl [Hc]; · iexact Hc
    iexact Hr
  iintro ⟨Hb, Hheld⟩
  ihave Hh := (Entails.of_eq (V5_sub m d)) $$ Hheld
  icases Hh with ⟨Hc, Hr⟩
  rw [wp_bind]
  iapply ((K (F := F)).wp_run (D (F := F)) 𝒱 (EH := EH) (P := P (inputs m)) κ d 1) $$ [Hst Hc Hb Hr Hts Hg1 Ht1]
  isplitr; · iexact Hctx
  isplitl [Hst]; · iexact Hst
  isplitl [Hc]
  · iapply (st_split1 (inputs m) d _ _ (carriesV5 m d)); iexact Hc
  iintro ⟨Hst, Hdn⟩
  ihave Hc := (dn_join1 (inputs m) d _ (carriesV6 m d)) $$ Hdn
  ihave Hr := (Entails.of_eq (held_rest d SC1 (V5 m d) ou1' (inputs m d).out1 (by decide))) $$ Hr
  rw [← seq_bind_seqK]
  iapply (wp_seq 𝒱 none Set.univ d SA _ lastOps lastOps_bufs lastOps_fresh (V6 m d)) $$ [Hb Hc Hr]
  · isplitl [Hb]; · iexact Hb
    iapply (Entails.of_eq (held_sub_split (c := (d.tc : Thread nD τ)) SC1_subset (V6 m d)).symm)
    isplitl [Hc]; · iexact Hc
    iexact Hr
  iintro ⟨Hb, Hheld⟩
  ihave Hh := (Entails.of_eq (V7_sub m d)) $$ Hheld
  icases Hh with ⟨Hc, Hr⟩
  rw [wp_bind]
  iapply (wp_layer2 (V7 m) (P := P (inputs m)) κ d)
  isplitr; · iexact Hctx
  isplitl [Hst]; · iexact Hst
  isplitl [Hb]; · iexact Hb
  isplitl [Hc]; · iexact Hc
  isplitl [Hg1]; · iexact Hg1
  isplitl [Ht1]; · iexact Ht1
  iintro ⟨Hst, Hb, Hc⟩
  ihave Hr := (Entails.of_eq (held_rest d (staged 1) (V7 m d) re' (output2 (V7 m) d) re_staged)) $$ Hr
  ihave Hheld := (Entails.of_eq (held_sub_split (c := (d.tc : Thread nD τ)) (staged_subset 1) (V8 m d)).symm) $$ [Hc Hr]
  · isplitl [Hc]; · iexact Hc
    iexact Hr
  ihave Hh := (Entails.of_eq (V8_sub m d)) $$ Hheld
  icases Hh with ⟨Hf, -⟩
  rw [wp_pure]; imodintro
  isplitl [Hst]; · iexact Hst
  isplitl [Hf]; · iexact Hf
  isplitl [Hb] <;> iassumption

/-! ## What is kept -/

/-- The arguments. -/
abbrev argRefs : List (DevRef τ sig) := [a0', a1', a2', a3', a4', a5', a6', a7', a8']

/-- No operation of the host writes an argument, nor what is still to be read. -/
theorem V1_kept (d : Dev nD) (b : DevRef τ sig) (h : b ∈ argRefs) : V1 m d b = V0 m d b := by
  rw [V1_eq]
  refine StableHlo.after_of_forall_not_mem hostOps (V0 m d) fun op hop hb => ?_
  simp only [hostOps, List.mem_cons, List.not_mem_nil, or_false] at hop
  rcases hop with rfl | rfl | rfl | rfl | rfl | rfl | rfl | rfl | rfl | rfl | rfl | rfl | rfl | rfl | rfl | rfl | rfl | rfl | rfl <;>
    (obtain rfl := Finset.mem_singleton.mp hb
     exact absurd h (by decide))

/-- The same before the first layer, -/
theorem V3_kept (d : Dev nD) (b : DevRef τ sig) (h : b ∈ ch' :: sp' :: dp' :: argRefs) : V3 m d b = V2 m d b := by
  rw [V3_eq]
  refine StableHlo.after_of_forall_not_mem preOps (V2 m d) fun op hop hb => ?_
  simp only [preOps, List.mem_cons, List.not_mem_nil, or_false] at hop
  rcases hop with rfl | rfl <;>
    (obtain rfl := Finset.mem_singleton.mp hb
     exact absurd h (by decide))

/-- before the second call, -/
theorem V5_kept (d : Dev nD) (b : DevRef τ sig) (h : b ∈ hi' :: ch' :: sp' :: dp' :: argRefs) : V5 m d b = V4 m d b := by
  rw [V5_eq]
  refine StableHlo.after_of_forall_not_mem midOps (V4 m d) fun op hop hb => ?_
  simp only [midOps, List.mem_cons, List.not_mem_nil, or_false] at hop
  rcases hop with rfl | rfl | rfl | rfl | rfl | rfl | rfl | rfl | rfl | rfl <;>
    (obtain rfl := Finset.mem_singleton.mp hb
     exact absurd h (by decide))

/-- and before the second layer. -/
theorem V7_kept (d : Dev nD) (b : DevRef τ sig) (h : b ∈ hi' :: ch' :: argRefs) : V7 m d b = V6 m d b := by
  rw [V7_eq]
  refine StableHlo.after_of_forall_not_mem lastOps (V6 m d) fun op hop hb => ?_
  simp only [lastOps, List.mem_cons, List.not_mem_nil, or_false] at hop
  rcases hop with rfl | rfl <;>
    (obtain rfl := Finset.mem_singleton.mp hb
     exact absurd h (by decide))

theorem ne_of_mem {L : List (DevRef τ sig)} {o b : DevRef τ sig} (h : b ∈ L) (ho : o ∉ L) : b ≠ o := fun e => ho (e ▸ h)

theorem V1_arg (d : Dev nD) (b : DevRef τ sig) (h : b ∈ argRefs) : V1 m d b = m (d, b) := V1_kept m d b h

theorem V3_first (d : Dev nD) (b : DevRef τ sig) (h : b ∈ ch' :: sp' :: dp' :: argRefs) : V3 m d b = V1 m d b := by
  rw [V3_kept m d b h, V2_other m d b (ne_of_mem h (by decide))]

theorem V3_arg (d : Dev nD) (b : DevRef τ sig) (h : b ∈ argRefs) : V3 m d b = m (d, b) := by
  rw [V3_first m d b (List.mem_cons_of_mem _ (List.mem_cons_of_mem _ (List.mem_cons_of_mem _ h))), V1_arg m d b h]

theorem V5_first (d : Dev nD) (b : DevRef τ sig) (h : b ∈ ch' :: sp' :: dp' :: argRefs) : V5 m d b = V1 m d b := by
  rw [V5_kept m d b (List.mem_cons_of_mem _ h), V4_other m d b (ne_of_mem h (by decide)), V3_first m d b h]

theorem V5_hi (d : Dev nD) : V5 m d hi' = hidden1 (V3 m) d := by
  rw [V5_kept m d hi' List.mem_cons_self]
  unfold V4
  exact Function.update_self _ _ _

theorem V7_hi (d : Dev nD) : V7 m d hi' = hidden1 (V3 m) d := by
  rw [V7_kept m d hi' List.mem_cons_self, V6_other m d hi' (by decide), V5_hi]

theorem V7_first (d : Dev nD) (b : DevRef τ sig) (h : b ∈ ch' :: argRefs) : V7 m d b = V1 m d b := by
  rw [V7_kept m d b (List.mem_cons_of_mem _ h), V6_other m d b (ne_of_mem h (by decide)), V5_first m d b (by
    rcases List.mem_cons.mp h with h | h
    · exact h ▸ List.mem_cons_self
    · exact List.mem_cons_of_mem _ (List.mem_cons_of_mem _ (List.mem_cons_of_mem _ h)))]

theorem V7_arg (d : Dev nD) (b : DevRef τ sig) (h : b ∈ argRefs) : V7 m d b = m (d, b) := by
  rw [V7_first m d b (List.mem_cons_of_mem _ h), V1_arg m d b h]

theorem V8_arg (d : Dev nD) (b : DevRef τ sig) (h : b ∈ argRefs) : V8 m d b = m (d, b) := by
  rw [V8_other m d b (ne_of_mem h (by decide)), V7_arg m d b h]

/-- The result. -/
def outcome (d : Dev nD) : S10000x256.Idx → F .f32 := output2 (V7 m) d

theorem V8_result (d : Dev nD) : V8 m d re' = outcome m d := by
  unfold V8
  exact Function.update_self _ _ _

/-- The arguments in memory as at the launch. -/
abbrev Args (d : Dev nD) (M : (ℓ : Loc nD τ sig) → Buf (Elt F) ℓ) : Prop :=
  M ((SparseCore.T d).loc main_arg0) = m ((SparseCore.T d).loc main_arg0) ∧ M ((SparseCore.T d).loc main_arg1) = m ((SparseCore.T d).loc main_arg1) ∧ M ((SparseCore.T d).loc main_arg2) = m ((SparseCore.T d).loc main_arg2) ∧ M ((SparseCore.T d).loc main_arg3) = m ((SparseCore.T d).loc main_arg3) ∧ M ((SparseCore.T d).loc main_arg4) = m ((SparseCore.T d).loc main_arg4) ∧ M ((SparseCore.T d).loc main_arg5) = m ((SparseCore.T d).loc main_arg5) ∧ M ((SparseCore.T d).loc main_arg6) = m ((SparseCore.T d).loc main_arg6) ∧ M ((SparseCore.T d).loc main_arg7) = m ((SparseCore.T d).loc main_arg7) ∧ M ((SparseCore.T d).loc main_arg8) = m ((SparseCore.T d).loc main_arg8)

def fq (d : Dev nD) (s' : Phys nD τ sig (Elt F)) : Prop := Args m d s'.mem.mem ∧ s'.mem.mem ((SparseCore.T d).loc main_v30) = outcome m d

/-- An array held with `f` in it holds `f`. -/
theorem read_one (s' : Phys nD τ sig (Elt F)) (ℓ : Loc nD τ sig) (f : Buf (Elt F) ℓ) :
    iprop(SI s' ∗ ℓ ↦{fullShare} f) ⊢ iprop(⌜s'.mem.mem ℓ = f⌝ ∗ SI s' : sProp 𝕄) := by
  iintro ⟨HSI, H0⟩
  ihave H := (persistent_entails_right (SI_pointsTo_agree (st := s') (ℓ := ℓ) (I := Finset.univ) (q := fullShare) (f := f))) $$ [HSI H0]
  · isplitl [HSI] <;> iassumption
  icases H with ⟨%h0, HSI, -⟩
  isplitr
  · ipureintro; exact funext fun i => h0 i (Finset.mem_univ i)
  iexact HSI

set_option maxRecDepth 16384 in
theorem hfin (d : Dev nD) (s' : Phys nD τ sig (Elt F)) : iprop(FIN m d ∗ SI s') ⊢ (⌜fq m d s'⌝ : sProp 𝕄) := by
  unfold FIN
  rw [held_SR, V8_arg m d a0' (by decide), V8_arg m d a1' (by decide), V8_arg m d a2' (by decide), V8_arg m d a3' (by decide), V8_arg m d a4' (by decide), V8_arg m d a5' (by decide), V8_arg m d a6' (by decide), V8_arg m d a7' (by decide), V8_arg m d a8' (by decide), V8_result]
  iintro ⟨⟨H0, H1, H2, H3, H4, H5, H6, H7, H8, H9⟩, HSI⟩
  ihave H := (read_one s' _ _) $$ [HSI H0]
  · isplitl [HSI] <;> iassumption
  icases H with ⟨%h0, HSI⟩
  ihave H := (read_one s' _ _) $$ [HSI H1]
  · isplitl [HSI] <;> iassumption
  icases H with ⟨%h1, HSI⟩
  ihave H := (read_one s' _ _) $$ [HSI H2]
  · isplitl [HSI] <;> iassumption
  icases H with ⟨%h2, HSI⟩
  ihave H := (read_one s' _ _) $$ [HSI H3]
  · isplitl [HSI] <;> iassumption
  icases H with ⟨%h3, HSI⟩
  ihave H := (read_one s' _ _) $$ [HSI H4]
  · isplitl [HSI] <;> iassumption
  icases H with ⟨%h4, HSI⟩
  ihave H := (read_one s' _ _) $$ [HSI H5]
  · isplitl [HSI] <;> iassumption
  icases H with ⟨%h5, HSI⟩
  ihave H := (read_one s' _ _) $$ [HSI H6]
  · isplitl [HSI] <;> iassumption
  icases H with ⟨%h6, HSI⟩
  ihave H := (read_one s' _ _) $$ [HSI H7]
  · isplitl [HSI] <;> iassumption
  icases H with ⟨%h7, HSI⟩
  ihave H := (read_one s' _ _) $$ [HSI H8]
  · isplitl [HSI] <;> iassumption
  icases H with ⟨%h8, HSI⟩
  ihave H := (read_one s' _ _) $$ [HSI H9]
  · isplitl [HSI] <;> iassumption
  icases H with ⟨%h9, HSI⟩
  ipureintro
  exact ⟨⟨h0, h1, h2, h3, h4, h5, h6, h7, h8⟩, h9⟩

def QC : PUnit × MemSt nD τ sig (Elt F) → Prop := fun r =>
  (∀ c : Dev nD, Args m c r.2.mem ∧ r.2.mem ((SparseCore.T c).loc main_v30) = outcome m c) ∧ r.2.sem = fun _ => 0

/-- From indices in range, the program ends with the layers' output in its result, its arguments as they were, every semaphore at zero. -/
theorem run_main [∀ e, Nonempty (Elt F e)] (hI : ∀ d, (inputs m d).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (inputs m)) (A := ∅) launched v₀
    (fun q hq => match q with | 0 => nomatch hq | 1 => nomatch hq)
    (fun q _ => match q with | 0 => tileObl0 (inputs m) hI | 1 => tileObl1 (inputs m) hI)
    (fun q _ => match q with | 0 => SparseCore.Cfg.VecSplit.of_plain (vecSplit0 (inputs m)) | 1 => SparseCore.Cfg.VecSplit.of_plain (vecSplit1 (inputs m)))
    m ρ main (fun d => ghosts d) (FIN m) (u₀ (F := F)) (sep_elim_left.trans (hu₀ m)) (hmain m ρ) (fq m) (hfin m) (QC m) (fun _ h hz => ⟨h, hz⟩)

end Cert.Proof

end
-- ==== Proof.Value.lean ====
/-
  The calls' inputs as functions of the program's arguments: each table's two halves, the padded sources and destinations,
  the padded choices.
-/
module

public import proofs.«01_k».proof.Proof.Host
public import Idealize.ShloMosaic.Lib.Routing.OpsSet
public import Idealize.ShloMosaic.Lib.ValueLayout

@[expose] public section

noncomputable section

namespace Cert.Proof

open Idealize.ShloMosaic Idealize.ShloMosaic.ValueIdx
open Cert.KernelIdeal Cert.KernelIdeal.Gen

variable {F : FTy → Type} [FloatOps F]
variable (m : (ℓ : Loc nD τ sig) → Buf (Elt F) ℓ) (d : Dev nD)

/-- The features, the choices, the edges, and what the first layer makes of them. -/
abbrev feats : S10000x512.Idx → F .f32 := m ((SparseCore.T d).loc main_arg0)
abbrev choice : S10000.Idx → BitVec 32 := m ((SparseCore.T d).loc main_arg1)
abbrev edges : S2x160000.Idx → BitVec 32 := m ((SparseCore.T d).loc main_arg2)
abbrev hidden : S8x10000x512.Idx → F .f32 := hidden1 (V3 m) d

/-! ## The composed terms -/

set_option maxHeartbeats 1000000 in
theorem V1_t0 : V1 m d t0' = shapeCast S10000x2x128 (extractStridedSlice S10000x256 ![0, 0] (feats m d) slices_S10000x512_S10000x256_0_0) shapeCasts_S10000x256_S10000x2x128 := by
  rw [V1_eq]; after_results <;> rfl

set_option maxHeartbeats 1000000 in
theorem V1_t1 : V1 m d t1' = shapeCast S10000x2x128 (extractStridedSlice S10000x256 ![0, 256] (feats m d) slices_S10000x512_S10000x256_0_256) shapeCasts_S10000x256_S10000x2x128 := by
  rw [V1_eq]; after_results <;> rfl

/-- A list of words followed by zeros. -/
abbrev padded (x : S160000.Idx → BitVec 32) : S160256.Idx → BitVec 32 :=
  Host.scatter scatter_S160256_S1_S160000_0_n_0_0 (fun _ b => b) (broadcastInDim S160256 ![] bcast_S_S160256 (constantI S_ 32 0#32)) (broadcastInDim S1 ![] bcast_S_S1 (constantI S_ 32 0#32)) x

set_option maxHeartbeats 1000000 in
theorem V1_sp : V1 m d sp' = padded (shapeCast S160000 (extractStridedSlice S1x160000 ![0, 0] (edges m d) slices_S2x160000_S1x160000_0_0) shapeCasts_S1x160000_S160000) := by
  rw [V1_eq]; after_results <;> rfl

set_option maxHeartbeats 1000000 in
theorem V1_dp : V1 m d dp' = padded (shapeCast S160000 (extractStridedSlice S1x160000 ![1, 0] (edges m d) slices_S2x160000_S1x160000_1_0) shapeCasts_S1x160000_S160000) := by
  rw [V1_eq]; after_results <;> rfl

/-- The rows of the first layer's outputs, one expert's after another's. -/
abbrev flat (H : S8x10000x512.Idx → F .f32) : S80000x512.Idx → F .f32 := shapeCast S80000x512 H shapeCasts_S8x10000x512_S80000x512

theorem V2_arg (b : DevRef τ sig) (h : b ∈ argRefs) : V2 m d b = m (d, b) := by
  rw [V2_other m d b (ne_of_mem h (by decide)), V1_arg m d b h]

theorem V4_hi : V4 m d hi' = hidden m d := by
  unfold V4
  exact Function.update_self _ _ _

theorem V4_arg (b : DevRef τ sig) (h : b ∈ argRefs) : V4 m d b = m (d, b) := by
  rw [V4_other m d b (ne_of_mem h (by decide)), V3_arg m d b h]

theorem V6_arg (b : DevRef τ sig) (h : b ∈ argRefs) : V6 m d b = m (d, b) := by
  rw [V6_other m d b (ne_of_mem h (by decide)), V5_first m d b (List.mem_cons_of_mem _ (List.mem_cons_of_mem _ (List.mem_cons_of_mem _ h))), V1_arg m d b h]

set_option maxHeartbeats 1000000 in
theorem V1_ch : V1 m d ch' = shapeCast S10x1x1000 (choice m d) shapeCasts_S10000_S10x1x1000 := by
  rw [V1_eq]; after_results <;> rfl

theorem V3_ne : V3 m d ne0' = extractStridedSlice S10000x512 ![0, 0] (V2 m d ou0') slices_S10240x512_S10000x512_0_0 := by
  rw [V3_eq]; after_results <;> rfl

theorem V3_bi : V3 m d bi0' = shapeCast S8x1x512 (V2 m d a5') shapeCasts_S8x512_S8x1x512 := by
  rw [V3_eq]; after_results <;> rfl

theorem V7_ne : V7 m d ne1' = extractStridedSlice S10000x512 ![0, 0] (V6 m d ou1') slices_S10240x512_S10000x512_0_0 := by
  rw [V7_eq]; after_results <;> rfl

theorem V7_bi : V7 m d bi1' = shapeCast S8x1x256 (V6 m d a8') shapeCasts_S8x256_S8x1x256 := by
  rw [V7_eq]; after_results <;> rfl

set_option maxHeartbeats 1000000 in
theorem V5_u0 : V5 m d u0' = shapeCast S80000x2x128 (extractStridedSlice S80000x256 ![0, 0] (flat (V4 m d hi')) slices_S80000x512_S80000x256_0_0) shapeCasts_S80000x256_S80000x2x128 := by
  rw [V5_eq]; after_results <;> rfl

set_option maxHeartbeats 1000000 in
theorem V5_u1 : V5 m d u1' = shapeCast S80000x2x128 (extractStridedSlice S80000x256 ![0, 256] (flat (V4 m d hi')) slices_S80000x512_S80000x256_0_256) shapeCasts_S80000x256_S80000x2x128 := by
  rw [V5_eq]; after_results <;> rfl

set_option maxHeartbeats 1000000 in
theorem V5_se : V5 m d se' = Host.scatter scatter_S10240_S1_S10000_0_n_0_0 (fun _ b => b) (broadcastInDim S10240 ![] bcast_S_S10240 (constantI S_ 32 0#32))
    (broadcastInDim S1 ![] bcast_S_S1 (constantI S_ 32 0#32)) (V4 m d a1') := by
  rw [V5_eq]; after_results <;> rfl

/-! ## Read at an index -/

section Padded
variable {A B : ℕ} (g : ScatterDims ⟨1, ![A]⟩ S1 ⟨1, ![B]⟩) (hi : g.insertedWindowDims = [])
include hi

/-- A scatter of a whole list at offset zero puts each element on its own position. -/
theorem lands (idx : IVec S1 32) (hz : ∀ i, idx i = 0#32) (j : (⟨1, ![B]⟩ : Shape).Idx) (y : (⟨1, ![A]⟩ : Shape).Idx) :
    g.resultIdx? j idx = some y ↔ (j 0).val = (y 0).val := by
  have hs : g.start j idx 0 = 0 := by
    unfold ScatterDims.start
    split
    · rw [hz]; rfl
    · rfl
  have hw : g.window j 0 = (j 0).val := by
    unfold ScatterDims.window
    rw [dif_pos (show (0 : Fin 1) ∈ g.sKept by simp [ScatterDims.sKept, Shape.kept, hi])]
    exact congrArg (fun a : Fin 1 => (j a).val) (Subsingleton.elim _ _)
  rw [Routing.resultIdx?_eq_some]
  refine ⟨fun h => ?_, fun h a => ?_⟩
  · have := h 0
    rw [hs, hw] at this
    omega
  · obtain rfl : a = 0 := Subsingleton.elim _ _
    rw [hs, hw]
    omega

/-- A list scattered into zeros is the list followed by zeros. -/
theorem pad_lt [NeZero A] (x0 : (⟨1, ![A]⟩ : Shape).Idx → BitVec 32) (idx : IVec S1 32) (hz : ∀ i, idx i = 0#32) (x : (⟨1, ![B]⟩ : Shape).Idx → BitVec 32)
    (k : ℕ) (hA : k < A) (hk : k < B) : nth (Host.scatter g (fun _ b => b) x0 idx x) k = x (ix1 ⟨k, hk⟩) := by
  have hy : (Fin.ofNat A k).val = k := Nat.mod_eq_of_lt hA
  unfold nth
  refine Routing.scatter_set_hit _ _ _ x _ _ (fun j hj => ?_) (ix1 ⟨k, hk⟩) ((lands g hi _ hz (ix1 ⟨k, hk⟩) (ix1 (Fin.ofNat A k))).mpr hy.symm)
  have h := (lands g hi _ hz j (ix1 (Fin.ofNat A k))).mp hj
  rw [eq_ix1 j]
  exact congrArg x (congrArg ix1 (Fin.ext (h.trans hy)))

theorem pad_ge [NeZero A] (x0 : (⟨1, ![A]⟩ : Shape).Idx → BitVec 32) (hx : ∀ i, x0 i = 0#32) (idx : IVec S1 32) (hz : ∀ i, idx i = 0#32) (x : (⟨1, ![B]⟩ : Shape).Idx → BitVec 32)
    (k : ℕ) (hA : k < A) (hk : B ≤ k) : nth (Host.scatter g (fun _ b => b) x0 idx x) k = 0#32 := by
  have hy : (Fin.ofNat A k).val = k := Nat.mod_eq_of_lt hA
  unfold nth
  refine (Routing.scatter_set_miss _ _ _ x _ fun j hj => ?_).trans (hx _)
  have h : (j 0).val = (Fin.ofNat A k).val := (lands g hi _ hz j _).mp hj
  have : (j 0).val < B := (j 0).isLt
  omega

end Padded

theorem padded_lt (x : S160000.Idx → BitVec 32) (k : ℕ) (hk : k < 160000) : nth (padded x) k = x (ix1 ⟨k, hk⟩) :=
  pad_lt scatter_S160256_S1_S160000_0_n_0_0 rfl _ _ (fun _ => rfl) x k (by omega) hk

theorem padded_ge (x : S160000.Idx → BitVec 32) (k : ℕ) (hk : 160000 ≤ k) (hk' : k < 160256) : nth (padded x) k = 0#32 :=
  pad_ge scatter_S160256_S1_S160000_0_n_0_0 rfl _ (fun _ => rfl) _ (fun _ => rfl) x k hk' hk

/-- The two ends of an edge. -/
def srcOf (E : S2x160000.Idx → BitVec 32) (k : ℕ) : BitVec 32 := E (ix2 0 (Fin.ofNat 160000 k))
def dstOf (E : S2x160000.Idx → BitVec 32) (k : ℕ) : BitVec 32 := E (ix2 1 (Fin.ofNat 160000 k))

theorem src_apply (E : S2x160000.Idx → BitVec 32) (h h') (k : Fin 160000) :
    shapeCast S160000 (extractStridedSlice S1x160000 ![0, 0] E h) h' (ix1 k) = srcOf E k.val := by
  rw [shapeCast_1a_a_apply]
  refine extractStridedSlice_apply _ _ _ _ _ fun a => ?_
  match a with
  | 0 => rfl
  | 1 => show k.val % 160000 = 0 + k.val; rw [Nat.mod_eq_of_lt k.isLt, Nat.zero_add]

theorem dst_apply (E : S2x160000.Idx → BitVec 32) (h h') (k : Fin 160000) :
    shapeCast S160000 (extractStridedSlice S1x160000 ![1, 0] E h) h' (ix1 k) = dstOf E k.val := by
  rw [shapeCast_1a_a_apply]
  refine extractStridedSlice_apply _ _ _ _ _ fun a => ?_
  match a with
  | 0 => rfl
  | 1 => show k.val % 160000 = 0 + k.val; rw [Nat.mod_eq_of_lt k.isLt, Nat.zero_add]

/-- An entry of half a table, the half's columns two times 128. -/
theorem half_apply {N : ℕ} (H : (⟨2, ![N, 512]⟩ : Shape).Idx → F .f32) (o : ℕ) (h : (⟨2, ![N, 512]⟩ : Shape).Slices ![0, o] ⟨2, ![N, 256]⟩) (h') (r : Fin N) (a : Fin 2) (b : Fin 128)
    (c : Fin 512) (hc : c.val = o + (128 * a.val + b.val)) :
    shapeCast ⟨3, ![N, 2, 128]⟩ (extractStridedSlice ⟨2, ![N, 256]⟩ ![0, o] H h) h' (ix3 r a b) = H (ix2 r c) := by
  have hb : 128 * a.val + b.val < 256 := by omega
  refine (shapeCast_apply _ h' _ (ix2 r ⟨128 * a.val + b.val, hb⟩) ?_).trans (extractStridedSlice_apply _ _ _ _ _ fun x => ?_)
  · rw [Shape.rowMajor_val_two, Shape.rowMajor_val_three]
    show r.val * 256 + (128 * a.val + b.val) = (r.val * 2 + a.val) * 128 + b.val
    omega
  · match x with
    | 0 => show r.val = 0 + r.val; omega
    | 1 => exact hc

/-- Two halves together are the table. -/
theorem tab_halves {N : ℕ} [NeZero N] (H : (⟨2, ![N, 512]⟩ : Shape).Idx → F .f32) (h0 : (⟨2, ![N, 512]⟩ : Shape).Slices ![0, 0] ⟨2, ![N, 256]⟩) (h0')
    (h1 : (⟨2, ![N, 512]⟩ : Shape).Slices ![0, 256] ⟨2, ![N, 256]⟩) (h1') (r c : ℕ) (hr : r < N) (hc : c < 512) :
    tab (shapeCast ⟨3, ![N, 2, 128]⟩ (extractStridedSlice ⟨2, ![N, 256]⟩ ![0, 0] H h0) h0') (shapeCast ⟨3, ![N, 2, 128]⟩ (extractStridedSlice ⟨2, ![N, 256]⟩ ![0, 256] H h1) h1') r c
      = H (ix2 ⟨r, hr⟩ ⟨c, hc⟩) := by
  have e : (⟨r, hr⟩ : Fin N) = Fin.ofNat N r := Fin.ext (Nat.mod_eq_of_lt hr).symm
  unfold tab
  rw [e]
  split
  · refine half_apply _ 0 _ _ _ _ _ _ ?_
    show c = 0 + (128 * (c / 128 % 2) + c % 128)
    omega
  · refine half_apply _ 256 _ _ _ _ _ _ ?_
    show c = 256 + (128 * (c / 128 % 2) + c % 128)
    omega

theorem flat_apply (H : S8x10000x512.Idx → F .f32) (e : Fin 8) (n : Fin 10000) (c : Fin 512) (h : e.val * 10000 + n.val < 80000) :
    flat H (ix2 (⟨e.val * 10000 + n.val, h⟩ : Fin 80000) c) = H (ix3 e n c) := by
  refine shapeCast_apply _ _ _ _ ?_
  rw [Shape.rowMajor_val_two, Shape.rowMajor_val_three]
  rfl

theorem inputs_a : (inputs m d).a = ⟨V1 m d t0', V1 m d t1', V1 m d sp', V1 m d dp'⟩ := rfl
theorem inputs_b : (inputs m d).b = ⟨V5 m d u0', V5 m d u1', V1 m d sp', V1 m d dp'⟩ := by
  rw [← V5_first m d sp' (by decide), ← V5_first m d dp' (by decide)]
  rfl

/-- The first call's table is the features. -/
theorem inputs_tab (r c : ℕ) (hr : r < 10000) (hc : c < 512) : tab (inputs m d).a.t0 (inputs m d).a.t1 r c = feats m d (ix2 ⟨r, hr⟩ ⟨c, hc⟩) := by
  rw [inputs_a]
  dsimp only
  rw [V1_t0, V1_t1]
  exact tab_halves _ _ _ _ _ r c hr hc

/-- The second call's table is the first layer's outputs, one expert's rows after another's. -/
theorem inputs_tab' (e n c : ℕ) (he : e < 8) (hn : n < 10000) (hc : c < 512) :
    tab (inputs m d).b.t0 (inputs m d).b.t1 (e * 10000 + n) c = hidden m d (ix3 ⟨e, he⟩ ⟨n, hn⟩ ⟨c, hc⟩) := by
  rw [inputs_b]
  dsimp only
  rw [V5_u0, V5_u1, V4_hi]
  exact (tab_halves _ _ _ _ _ _ c (by omega) hc).trans (flat_apply _ ⟨e, he⟩ ⟨n, hn⟩ ⟨c, hc⟩ (by show e * 10000 + n < 80000; omega))

theorem V1_src (k : ℕ) (hk : k < 160000) : nth (V1 m d sp' : S160256.Idx → BitVec 32) k = srcOf (edges m d) k := by
  rw [V1_sp, padded_lt _ k hk, src_apply]

theorem V1_dst (k : ℕ) (hk : k < 160000) : nth (V1 m d dp' : S160256.Idx → BitVec 32) k = dstOf (edges m d) k := by
  rw [V1_dp, padded_lt _ k hk, dst_apply]

theorem inputs_se (k : ℕ) (hk : k < 10000) : nth (inputs m d).se k = choice m d (ix1 ⟨k, hk⟩) := by
  have h : (inputs m d).se = V5 m d se' := rfl
  rw [h, V5_se, V4_arg m d a1' (by decide)]
  exact pad_lt scatter_S10240_S1_S10000_0_n_0_0 rfl _ _ (fun _ => rfl) _ k (by omega) hk

/-- Every edge joins two rows of the table, and every node's choice is an expert. -/
structure InRange (I : S10000.Idx → BitVec 32) (E : S2x160000.Idx → BitVec 32) : Prop where
  edge : ∀ y, (E y).toNat < 10000
  expert : ∀ y, (I y).toNat < 8

theorem V1_ok (h : InRange (choice m d) (edges m d)) :
    (∀ k < 160256, (nth (V1 m d sp' : S160256.Idx → BitVec 32) k).toNat < 10000) ∧ ∀ k < 160256, (nth (V1 m d dp' : S160256.Idx → BitVec 32) k).toNat < 10000 := by
  refine ⟨fun k hk => ?_, fun k hk => ?_⟩
  · by_cases hk' : k < 160000
    · rw [V1_src m d k hk']; exact h.edge _
    · rw [V1_sp, padded_ge _ k (by omega) hk]; decide
  · by_cases hk' : k < 160000
    · rw [V1_dst m d k hk']; exact h.edge _
    · rw [V1_dp, padded_ge _ k (by omega) hk]; decide

theorem inputs_ok (h : InRange (choice m d) (edges m d)) : (inputs m d).Ok where
  a := ⟨(V1_ok m d h).1, (V1_ok m d h).2⟩
  b := by rw [inputs_b]; exact ⟨(V1_ok m d h).1, (V1_ok m d h).2⟩
  se k hk := by
    by_cases hk' : k < 10000
    · rw [inputs_se m d k hk']; exact h.expert _
    · have e : (inputs m d).se = V5 m d se' := rfl
      rw [e, V5_se]
      exact lt_of_eq_of_lt (congrArg BitVec.toNat (pad_ge scatter_S10240_S1_S10000_0_n_0_0 rfl _ (fun _ => rfl) _ (fun _ => rfl) _ k hk (by omega))) (by decide)

end Cert.Proof

end
-- ==== Proof.Sums.lean ====
/-
  Over the reals the calls' results and the reference's are the same sums over the edges.
-/
module

public import proofs.«01_k».proof.Defs
public import proofs.«01_k».proof.Proof.Value
public import proofs.«01_k».proof.Proof.Gen.ReferenceIdeal.Run
public import proofs.«01_k».proof.Proof.Gen.Pre_in_range
public import Idealize.ShloMosaic.Lib.Routing.Ops
public import Idealize.ShloMosaic.Lib.ReduceAll
public import Idealize.ShloMosaic.Lib.IdealHost

@[expose] public section

noncomputable section

namespace Cert.Proof

open Idealize.ShloMosaic Idealize.ShloMosaic.ValueIdx

/-! ## The precondition -/

/-- The precondition's one bit says that every entry of the edge list lies in `[0, 10000)` and every choice in `[0, 8)`. -/
theorem inRange_of_pre {F : FTy → Type} [FloatOps F] (H : FVec F Cert.Pre_in_range.S10000x512 .f32)
    (I : IVec Cert.Pre_in_range.S10000 32) (E : IVec Cert.Pre_in_range.S2x160000 32) (R0 N0 : FVec F Cert.Pre_in_range.S8x512x512 .f32)
    (B0 : FVec F Cert.Pre_in_range.S8x512 .f32) (R1 N1 : FVec F Cert.Pre_in_range.S8x512x256 .f32) (B1 : FVec F Cert.Pre_in_range.S8x256 .f32)
    (h : Cert.Pre_in_range.fn H I E R0 N0 B0 R1 N1 B1 = fun _ => 1#1) : InRange I E := by
  have and_bits (p q : Bool) : IntOp.andi (BitVec.ofBool p) (BitVec.ofBool q) = BitVec.ofBool (p && q) := by
    cases p <;> cases q <;> decide
  have bit_one (p : Bool) : (BitVec.ofBool p = 1#1) ↔ p = true := by cases p <;> decide
  have both : ∀ p q : BitVec 1, IntOp.andi p q = 1#1 → p = 1#1 ∧ q = 1#1 := by decide
  have word : ∀ (n : ℕ) (v : BitVec 32), n < 2 ^ 31 → IntOp.andi (IntOp.cmpi .sge v 0#32) (IntOp.cmpi .slt v (BitVec.ofNat 32 n)) = 1#1 → v.toNat < n := by
    intro n v hn e
    simp only [IntOp.cmpi, and_bits, bit_one, Bool.and_eq_true, BitVec.sle_eq_decide, BitVec.slt_eq_decide,
      decide_eq_true_eq, BitVec.toInt_eq_toNat_cond, BitVec.toNat_ofNat, Nat.reducePow, Nat.reduceMod] at e
    omega
  haveI : Subsingleton Cert.Pre_in_range.S_.Idx := ⟨fun a b => funext fun k => k.elim0⟩
  have e := both _ _ (congrFun h (fun k => k.elim0))
  exact ⟨fun y => word 10000 _ (by norm_num) (Host.reduce_andi_all _ _ _ _ _ e.1 y), fun y => word 8 _ (by norm_num) (Host.reduce_andi_all _ _ _ _ _ e.2 y)⟩

/-! ## The kernel's side -/

/-- A chain of additions is the sum of its terms. -/
theorem fold_sum {α : Type} [AddCommMonoid α] (p : ℕ → Prop) [DecidablePred p] (x : ℕ → α) (n : ℕ) (a : α) :
    fold (· + ·) p x n a = a + ∑ k ∈ (Finset.range n).filter p, x k := by
  induction n with
  | zero => simp [fold]
  | succ n ih =>
    rw [Finset.range_add_one, Finset.filter_insert]
    unfold fold
    split
    · rw [Finset.sum_insert (by simp), ih, add_assoc]
      congr 1
      exact add_comm _ _
    · exact ih

/-- The table's row that an edge reads. -/
def srcRow (E : Cert.KernelIdeal.S2x160000.Idx → BitVec 32) (e : ℕ) : Fin 10000 := Fin.ofNat 10000 (srcOf E e).toNat

/-- The sum, over the edges that end in node `i`, of the features of the node they start in. -/
def neighbours (H : Cert.KernelIdeal.S10000x512.Idx → Ideal .f32) (E : Cert.KernelIdeal.S2x160000.Idx → BitVec 32) :
    Cert.KernelIdeal.S10000x512.Idx → Ideal .f32 := fun y =>
  ∑ e ∈ (Finset.range 160000).filter (fun e => (dstOf E e).toNat = (y 0).val), H (ix2 (srcRow E e) (y 1))

/-- The expert that a node chose. -/
def expert (I : Cert.KernelIdeal.S10000.Idx → BitVec 32) (r : Fin 10000) : Fin 8 := Fin.ofNat 8 (I (ix1 r)).toNat

/-- The sum, over the edges that end in node `i`, of the outputs that the expert chosen by `i` gives for the node they start in. -/
def chosen (H : Cert.KernelIdeal.S8x10000x512.Idx → Ideal .f32) (I : Cert.KernelIdeal.S10000.Idx → BitVec 32)
    (E : Cert.KernelIdeal.S2x160000.Idx → BitVec 32) : Cert.KernelIdeal.S10000x512.Idx → Ideal .f32 := fun y =>
  ∑ e ∈ (Finset.range 160000).filter (fun e => (dstOf E e).toNat = (y 0).val), H (ix3 (expert I (y 0)) (srcRow E e) (y 1))

/-- An entry of a call's result as a sum, its destinations the edges' ends. -/
theorem total_at (T : ℕ → ℕ → Ideal .f32) (ro : ℕ → ℕ) (D : Cert.KernelIdeal.S160256.Idx → BitVec 32) (E : Cert.KernelIdeal.S2x160000.Idx → BitVec 32)
    (hD : ∀ k < 160000, nth D k = dstOf E k) (r : Fin 10000) (c : Fin 512) :
    extractStridedSlice Cert.KernelIdeal.S10000x512 ![0, 0] (total T ro D) Cert.KernelIdeal.Gen.slices_S10240x512_S10000x512_0_0 (ix2 r c)
      = ∑ e ∈ (Finset.range 160000).filter (fun e => (dstOf E e).toNat = r.val), T (ro e) c.val := by
  have e0 : (Scalar.ofBits .f32 0x00000000#32 : Ideal .f32) = 0 := Ideal.ofBits_zero_f32
  have hf : (Finset.range 160000).filter (fun e => e < 160000 ∧ (nth D e).toNat = r.val)
      = (Finset.range 160000).filter (fun e => (dstOf E e).toNat = r.val) := by
    refine Finset.filter_congr fun e he => ?_
    have he := Finset.mem_range.mp he
    rw [hD e he]
    exact ⟨fun h => h.2, fun h => ⟨he, h⟩⟩
  rw [extractStridedSlice_apply ![0, 0] (total T ro D) _ (ix2 r c) (ix2 ⟨r.val, by omega⟩ c) (fun a => by
    match a with
    | 0 => show r.val = 0 + r.val; omega
    | 1 => show c.val = 0 + c.val; omega), ← hf]
  unfold total
  refine Eq.trans (b := fold (· + ·) (fun e => e < 160000 ∧ (nth D e).toNat = r.val)
    (fun e => T (ro e) c.val) (160000 + 256) (0 : Ideal .f32)) (by rw [← e0]; rfl) ?_
  refine (fold_tail _ _ ?_).trans ((fold_sum _ _ _ _).trans (zero_add _))
  intro i _ hc
  have := hc.1
  omega

section Kernel
variable (m : (ℓ : Loc Cert.KernelIdeal.nD Cert.KernelIdeal.τ Cert.KernelIdeal.sig) → Buf (Elt Ideal) ℓ) (d : Dev Cert.KernelIdeal.nD)
  (h : InRange (choice m d) (edges m d))
include h

theorem src_row (e : ℕ) : (⟨(srcOf (edges m d) e).toNat, h.edge _⟩ : Fin 10000) = srcRow (edges m d) e := Fin.ext (Nat.mod_eq_of_lt (h.edge _)).symm

/-- What the first layer finds of the first call. -/
theorem sums_first : V3 m d ne0' = neighbours (feats m d) (edges m d) := by
  rw [V3_ne, show V2 m d ou0' = (inputs m d).a.sums from Function.update_self _ _ _]
  funext y
  obtain ⟨r, c, rfl⟩ : ∃ (r : Fin 10000) (c : Fin 512), y = ix2 r c := ⟨y 0, y 1, eq_ix2 y⟩
  refine (total_at _ _ _ (edges m d) (V1_dst m d) r c).trans ?_
  unfold neighbours
  refine Finset.sum_congr rfl fun e he => ?_
  have he := Finset.mem_range.mp (Finset.mem_filter.mp he).1
  have hs : nth (inputs m d).a.sp e = srcOf (edges m d) e := V1_src m d e he
  rw [hs, ← src_row m d h e]
  exact inputs_tab m d _ _ (h.edge _) c.isLt

/-- What the second layer finds of the second call. -/
theorem sums_second : V7 m d ne1' = chosen (hidden m d) (choice m d) (edges m d) := by
  rw [V7_ne, show V6 m d ou1' = (inputs m d).out1 from Function.update_self _ _ _]
  funext y
  obtain ⟨r, c, rfl⟩ : ∃ (r : Fin 10000) (c : Fin 512), y = ix2 r c := ⟨y 0, y 1, eq_ix2 y⟩
  have hD : ∀ k < 160000, nth (inputs m d).b.dp k = dstOf (edges m d) k := by rw [inputs_b]; exact V1_dst m d
  have hS : ∀ k < 160000, nth (inputs m d).b.sp k = srcOf (edges m d) k := by rw [inputs_b]; exact V1_src m d
  refine (total_at _ _ _ (edges m d) hD r c).trans ?_
  unfold chosen
  refine Finset.sum_congr rfl fun e he => ?_
  have hr : (dstOf (edges m d) e).toNat = r.val := (Finset.mem_filter.mp he).2
  have he := Finset.mem_range.mp (Finset.mem_filter.mp he).1
  have hI : (choice m d (ix1 r)).toNat < 8 := h.expert _
  unfold rowSel
  rw [hD e he, hS e he, hr, inputs_se m d r.val r.isLt, ← src_row m d h e]
  refine (inputs_tab' m d _ _ _ hI (h.edge _) c.isLt).trans ?_
  rw [show (⟨(choice m d (ix1 r)).toNat, hI⟩ : Fin 8) = expert (choice m d) r from Fin.ext (Nat.mod_eq_of_lt hI).symm]
  rfl

end Kernel

/-! ## The reference's side -/

section Reference
open Cert.ReferenceIdeal Cert.ReferenceIdeal.Gen

/-- The reference's scatter puts row `e` of the updates on the row that the edge's end names. -/
theorem lands_ref (idx : IVec S160000x1 32) (e : Fin 160000) (c : Fin 512) (r : Fin 10000) (c' : Fin 512) :
    scatter_S10000x512_S160000x1_S160000x512_1_0_0_1.resultIdx? (ix2 e c) idx = some (ix2 r c')
      ↔ (idx (ix2 e 0)).toInt = (r.val : Int) ∧ c = c' := by
  have hs0 : scatter_S10000x512_S160000x1_S160000x512_1_0_0_1.start (ix2 e c) idx 0 = (idx (ix2 e 0)).toInt := by
    unfold ScatterDims.start
    rw [dif_pos (show (0 : Fin 2) ∈ scatter_S10000x512_S160000x1_S160000x512_1_0_0_1.scatterDimsToOperandDims by decide)]
    refine congrArg (fun i => (idx i).toInt) (funext fun a => ?_)
    match a with
    | 0 => rfl
    | 1 => rfl
  have hs1 : scatter_S10000x512_S160000x1_S160000x512_1_0_0_1.start (ix2 e c) idx 1 = 0 := by
    unfold ScatterDims.start
    rw [dif_neg (show ¬(1 : Fin 2) ∈ scatter_S10000x512_S160000x1_S160000x512_1_0_0_1.scatterDimsToOperandDims by decide)]
  have hw0 : scatter_S10000x512_S160000x1_S160000x512_1_0_0_1.window (ix2 e c) 0 = 0 := by
    unfold ScatterDims.window
    rw [dif_neg (show ¬(0 : Fin 2) ∈ scatter_S10000x512_S160000x1_S160000x512_1_0_0_1.sKept by decide)]
  have hw1 : scatter_S10000x512_S160000x1_S160000x512_1_0_0_1.window (ix2 e c) 1 = c.val := by
    unfold ScatterDims.window
    rw [dif_pos (show (1 : Fin 2) ∈ scatter_S10000x512_S160000x1_S160000x512_1_0_0_1.sKept by decide)]
    rfl
  rw [Routing.resultIdx?_eq_some]
  refine ⟨fun h => ?_, fun h a => ?_⟩
  · have h0 : _ = (r.val : Int) := h 0
    have h1 : _ = (c'.val : Int) := h 1
    rw [hs0, hw0] at h0
    rw [hs1, hw1] at h1
    exact ⟨by omega, Fin.ext (by omega)⟩
  · obtain ⟨h0, rfl⟩ := h
    match a with
    | 0 => show scatter_S10000x512_S160000x1_S160000x512_1_0_0_1.start (ix2 e c) idx 0 + _ = (r.val : Int); rw [hs0, hw0]; omega
    | 1 => show scatter_S10000x512_S160000x1_S160000x512_1_0_0_1.start (ix2 e c) idx 1 + _ = (c.val : Int); rw [hs1, hw1]; omega

variable (H : S10000x512.Idx → Ideal .f32) (E : S2x160000.Idx → BitVec 32)

/-- The sources and the destinations, as the reference takes them out of the edge list. -/
abbrev srcs : S160000.Idx → BitVec 32 := shapeCast S160000 (extractStridedSlice S1x160000 ![0, 0] E slices_S2x160000_S1x160000_0_0) shapeCasts_S1x160000_S160000
abbrev dsts : S160000.Idx → BitVec 32 := shapeCast S160000 (extractStridedSlice S1x160000 ![1, 0] E slices_S2x160000_S1x160000_1_0) shapeCasts_S1x160000_S160000

theorem srcs_apply (e : Fin 160000) : srcs E (ix1 e) = srcOf E e.val := src_apply E _ _ e
theorem dsts_apply (e : Fin 160000) : dsts E (ix1 e) = dstOf E e.val := dst_apply E _ _ e

/-- The reference's composed term. -/
abbrev refTerm : S10000x512.Idx → Ideal .f32 :=
  Host.scatterAdd scatter_S10000x512_S160000x1_S160000x512_1_0_0_1 (broadcastInDim S10000x512 ![] bcast_S_S10000x512 (constant S_ .f32 0x00000000#32))
    (broadcastInDim S160000x1 ![0] bcast_S160000_S160000x1_0 (dsts E))
    (Host.gather gather_S10000x512_S160000x1_S160000x512_1_0_n_n_0_1_1512 H (broadcastInDim S160000x1 ![0] bcast_S160000_S160000x1_0
      (select (cmpi .slt (srcs E) (broadcastInDim S160000 ![] bcast_S_S160000 (constantI S_ 32 0#32)))
        (addi (srcs E) (broadcastInDim S160000 ![] bcast_S_S160000 (constantI S_ 32 10000#32))) (srcs E))))

theorem column (x : S160000.Idx → BitVec 32) (e : Fin 160000) : broadcastInDim S160000x1 ![0] bcast_S160000_S160000x1_0 x (ix2 e 0) = x (ix1 e) := by
  refine broadcastInDim_apply _ _ _ _ _ fun a => ?_
  match a with
  | 0 => rfl

theorem gathered_ref (h : ∀ y, (E y).toNat < 10000) (e : Fin 160000) (c : Fin 512) :
    Host.gather gather_S10000x512_S160000x1_S160000x512_1_0_n_n_0_1_1512 H (broadcastInDim S160000x1 ![0] bcast_S160000_S160000x1_0
      (select (cmpi .slt (srcs E) (broadcastInDim S160000 ![] bcast_S_S160000 (constantI S_ 32 0#32)))
        (addi (srcs E) (broadcastInDim S160000 ![] bcast_S_S160000 (constantI S_ 32 10000#32))) (srcs E))) (ix2 e c) = H (ix2 (srcRow E e.val) c) := by
  have hs : (srcOf E e.val).toNat < 10000 := h _
  refine Routing.gather_row _ rfl rfl rfl rfl rfl _ _ e c _ ?_ (by norm_num)
  rw [column]
  show Scalar.select (IntOp.cmpi .slt (srcs E (ix1 e)) 0#32) _ (srcs E (ix1 e)) = _
  rw [srcs_apply, Routing.wrap_of_lt _ _ (by norm_num; omega)]
  refine BitVec.eq_of_toNat_eq ?_
  rw [BitVec.toNat_ofNat]
  show _ = (srcOf E e.val).toNat % 10000 % 2 ^ 32
  omega

theorem refTerm_sum (h : ∀ y, (E y).toNat < 10000) : refTerm H E = neighbours H E := by
  funext y
  obtain ⟨r, c, rfl⟩ : ∃ (r : Fin 10000) (c : Fin 512), y = ix2 r c := ⟨y 0, y 1, eq_ix2 y⟩
  have e0 : (broadcastInDim S10000x512 ![] bcast_S_S10000x512 (constant S_ .f32 0x00000000#32) : S10000x512.Idx → Ideal .f32) (ix2 r c) = 0 := Ideal.ofBits_zero_f32
  show (broadcastInDim S10000x512 ![] bcast_S_S10000x512 (constant S_ .f32 0x00000000#32) : S10000x512.Idx → Ideal .f32) (ix2 r c) + _ = _
  rw [e0, zero_add]
  unfold neighbours
  refine Finset.sum_nbij' (fun j => (j 0).val) (fun e => ix2 (Fin.ofNat 160000 e) c) ?_ ?_ ?_ ?_ ?_
  · intro j hj
    obtain ⟨e, c', rfl⟩ : ∃ (e : Fin 160000) (c' : Fin 512), j = ix2 e c' := ⟨j 0, j 1, eq_ix2 j⟩
    have hl := (lands_ref _ e c' r c).mp (Finset.mem_filter.mp hj).2
    rw [column, dsts_apply] at hl
    have hd : (dstOf E e.val).toNat < 10000 := h _
    refine Finset.mem_filter.mpr ⟨Finset.mem_range.mpr e.isLt, ?_⟩
    show (dstOf E e.val).toNat = r.val
    have := hl.1
    rw [BitVec.toInt_eq_toNat_cond] at this
    split at this <;> omega
  · intro e he
    have he' := Finset.mem_filter.mp he
    have hl := Finset.mem_range.mp he'.1
    refine Finset.mem_filter.mpr ⟨Finset.mem_univ _, (lands_ref _ (Fin.ofNat 160000 e) c r c).mpr ⟨?_, rfl⟩⟩
    rw [column, dsts_apply, show (Fin.ofNat 160000 e).val = e from Nat.mod_eq_of_lt hl]
    have : (dstOf E e).toNat = r.val := he'.2
    rw [BitVec.toInt_eq_toNat_cond]
    split <;> omega
  · intro j hj
    obtain ⟨e, c', rfl⟩ : ∃ (e : Fin 160000) (c' : Fin 512), j = ix2 e c' := ⟨j 0, j 1, eq_ix2 j⟩
    have hl := (lands_ref _ e c' r c).mp (Finset.mem_filter.mp hj).2
    rw [← hl.2]
    exact congrArg (fun e => ix2 e c') (Fin.ext (Nat.mod_eq_of_lt e.isLt))
  · intro e he
    exact Nat.mod_eq_of_lt (Finset.mem_range.mp (Finset.mem_filter.mp he).1)
  · intro j hj
    obtain ⟨e, c', rfl⟩ : ∃ (e : Fin 160000) (c' : Fin 512), j = ix2 e c' := ⟨j 0, j 1, eq_ix2 j⟩
    have hl := (lands_ref _ e c' r c).mp (Finset.mem_filter.mp hj).2
    refine (gathered_ref H E h e c').trans ?_
    rw [hl.2]

/-! ### The second sum -/

/-- The batched scatter puts row `e` of each expert's updates on the row that the edge's end names, of the same expert. -/
theorem lands_batch (idx : IVec S160000x1 32) (a : Fin 8) (e : Fin 160000) (c : Fin 512) (a' : Fin 8) (r : Fin 10000) (c' : Fin 512) :
    scatter_S8x10000x512_S160000x1_S8x160000x512_02_1_1_1.resultIdx? (ix3 a e c) idx = some (ix3 a' r c')
      ↔ (idx (ix2 e 0)).toInt = (r.val : Int) ∧ a = a' ∧ c = c' := by
  have hs0 : scatter_S8x10000x512_S160000x1_S8x160000x512_02_1_1_1.start (ix3 a e c) idx 0 = 0 := by
    unfold ScatterDims.start
    rw [dif_neg (show ¬(0 : Fin 3) ∈ scatter_S8x10000x512_S160000x1_S8x160000x512_02_1_1_1.scatterDimsToOperandDims by decide)]
  have hs1 : scatter_S8x10000x512_S160000x1_S8x160000x512_02_1_1_1.start (ix3 a e c) idx 1 = (idx (ix2 e 0)).toInt := by
    unfold ScatterDims.start
    rw [dif_pos (show (1 : Fin 3) ∈ scatter_S8x10000x512_S160000x1_S8x160000x512_02_1_1_1.scatterDimsToOperandDims by decide)]
    refine congrArg (fun i => (idx i).toInt) (funext fun b => ?_)
    match b with
    | 0 => rfl
    | 1 => rfl
  have hs2 : scatter_S8x10000x512_S160000x1_S8x160000x512_02_1_1_1.start (ix3 a e c) idx 2 = 0 := by
    unfold ScatterDims.start
    rw [dif_neg (show ¬(2 : Fin 3) ∈ scatter_S8x10000x512_S160000x1_S8x160000x512_02_1_1_1.scatterDimsToOperandDims by decide)]
  have hw0 : scatter_S8x10000x512_S160000x1_S8x160000x512_02_1_1_1.window (ix3 a e c) 0 = a.val := by
    unfold ScatterDims.window
    rw [dif_pos (show (0 : Fin 3) ∈ scatter_S8x10000x512_S160000x1_S8x160000x512_02_1_1_1.sKept by decide)]
    rfl
  have hw1 : scatter_S8x10000x512_S160000x1_S8x160000x512_02_1_1_1.window (ix3 a e c) 1 = 0 := by
    unfold ScatterDims.window
    rw [dif_neg (show ¬(1 : Fin 3) ∈ scatter_S8x10000x512_S160000x1_S8x160000x512_02_1_1_1.sKept by decide)]
  have hw2 : scatter_S8x10000x512_S160000x1_S8x160000x512_02_1_1_1.window (ix3 a e c) 2 = c.val := by
    unfold ScatterDims.window
    rw [dif_pos (show (2 : Fin 3) ∈ scatter_S8x10000x512_S160000x1_S8x160000x512_02_1_1_1.sKept by decide)]
    rfl
  rw [Routing.resultIdx?_eq_some]
  refine ⟨fun h => ?_, fun h b => ?_⟩
  · have h0 : _ = (a'.val : Int) := h 0
    have h1 : _ = (r.val : Int) := h 1
    have h2 : _ = (c'.val : Int) := h 2
    rw [hs0, hw0] at h0
    rw [hs1, hw1] at h1
    rw [hs2, hw2] at h2
    exact ⟨by omega, Fin.ext (by omega), Fin.ext (by omega)⟩
  · obtain ⟨h0, rfl, rfl⟩ := h
    match b with
    | 0 => show scatter_S8x10000x512_S160000x1_S8x160000x512_02_1_1_1.start (ix3 a e c) idx 0 + _ = (a.val : Int); rw [hs0, hw0]; omega
    | 1 => show scatter_S8x10000x512_S160000x1_S8x160000x512_02_1_1_1.start (ix3 a e c) idx 1 + _ = (r.val : Int); rw [hs1, hw1]; omega
    | 2 => show scatter_S8x10000x512_S160000x1_S8x160000x512_02_1_1_1.start (ix3 a e c) idx 2 + _ = (c.val : Int); rw [hs2, hw2]; omega

/-- The batched gather reads, for every expert, the row that the index names. -/
theorem gather_batch (x : S8x10000x512.Idx → Ideal .f32) (idx : IVec S160000x1 32) (a : Fin 8) (e : Fin 160000) (c : Fin 512) (r : Fin 10000)
    (h : (idx (ix2 e 0)).toInt.toNat = r.val) :
    Host.gather gather_S8x10000x512_S160000x1_S8x160000x512_02_1_n_n_1_1_81512 x idx (ix3 a e c) = x (ix3 a r c) := by
  unfold Host.gather
  refine congrArg x (funext fun b => Fin.ext ?_)
  have hb : ∀ b, gather_S8x10000x512_S160000x1_S8x160000x512_02_1_n_n_1_1_81512.batchCoord (ix3 a e c) b = 0 := fun b => GatherDims.batchCoord_eq_zero _ _ _ List.not_mem_nil
  match b with
  | 0 =>
    have hs : gather_S8x10000x512_S160000x1_S8x160000x512_02_1_n_n_1_1_81512.start (ix3 a e c) idx 0 = 0 := by
      unfold GatherDims.start
      rw [dif_neg (show ¬(0 : Fin 3) ∈ gather_S8x10000x512_S160000x1_S8x160000x512_02_1_n_n_1_1_81512.startIndexMap by decide)]
    have ho : gather_S8x10000x512_S160000x1_S8x160000x512_02_1_n_n_1_1_81512.offCoord (ix3 a e c) 0 = a.val := by
      unfold GatherDims.offCoord
      rw [dif_pos (show (0 : Fin 3) ∈ gather_S8x10000x512_S160000x1_S8x160000x512_02_1_n_n_1_1_81512.sKept by decide)]
      rfl
    show GatherDims.start _ _ _ _ + GatherDims.batchCoord _ _ _ + GatherDims.offCoord _ _ _ = a.val
    rw [hs, hb, ho]; omega
  | 1 =>
    have hs : gather_S8x10000x512_S160000x1_S8x160000x512_02_1_n_n_1_1_81512.start (ix3 a e c) idx 1 = r.val := by
      unfold GatherDims.start
      rw [dif_pos (show (1 : Fin 3) ∈ gather_S8x10000x512_S160000x1_S8x160000x512_02_1_n_n_1_1_81512.startIndexMap by decide)]
      refine Eq.trans (congrArg (fun i => min (idx i).toInt.toNat (10000 - 1)) (a₂ := ix2 e 0) (funext fun b => ?_)) ?_
      · match b with
        | 0 => rfl
        | 1 => rfl
      · show min (idx (ix2 e 0)).toInt.toNat (10000 - 1) = r.val
        rw [h]; omega
    have ho : gather_S8x10000x512_S160000x1_S8x160000x512_02_1_n_n_1_1_81512.offCoord (ix3 a e c) 1 = 0 := by
      unfold GatherDims.offCoord
      rw [dif_neg (show ¬(1 : Fin 3) ∈ gather_S8x10000x512_S160000x1_S8x160000x512_02_1_n_n_1_1_81512.sKept by decide)]
    show GatherDims.start _ _ _ _ + GatherDims.batchCoord _ _ _ + GatherDims.offCoord _ _ _ = r.val
    rw [hs, hb, ho]; omega
  | 2 =>
    have hs : gather_S8x10000x512_S160000x1_S8x160000x512_02_1_n_n_1_1_81512.start (ix3 a e c) idx 2 = 0 := by
      unfold GatherDims.start
      rw [dif_neg (show ¬(2 : Fin 3) ∈ gather_S8x10000x512_S160000x1_S8x160000x512_02_1_n_n_1_1_81512.startIndexMap by decide)]
    have ho : gather_S8x10000x512_S160000x1_S8x160000x512_02_1_n_n_1_1_81512.offCoord (ix3 a e c) 2 = c.val := by
      unfold GatherDims.offCoord
      rw [dif_pos (show (2 : Fin 3) ∈ gather_S8x10000x512_S160000x1_S8x160000x512_02_1_n_n_1_1_81512.sKept by decide)]
      rfl
    show GatherDims.start _ _ _ _ + GatherDims.batchCoord _ _ _ + GatherDims.offCoord _ _ _ = c.val
    rw [hs, hb, ho]; omega

/-- The last gather reads, for every node, the row that its pair of indices names. -/
theorem gather_pick (x : S8x10000x256.Idx → Ideal .f32) (idx : IVec S10000x2 32) (n : Fin 10000) (c : Fin 256) (a : Fin 8) (r : Fin 10000)
    (ha : (idx (ix2 n 0)).toInt.toNat = a.val) (hr : (idx (ix2 n 1)).toInt.toNat = r.val) :
    Host.gather gather_S8x10000x256_S10000x2_S10000x256_1_01_n_n_01_1_11256 x idx (ix2 n c) = x (ix3 a r c) := by
  unfold Host.gather
  refine congrArg x (funext fun b => Fin.ext ?_)
  have hb : ∀ b, gather_S8x10000x256_S10000x2_S10000x256_1_01_n_n_01_1_11256.batchCoord (ix2 n c) b = 0 := fun b => GatherDims.batchCoord_eq_zero _ _ _ List.not_mem_nil
  match b with
  | 0 =>
    have hs : gather_S8x10000x256_S10000x2_S10000x256_1_01_n_n_01_1_11256.start (ix2 n c) idx 0 = a.val := by
      unfold GatherDims.start
      rw [dif_pos (show (0 : Fin 3) ∈ gather_S8x10000x256_S10000x2_S10000x256_1_01_n_n_01_1_11256.startIndexMap by decide)]
      refine Eq.trans (congrArg (fun i => min (idx i).toInt.toNat (8 - 1)) (a₂ := ix2 n 0) (funext fun b => ?_)) ?_
      · match b with
        | 0 => rfl
        | 1 => rfl
      · show min (idx (ix2 n 0)).toInt.toNat (8 - 1) = a.val
        rw [ha]; omega
    have ho : gather_S8x10000x256_S10000x2_S10000x256_1_01_n_n_01_1_11256.offCoord (ix2 n c) 0 = 0 := by
      unfold GatherDims.offCoord
      rw [dif_neg (show ¬(0 : Fin 3) ∈ gather_S8x10000x256_S10000x2_S10000x256_1_01_n_n_01_1_11256.sKept by decide)]
    show GatherDims.start _ _ _ _ + GatherDims.batchCoord _ _ _ + GatherDims.offCoord _ _ _ = a.val
    rw [hs, hb, ho]; omega
  | 1 =>
    have hs : gather_S8x10000x256_S10000x2_S10000x256_1_01_n_n_01_1_11256.start (ix2 n c) idx 1 = r.val := by
      unfold GatherDims.start
      rw [dif_pos (show (1 : Fin 3) ∈ gather_S8x10000x256_S10000x2_S10000x256_1_01_n_n_01_1_11256.startIndexMap by decide)]
      refine Eq.trans (congrArg (fun i => min (idx i).toInt.toNat (10000 - 1)) (a₂ := ix2 n 1) (funext fun b => ?_)) ?_
      · match b with
        | 0 => rfl
        | 1 => rfl
      · show min (idx (ix2 n 1)).toInt.toNat (10000 - 1) = r.val
        rw [hr]; omega
    have ho : gather_S8x10000x256_S10000x2_S10000x256_1_01_n_n_01_1_11256.offCoord (ix2 n c) 1 = 0 := by
      unfold GatherDims.offCoord
      rw [dif_neg (show ¬(1 : Fin 3) ∈ gather_S8x10000x256_S10000x2_S10000x256_1_01_n_n_01_1_11256.sKept by decide)]
    show GatherDims.start _ _ _ _ + GatherDims.batchCoord _ _ _ + GatherDims.offCoord _ _ _ = r.val
    rw [hs, hb, ho]; omega
  | 2 =>
    have hs : gather_S8x10000x256_S10000x2_S10000x256_1_01_n_n_01_1_11256.start (ix2 n c) idx 2 = 0 := by
      unfold GatherDims.start
      rw [dif_neg (show ¬(2 : Fin 3) ∈ gather_S8x10000x256_S10000x2_S10000x256_1_01_n_n_01_1_11256.startIndexMap by decide)]
    have ho : gather_S8x10000x256_S10000x2_S10000x256_1_01_n_n_01_1_11256.offCoord (ix2 n c) 2 = c.val := by
      unfold GatherDims.offCoord
      rw [dif_pos (show (2 : Fin 3) ∈ gather_S8x10000x256_S10000x2_S10000x256_1_01_n_n_01_1_11256.sKept by decide)]
      rfl
    show GatherDims.start _ _ _ _ + GatherDims.batchCoord _ _ _ + GatherDims.offCoord _ _ _ = c.val
    rw [hs, hb, ho]; omega

variable (H1 : S8x10000x512.Idx → Ideal .f32) (I : S10000.Idx → BitVec 32)

/-- An index counted from the end where it is negative. -/
abbrev wrapped (x : S10000.Idx → BitVec 32) (n : BitVec 32) : S10000.Idx → BitVec 32 :=
  select (cmpi .slt x (broadcastInDim S10000 ![] bcast_S_S10000 (constantI S_ 32 0#32))) (addi x (broadcastInDim S10000 ![] bcast_S_S10000 (constantI S_ 32 n))) x

abbrev wrappedSrcs : S160000.Idx → BitVec 32 :=
  select (cmpi .slt (srcs E) (broadcastInDim S160000 ![] bcast_S_S160000 (constantI S_ 32 0#32))) (addi (srcs E) (broadcastInDim S160000 ![] bcast_S_S160000 (constantI S_ 32 10000#32))) (srcs E)

/-- Every expert's sums, and the pairs of an expert and a node that pick one row each. -/
abbrev batchTerm : S8x10000x512.Idx → Ideal .f32 :=
  Host.scatterAdd scatter_S8x10000x512_S160000x1_S8x160000x512_02_1_1_1
    (broadcastInDim S8x10000x512 ![1, 2] bcast_S10000x512_S8x10000x512_1_2 (broadcastInDim S10000x512 ![] bcast_S_S10000x512 (constant S_ .f32 0x00000000#32)))
    (broadcastInDim S160000x1 ![0] bcast_S160000_S160000x1_0 (dsts E))
    (Host.gather gather_S8x10000x512_S160000x1_S8x160000x512_02_1_n_n_1_1_81512 H1 (broadcastInDim S160000x1 ![0] bcast_S160000_S160000x1_0 (wrappedSrcs E)))

abbrev pairs : S10000x2.Idx → BitVec 32 :=
  concatenate S10000x2 1 [⟨S10000x1, broadcastInDim S10000x1 ![0] bcast_S10000_S10000x1_0 (wrapped I 8#32)⟩,
    ⟨S10000x1, broadcastInDim S10000x1 ![0] bcast_S10000_S10000x1_0 (wrapped (iotaInDim S10000 32 0) 10000#32)⟩] concatenates_S10000x1_S10000x1_S10000x2_d1

theorem column' (x : S10000.Idx → BitVec 32) (n : Fin 10000) : broadcastInDim S10000x1 ![0] bcast_S10000_S10000x1_0 x (ix2 n 0) = x (ix1 n) := by
  refine broadcastInDim_apply _ _ _ _ _ fun a => ?_
  match a with
  | 0 => rfl

theorem wrapped_apply (x : S10000.Idx → BitVec 32) (k : BitVec 32) (n : Fin 10000) (h : (x (ix1 n)).toNat < 2 ^ 31) : wrapped x k (ix1 n) = x (ix1 n) := by
  show Scalar.select (IntOp.cmpi .slt (x (ix1 n)) 0#32) _ (x (ix1 n)) = _
  rw [Routing.wrap_of_lt _ _ h]

theorem toInt_small (v : BitVec 32) (k : ℕ) (h : v.toNat = k) (hk : k < 2 ^ 31) : v.toInt.toNat = k := by
  rw [BitVec.toInt_eq_toNat_cond]
  split <;> omega

/-- The pairs' two columns, on their own. -/
abbrev asColumn (x : S10000.Idx → BitVec 32) : S10000x1.Idx → BitVec 32 := broadcastInDim S10000x1 ![0] bcast_S10000_S10000x1_0 x

/-- A node's pair is its choice and itself. -/
theorem pairs_expert (h : ∀ y, (I y).toNat < 8) (n : Fin 10000) : (pairs I (ix2 n 0)).toInt.toNat = (expert I n).val := by
  have hI : (I (ix1 n)).toNat < 8 := h _
  have e : pairs I (ix2 n 0) = I (ix1 n) := by
    refine (concatenate_pair_apply_left (t := S10000x2) (1 : Fin 2) (asColumn (wrapped I 8#32)) (asColumn (wrapped (iotaInDim S10000 32 0) 10000#32)) concatenates_S10000x1_S10000x1_S10000x2_d1
      (ix2 n 0) rfl (ix2 n 0) fun b => ?_).trans ((column' _ n).trans (wrapped_apply I 8#32 n (by omega)))
    match b with
    | 0 => rfl
    | 1 => rfl
  rw [e]
  exact toInt_small _ _ (Nat.mod_eq_of_lt hI).symm (by have := (expert I n).isLt; omega)

theorem pairs_node (n : Fin 10000) : (pairs I (ix2 n 1)).toInt.toNat = n.val := by
  have hn : ((iotaInDim S10000 32 0 : S10000.Idx → BitVec 32) (ix1 n)).toNat = n.val := by
    show (BitVec.ofNat 32 n.val).toNat = n.val
    rw [BitVec.toNat_ofNat]
    omega
  have e : pairs I (ix2 n 1) = (iotaInDim S10000 32 0 : S10000.Idx → BitVec 32) (ix1 n) := by
    refine (concatenate_pair_apply_right (t := S10000x2) (1 : Fin 2) (asColumn (wrapped I 8#32)) (asColumn (wrapped (iotaInDim S10000 32 0) 10000#32)) concatenates_S10000x1_S10000x1_S10000x2_d1
      (ix2 n 1) rfl rfl (ix2 n 0) (fun b hb => ?_) ?_).trans ((column' _ n).trans (wrapped_apply _ 10000#32 n (by rw [hn]; omega)))
    · match b with
      | 0 => rfl
      | 1 => exact absurd rfl hb
    · rfl
  rw [e]
  exact toInt_small _ _ hn (by omega)

theorem gathered_batch (h : ∀ y, (E y).toNat < 10000) (a : Fin 8) (e : Fin 160000) (c : Fin 512) :
    Host.gather gather_S8x10000x512_S160000x1_S8x160000x512_02_1_n_n_1_1_81512 H1 (broadcastInDim S160000x1 ![0] bcast_S160000_S160000x1_0 (wrappedSrcs E)) (ix3 a e c)
      = H1 (ix3 a (srcRow E e.val) c) := by
  have hs : (srcOf E e.val).toNat < 10000 := h _
  refine gather_batch _ _ a e c _ ?_
  rw [column]
  show (Scalar.select (IntOp.cmpi .slt (srcs E (ix1 e)) 0#32) _ (srcs E (ix1 e))).toInt.toNat = _
  rw [srcs_apply, Routing.wrap_of_lt _ _ (by norm_num; omega)]
  exact toInt_small _ _ (Nat.mod_eq_of_lt hs).symm (by have := (srcRow E e.val).isLt; omega)

theorem batch_sum (h : ∀ y, (E y).toNat < 10000) (a : Fin 8) (r : Fin 10000) (c : Fin 512) :
    batchTerm E H1 (ix3 a r c) = ∑ e ∈ (Finset.range 160000).filter (fun e => (dstOf E e).toNat = r.val), H1 (ix3 a (srcRow E e) c) := by
  have e0 : (broadcastInDim S8x10000x512 ![1, 2] bcast_S10000x512_S8x10000x512_1_2 (broadcastInDim S10000x512 ![] bcast_S_S10000x512 (constant S_ .f32 0x00000000#32)) :
    S8x10000x512.Idx → Ideal .f32) (ix3 a r c) = 0 := Ideal.ofBits_zero_f32
  show (broadcastInDim S8x10000x512 ![1, 2] bcast_S10000x512_S8x10000x512_1_2 (broadcastInDim S10000x512 ![] bcast_S_S10000x512 (constant S_ .f32 0x00000000#32)) :
    S8x10000x512.Idx → Ideal .f32) (ix3 a r c) + _ = _
  rw [e0, zero_add]
  refine Finset.sum_nbij' (fun j => (j 1).val) (fun e => ix3 a (Fin.ofNat 160000 e) c) ?_ ?_ ?_ ?_ ?_
  · intro j hj
    obtain ⟨a', e, c', rfl⟩ : ∃ (a' : Fin 8) (e : Fin 160000) (c' : Fin 512), j = ix3 a' e c' := ⟨j 0, j 1, j 2, eq_ix3 j⟩
    have hl := (lands_batch _ a' e c' a r c).mp (Finset.mem_filter.mp hj).2
    rw [column, dsts_apply] at hl
    have hd : (dstOf E e.val).toNat < 10000 := h _
    refine Finset.mem_filter.mpr ⟨Finset.mem_range.mpr e.isLt, ?_⟩
    show (dstOf E e.val).toNat = r.val
    have := hl.1
    rw [BitVec.toInt_eq_toNat_cond] at this
    split at this <;> omega
  · intro e he
    have he' := Finset.mem_filter.mp he
    have hl := Finset.mem_range.mp he'.1
    refine Finset.mem_filter.mpr ⟨Finset.mem_univ _, (lands_batch _ a (Fin.ofNat 160000 e) c a r c).mpr ⟨?_, rfl, rfl⟩⟩
    rw [column, dsts_apply, show (Fin.ofNat 160000 e).val = e from Nat.mod_eq_of_lt hl]
    have : (dstOf E e).toNat = r.val := he'.2
    rw [BitVec.toInt_eq_toNat_cond]
    split <;> omega
  · intro j hj
    obtain ⟨a', e, c', rfl⟩ : ∃ (a' : Fin 8) (e : Fin 160000) (c' : Fin 512), j = ix3 a' e c' := ⟨j 0, j 1, j 2, eq_ix3 j⟩
    have hl := (lands_batch _ a' e c' a r c).mp (Finset.mem_filter.mp hj).2
    rw [← hl.2.1, ← hl.2.2]
    exact congrArg (fun e => ix3 a' e c') (Fin.ext (Nat.mod_eq_of_lt e.isLt))
  · intro e he
    exact Nat.mod_eq_of_lt (Finset.mem_range.mp (Finset.mem_filter.mp he).1)
  · intro j hj
    obtain ⟨a', e, c', rfl⟩ : ∃ (a' : Fin 8) (e : Fin 160000) (c' : Fin 512), j = ix3 a' e c' := ⟨j 0, j 1, j 2, eq_ix3 j⟩
    have hl := (lands_batch _ a' e c' a r c).mp (Finset.mem_filter.mp hj).2
    refine (gathered_batch E H1 h a' e c').trans ?_
    rw [hl.2.1, hl.2.2]

end Reference

end Cert.Proof

end
-- ==== Proof.Layers.lean ====
/-
  Over the reals: what the two layers' calls leave in their arrays, entry by entry.
-/
module

public import proofs.«01_k».proof.Proof.Sums
public import Idealize.ShloMosaic.Lib.MatmulPlain

@[expose] public section

noncomputable section

namespace Cert.Proof

open Idealize.ShloMosaic Idealize.ShloMosaic.ValueIdx
open Cert.KernelIdeal Cert.KernelIdeal.Gen

/-! ## The layers -/

/-- One output of one expert: a node's own features and its neighbours' sum against a column of weights each, and the bias. -/
def unit (x a wr wn : Fin 512 → EReal) (b : EReal) : EReal := ((∑ k, x k * wr k) + ∑ k, a k * wn k) + b

/-- The first layer of every expert, from the features `X` and the neighbours' sums `A`. -/
def first (X A : S10000x512.Idx → Ideal .f32) (Wr Wn : S8x512x512.Idx → Ideal .f32) (B : S8x512.Idx → Ideal .f32) : S8x10000x512.Idx → Ideal .f32 := fun y =>
  max (unit (fun k => X (ix2 (y 1) k)) (fun k => A (ix2 (y 1) k)) (fun k => Wr (ix3 (y 0) k (y 2))) (fun k => Wn (ix3 (y 0) k (y 2))) (B (ix2 (y 0) (y 2)))) 0

/-- The second layer of expert `e` at node `n`, from the first layer's outputs `H` and sums `A` of them. -/
def second (H : S8x10000x512.Idx → Ideal .f32) (A : S10000x512.Idx → Ideal .f32) (Wr Wn : S8x512x256.Idx → Ideal .f32) (B : S8x256.Idx → Ideal .f32)
    (e : Fin 8) (n : Fin 10000) (c : Fin 256) : EReal :=
  unit (fun k => H (ix3 e n k)) (fun k => A (ix2 n k)) (fun k => Wr (ix3 e k c)) (fun k => Wn (ix3 e k c)) (B (ix2 e c))

/-! ## One point's block -/

theorem dot_first (x : FVec Ideal S1000x512 .f32) (w : FVec Ideal S512x512 .f32) (r : Fin 1000) (c : Fin 512) :
    matmul dot_S1000x512_S512x512_S1000x512_1_0_0_1_n_n none x w (constant S1000x512 .f32 0x00000000#32) (ix2 r c) = ∑ k : Fin 512, x (ix2 r k) * w (ix2 k c) := by
  refine (Ideal.matmul_plain_apply (M := 1000) (K := 512) (N := 512) none x w (constant S1000x512 .f32 0x00000000#32) r c).trans ?_
  show Ideal.ofBits .f32 0x00000000#32 + _ = _
  rw [Ideal.ofBits_zero_f32, zero_add]

theorem dot_second (x : FVec Ideal S1000x512 .f32) (w : FVec Ideal S512x256 .f32) (r : Fin 1000) (c : Fin 256) :
    matmul dot_S1000x512_S512x256_S1000x256_1_0_0_1_n_n none x w (constant S1000x256 .f32 0x00000000#32) (ix2 r c) = ∑ k : Fin 512, x (ix2 r k) * w (ix2 k c) := by
  refine (Ideal.matmul_plain_apply (M := 1000) (K := 512) (N := 256) none x w (constant S1000x256 .f32 0x00000000#32) r c).trans ?_
  show Ideal.ofBits .f32 0x00000000#32 + _ = _
  rw [Ideal.ofBits_zero_f32, zero_add]

/-- A bias row laid under every row of a block. -/
theorem bias_apply {a b : ℕ} (x : (⟨3, ![1, 1, b]⟩ : Shape).Idx → Ideal .f32) (h1 : (⟨3, ![1, 1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ x h1) h2) h3 (ix2 r c) = x (ix3 0 0 c) := by
  rw [broadcastTo_1b_ab_apply, shapeCast_a_1a_apply]
  refine shapeCast_apply _ _ _ _ ?_
  rw [Shape.rowMajor_val_three, Shape.rowMajor_val_one]
  show (0 * 1 + 0) * b + c.val = c.val
  omega

theorem pay1_apply (x : Vec Ideal S1000x512 .f32) (wr : Vec Ideal S1x512x512 .f32) (a : Vec Ideal S1000x512 .f32) (wn : Vec Ideal S1x512x512 .f32) (b : Vec Ideal S1x1x512 .f32)
    (r : Fin 1000) (c : Fin 512) :
    k1_pay1 x wr a wn b (ix3 (0 : Fin 1) r c)
      = max (unit (fun k => x (ix2 r k)) (fun k => a (ix2 r k)) (fun k => wr (ix3 0 k c)) (fun k => wn (ix3 0 k c)) (b (ix3 0 0 c))) 0 := by
  unfold k1_pay1
  refine (shapeCast_ab_1ab_apply _ _ 0 r c).trans ?_
  show max ((matmul _ none _ _ _ (ix2 r c) + matmul _ none _ _ _ (ix2 r c)) + broadcastTo _ _ _ (ix2 r c)) (Ideal.ofBits .f32 0x00000000#32) = _
  rw [dot_first, dot_first, bias_apply, Ideal.ofBits_zero_f32]
  unfold unit
  simp only [shapeCast_1ab_ab_apply, shapeCast_self]

/-- The factor an expert's outputs are taken with: one where the node chose it, zero elsewhere. -/
theorem factor (v w : BitVec 32) : (FloatOps.sitofp .f32 ((IntOp.cmpi .eq v w).zeroExtend 32) : Ideal .f32) = if v = w then (1 : EReal) else 0 := by
  have e0 : ((0#1).zeroExtend 32).toInt = 0 := by decide
  have e1 : ((1#1).zeroExtend 32).toInt = 1 := by decide
  show ((((IntOp.cmpi .eq v w).zeroExtend 32).toInt : ℝ) : EReal) = _
  by_cases h : v = w
  · rw [if_pos h, show IntOp.cmpi .eq v w = 1#1 from by simp [IntOp.cmpi, h], e1]
    norm_num
  · rw [if_neg h, show IntOp.cmpi .eq v w = 0#1 from by simp only [IntOp.cmpi]; rw [beq_eq_false_iff_ne.mpr h]; rfl, e0]
    norm_num

theorem pay2_apply (i : grid3.Coords) (I : Vec Ideal S1x1x1000 .i32) (h : Vec Ideal S1x1000x512 .f32) (wr : Vec Ideal S1x512x256 .f32) (a : Vec Ideal S1000x512 .f32) (wn : Vec Ideal S1x512x256 .f32)
    (b : Vec Ideal S1x1x256 .f32) (acc : Vec Ideal S1000x256 .f32) (r : Fin 1000) (c : Fin 256) :
    k3_pay2 i I h wr a wn b acc (ix2 r c)
      = acc (ix2 r c) + unit (fun k => h (ix3 0 r k)) (fun k => a (ix2 r k)) (fun k => wr (ix3 0 k c)) (fun k => wn (ix3 0 k c)) (b (ix3 0 0 c))
          * (if I (ix3 0 0 r) = BitVec.ofNat 32 (i 1).val then 1 else 0) := by
  have hs : broadcastTo S1000x256 (shapeCast S1000x1 (sitofp .f32 (extui 32 (cmpi .eq (shapeCast S1000 I shapeCasts_S1x1x1000_S1000) (broadcast S1000 (BitVec.ofNat 32 (i 1).val))) natLt_1_32) : FVec Ideal S1000 .f32)
      shapeCasts_S1000_S1000x1) broadcasts_S1000x1_S1000x256 (ix2 r c) = if I (ix3 0 0 r) = BitVec.ofNat 32 (i 1).val then (1 : EReal) else 0 := by
    refine (broadcastTo_apply _ _ _ (ix2 r (0 : Fin 1)) ?_).trans ((shapeCast_apply _ _ _ (ix1 r) ?_).trans ?_)
    · intro x
      match x with
      | 0 => rfl
      | 1 => rfl
    · rw [Shape.rowMajor_val_one, Shape.rowMajor_val_two]
      show r.val = r.val * 1 + 0
      omega
    · refine Eq.trans (b := FloatOps.sitofp .f32 ((IntOp.cmpi .eq (shapeCast S1000 I shapeCasts_S1x1x1000_S1000 (ix1 r)) (BitVec.ofNat 32 (i 1).val)).zeroExtend 32)) rfl ?_
      rw [factor, shapeCast_apply I shapeCasts_S1x1x1000_S1000 (ix1 r) (ix3 0 0 r) (by rw [Shape.rowMajor_val_three, Shape.rowMajor_val_one]; show (0 * 1 + 0) * 1000 + r.val = r.val; omega)]
  unfold k3_pay2
  show (shapeCast S1000x256 acc _ (ix2 r c) : EReal) + (((matmul (F := Ideal) _ none _ _ _ (ix2 r c) : EReal) + matmul (F := Ideal) _ none _ _ _ (ix2 r c)) + broadcastTo S1000x256 _ _ (ix2 r c)) * broadcastTo S1000x256 _ _ (ix2 r c) = _
  rw [hs, dot_second, dot_second, bias_apply]
  unfold unit
  simp only [shapeCast_1ab_ab_apply, shapeCast_self]

/-! ## The blocks -/

section Blocks
variable (V : Dev nD → Valuation τ sig (Elt Ideal)) (d : Dev nD)

/-- Where the first layer's windows lie at a point. -/
theorem spots1 : ∀ t : Fin cfg1.N, win1_0.index t (0 : Fin 2) = t.val / 8 ∧
    win1_0.index t (1 : Fin 2) = 0 ∧
    win1_1.index t (0 : Fin 2) = t.val / 8 ∧
    win1_1.index t (1 : Fin 2) = 0 ∧
    win1_2.index t (0 : Fin 3) = t.val % 8 ∧
    win1_2.index t (1 : Fin 3) = 0 ∧
    win1_2.index t (2 : Fin 3) = 0 ∧
    win1_3.index t (0 : Fin 3) = t.val % 8 ∧
    win1_3.index t (1 : Fin 3) = 0 ∧
    win1_3.index t (2 : Fin 3) = 0 ∧
    win1_4.index t (0 : Fin 3) = t.val % 8 ∧
    win1_4.index t (1 : Fin 3) = 0 ∧
    win1_4.index t (2 : Fin 3) = 0 :=
  (by decide +kernel : ∀ t : Fin grid1.N, _)

theorem blk1_at0 (t : Fin cfg1.N) (y : S1000x512.Idx) (z : S10000x512.Idx) (h0 : (z 0).val = 1000 * (t.val / 8) + (y 0).val) (h1 : (z 1).val = (y 1).val) : blk1 V d 0 t y = V d a0' z := by
  obtain ⟨e0, e1, -⟩ := spots1 t
  unfold blk1
  show V d a0' (((cfg1.win 0).blk t).view.emb y) = V d a0' z
  refine congrArg (V d a0') (funext fun x => Fin.ext ?_)
  match x with
  | ⟨0, _⟩ => show win1_0.index t (0 : Fin 2) * 1000 + 1 * (y 0).val = (z 0).val; rw [e0, h0]; omega
  | ⟨1, _⟩ => show win1_0.index t (1 : Fin 2) * 512 + 1 * (y 1).val = (z 1).val; rw [e1, h1]; omega

theorem blk1_at1 (t : Fin cfg1.N) (y : S1000x512.Idx) (z : S10000x512.Idx) (h0 : (z 0).val = 1000 * (t.val / 8) + (y 0).val) (h1 : (z 1).val = (y 1).val) : blk1 V d 1 t y = V d ne0' z := by
  obtain ⟨-, -, e0, e1, -⟩ := spots1 t
  unfold blk1
  show V d ne0' (((cfg1.win 1).blk t).view.emb y) = V d ne0' z
  refine congrArg (V d ne0') (funext fun x => Fin.ext ?_)
  match x with
  | ⟨0, _⟩ => show win1_1.index t (0 : Fin 2) * 1000 + 1 * (y 0).val = (z 0).val; rw [e0, h0]; omega
  | ⟨1, _⟩ => show win1_1.index t (1 : Fin 2) * 512 + 1 * (y 1).val = (z 1).val; rw [e1, h1]; omega

theorem blk1_at2 (t : Fin cfg1.N) (y : S1x512x512.Idx) (z : S8x512x512.Idx) (h0 : (z 0).val = t.val % 8 + (y 0).val) (h1 : (z 1).val = (y 1).val) (h2 : (z 2).val = (y 2).val) : blk1 V d 2 t y = V d a3' z := by
  obtain ⟨-, -, -, -, e0, e1, e2, -⟩ := spots1 t
  unfold blk1
  show V d a3' (((cfg1.win 2).blk t).view.emb y) = V d a3' z
  refine congrArg (V d a3') (funext fun x => Fin.ext ?_)
  match x with
  | ⟨0, _⟩ => show win1_2.index t (0 : Fin 3) * 1 + 1 * (y 0).val = (z 0).val; rw [e0, h0]; omega
  | ⟨1, _⟩ => show win1_2.index t (1 : Fin 3) * 512 + 1 * (y 1).val = (z 1).val; rw [e1, h1]; omega
  | ⟨2, _⟩ => show win1_2.index t (2 : Fin 3) * 512 + 1 * (y 2).val = (z 2).val; rw [e2, h2]; omega

theorem blk1_at3 (t : Fin cfg1.N) (y : S1x512x512.Idx) (z : S8x512x512.Idx) (h0 : (z 0).val = t.val % 8 + (y 0).val) (h1 : (z 1).val = (y 1).val) (h2 : (z 2).val = (y 2).val) : blk1 V d 3 t y = V d a4' z := by
  obtain ⟨-, -, -, -, -, -, -, e0, e1, e2, -⟩ := spots1 t
  unfold blk1
  show V d a4' (((cfg1.win 3).blk t).view.emb y) = V d a4' z
  refine congrArg (V d a4') (funext fun x => Fin.ext ?_)
  match x with
  | ⟨0, _⟩ => show win1_3.index t (0 : Fin 3) * 1 + 1 * (y 0).val = (z 0).val; rw [e0, h0]; omega
  | ⟨1, _⟩ => show win1_3.index t (1 : Fin 3) * 512 + 1 * (y 1).val = (z 1).val; rw [e1, h1]; omega
  | ⟨2, _⟩ => show win1_3.index t (2 : Fin 3) * 512 + 1 * (y 2).val = (z 2).val; rw [e2, h2]; omega

theorem blk1_at4 (t : Fin cfg1.N) (y : S1x1x512.Idx) (z : S8x1x512.Idx) (h0 : (z 0).val = t.val % 8 + (y 0).val) (h1 : (z 1).val = (y 1).val) (h2 : (z 2).val = (y 2).val) : blk1 V d 4 t y = V d bi0' z := by
  obtain ⟨-, -, -, -, -, -, -, -, -, -, e0, e1, e2⟩ := spots1 t
  unfold blk1
  show V d bi0' (((cfg1.win 4).blk t).view.emb y) = V d bi0' z
  refine congrArg (V d bi0') (funext fun x => Fin.ext ?_)
  match x with
  | ⟨0, _⟩ => show win1_4.index t (0 : Fin 3) * 1 + 1 * (y 0).val = (z 0).val; rw [e0, h0]; omega
  | ⟨1, _⟩ => show win1_4.index t (1 : Fin 3) * 1 + 1 * (y 1).val = (z 1).val; rw [e1, h1]; omega
  | ⟨2, _⟩ => show win1_4.index t (2 : Fin 3) * 512 + 1 * (y 2).val = (z 2).val; rw [e2, h2]; omega

/-- Where the second layer's windows lie. -/
theorem spots2 : ∀ t : Fin cfg3.N, win3_0.index t (0 : Fin 3) = t.val % 8 ∧
    win3_0.index t (1 : Fin 3) = t.val / 8 ∧
    win3_0.index t (2 : Fin 3) = 0 ∧
    win3_1.index t (0 : Fin 2) = t.val / 8 ∧
    win3_1.index t (1 : Fin 2) = 0 ∧
    win3_2.index t (0 : Fin 3) = t.val % 8 ∧
    win3_2.index t (1 : Fin 3) = 0 ∧
    win3_2.index t (2 : Fin 3) = 0 ∧
    win3_3.index t (0 : Fin 3) = t.val % 8 ∧
    win3_3.index t (1 : Fin 3) = 0 ∧
    win3_3.index t (2 : Fin 3) = 0 ∧
    win3_4.index t (0 : Fin 3) = t.val % 8 ∧
    win3_4.index t (1 : Fin 3) = 0 ∧
    win3_4.index t (2 : Fin 3) = 0 ∧
    win3_5.index t (0 : Fin 3) = t.val / 8 ∧
    win3_5.index t (1 : Fin 3) = 0 ∧
    win3_5.index t (2 : Fin 3) = 0 ∧
    (grid3.coords t 1).val = t.val % 8 :=
  (by decide +kernel : ∀ t : Fin grid3.N, _)

theorem blk2_at0 (t : Fin cfg3.N) (y : S1x1000x512.Idx) (z : S8x10000x512.Idx) (h0 : (z 0).val = t.val % 8 + (y 0).val) (h1 : (z 1).val = 1000 * (t.val / 8) + (y 1).val) (h2 : (z 2).val = (y 2).val) : blk2 V d 0 t y = V d hi' z := by
  obtain ⟨e0, e1, e2, -⟩ := spots2 t
  unfold blk2
  show V d hi' (((cfg3.win 0).blk t).view.emb y) = V d hi' z
  refine congrArg (V d hi') (funext fun x => Fin.ext ?_)
  match x with
  | ⟨0, _⟩ => show win3_0.index t (0 : Fin 3) * 1 + 1 * (y 0).val = (z 0).val; rw [e0, h0]; omega
  | ⟨1, _⟩ => show win3_0.index t (1 : Fin 3) * 1000 + 1 * (y 1).val = (z 1).val; rw [e1, h1]; omega
  | ⟨2, _⟩ => show win3_0.index t (2 : Fin 3) * 512 + 1 * (y 2).val = (z 2).val; rw [e2, h2]; omega

theorem blk2_at1 (t : Fin cfg3.N) (y : S1000x512.Idx) (z : S10000x512.Idx) (h0 : (z 0).val = 1000 * (t.val / 8) + (y 0).val) (h1 : (z 1).val = (y 1).val) : blk2 V d 1 t y = V d ne1' z := by
  obtain ⟨-, -, -, e0, e1, -⟩ := spots2 t
  unfold blk2
  show V d ne1' (((cfg3.win 1).blk t).view.emb y) = V d ne1' z
  refine congrArg (V d ne1') (funext fun x => Fin.ext ?_)
  match x with
  | ⟨0, _⟩ => show win3_1.index t (0 : Fin 2) * 1000 + 1 * (y 0).val = (z 0).val; rw [e0, h0]; omega
  | ⟨1, _⟩ => show win3_1.index t (1 : Fin 2) * 512 + 1 * (y 1).val = (z 1).val; rw [e1, h1]; omega

theorem blk2_at2 (t : Fin cfg3.N) (y : S1x512x256.Idx) (z : S8x512x256.Idx) (h0 : (z 0).val = t.val % 8 + (y 0).val) (h1 : (z 1).val = (y 1).val) (h2 : (z 2).val = (y 2).val) : blk2 V d 2 t y = V d a6' z := by
  obtain ⟨-, -, -, -, -, e0, e1, e2, -⟩ := spots2 t
  unfold blk2
  show V d a6' (((cfg3.win 2).blk t).view.emb y) = V d a6' z
  refine congrArg (V d a6') (funext fun x => Fin.ext ?_)
  match x with
  | ⟨0, _⟩ => show win3_2.index t (0 : Fin 3) * 1 + 1 * (y 0).val = (z 0).val; rw [e0, h0]; omega
  | ⟨1, _⟩ => show win3_2.index t (1 : Fin 3) * 512 + 1 * (y 1).val = (z 1).val; rw [e1, h1]; omega
  | ⟨2, _⟩ => show win3_2.index t (2 : Fin 3) * 256 + 1 * (y 2).val = (z 2).val; rw [e2, h2]; omega

theorem blk2_at3 (t : Fin cfg3.N) (y : S1x512x256.Idx) (z : S8x512x256.Idx) (h0 : (z 0).val = t.val % 8 + (y 0).val) (h1 : (z 1).val = (y 1).val) (h2 : (z 2).val = (y 2).val) : blk2 V d 3 t y = V d a7' z := by
  obtain ⟨-, -, -, -, -, -, -, -, e0, e1, e2, -⟩ := spots2 t
  unfold blk2
  show V d a7' (((cfg3.win 3).blk t).view.emb y) = V d a7' z
  refine congrArg (V d a7') (funext fun x => Fin.ext ?_)
  match x with
  | ⟨0, _⟩ => show win3_3.index t (0 : Fin 3) * 1 + 1 * (y 0).val = (z 0).val; rw [e0, h0]; omega
  | ⟨1, _⟩ => show win3_3.index t (1 : Fin 3) * 512 + 1 * (y 1).val = (z 1).val; rw [e1, h1]; omega
  | ⟨2, _⟩ => show win3_3.index t (2 : Fin 3) * 256 + 1 * (y 2).val = (z 2).val; rw [e2, h2]; omega

theorem blk2_at4 (t : Fin cfg3.N) (y : S1x1x256.Idx) (z : S8x1x256.Idx) (h0 : (z 0).val = t.val % 8 + (y 0).val) (h1 : (z 1).val = (y 1).val) (h2 : (z 2).val = (y 2).val) : blk2 V d 4 t y = V d bi1' z := by
  obtain ⟨-, -, -, -, -, -, -, -, -, -, -, e0, e1, e2, -⟩ := spots2 t
  unfold blk2
  show V d bi1' (((cfg3.win 4).blk t).view.emb y) = V d bi1' z
  refine congrArg (V d bi1') (funext fun x => Fin.ext ?_)
  match x with
  | ⟨0, _⟩ => show win3_4.index t (0 : Fin 3) * 1 + 1 * (y 0).val = (z 0).val; rw [e0, h0]; omega
  | ⟨1, _⟩ => show win3_4.index t (1 : Fin 3) * 1 + 1 * (y 1).val = (z 1).val; rw [e1, h1]; omega
  | ⟨2, _⟩ => show win3_4.index t (2 : Fin 3) * 256 + 1 * (y 2).val = (z 2).val; rw [e2, h2]; omega

theorem blk2_at5 (t : Fin cfg3.N) (y : S1x1x1000.Idx) (z : S10x1x1000.Idx) (h0 : (z 0).val = t.val / 8 + (y 0).val) (h1 : (z 1).val = (y 1).val) (h2 : (z 2).val = (y 2).val) : blk2 V d 5 t y = V d ch' z := by
  obtain ⟨-, -, -, -, -, -, -, -, -, -, -, -, -, -, e0, e1, e2, -⟩ := spots2 t
  unfold blk2
  show V d ch' (((cfg3.win 5).blk t).view.emb y) = V d ch' z
  refine congrArg (V d ch') (funext fun x => Fin.ext ?_)
  match x with
  | ⟨0, _⟩ => show win3_5.index t (0 : Fin 3) * 1 + 1 * (y 0).val = (z 0).val; rw [e0, h0]; omega
  | ⟨1, _⟩ => show win3_5.index t (1 : Fin 3) * 1 + 1 * (y 1).val = (z 1).val; rw [e1, h1]; omega
  | ⟨2, _⟩ => show win3_5.index t (2 : Fin 3) * 1000 + 1 * (y 2).val = (z 2).val; rw [e2, h2]; omega

end Blocks

end Cert.Proof

end
-- ==== Proof.RouterPoint.lean ====
/-
  Over the reals: what one point of the router's call computes, row by row.
-/
module

public import proofs.«01_k».proof.Proof.RouterChoice
public import proofs.«01_k».proof.Proof.Layers
public import proofs.«01_k».proof.Proof.Gen.RouterIdeal.Skeleton
public import Idealize.ShloMosaic.Lib.MatmulPlain
public import Idealize.ShloMosaic.Lib.Pointwise.Reduce

@[expose] public section

noncomputable section

namespace Cert.RouterProof

open Idealize.ShloMosaic hiding ix1 ix2 ix3 eq_ix1 eq_ix2 eq_ix3
open Idealize.ShloMosaic.ValueIdx

/-! ## One node -/

/-- One unit of a layer of perceptrons with the rectifier: the inputs against a column of weights, and the bias. -/
def rect {n : ℕ} (x w : Fin n → EReal) (b : EReal) : EReal := max ((∑ k, x k * w k) + b) 0

/-- A node's features: its encoding, then its graph's two numbers. -/
def joined (h : Fin 512 → EReal) (p q : EReal) (k : Fin 514) : EReal := if hk : k.val < 512 then h ⟨k.val, hk⟩ else if k.val = 512 then p else q

/-- What the router's second layer gives a node for an expert. -/
def score (g w : Fin 512 → EReal) (b : EReal) : EReal := (∑ k, g k * w k) + b

theorem rect_congr {n : ℕ} {x x' w w' : Fin n → EReal} {b b' : EReal} (hx : ∀ k, x k = x' k) (hw : ∀ k, w k = w' k) (hb : b = b') : rect x w b = rect x' w' b' := by
  rw [funext hx, funext hw, hb]

theorem score_congr {x x' w w' : Fin 512 → EReal} {b b' : EReal} (hx : ∀ k, x k = x' k) (hw : ∀ k, w k = w' k) (hb : b = b') : score x w b = score x' w' b' := by
  rw [funext hx, funext hw, hb]

theorem joined_congr {h h' : Fin 512 → EReal} {p p' q q' : EReal} (hh : ∀ k, h k = h' k) (hp : p = p') (hq : q = q') (k : Fin 514) : joined h p q k = joined h' p' q' k := by
  rw [funext hh, hp, hq]

theorem low_word : Ideal.ofBits .f32 0xFF800000#32 = ⊥ := by
  simp [Ideal.ofBits, Ideal.ieee]

section Point
open Cert.RouterIdeal Cert.RouterIdeal.Gen

theorem bias_row {a b : ℕ} (x : (⟨2, ![1, b]⟩ : Shape).Idx → Ideal .f32) (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ x h1) h2) h3 (ix2 r c) = x (ix2 0 c) := by
  rw [broadcastTo_1b_ab_apply, shapeCast_a_1a_apply]
  refine shapeCast_apply _ _ _ _ ?_
  rw [Shape.rowMajor_val_two, Shape.rowMajor_val_one]
  show 0 * b + c.val = c.val
  omega

theorem flat_row {b : ℕ} {α : Type} (x : (⟨2, ![1, b]⟩ : Shape).Idx → α) (h1 : (⟨2, ![1, b]⟩ : Shape).ShapeCasts ⟨1, ![b]⟩) (c : Fin b) :
    shapeCast ⟨1, ![b]⟩ x h1 (ix1 c) = x (ix2 0 c) := by
  refine shapeCast_apply _ _ _ _ ?_
  rw [Shape.rowMajor_val_two, Shape.rowMajor_val_one]
  show 0 * b + c.val = c.val
  omega

theorem upright {a : ℕ} {α : Type} (x : (⟨1, ![a]⟩ : Shape).Idx → α) (h1 : (⟨1, ![a]⟩ : Shape).ShapeCasts ⟨2, ![a, 1]⟩) (r : Fin a) :
    shapeCast ⟨2, ![a, 1]⟩ x h1 (ix2 r 0) = x (ix1 r) := by
  refine shapeCast_apply _ _ _ _ ?_
  rw [Shape.rowMajor_val_two, Shape.rowMajor_val_one]
  show r.val = r.val * 1 + 0
  omega

theorem across {a b : ℕ} {α : Type} (x : (⟨2, ![a, 1]⟩ : Shape).Idx → α) (h1 : (⟨2, ![a, 1]⟩ : Shape).Broadcasts ⟨2, ![a, b]⟩) (ha : a ≠ 1) (r : Fin a) (c : Fin b) :
    broadcastTo ⟨2, ![a, b]⟩ x h1 (ix2 r c) = x (ix2 r 0) := by
  refine broadcastTo_apply _ _ _ _ fun k => ?_
  match k with
  | 0 => show _ = if a = 1 then 0 else r.val; rw [if_neg ha]; rfl
  | 1 => rfl

theorem zeros_dot {M K N : ℕ} (p : Option ContractPrecision) (x : FVec Ideal ⟨2, ![M, K]⟩ .f32) (w : FVec Ideal ⟨2, ![K, N]⟩ .f32) (r : Fin M) (c : Fin N) :
    matmul (DotDims.plain M K N) p x w (constant ⟨2, ![M, N]⟩ .f32 0x00000000#32) (ix2 r c) = ∑ k : Fin K, x (ix2 r k) * w (ix2 k c) := by
  refine (Ideal.matmul_plain_apply (M := M) (K := K) (N := N) p x w (constant ⟨2, ![M, N]⟩ .f32 0x00000000#32) r c).trans ?_
  show Ideal.ofBits .f32 0x00000000#32 + _ = _
  rw [Ideal.ofBits_zero_f32, zero_add]

variable (v0 : Vec Ideal S1000x256 .f32) (v1 : Vec Ideal S256x512 .f32) (v3 : Vec Ideal S1x512 .f32) (v11 v14 : Vec Ideal S1x64 .f32) (v20 : Vec Ideal S1x1x1000 .i32) (v31 : Vec Ideal S514x512 .f32)

theorem hidden_at (r : Fin 1000) (c : Fin 512) : k0_pay1 v0 v1 v3 (ix2 r c) = rect (fun k => v0 (ix2 r k)) (fun k => v1 (ix2 k c)) (v3 (ix2 0 c)) := by
  unfold k0_pay1
  show max (matmul (F := Ideal) _ none _ _ _ (ix2 r c) + broadcastTo S1000x512 _ _ (ix2 r c)) (Ideal.ofBits .f32 0x00000000#32) = _
  rw [Ideal.ofBits_zero_f32]
  unfold rect
  exact congrArg (max · (0 : EReal)) (congrArg₂ (· + ·) (zeros_dot none v0 v1 r c) (bias_row v3 _ _ _ r c))

/-- The graphs' two numbers side by side. -/
abbrev pairTable : FVec Ideal S64x2 .f32 :=
  concatenate S64x2 1 [⟨S64x1, shapeCast S64x1 (log1p (shapeCast S64 v11 shapeCasts_S1x64_S64)) shapeCasts_S64_S64x1⟩, ⟨S64x1, shapeCast S64x1 (log1p (shapeCast S64 v14 shapeCasts_S1x64_S64)) shapeCasts_S64_S64x1⟩]
    concatenates_S64x1_S64x1_S64x2_d1

theorem table_left (g : Fin 64) : pairTable v11 v14 (ix2 g 0) = Ideal.log1p (v11 (ix2 0 g)) := by
  refine (concatenate_pair_apply_left (t := S64x2) (1 : Fin 2) _ _ concatenates_S64x1_S64x1_S64x2_d1 (ix2 g 0) rfl (ix2 g 0) fun b => ?_).trans ((upright _ _ g).trans ?_)
  · match b with
    | 0 => rfl
    | 1 => rfl
  · exact congrArg Ideal.log1p (flat_row v11 _ g)

theorem table_right (g : Fin 64) : pairTable v11 v14 (ix2 g 1) = Ideal.log1p (v14 (ix2 0 g)) := by
  refine (concatenate_pair_apply_right (t := S64x2) (1 : Fin 2) _ _ concatenates_S64x1_S64x1_S64x2_d1 (ix2 g 1) rfl rfl (ix2 g 0) (fun b hb => ?_) ?_).trans ((upright _ _ g).trans ?_)
  · match b with
    | 0 => rfl
    | 1 => exact absurd rfl hb
  · rfl
  · exact congrArg Ideal.log1p (flat_row v14 _ g)

/-- The rows of graphs: one at the node's own, zero elsewhere. -/
abbrev oneHot : FVec Ideal S1000x64 .f32 :=
  sitofp .f32 (extui 32 (cmpi .eq (broadcastTo S1000x64 (shapeCast S1000x1 (shapeCast S1000 v20 shapeCasts_S1x1x1000_S1000) shapeCasts_S1000_S1000x1) broadcasts_S1000x1_S1000x64)
    (broadcastTo S1000x64 (iota .tc S1x64 32 [1] iota_S1x64_d1_w32) broadcasts_S1x64_S1000x64)) natLt_1_32)

theorem oneHot_at (r : Fin 1000) (k : Fin 64) : oneHot v20 (ix2 r k) = if v20 (ix3 0 0 r) = BitVec.ofNat 32 k.val then (1 : EReal) else 0 := by
  have e1 : broadcastTo S1000x64 (shapeCast S1000x1 (shapeCast S1000 v20 shapeCasts_S1x1x1000_S1000) shapeCasts_S1000_S1000x1) broadcasts_S1000x1_S1000x64 (ix2 r k) = v20 (ix3 0 0 r) := by
    refine (across _ _ (by norm_num) r k).trans ((upright _ _ r).trans ?_)
    exact shapeCast_apply v20 shapeCasts_S1x1x1000_S1000 (ix1 r) (ix3 0 0 r) (by rw [Shape.rowMajor_val_three, Shape.rowMajor_val_one]; show (0 * 1 + 0) * 1000 + r.val = r.val; omega)
  have e2 : broadcastTo S1000x64 (iota .tc S1x64 32 [1] iota_S1x64_d1_w32) broadcasts_S1x64_S1000x64 (ix2 r k) = BitVec.ofNat 32 k.val := by
    refine (broadcastTo_1b_ab_apply _ _ r k).trans ?_
    exact iota_single_apply .tc S1x64 32 1 _ _
  refine Eq.trans (b := FloatOps.sitofp .f32 ((IntOp.cmpi .eq (broadcastTo S1000x64 (shapeCast S1000x1 (shapeCast S1000 v20 shapeCasts_S1x1x1000_S1000) shapeCasts_S1000_S1000x1) broadcasts_S1000x1_S1000x64 (ix2 r k))
    (broadcastTo S1000x64 (iota .tc S1x64 32 [1] iota_S1x64_d1_w32) broadcasts_S1x64_S1000x64 (ix2 r k))).zeroExtend 32)) rfl ?_
  rw [e1, e2, Cert.Proof.factor]

/-- So the one-hot row against a table is the table's row. -/
theorem picked (w : FVec Ideal S64x2 .f32) (r : Fin 1000) (g : Fin 64) (hg : v20 (ix3 0 0 r) = BitVec.ofNat 32 g.val) (j : Fin 2) :
    matmul dot_S1000x64_S64x2_S1000x2_1_0_0_1_n_n (some .fp32) (oneHot v20) w (constant S1000x2 .f32 0x00000000#32) (ix2 r j) = w (ix2 g j) := by
  refine (zeros_dot (some .fp32) (oneHot v20) w r j).trans ?_
  rw [Finset.sum_eq_single g]
  · rw [oneHot_at, if_pos hg]; exact one_mul _
  · intro k _ hk
    rw [oneHot_at, if_neg ?_]
    · exact zero_mul _
    · intro e
      have := congrArg BitVec.toNat (hg.symm.trans e)
      rw [BitVec.toNat_ofNat, BitVec.toNat_ofNat] at this
      have h1 := g.isLt
      have h2 := k.isLt
      exact hk (Fin.ext (by omega))
  · intro h; exact absurd (Finset.mem_univ g) h

theorem joined_row (h : FVec Ideal S1000x512 .f32) (w : FVec Ideal S1000x2 .f32) (r : Fin 1000) (k : Fin 514) :
    concatenate S1000x514 1 [⟨S1000x512, h⟩, ⟨S1000x2, w⟩] concatenates_S1000x512_S1000x2_S1000x514_d1 (ix2 r k) = joined (fun c => h (ix2 r c)) (w (ix2 r 0)) (w (ix2 r 1)) k := by
  unfold joined
  have hk := k.isLt
  split
  · next h' =>
    refine concatenate_pair_apply_left (t := S1000x514) (1 : Fin 2) h w concatenates_S1000x512_S1000x2_S1000x514_d1 (ix2 r k) rfl (ix2 r ⟨k.val, h'⟩) fun b => ?_
    match b with
    | 0 => rfl
    | 1 => rfl
  · next h' =>
    have key : ∀ j : Fin 2, k.val = 512 + j.val →
        concatenate S1000x514 1 [⟨S1000x512, h⟩, ⟨S1000x2, w⟩] concatenates_S1000x512_S1000x2_S1000x514_d1 (ix2 r k) = w (ix2 r j) := fun j hj => by
      refine concatenate_pair_apply_right (t := S1000x514) (1 : Fin 2) h w concatenates_S1000x512_S1000x2_S1000x514_d1 (ix2 r k) rfl rfl (ix2 r j) (fun b hb => ?_) ?_
      · match b with
        | 0 => rfl
        | 1 => exact absurd rfl hb
      · show j.val + 512 = k.val
        omega
    split
    · next h2 => exact key 0 h2
    · next h2 => exact key 1 (by show k.val = 512 + 1; omega)

theorem mixed_at (r : Fin 1000) (g : Fin 64) (hg : v20 (ix3 0 0 r) = BitVec.ofNat 32 g.val) (c : Fin 512) :
    k0_pay2 v0 v1 v3 v11 v14 v20 v31 (ix2 r c)
      = ∑ k, joined (fun c => rect (fun k => v0 (ix2 r k)) (fun k => v1 (ix2 k c)) (v3 (ix2 0 c))) (Ideal.log1p (v11 (ix2 0 g))) (Ideal.log1p (v14 (ix2 0 g))) k * v31 (ix2 k c) := by
  refine (zeros_dot none _ v31 r c).trans (Finset.sum_congr rfl fun k _ => congrArg (· * v31 (ix2 k c)) ?_)
  refine (joined_row _ _ r k).trans (joined_congr (fun c => hidden_at v0 v1 v3 r c) ?_ ?_ k)
  · exact (picked v20 (pairTable v11 v14) r g hg 0).trans (table_left v11 v14 g)
  · exact (picked v20 (pairTable v11 v14) r g hg 1).trans (table_right v11 v14 g)

variable (v32 : FVec Ideal S1000x512 .f32) (v33 : Vec Ideal S1x512 .f32) (v40 : Vec Ideal S512x8 .f32) (v42 : Vec Ideal S1x8 .f32)

/-- The experts' scores at a point. -/
abbrev scoresAt : FVec Ideal S1000x8 .f32 :=
  addf (matmul (φ₂ := .f32) dot_S1000x512_S512x8_S1000x8_1_0_0_1_n_n none
      (maximumf (addf v32 (broadcastTo S1000x512 (shapeCast S1x512 (k0_pay3 v33) shapeCasts_S512_S1x512) broadcasts_S1x512_S1000x512)) (broadcast S1000x512 (Scalar.ofBits .f32 0x00000000#32)) : FVec Ideal S1000x512 .f32) v40
      (constant S1000x8 .f32 0x00000000#32))
    (broadcastTo S1000x8 (shapeCast S1x8 (shapeCast S8 v42 shapeCasts_S1x8_S8) shapeCasts_S8_S1x8) broadcasts_S1x8_S1000x8)

theorem scoresAt_at (r : Fin 1000) (e : Fin 8) :
    scoresAt v32 v33 v40 v42 (ix2 r e) = score (fun k => max (v32 (ix2 r k) + v33 (ix2 0 k)) 0) (fun k => v40 (ix2 k e)) (v42 (ix2 0 e)) := by
  unfold score
  refine congrArg₂ (· + ·) ((zeros_dot none _ v40 r e).trans (Finset.sum_congr rfl fun k _ => congrArg (· * v40 (ix2 k e)) ?_)) (bias_row v42 _ _ _ r e)
  show max (v32 (ix2 r k) + broadcastTo S1000x512 _ _ (ix2 r k)) (Ideal.ofBits .f32 0x00000000#32) = _
  rw [Ideal.ofBits_zero_f32]
  exact congrArg (fun z => max (v32 (ix2 r k) + z) (0 : EReal)) (bias_row v33 _ _ _ r k)

set_option maxRecDepth 65536 in
/-- The choice at a point is the best expert. -/
theorem choice_at (r : Fin 1000) :
    Best (fun e => score (fun k => max (v32 (ix2 r k) + v33 (ix2 0 k)) 0) (fun k => v40 (ix2 k e)) (v42 (ix2 0 e))) (k0_pay4 v32 (k0_pay3 v33) v40 v42 (ix1 r)) := by
  let M : FVec Ideal S1000 .f32 := multiReduction .maximumf [1] S1000 (scoresAt v32 v33 v40 v42) 0xFF800000#32 reduces_S1000x8_S1000 (.inl rfl) rfl
  have hM : M (ix1 r) = Finset.univ.fold max ⊥ fun e => score (fun k => max (v32 (ix2 r k) + v33 (ix2 0 k)) 0) (fun k => v40 (ix2 k e)) (v42 (ix2 0 e)) := by
    refine (multiReduction_maximumf_eq_fold (scoresAt v32 v33 v40 v42) _ _ _ _ _).trans ((Shape.Reduces.fold_fiber_r2_a1 (n0 := 1000) (n1 := 8) _ _ _ _ _).trans ?_)
    rw [show FloatOps.ofBits (F := Ideal) .f32 0xFF800000#32 = (⊥ : EReal) from low_word]
    exact Finset.fold_congr fun e _ => scoresAt_at v32 v33 v40 v42 r e
  have hP : k0_pay4 v32 (k0_pay3 v33) v40 v42 (ix1 r) = Finset.univ.fold IKind.minsi.op 2147483647#32 fun e : Fin 8 =>
      if M (ix1 r) ≤ score (fun k => max (v32 (ix2 r k) + v33 (ix2 0 k)) 0) (fun k => v40 (ix2 k e)) (v42 (ix2 0 e)) then BitVec.ofNat 32 e.val else 8#32 := by
    let P : IVec S1000x8 32 := select (cmpf .oge (scoresAt v32 v33 v40 v42) (broadcastTo S1000x8 (shapeCast S1000x1 M shapeCasts_S1000_S1000x1) broadcasts_S1000x1_S1000x8))
      (iota .tc S1000x8 32 [1] iota_S1000x8_d1_w32) (broadcast S1000x8 8#32)
    have hN : 2147483647#32 = IKind.minsi.neutral := by decide
    have h0 : k0_pay4 v32 (k0_pay3 v33) v40 v42 = multiReductionI .minsi [1] S1000 P 2147483647#32 reduces_S1000x8_S1000 hN := rfl
    refine (congrFun h0 (ix1 r)).trans ?_
    refine (multiReductionI_eq_fold .minsi P 2147483647#32 reduces_S1000x8_S1000 hN (ix1 r)).trans ((Shape.Reduces.fold_fiber_r2_a1 (n0 := 1000) (n1 := 8) _ _ _ _ _).trans ?_)
    refine Finset.fold_congr fun e _ => ?_
    have e1 : broadcastTo S1000x8 (shapeCast S1000x1 M shapeCasts_S1000_S1000x1) broadcasts_S1000x1_S1000x8 (ix2 r e) = M (ix1 r) :=
      (across _ _ (by norm_num) r e).trans (upright _ _ r)
    have e2 : iota .tc S1000x8 32 [1] iota_S1000x8_d1_w32 (ix2 r e) = BitVec.ofNat 32 e.val := iota_single_apply .tc S1000x8 32 1 _ _
    show Scalar.select (Ideal.cmp .oge (scoresAt v32 v33 v40 v42 (ix2 r e)) (broadcastTo S1000x8 (shapeCast S1000x1 M shapeCasts_S1000_S1000x1) broadcasts_S1000x1_S1000x8 (ix2 r e)))
      (iota .tc S1000x8 32 [1] iota_S1000x8_d1_w32 (ix2 r e)) 8#32 = _
    rw [e1, e2, scoresAt_at]
    unfold Ideal.cmp Scalar.select
    by_cases hle : M (ix1 r) ≤ score (fun k => max (v32 (ix2 r k) + v33 (ix2 0 k)) 0) (fun k => v40 (ix2 k e)) (v42 (ix2 0 e))
    · simp [hle]
    · simp [hle]
  rw [hP]
  exact best_least _ (fun _ _ => rfl) _ _ hM

/-- The counts after a point: for each expert, those before and the rows that chose it. -/
theorem counts_at (v34 : FVec Ideal S512 .f32) (v67 : Vec Ideal S1x8 .i32) (e : Fin 8) :
    k0_pay7 v32 v34 v40 v42 v67 (ix2 0 e) = v67 (ix2 0 e) + ∑ r : Fin 1000, if k0_pay4 v32 v34 v40 v42 (ix1 r) = BitVec.ofNat 32 e.val then 1#32 else 0#32 := by
  unfold k0_pay7
  refine (shapeCast_a_1a_apply _ _ 0 e).trans ?_
  refine congrArg₂ (· + ·) (flat_row v67 _ e) ?_
  refine (congrFun (multiReductionI_eq_reduceFold _ _ _ _ _) _).trans ?_
  refine (reduceFold_add_eq_sum _ _ _ _).trans ((BitVec.zero_add _).trans ((Shape.Reduces.sum_fiber_r2_a0 (n0 := 1000) (n1 := 8) _ _ _).trans ?_))
  refine Finset.sum_congr rfl fun r _ => ?_
  have e1 : broadcastTo S1000x8 (shapeCast S1000x1 (k0_pay4 v32 v34 v40 v42) shapeCasts_S1000_S1000x1) broadcasts_S1000x1_S1000x8 (ix2 r e) = k0_pay4 v32 v34 v40 v42 (ix1 r) :=
    (across _ _ (by norm_num) r e).trans (upright _ _ r)
  have e2 : broadcastTo S1000x8 (iota .tc S1x8 32 [1] iota_S1x8_d1_w32) broadcasts_S1x8_S1000x8 (ix2 r e) = BitVec.ofNat 32 e.val :=
    (broadcastTo_1b_ab_apply _ _ r e).trans (iota_single_apply .tc S1x8 32 1 _ _)
  show (IntOp.cmpi .eq (broadcastTo S1000x8 (shapeCast S1000x1 (k0_pay4 v32 v34 v40 v42) shapeCasts_S1000_S1000x1) broadcasts_S1000x1_S1000x8 (ix2 r e))
    (broadcastTo S1000x8 (iota .tc S1x8 32 [1] iota_S1x8_d1_w32) broadcasts_S1x8_S1000x8 (ix2 r e))).zeroExtend 32 = _
  rw [e1, e2]
  by_cases h : k0_pay4 v32 v34 v40 v42 (ix1 r) = BitVec.ofNat 32 e.val
  · rw [if_pos h, show IntOp.cmpi .eq (k0_pay4 v32 v34 v40 v42 (ix1 r)) (BitVec.ofNat 32 e.val) = 1#1 from by simp [IntOp.cmpi, h]]; rfl
  · rw [if_neg h, show IntOp.cmpi .eq (k0_pay4 v32 v34 v40 v42 (ix1 r)) (BitVec.ofNat 32 e.val) = 0#1 from by simp only [IntOp.cmpi]; rw [beq_eq_false_iff_ne.mpr h]; rfl]; rfl

end Point

end Cert.RouterProof

end
-- ==== Proof.RouterBlocks.lean ====
/-
  What the router's call leaves in its three results: each block of nodes' encoded features and choices where that
  point wrote them, and the counts as the last point left them.
-/
module

public import proofs.«01_k».proof.Proof.RouterBody
public import proofs.«01_k».proof.Proof.RouterPoint

@[expose] public section

set_option maxRecDepth 16384

noncomputable section

namespace Cert.RouterProof

open Cert.RouterIdeal Cert.RouterIdeal.Gen Cert.RouterIdeal.Value
open Idealize.ShloMosaic hiding ix1 ix2 ix3 eq_ix1 eq_ix2 eq_ix3
open Idealize.ShloMosaic.TcCoe Idealize.ShloMosaic.Tactic Idealize.ShloMosaic.ValueIdx
open Idealize.ShloMosaic.Pipeline (Dat)

variable {F : FTy → Type} [FloatOps F]
variable (m : (ℓ : Loc nD τ sig) → Buf (Elt F) ℓ)

/-- A row under two axes of one entry. -/
theorem cast_up {a : ℕ} {α : Type} (x : (⟨1, ![a]⟩ : Shape).Idx → α) (h : (⟨1, ![a]⟩ : Shape).ShapeCasts ⟨3, ![1, 1, a]⟩) (r : Fin a) :
    shapeCast ⟨3, ![1, 1, a]⟩ x h (ix3 0 0 r) = x (ix1 r) := by
  refine shapeCast_apply _ _ _ _ ?_
  rw [Shape.rowMajor_val_three, Shape.rowMajor_val_one]
  show r.val = (0 * 1 + 0) * a + r.val
  omega

/-! ## Where the blocks lie -/

theorem spot0 : ∀ t : Fin cfg0.N, win0_0.index t (0 : Fin 2) = t.val ∧ win0_0.index t (1 : Fin 2) = 0 := (by decide +kernel : ∀ t : Fin grid0.N, _)
theorem spot1 : ∀ t : Fin cfg0.N, win0_1.index t (0 : Fin 2) = 0 ∧ win0_1.index t (1 : Fin 2) = 0 := (by decide +kernel : ∀ t : Fin grid0.N, _)
theorem spot2 : ∀ t : Fin cfg0.N, win0_2.index t (0 : Fin 2) = 0 ∧ win0_2.index t (1 : Fin 2) = 0 := (by decide +kernel : ∀ t : Fin grid0.N, _)
theorem spot3 : ∀ t : Fin cfg0.N, win0_3.index t (0 : Fin 2) = 0 ∧ win0_3.index t (1 : Fin 2) = 0 := (by decide +kernel : ∀ t : Fin grid0.N, _)
theorem spot4 : ∀ t : Fin cfg0.N, win0_4.index t (0 : Fin 2) = 0 ∧ win0_4.index t (1 : Fin 2) = 0 := (by decide +kernel : ∀ t : Fin grid0.N, _)
theorem spot5 : ∀ t : Fin cfg0.N, win0_5.index t (0 : Fin 2) = 0 ∧ win0_5.index t (1 : Fin 2) = 0 := (by decide +kernel : ∀ t : Fin grid0.N, _)
theorem spot6 : ∀ t : Fin cfg0.N, win0_6.index t (0 : Fin 2) = 0 ∧ win0_6.index t (1 : Fin 2) = 0 := (by decide +kernel : ∀ t : Fin grid0.N, _)
theorem spot7 : ∀ t : Fin cfg0.N, win0_7.index t (0 : Fin 2) = 0 ∧ win0_7.index t (1 : Fin 2) = 0 := (by decide +kernel : ∀ t : Fin grid0.N, _)
theorem spot8 : ∀ t : Fin cfg0.N, win0_8.index t (0 : Fin 2) = 0 ∧ win0_8.index t (1 : Fin 2) = 0 := (by decide +kernel : ∀ t : Fin grid0.N, _)
theorem spot9 : ∀ t : Fin cfg0.N, win0_9.index t (0 : Fin 3) = t.val ∧ win0_9.index t (1 : Fin 3) = 0 ∧ win0_9.index t (2 : Fin 3) = 0 := (by decide +kernel : ∀ t : Fin grid0.N, _)
theorem spot10 : ∀ t : Fin cfg0.N, win0_10.index t (0 : Fin 2) = t.val ∧ win0_10.index t (1 : Fin 2) = 0 := (by decide +kernel : ∀ t : Fin grid0.N, _)
theorem spot11 : ∀ t : Fin cfg0.N, win0_11.index t (0 : Fin 3) = t.val ∧ win0_11.index t (1 : Fin 3) = 0 ∧ win0_11.index t (2 : Fin 3) = 0 := (by decide +kernel : ∀ t : Fin grid0.N, _)
theorem spot12 : ∀ t : Fin cfg0.N, win0_12.index t (0 : Fin 2) = 0 ∧ win0_12.index t (1 : Fin 2) = 0 := (by decide +kernel : ∀ t : Fin grid0.N, _)

/-! ## The host's reshapes -/

theorem V_v0 (c : Dev nD) : V m c main_v0 = shapeCast S10x1x1000 (m ((c : Thread nD τ).loc main_arg3)) shapeCasts_S10000_S10x1x1000 := by
  unfold V hostOps0; after_results <;> rfl
theorem V_v1 (c : Dev nD) : V m c main_v1 = shapeCast S1x512 (m ((c : Thread nD τ).loc main_arg5)) shapeCasts_S512_S1x512 := by
  unfold V hostOps0; after_results <;> rfl
theorem V_v2 (c : Dev nD) : V m c main_v2 = shapeCast S1x64 (m ((c : Thread nD τ).loc main_arg1)) shapeCasts_S64_S1x64 := by
  unfold V hostOps0; after_results <;> rfl
theorem V_v3 (c : Dev nD) : V m c main_v3 = shapeCast S1x64 (m ((c : Thread nD τ).loc main_arg2)) shapeCasts_S64_S1x64 := by
  unfold V hostOps0; after_results <;> rfl
theorem V_v4 (c : Dev nD) : V m c main_v4 = shapeCast S1x512 (m ((c : Thread nD τ).loc main_arg7)) shapeCasts_S512_S1x512 := by
  unfold V hostOps0; after_results <;> rfl
theorem V_v5 (c : Dev nD) : V m c main_v5 = shapeCast S1x8 (m ((c : Thread nD τ).loc main_arg9)) shapeCasts_S8_S1x8 := by
  unfold V hostOps0; after_results <;> rfl

/-! ## The blocks the points read -/

theorem read1 (c : Dev nD) (t : Fin cfg0.N) (y : S256x512.Idx) : iblk m c 1 t y = V m c main_arg4 y := by
  obtain ⟨e0, e1⟩ := spot1 t
  unfold iblk
  show V m c main_arg4 (((cfg0.win 1).blk t).view.emb y) = V m c main_arg4 y
  refine congrArg (V m c main_arg4) (funext fun x => Fin.ext ?_)
  match x with
  | ⟨0, _⟩ => show win0_1.index t (0 : Fin 2) * 256 + 1 * (y 0).val = (y 0).val; rw [e0]; omega
  | ⟨1, _⟩ => show win0_1.index t (1 : Fin 2) * 512 + 1 * (y 1).val = (y 1).val; rw [e1]; omega

theorem read2 (c : Dev nD) (t : Fin cfg0.N) (y : S1x512.Idx) : iblk m c 2 t y = V m c main_v1 y := by
  obtain ⟨e0, e1⟩ := spot2 t
  unfold iblk
  show V m c main_v1 (((cfg0.win 2).blk t).view.emb y) = V m c main_v1 y
  refine congrArg (V m c main_v1) (funext fun x => Fin.ext ?_)
  match x with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega

theorem read3 (c : Dev nD) (t : Fin cfg0.N) (y : S1x64.Idx) : iblk m c 3 t y = V m c main_v2 y := by
  obtain ⟨e0, e1⟩ := spot3 t
  unfold iblk
  show V m c main_v2 (((cfg0.win 3).blk t).view.emb y) = V m c main_v2 y
  refine congrArg (V m c main_v2) (funext fun x => Fin.ext ?_)
  match x with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

theorem read4 (c : Dev nD) (t : Fin cfg0.N) (y : S1x64.Idx) : iblk m c 4 t y = V m c main_v3 y := by
  obtain ⟨e0, e1⟩ := spot4 t
  unfold iblk
  show V m c main_v3 (((cfg0.win 4).blk t).view.emb y) = V m c main_v3 y
  refine congrArg (V m c main_v3) (funext fun x => Fin.ext ?_)
  match x with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

theorem read5 (c : Dev nD) (t : Fin cfg0.N) (y : S514x512.Idx) : iblk m c 5 t y = V m c main_arg6 y := by
  obtain ⟨e0, e1⟩ := spot5 t
  unfold iblk
  show V m c main_arg6 (((cfg0.win 5).blk t).view.emb y) = V m c main_arg6 y
  refine congrArg (V m c main_arg6) (funext fun x => Fin.ext ?_)
  match x with
  | ⟨0, _⟩ => show win0_5.index t (0 : Fin 2) * 514 + 1 * (y 0).val = (y 0).val; rw [e0]; omega
  | ⟨1, _⟩ => show win0_5.index t (1 : Fin 2) * 512 + 1 * (y 1).val = (y 1).val; rw [e1]; omega

theorem read6 (c : Dev nD) (t : Fin cfg0.N) (y : S1x512.Idx) : iblk m c 6 t y = V m c main_v4 y := by
  obtain ⟨e0, e1⟩ := spot6 t
  unfold iblk
  show V m c main_v4 (((cfg0.win 6).blk t).view.emb y) = V m c main_v4 y
  refine congrArg (V m c main_v4) (funext fun x => Fin.ext ?_)
  match x with
  | ⟨0, _⟩ => show win0_6.index t (0 : Fin 2) * 1 + 1 * (y 0).val = (y 0).val; rw [e0]; omega
  | ⟨1, _⟩ => show win0_6.index t (1 : Fin 2) * 512 + 1 * (y 1).val = (y 1).val; rw [e1]; omega

theorem read7 (c : Dev nD) (t : Fin cfg0.N) (y : S512x8.Idx) : iblk m c 7 t y = V m c main_arg8 y := by
  obtain ⟨e0, e1⟩ := spot7 t
  unfold iblk
  show V m c main_arg8 (((cfg0.win 7).blk t).view.emb y) = V m c main_arg8 y
  refine congrArg (V m c main_arg8) (funext fun x => Fin.ext ?_)
  match x with
  | ⟨0, _⟩ => show win0_7.index t (0 : Fin 2) * 512 + 1 * (y 0).val = (y 0).val; rw [e0]; omega
  | ⟨1, _⟩ => show win0_7.index t (1 : Fin 2) * 8 + 1 * (y 1).val = (y 1).val; rw [e1]; omega

theorem read8 (c : Dev nD) (t : Fin cfg0.N) (y : S1x8.Idx) : iblk m c 8 t y = V m c main_v5 y := by
  obtain ⟨e0, e1⟩ := spot8 t
  unfold iblk
  show V m c main_v5 (((cfg0.win 8).blk t).view.emb y) = V m c main_v5 y
  refine congrArg (V m c main_v5) (funext fun x => Fin.ext ?_)
  match x with
  | ⟨0, _⟩ => show win0_8.index t (0 : Fin 2) * 1 + 1 * (y 0).val = (y 0).val; rw [e0]; omega
  | ⟨1, _⟩ => show win0_8.index t (1 : Fin 2) * 8 + 1 * (y 1).val = (y 1).val; rw [e1]; omega

theorem read0 (c : Dev nD) (t : Fin cfg0.N) (y : S1000x256.Idx) (z : S10000x256.Idx) (h0 : (z 0).val = 1000 * t.val + (y 0).val) (h1 : (z 1).val = (y 1).val) :
    iblk m c 0 t y = V m c main_arg0 z := by
  obtain ⟨e0, e1⟩ := spot0 t
  unfold iblk
  show V m c main_arg0 (((cfg0.win 0).blk t).view.emb y) = V m c main_arg0 z
  refine congrArg (V m c main_arg0) (funext fun x => Fin.ext ?_)
  match x with
  | ⟨0, _⟩ => show win0_0.index t (0 : Fin 2) * 1000 + 1 * (y 0).val = (z 0).val; rw [e0, h0]; omega
  | ⟨1, _⟩ => show win0_0.index t (1 : Fin 2) * 256 + 1 * (y 1).val = (z 1).val; rw [e1, h1]; omega

theorem read9 (c : Dev nD) (t : Fin cfg0.N) (y : S1x1x1000.Idx) (z : S10x1x1000.Idx) (h0 : (z 0).val = t.val + (y 0).val) (h1 : (z 1).val = (y 1).val) (h2 : (z 2).val = (y 2).val) :
    iblk m c 9 t y = V m c main_v0 z := by
  obtain ⟨e0, e1, e2⟩ := spot9 t
  unfold iblk
  show V m c main_v0 (((cfg0.win 9).blk t).view.emb y) = V m c main_v0 z
  refine congrArg (V m c main_v0) (funext fun x => Fin.ext ?_)
  match x with
  | ⟨0, _⟩ => show win0_9.index t (0 : Fin 3) * 1 + 1 * (y 0).val = (z 0).val; rw [e0, h0]; omega
  | ⟨1, _⟩ => show win0_9.index t (1 : Fin 3) * 1 + 1 * (y 1).val = (z 1).val; rw [e1, h1]; omega
  | ⟨2, _⟩ => show win0_9.index t (2 : Fin 3) * 1000 + 1 * (y 2).val = (z 2).val; rw [e2, h2]; omega

/-! ## What a point leaves -/

/-- The encoded features of a point's nodes. -/
abbrev ptH (c : Dev nD) (t : Fin cfg0.N) : S1000x512.Idx → F .f32 := k0_pay1 (iblk m c 0 t) (iblk m c 1 t) (iblk m c 2 t)
/-- The router's first product over a point's nodes. -/
abbrev ptM (c : Dev nD) (t : Fin cfg0.N) : S1000x512.Idx → F .f32 :=
  k0_pay2 (iblk m c 0 t) (iblk m c 1 t) (iblk m c 2 t) (iblk m c 3 t) (iblk m c 4 t) (iblk m c 9 t) (iblk m c 5 t)
/-- The choices of a point's nodes. -/
abbrev ptI (c : Dev nD) (t : Fin cfg0.N) : S1000.Idx → BitVec 32 := k0_pay4 (ptM m c t) (k0_pay3 (iblk m c 6 t)) (iblk m c 7 t) (iblk m c 8 t)
/-- The counts with a point's choices counted in. -/
abbrev ptN (c : Dev nD) (t : Fin cfg0.N) (a : S1x8.Idx → BitVec 32) : S1x8.Idx → BitVec 32 :=
  k0_pay7 (ptM m c t) (k0_pay3 (iblk m c 6 t)) (iblk m c 7 t) (iblk m c 8 t) a

theorem part_h_a (c : Dev nD) (t : Fin cfg0.N) (h0 : t.val % 10 = 0) : (outsAt0 m c t.val t.isLt).1 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := by
  rw [outsAt0_A m c t h0]

theorem pays_h_a (c : Dev nD) (t : Fin cfg0.N) (h0 : t.val % 10 = 0) : out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) = ptH m c t :=
  leftA10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

theorem part_h_b (c : Dev nD) (t : Fin cfg0.N) (h0 : ¬t.val % 10 = 0) : (outsAt0 m c t.val t.isLt).1 = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2 := by
  rw [outsAt0_B m c t h0]

theorem pays_h_b (c : Dev nD) (t : Fin cfg0.N) (h0 : ¬t.val % 10 = 0) : out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2 = ptH m c t :=
  leftB10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2

theorem left_h (c : Dev nD) (t : Fin cfg0.N) : (outsAt0 m c t.val t.isLt).1 = ptH m c t := by
  by_cases h0 : t.val % 10 = 0
  · exact (part_h_a m c t h0).trans (pays_h_a m c t h0)
  · exact (part_h_b m c t h0).trans (pays_h_b m c t h0)

theorem part_i_a (c : Dev nD) (t : Fin cfg0.N) (h0 : t.val % 10 = 0) : (outsAt0 m c t.val t.isLt).2.1 = out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := by
  rw [outsAt0_A m c t h0]

theorem pays_i_a (c : Dev nD) (t : Fin cfg0.N) (h0 : t.val % 10 = 0) : out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) = k0_pay5 (ptM m c t) (k0_pay3 (iblk m c 6 t)) (iblk m c 7 t) (iblk m c 8 t) :=
  leftA11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

theorem part_i_b (c : Dev nD) (t : Fin cfg0.N) (h0 : ¬t.val % 10 = 0) : (outsAt0 m c t.val t.isLt).2.1 = out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2 := by
  rw [outsAt0_B m c t h0]

theorem pays_i_b (c : Dev nD) (t : Fin cfg0.N) (h0 : ¬t.val % 10 = 0) : out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2 = k0_pay5 (ptM m c t) (k0_pay3 (iblk m c 6 t)) (iblk m c 7 t) (iblk m c 8 t) :=
  leftB11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2

theorem left_i (c : Dev nD) (t : Fin cfg0.N) : (outsAt0 m c t.val t.isLt).2.1 = k0_pay5 (ptM m c t) (k0_pay3 (iblk m c 6 t)) (iblk m c 7 t) (iblk m c 8 t) := by
  by_cases h0 : t.val % 10 = 0
  · exact (part_i_a m c t h0).trans (pays_i_a m c t h0)
  · exact (part_i_b m c t h0).trans (pays_i_b m c t h0)

/-- The counts after point `t`. -/
abbrev countsAt (c : Dev nD) (t : ℕ) (h : t < cfg0.N) : S1x8.Idx → BitVec 32 := (outsAt0 m c t h).2.2

theorem counts_a (c : Dev nD) (t : Fin cfg0.N) (h0 : t.val % 10 = 0) : (outsAt0 m c t.val t.isLt).2.2 = ptN m c t k0_pay6 :=
  (congrArg (fun o => o.2.2) (outsAt0_A m c t h0)).trans (leftA12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t))

theorem counts_b (c : Dev nD) (t : Fin cfg0.N) (h0 : ¬t.val % 10 = 0) :
    (outsAt0 m c t.val t.isLt).2.2 = ptN m c t (outsAt0 m c (t.val - 1) (Nat.lt_of_le_of_lt (Nat.sub_le _ _) t.isLt)).2.2 :=
  (congrArg (fun o => o.2.2) (outsAt0_B m c t h0)).trans (leftB12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.2)

theorem counts_first (c : Dev nD) (h : 0 < cfg0.N) : countsAt m c 0 h = ptN m c ⟨0, h⟩ k0_pay6 :=
  counts_a m c ⟨0, h⟩ (Nat.zero_mod _)

theorem counts_next (c : Dev nD) (t : ℕ) (h : t + 1 < cfg0.N) :
    countsAt m c (t + 1) h = ptN m c ⟨t + 1, h⟩ (countsAt m c t (Nat.lt_of_succ_lt h)) := by
  have hN : cfg0.N = 10 := N_0
  exact counts_b m c ⟨t + 1, h⟩ (by dsimp only; omega)

/-! ## The three results -/

theorem N_ten : cfg0.N = 10 := N_0

/-- The encoded features, block by block. -/
def outH (c : Dev nD) : S10000x512.Idx → F .f32 := fun i =>
  ptH m c ⟨(i 0).val / 1000, by have : (i 0).val < 10000 := (i 0).isLt; rw [N_ten]; omega⟩ (ix2 (Fin.ofNat 1000 (i 0).val) (Fin.ofNat 512 (i 1).val))
/-- The choices, block by block. -/
def outI (c : Dev nD) : S10x1x1000.Idx → BitVec 32 := fun i =>
  ptI m c ⟨(i 0).val, by have : (i 0).val < 10 := (i 0).isLt; rw [N_ten]; omega⟩ (ix1 (Fin.ofNat 1000 (i 2).val))
/-- The counts after the last point. -/
def outN (c : Dev nD) : S1x8.Idx → BitVec 32 := countsAt m c 9 (by rw [N_ten]; omega)

theorem mem_h (t : Fin cfg0.N) (i : S10000x512.Idx) :
    i ∈ ((cfg0.win 10).blk t).view.set ↔ ∀ a : Fin 2, win0_10.index t a * S1000x512.size a ≤ (i a).val ∧ (i a).val < win0_10.index t a * S1000x512.size a + S1000x512.size a := by
  show i ∈ ((View.whole main_v6_0).slice (win0_10.rect t)).set ↔ _
  rw [View.set_slice_whole, Rect.mem_set_unit]
  exact Iff.rfl

theorem mem_i (t : Fin cfg0.N) (i : S10x1x1000.Idx) :
    i ∈ ((cfg0.win 11).blk t).view.set ↔ ∀ a : Fin 3, win0_11.index t a * S1x1x1000.size a ≤ (i a).val ∧ (i a).val < win0_11.index t a * S1x1x1000.size a + S1x1x1000.size a := by
  show i ∈ ((View.whole main_v6_1).slice (win0_11.rect t)).set ↔ _
  rw [View.set_slice_whole, Rect.mem_set_unit]
  exact Iff.rfl

theorem mem_n (t : Fin cfg0.N) (i : S1x8.Idx) :
    i ∈ ((cfg0.win 12).blk t).view.set ↔ ∀ a : Fin 2, win0_12.index t a * S1x8.size a ≤ (i a).val ∧ (i a).val < win0_12.index t a * S1x8.size a + S1x8.size a := by
  show i ∈ ((View.whole main_v6_2).slice (win0_12.rect t)).set ↔ _
  rw [View.set_slice_whole, Rect.mem_set_unit]
  exact Iff.rfl

theorem wrote_h (c : Dev nD) (t : Fin cfg0.N) : (dats m 0 c).flushed 10 t = ((cfg0.win 10).blk t).view.read (Elt F) (outH m c) := by
  rw [flushed10, left_h]
  obtain ⟨e0, e1⟩ := spot10 t
  have hN : t.val < 10 := lt_of_lt_of_eq t.isLt N_ten
  funext y
  have hy0 : (y 0).val < 1000 := (y 0).isLt
  have hy1 : (y 1).val < 512 := (y 1).isLt
  have hb0 : (((cfg0.win 10).blk t).view.emb y 0).val = win0_10.index t (0 : Fin 2) * 1000 + 1 * (y 0).val := rfl
  have hb1 : (((cfg0.win 10).blk t).view.emb y 1).val = win0_10.index t (1 : Fin 2) * 512 + 1 * (y 1).val := rfl
  show ptH m c t ((cfg0.win 10).xinj (grid0.coords t) y) = outH m c (((cfg0.win 10).blk t).view.emb y)
  unfold outH
  have hl : (cfg0.win 10).xinj (grid0.coords t) y
      = ix2 (Fin.ofNat 1000 (((cfg0.win 10).blk t).view.emb y 0).val) (Fin.ofNat 512 (((cfg0.win 10).blk t).view.emb y 1).val) := by
    funext a; apply Fin.ext
    match a with
    | ⟨0, _⟩ => show (y 0).val = (((cfg0.win 10).blk t).view.emb y 0).val % 1000; rw [hb0]; omega
    | ⟨1, _⟩ => show (y 1).val = (((cfg0.win 10).blk t).view.emb y 1).val % 512; rw [hb1, e1]; omega
  rw [hl]
  have e : ∀ (t t' : Fin cfg0.N), t = t' → ptH m c t = ptH m c t' := fun t t' h => by rw [h]
  exact congrFun (e _ _ (Fin.ext (by dsimp only; rw [hb0, e0]; omega))) _

theorem wrote_i (c : Dev nD) (t : Fin cfg0.N) : (dats m 0 c).flushed 11 t = ((cfg0.win 11).blk t).view.read (Elt F) (outI m c) := by
  rw [flushed11, left_i]
  obtain ⟨e0, e1, e2⟩ := spot11 t
  have hN : t.val < 10 := lt_of_lt_of_eq t.isLt N_ten
  funext y
  have hy0 : (y 0).val < 1 := (y 0).isLt
  have hy1 : (y 1).val < 1 := (y 1).isLt
  have hy2 : (y 2).val < 1000 := (y 2).isLt
  have hb0 : (((cfg0.win 11).blk t).view.emb y 0).val = win0_11.index t (0 : Fin 3) * 1 + 1 * (y 0).val := rfl
  have hb2 : (((cfg0.win 11).blk t).view.emb y 2).val = win0_11.index t (2 : Fin 3) * 1000 + 1 * (y 2).val := rfl
  unfold k0_pay5
  show shapeCast S1x1x1000 (ptI m c t) shapeCasts_S1000_S1x1x1000 ((cfg0.win 11).xinj (grid0.coords t) y) = outI m c (((cfg0.win 11).blk t).view.emb y)
  unfold outI
  have hl : (cfg0.win 11).xinj (grid0.coords t) y = ix3 (0 : Fin 1) (0 : Fin 1) (Fin.ofNat 1000 (((cfg0.win 11).blk t).view.emb y 2).val) := by
    funext a; apply Fin.ext
    match a with
    | ⟨0, _⟩ => show (y 0).val = 0; omega
    | ⟨1, _⟩ => show (y 1).val = 0; omega
    | ⟨2, _⟩ => show (y 2).val = (((cfg0.win 11).blk t).view.emb y 2).val % 1000; rw [hb2, e2]; omega
  rw [hl, cast_up]
  have e : ∀ (t t' : Fin cfg0.N), t = t' → ptI m c t = ptI m c t' := fun t t' h => by rw [h]
  exact congrFun (e _ _ (Fin.ext (by dsimp only; rw [hb0, e0]; omega))) _

theorem wrote_n (c : Dev nD) (t : Fin cfg0.N) (hf : (cfg0.win 12).flush t = true) : (dats m 0 c).flushed 12 t = ((cfg0.win 12).blk t).view.read (Elt F) (outN m c) := by
  rw [flushed12]
  obtain ⟨e0, e1⟩ := spot12 t
  have hN : t.val < 10 := lt_of_lt_of_eq t.isLt N_ten
  have hm : t.val % 10 = 9 := (flush0_12 t).mp hf
  funext y
  have hb0 : (((cfg0.win 12).blk t).view.emb y 0).val = win0_12.index t (0 : Fin 2) * 1 + 1 * (y 0).val := rfl
  have hb1 : (((cfg0.win 12).blk t).view.emb y 1).val = win0_12.index t (1 : Fin 2) * 8 + 1 * (y 1).val := rfl
  show countsAt m c t.val t.isLt ((cfg0.win 12).xinj (grid0.coords t) y) = outN m c (((cfg0.win 12).blk t).view.emb y)
  unfold outN
  have hl : (cfg0.win 12).xinj (grid0.coords t) y = ((cfg0.win 12).blk t).view.emb y := by
    funext a; apply Fin.ext
    match a with
    | ⟨0, _⟩ => show (y 0).val = (((cfg0.win 12).blk t).view.emb y 0).val; rw [hb0, e0]; omega
    | ⟨1, _⟩ => show (y 1).val = (((cfg0.win 12).blk t).view.emb y 1).val; rw [hb1, e1]; omega
  rw [hl]
  have e : ∀ (n n' : ℕ) (h : n < cfg0.N) (h' : n' < cfg0.N), n = n' → countsAt m c n h = countsAt m c n' h' := by
    intro n n' h h' hn; subst hn; rfl
  exact congrFun (e _ _ _ _ (by omega)) _

theorem final_h (c : Dev nD) : (dats m 0 c).arrAt 10 cfg0.N = outH m c :=
  (dats m 0 c).arrAt_eq_of_cover 10 _ (fun t _ => wrote_h m c t) fun i => by
    have h0 : (i 0).val < 10000 := (i 0).isLt
    have h1 : (i 1).val < 512 := (i 1).isLt
    have hN : (i 0).val / 1000 < cfg0.N := by rw [N_ten]; omega
    obtain ⟨e0, e1⟩ := spot10 ⟨_, hN⟩
    dsimp only at e0 e1
    refine ⟨⟨_, hN⟩, flush0_10 _, (mem_h _ _).mpr fun a => ?_⟩
    match a with
    | ⟨0, _⟩ => show win0_10.index _ (0 : Fin 2) * 1000 ≤ (i 0).val ∧ (i 0).val < win0_10.index _ (0 : Fin 2) * 1000 + 1000; rw [e0]; omega
    | ⟨1, _⟩ => show win0_10.index _ (1 : Fin 2) * 512 ≤ (i 1).val ∧ (i 1).val < win0_10.index _ (1 : Fin 2) * 512 + 512; rw [e1]; omega

theorem final_i (c : Dev nD) : (dats m 0 c).arrAt 11 cfg0.N = outI m c :=
  (dats m 0 c).arrAt_eq_of_cover 11 _ (fun t _ => wrote_i m c t) fun i => by
    have h0 : (i 0).val < 10 := (i 0).isLt
    have h1 : (i 1).val < 1 := (i 1).isLt
    have h2 : (i 2).val < 1000 := (i 2).isLt
    have hN : (i 0).val < cfg0.N := by rw [N_ten]; omega
    obtain ⟨e0, e1, e2⟩ := spot11 ⟨_, hN⟩
    dsimp only at e0 e1 e2
    refine ⟨⟨_, hN⟩, flush0_11 _, (mem_i _ _).mpr fun a => ?_⟩
    match a with
    | ⟨0, _⟩ => show win0_11.index _ (0 : Fin 3) * 1 ≤ (i 0).val ∧ (i 0).val < win0_11.index _ (0 : Fin 3) * 1 + 1; rw [e0]; omega
    | ⟨1, _⟩ => show win0_11.index _ (1 : Fin 3) * 1 ≤ (i 1).val ∧ (i 1).val < win0_11.index _ (1 : Fin 3) * 1 + 1; rw [e1]; omega
    | ⟨2, _⟩ => show win0_11.index _ (2 : Fin 3) * 1000 ≤ (i 2).val ∧ (i 2).val < win0_11.index _ (2 : Fin 3) * 1000 + 1000; rw [e2]; omega

theorem final_n (c : Dev nD) : (dats m 0 c).arrAt 12 cfg0.N = outN m c :=
  (dats m 0 c).arrAt_eq_of_cover 12 _ (fun t hf => wrote_n m c t hf) fun i => by
    have h0 : (i 0).val < 1 := (i 0).isLt
    have h1 : (i 1).val < 8 := (i 1).isLt
    have hN : 9 < cfg0.N := by rw [N_ten]; omega
    obtain ⟨e0, e1⟩ := spot12 ⟨_, hN⟩
    refine ⟨⟨_, hN⟩, (flush0_12 _).mpr (by dsimp only), (mem_n _ _).mpr fun a => ?_⟩
    match a with
    | ⟨0, _⟩ => show win0_12.index _ (0 : Fin 2) * 1 ≤ (i 0).val ∧ (i 0).val < win0_12.index _ (0 : Fin 2) * 1 + 1; rw [e0]; omega
    | ⟨1, _⟩ => show win0_12.index _ (1 : Fin 2) * 8 ≤ (i 1).val ∧ (i 1).val < win0_12.index _ (1 : Fin 2) * 8 + 8; rw [e1]; omega

end Cert.RouterProof

end
-- ==== Proof.RouterKernel.lean ====
/-
  The router's results, node by node: the encoded features, a best expert, and how many nodes chose each expert.
-/
module

public import proofs.«01_k».proof.Proof.RouterBlocks

@[expose] public section

set_option maxRecDepth 16384

noncomputable section

namespace Cert.RouterProof

open Idealize.ShloMosaic hiding ix1 ix2 ix3 eq_ix1 eq_ix2 eq_ix3
open Idealize.ShloMosaic.TcCoe Idealize.ShloMosaic.ValueIdx

/-! ## What is computed -/

section Meaning

variable (X : (⟨2, ![10000, 256]⟩ : Shape).Idx → EReal) (nc ec : (⟨1, ![64]⟩ : Shape).Idx → EReal) (g : (⟨1, ![10000]⟩ : Shape).Idx → BitVec 32)
  (W : (⟨2, ![256, 512]⟩ : Shape).Idx → EReal) (b : (⟨1, ![512]⟩ : Shape).Idx → EReal)
  (W1 : (⟨2, ![514, 512]⟩ : Shape).Idx → EReal) (b1 : (⟨1, ![512]⟩ : Shape).Idx → EReal)
  (W2 : (⟨2, ![512, 8]⟩ : Shape).Idx → EReal) (b2 : (⟨1, ![8]⟩ : Shape).Idx → EReal)

/-- A node's encoded features. -/
def encoded (n : Fin 10000) (c : Fin 512) : EReal := rect (fun k => X (ix2 n k)) (fun k => W (ix2 k c)) (b (ix1 c))

/-- The graph a node belongs to. -/
def graphOf (n : Fin 10000) : Fin 64 := Fin.ofNat 64 (g (ix1 n)).toNat

/-- A node's features with its graph's two numbers. -/
def features (n : Fin 10000) : Fin 514 → EReal :=
  joined (encoded X W b n) (Ideal.log1p (nc (ix1 (graphOf g n)))) (Ideal.log1p (ec (ix1 (graphOf g n))))

/-- A node's score of each expert. -/
def nodeScore (n : Fin 10000) (e : Fin 8) : EReal :=
  score (fun k => max ((∑ j, features X nc ec g W b n j * W1 (ix2 j k)) + b1 (ix1 k)) 0) (fun k => W2 (ix2 k e)) (b2 (ix1 e))

theorem graphOf_word (n : Fin 10000) (h : (g (ix1 n)).toNat < 64) : g (ix1 n) = BitVec.ofNat 32 (graphOf g n).val := by
  apply BitVec.eq_of_toNat_eq
  show _ = (BitVec.ofNat 32 ((g (ix1 n)).toNat % 64)).toNat
  rw [BitVec.toNat_ofNat, Nat.mod_eq_of_lt h]
  omega

end Meaning

open Cert.RouterIdeal Cert.RouterIdeal.Gen Cert.RouterIdeal.Value

variable (m : (ℓ : Loc nD τ sig) → Buf (Elt Ideal) ℓ) (c : Dev nD)

abbrev A0 : S10000x256.Idx → EReal := m ((c : Thread nD τ).loc main_arg0)
abbrev A1 : S64.Idx → EReal := m ((c : Thread nD τ).loc main_arg1)
abbrev A2 : S64.Idx → EReal := m ((c : Thread nD τ).loc main_arg2)
abbrev A3 : S10000.Idx → BitVec 32 := m ((c : Thread nD τ).loc main_arg3)
abbrev A4 : S256x512.Idx → EReal := m ((c : Thread nD τ).loc main_arg4)
abbrev A5 : S512.Idx → EReal := m ((c : Thread nD τ).loc main_arg5)
abbrev A6 : S514x512.Idx → EReal := m ((c : Thread nD τ).loc main_arg6)
abbrev A7 : S512.Idx → EReal := m ((c : Thread nD τ).loc main_arg7)
abbrev A8 : S512x8.Idx → EReal := m ((c : Thread nD τ).loc main_arg8)
abbrev A9 : S8.Idx → EReal := m ((c : Thread nD τ).loc main_arg9)

/-- Node `r` of point `t`. -/
abbrev node (t : Fin cfg0.N) (r : Fin 1000) : Fin 10000 := ⟨1000 * t.val + r.val, by have := t.isLt; have := N_ten; omega⟩

theorem get0 (t : Fin cfg0.N) (r : Fin 1000) (k : Fin 256) : iblk m c 0 t (ix2 r k) = A0 m c (ix2 (node t r) k) :=
  (read0 m c t (ix2 r k) (ix2 (node t r) k) rfl rfl).trans (congrFun (V_main_arg0 m c) _)
theorem get1 (t : Fin cfg0.N) (k : Fin 256) (j : Fin 512) : iblk m c 1 t (ix2 k j) = A4 m c (ix2 k j) :=
  (read1 m c t (ix2 k j)).trans (congrFun (V_main_arg4 m c) _)
theorem get2 (t : Fin cfg0.N) (j : Fin 512) : iblk m c 2 t (ix2 0 j) = A5 m c (ix1 j) :=
  (read2 m c t (ix2 0 j)).trans ((congrFun (V_v1 m c) _).trans (shapeCast_a_1a_apply ..))
theorem get3 (t : Fin cfg0.N) (j : Fin 64) : iblk m c 3 t (ix2 0 j) = A1 m c (ix1 j) :=
  (read3 m c t (ix2 0 j)).trans ((congrFun (V_v2 m c) _).trans (shapeCast_a_1a_apply ..))
theorem get4 (t : Fin cfg0.N) (j : Fin 64) : iblk m c 4 t (ix2 0 j) = A2 m c (ix1 j) :=
  (read4 m c t (ix2 0 j)).trans ((congrFun (V_v3 m c) _).trans (shapeCast_a_1a_apply ..))
theorem get5 (t : Fin cfg0.N) (k : Fin 514) (j : Fin 512) : iblk m c 5 t (ix2 k j) = A6 m c (ix2 k j) :=
  (read5 m c t (ix2 k j)).trans (congrFun (V_main_arg6 m c) _)
theorem get6 (t : Fin cfg0.N) (j : Fin 512) : iblk m c 6 t (ix2 0 j) = A7 m c (ix1 j) :=
  (read6 m c t (ix2 0 j)).trans ((congrFun (V_v4 m c) _).trans (shapeCast_a_1a_apply ..))
theorem get7 (t : Fin cfg0.N) (k : Fin 512) (j : Fin 8) : iblk m c 7 t (ix2 k j) = A8 m c (ix2 k j) :=
  (read7 m c t (ix2 k j)).trans (congrFun (V_main_arg8 m c) _)
theorem get8 (t : Fin cfg0.N) (j : Fin 8) : iblk m c 8 t (ix2 0 j) = A9 m c (ix1 j) :=
  (read8 m c t (ix2 0 j)).trans ((congrFun (V_v5 m c) _).trans (shapeCast_a_1a_apply ..))

theorem get9 (t : Fin cfg0.N) (r : Fin 1000) : iblk m c 9 t (ix3 0 0 r) = A3 m c (ix1 (node t r)) := by
  have hN : t.val < 10 := lt_of_lt_of_eq t.isLt N_ten
  refine (read9 m c t (ix3 0 0 r) (ix3 (⟨t.val, hN⟩ : Fin 10) 0 r) rfl rfl rfl).trans ((congrFun (V_v0 m c) _).trans ?_)
  refine shapeCast_apply _ _ _ _ ?_
  rw [Shape.rowMajor_val_three]
  refine (Shape.rowMajor_val_one (d := ![10000]) (ix1 (node t r))).trans ?_
  show 1000 * t.val + r.val = (t.val * 1 + 0) * 1000 + r.val
  omega

theorem ptH_at (t : Fin cfg0.N) (r : Fin 1000) (j : Fin 512) : ptH m c t (ix2 r j) = encoded (A0 m c) (A4 m c) (A5 m c) (node t r) j :=
  (hidden_at _ _ _ r j).trans (rect_congr (fun k => get0 m c t r k) (fun k => get1 m c t k j) (get2 m c t j))

theorem ptM_at (h : ∀ n, (A3 m c n).toNat < 64) (t : Fin cfg0.N) (r : Fin 1000) (j : Fin 512) :
    ptM m c t (ix2 r j) = ∑ k, features (A0 m c) (A1 m c) (A2 m c) (A3 m c) (A4 m c) (A5 m c) (node t r) k * A6 m c (ix2 k j) := by
  refine (mixed_at _ _ _ _ _ _ _ r (graphOf (A3 m c) (node t r)) ((get9 m c t r).trans (graphOf_word _ _ (h _))) j).trans ?_
  refine Finset.sum_congr rfl fun k _ => congrArg₂ (· * ·) (joined_congr (fun q => ?_) ?_ ?_ k) (get5 m c t k j)
  · exact rect_congr (fun k => get0 m c t r k) (fun k => get1 m c t k q) (get2 m c t q)
  · exact congrArg Ideal.log1p (get3 m c t _)
  · exact congrArg Ideal.log1p (get4 m c t _)

/-- The scores of node `n`. -/
abbrev scoreAt (n : Fin 10000) : Fin 8 → EReal :=
  nodeScore (A0 m c) (A1 m c) (A2 m c) (A3 m c) (A4 m c) (A5 m c) (A6 m c) (A7 m c) (A8 m c) (A9 m c) n

theorem ptI_best (h : ∀ n, (A3 m c n).toNat < 64) (t : Fin cfg0.N) (r : Fin 1000) : Best (scoreAt m c (node t r)) (ptI m c t (ix1 r)) := by
  have e := choice_at (ptM m c t) (iblk m c 6 t) (iblk m c 7 t) (iblk m c 8 t) r
  refine (congrArg (fun l => Best l (ptI m c t (ix1 r))) (funext fun q => ?_)).mp e
  refine score_congr (fun k => congrArg (max · (0 : EReal)) (congrArg₂ (· + ·) (ptM_at m c h t r k) (get6 m c t k))) (fun k => get7 m c t k q) (get8 m c t q)

/-! ## The three results -/

/-- The point and the row of a node. -/
abbrev pointOf (n : Fin 10000) : Fin 10 := ⟨n.val / 1000, by omega⟩
abbrev rowOf (n : Fin 10000) : Fin 1000 := ⟨n.val % 1000, by omega⟩

theorem outH_at (n : Fin 10000) (j : Fin 512) : outH m c (ix2 n j) = encoded (A0 m c) (A4 m c) (A5 m c) n j := by
  have hn := n.isLt
  have hN : n.val / 1000 < cfg0.N := by rw [N_ten]; omega
  have e : ∀ (j' : Fin 512), j' = j → ptH m c ⟨n.val / 1000, hN⟩ (ix2 (rowOf n) j') = encoded (A0 m c) (A4 m c) (A5 m c) n j := by
    intro j' hj
    subst hj
    rw [ptH_at]
    exact congrArg (fun n => encoded (A0 m c) (A4 m c) (A5 m c) n j') (Fin.ext (by show 1000 * (n.val / 1000) + n.val % 1000 = n.val; omega))
  exact e (Fin.ofNat 512 j.val) (Fin.ext (Nat.mod_eq_of_lt j.isLt))

theorem outI_at (i : Fin 10) (r : Fin 1000) : outI m c (ix3 i 0 r) = ptI m c ⟨i.val, by rw [N_ten]; exact i.isLt⟩ (ix1 r) := by
  have e : ∀ r' : Fin 1000, r' = r → ptI m c ⟨i.val, by rw [N_ten]; exact i.isLt⟩ (ix1 r') = ptI m c ⟨i.val, by rw [N_ten]; exact i.isLt⟩ (ix1 r) := fun r' hr => by rw [hr]
  exact e (Fin.ofNat 1000 r.val) (Fin.ext (Nat.mod_eq_of_lt r.isLt))

/-- What a node chose. -/
def chose (n : Fin 10000) : BitVec 32 := outI m c (ix3 (pointOf n) 0 (rowOf n))

theorem chose_best (h : ∀ n, (A3 m c n).toNat < 64) (n : Fin 10000) : Best (scoreAt m c n) (chose m c n) := by
  have e := ptI_best m c h ⟨(pointOf n).val, by rw [N_ten]; exact (pointOf n).isLt⟩ (rowOf n)
  unfold chose
  rw [outI_at]
  refine (congrArg (fun n => Best (scoreAt m c n) _) (Fin.ext ?_)).mp e
  show 1000 * (n.val / 1000) + n.val % 1000 = n.val
  omega

/-- A node's share in expert `e`'s count. -/
def mark (e : Fin 8) (k : ℕ) : BitVec 32 := if hk : k < 10000 then (if chose m c ⟨k, hk⟩ = BitVec.ofNat 32 e.val then 1#32 else 0#32) else 0#32

theorem mark_at (e : Fin 8) (t : Fin cfg0.N) (r : Fin 1000) :
    mark m c e (1000 * t.val + r.val) = if ptI m c t (ix1 r) = BitVec.ofNat 32 e.val then 1#32 else 0#32 := by
  have hN : t.val < 10 := lt_of_lt_of_eq t.isLt N_ten
  have hk : 1000 * t.val + r.val < 10000 := by omega
  unfold mark
  rw [dif_pos hk]
  unfold chose
  have e1 : pointOf ⟨1000 * t.val + r.val, hk⟩ = ⟨t.val, hN⟩ := Fin.ext (by show (1000 * t.val + r.val) / 1000 = t.val; omega)
  have e2 : rowOf ⟨1000 * t.val + r.val, hk⟩ = r := Fin.ext (by show (1000 * t.val + r.val) % 1000 = r.val; omega)
  rw [e1, e2, outI_at]

theorem counts_sum (e : Fin 8) (n : ℕ) (h : n < cfg0.N) : countsAt m c n h (ix2 0 e) = ∑ k ∈ Finset.range (1000 * (n + 1)), mark m c e k := by
  have part : ∀ t : Fin cfg0.N, (∑ r : Fin 1000, if ptI m c t (ix1 r) = BitVec.ofNat 32 e.val then 1#32 else 0#32)
      = ∑ k ∈ Finset.range 1000, mark m c e (1000 * t.val + k) := fun t => by
    rw [Finset.sum_range]
    exact Finset.sum_congr rfl fun r _ => (mark_at m c e t r).symm
  induction n with
  | zero =>
    rw [counts_first]
    refine (counts_at _ _ _ _ _ e).trans ?_
    rw [part ⟨0, h⟩]
    simp only [Nat.mul_zero, Nat.zero_add, Nat.mul_one]
    exact zero_add _
  | succ n ih =>
    rw [counts_next]
    refine (counts_at _ _ _ _ _ e).trans ?_
    rw [part ⟨n + 1, h⟩, ih (Nat.lt_of_succ_lt h), Nat.mul_succ 1000 (n + 1), Finset.sum_range_add]

theorem outN_at (e : Fin 8) : outN m c (ix2 0 e) = ∑ n : Fin 10000, if chose m c n = BitVec.ofNat 32 e.val then 1#32 else 0#32 := by
  unfold outN
  rw [counts_sum, Finset.sum_range]
  refine Finset.sum_congr rfl fun n _ => ?_
  unfold mark
  exact dif_pos n.isLt

end Cert.RouterProof

end
-- ==== Proof.RouterRun.lean ====
/-
  The router's reference, run: what each of its arrays holds at the end.
-/
module

public import proofs.«01_k».proof.Proof.Gen.RouterReferenceIdeal
public import Idealize.ShloMosaic.Lib.StableHlo.Run

@[expose] public section

noncomputable section

namespace Cert.RouterProof

open Cert.RouterReferenceIdeal Cert.RouterReferenceIdeal.Gen Idealize.ShloMosaic Idealize.ShloMosaic.TcCoe Idealize.SL.Sem Idealize.ShloMosaic.StableHlo

variable {F : FTy → Type} [FloatOps F]

/-- Two columns side by side, -/
def stack (a b : S64x1.Idx → F .f32) : S64x2.Idx → F .f32 :=
  concatenate S64x2 1 [⟨S64x1, a⟩, ⟨S64x1, b⟩] concatenates_S64x1_S64x1_S64x2_d1

/-- and two columns laid to the right of a table. -/
def widen (a : S10000x512.Idx → F .f32) (b : S10000x2.Idx → F .f32) : S10000x514.Idx → F .f32 :=
  concatenate S10000x514 1 [⟨S10000x512, a⟩, ⟨S10000x2, b⟩] concatenates_S10000x512_S10000x2_S10000x514_d1

/-- The encoder. -/
abbrev encodeOps : List (HloOp τ sig (Elt F)) :=
  [ binary main_arg0 main_arg4 main_v0 ((fun l r => Host.dotGeneral dot_S10000x256_S256x512_S10000x512_1_0_0_1_n_n none l r) : (⟨S10000x256, .f32⟩ : BufTy).Contents (Elt F) → (⟨S256x512, .f32⟩ : BufTy).Contents (Elt F) → (⟨S10000x512, .f32⟩ : BufTy).Contents (Elt F)),
    unary main_arg5 main_v1 (broadcastInDim S1x512 ![1] bcast_S512_S1x512_1 : (⟨S512, .f32⟩ : BufTy).Contents (Elt F) → (⟨S1x512, .f32⟩ : BufTy).Contents (Elt F)),
    unary main_v1 main_v2 (broadcastInDim S10000x512 ![0, 1] bcast_S1x512_S10000x512_0_1 : (⟨S1x512, .f32⟩ : BufTy).Contents (Elt F) → (⟨S10000x512, .f32⟩ : BufTy).Contents (Elt F)),
    binary main_v0 main_v2 main_v3 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x512, .f32⟩) main_call0_v0) (broadcastInDim S10000x512 ![] bcast_S_S10000x512),
    TRef.binary (TRef.of (T := ⟨S10000x512, .f32⟩) main_v3) (TRef.of (T := ⟨S10000x512, .f32⟩) main_call0_v0) (TRef.of (T := ⟨S10000x512, .f32⟩) main_v4) maximumf ]

/-- Each node's encoding beside its graph's two features. -/
abbrev featureOps : List (HloOp τ sig (Elt F)) :=
  [ unary main_arg1 main_v5 (Host.log1p : (⟨S64, .f32⟩ : BufTy).Contents (Elt F) → (⟨S64, .f32⟩ : BufTy).Contents (Elt F)),
    unary main_arg2 main_v6 (Host.log1p : (⟨S64, .f32⟩ : BufTy).Contents (Elt F) → (⟨S64, .f32⟩ : BufTy).Contents (Elt F)),
    unary main_v5 main_v7 (broadcastInDim S64x1 ![0] bcast_S64_S64x1_0 : (⟨S64, .f32⟩ : BufTy).Contents (Elt F) → (⟨S64x1, .f32⟩ : BufTy).Contents (Elt F)),
    unary main_v6 main_v8 (broadcastInDim S64x1 ![0] bcast_S64_S64x1_0 : (⟨S64, .f32⟩ : BufTy).Contents (Elt F) → (⟨S64x1, .f32⟩ : BufTy).Contents (Elt F)),
    binary main_v7 main_v8 main_v9 (stack (F := F)),
    nullary main_c (constantI S_ 32 0#32),
    unary main_c main_v10 (broadcastInDim S10000 ![] bcast_S_S10000 : (⟨S_, .i32⟩ : BufTy).Contents (Elt F) → (⟨S10000, .i32⟩ : BufTy).Contents (Elt F)),
    binary main_arg3 main_v10 main_v11 (cmpi .slt : (⟨S10000, .i32⟩ : BufTy).Contents (Elt F) → (⟨S10000, .i32⟩ : BufTy).Contents (Elt F) → (⟨S10000, .i1⟩ : BufTy).Contents (Elt F)),
    nullary main_c_0 (constantI S_ 32 64#32),
    unary main_c_0 main_v12 (broadcastInDim S10000 ![] bcast_S_S10000 : (⟨S_, .i32⟩ : BufTy).Contents (Elt F) → (⟨S10000, .i32⟩ : BufTy).Contents (Elt F)),
    binary main_arg3 main_v12 main_v13 (addi : (⟨S10000, .i32⟩ : BufTy).Contents (Elt F) → (⟨S10000, .i32⟩ : BufTy).Contents (Elt F) → (⟨S10000, .i32⟩ : BufTy).Contents (Elt F)),
    ternary main_v11 main_v13 main_arg3 main_v14 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v14 main_v15 (broadcastInDim S10000x1 ![0] bcast_S10000_S10000x1_0 : (⟨S10000, .i32⟩ : BufTy).Contents (Elt F) → (⟨S10000x1, .i32⟩ : BufTy).Contents (Elt F)),
    binary main_v9 main_v15 main_v16 ((fun x i => Host.gather gather_S64x2_S10000x1_S10000x2_1_0_n_n_0_1_12 x i) : (⟨S64x2, .f32⟩ : BufTy).Contents (Elt F) → (⟨S10000x1, .i32⟩ : BufTy).Contents (Elt F) → (⟨S10000x2, .f32⟩ : BufTy).Contents (Elt F)),
    binary main_v4 main_v16 main_v17 (widen (F := F)) ]

/-- The experts' scores. -/
abbrev scoreOps : List (HloOp τ sig (Elt F)) :=
  [ binary main_v17 main_arg6 main_v18 ((fun l r => Host.dotGeneral dot_S10000x514_S514x512_S10000x512_1_0_0_1_n_n none l r) : (⟨S10000x514, .f32⟩ : BufTy).Contents (Elt F) → (⟨S514x512, .f32⟩ : BufTy).Contents (Elt F) → (⟨S10000x512, .f32⟩ : BufTy).Contents (Elt F)),
    unary main_arg7 main_v19 (broadcastInDim S1x512 ![1] bcast_S512_S1x512_1 : (⟨S512, .f32⟩ : BufTy).Contents (Elt F) → (⟨S1x512, .f32⟩ : BufTy).Contents (Elt F)),
    unary main_v19 main_v20 (broadcastInDim S10000x512 ![0, 1] bcast_S1x512_S10000x512_0_1 : (⟨S1x512, .f32⟩ : BufTy).Contents (Elt F) → (⟨S10000x512, .f32⟩ : BufTy).Contents (Elt F)),
    binary main_v18 main_v20 main_v21 (addf : (⟨S10000x512, .f32⟩ : BufTy).Contents (Elt F) → (⟨S10000x512, .f32⟩ : BufTy).Contents (Elt F) → (⟨S10000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S10000x512, .f32⟩) main_call1_v0) (broadcastInDim S10000x512 ![] bcast_S_S10000x512),
    TRef.binary (TRef.of (T := ⟨S10000x512, .f32⟩) main_v21) (TRef.of (T := ⟨S10000x512, .f32⟩) main_call1_v0) (TRef.of (T := ⟨S10000x512, .f32⟩) main_v22) maximumf,
    binary main_v22 main_arg8 main_v23 ((fun l r => Host.dotGeneral dot_S10000x512_S512x8_S10000x8_1_0_0_1_n_n none l r) : (⟨S10000x512, .f32⟩ : BufTy).Contents (Elt F) → (⟨S512x8, .f32⟩ : BufTy).Contents (Elt F) → (⟨S10000x8, .f32⟩ : BufTy).Contents (Elt F)),
    unary main_arg9 main_v24 (broadcastInDim S1x8 ![1] bcast_S8_S1x8_1 : (⟨S8, .f32⟩ : BufTy).Contents (Elt F) → (⟨S1x8, .f32⟩ : BufTy).Contents (Elt F)),
    unary main_v24 main_v25 (broadcastInDim S10000x8 ![0, 1] bcast_S1x8_S10000x8_0_1 : (⟨S1x8, .f32⟩ : BufTy).Contents (Elt F) → (⟨S10000x8, .f32⟩ : BufTy).Contents (Elt F)),
    binary main_v23 main_v25 main_v26 (addf : (⟨S10000x8, .f32⟩ : BufTy).Contents (Elt F) → (⟨S10000x8, .f32⟩ : BufTy).Contents (Elt F) → (⟨S10000x8, .f32⟩ : BufTy).Contents (Elt F)) ]

/-- The best score and its index. -/
abbrev chooseOps : List (HloOp τ sig (Elt F)) :=
  [ TRef.nullary (TRef.of (T := ⟨S10000x8, .i32⟩) main_call2_v0) (iotaInDim S10000x8 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S10000x8, .f32⟩) main_v26) (TRef.of (T := ⟨S10000x8, .i32⟩) main_call2_v0) (TRef.of (T := ⟨S_, .f32⟩) main_call2_cst) (TRef.of (T := ⟨S_, .i32⟩) main_call2_c) (TRef.of (T := ⟨S10000, .f32⟩) main_call2_v1_0) (fun x y u v j => (Host.argReduce reducer_argmax_f32_i32 x y u v reducesTo_S10000x8_S10000_d1 h_S_ j).1),
    TRef.quaternary (TRef.of (T := ⟨S10000x8, .f32⟩) main_v26) (TRef.of (T := ⟨S10000x8, .i32⟩) main_call2_v0) (TRef.of (T := ⟨S_, .f32⟩) main_call2_cst) (TRef.of (T := ⟨S_, .i32⟩) main_call2_c) (TRef.of (T := ⟨S10000, .i32⟩) main_v27) (fun x y u v j => (Host.argReduce reducer_argmax_f32_i32 x y u v reducesTo_S10000x8_S10000_d1 h_S_ j).2),
    reshape main_v27 main_v28 (rfl : (.i32 : EltTy) = .i32) shapeCasts_S10000_S10x1x1000 ]

/-- How many nodes chose each expert. -/
abbrev countOps : List (HloOp τ sig (Elt F)) :=
  [ nullary main_c_1 (constantI S_ 32 0#32),
    unary main_c_1 main_v29 (broadcastInDim S8 ![] bcast_S_S8 : (⟨S_, .i32⟩ : BufTy).Contents (Elt F) → (⟨S8, .i32⟩ : BufTy).Contents (Elt F)),
    nullary main_c_2 (constantI S_ 32 0#32),
    TRef.unary (TRef.of (T := ⟨S_, .i32⟩) main_c_2) (TRef.of (T := ⟨S_, .i32⟩) main_call3_v0) id,
    TRef.unary (TRef.of (T := ⟨S_, .i32⟩) main_call3_v0) (TRef.of (T := ⟨S10000, .i32⟩) main_call3_v1) (broadcastInDim S10000 ![] bcast_S_S10000),
    TRef.binary (TRef.of (T := ⟨S10000, .i32⟩) main_call3_v1) (TRef.of (T := ⟨S10000, .i32⟩) main_v27) (TRef.of (T := ⟨S10000, .i32⟩) main_v30) maxsi,
    nullary main_c_3 (constantI S_ 32 0#32),
    unary main_c_3 main_v31 (broadcastInDim S10000 ![] bcast_S_S10000 : (⟨S_, .i32⟩ : BufTy).Contents (Elt F) → (⟨S10000, .i32⟩ : BufTy).Contents (Elt F)),
    binary main_v30 main_v31 main_v32 (cmpi .slt : (⟨S10000, .i32⟩ : BufTy).Contents (Elt F) → (⟨S10000, .i32⟩ : BufTy).Contents (Elt F) → (⟨S10000, .i1⟩ : BufTy).Contents (Elt F)),
    nullary main_c_4 (constantI S_ 32 8#32),
    unary main_c_4 main_v33 (broadcastInDim S10000 ![] bcast_S_S10000 : (⟨S_, .i32⟩ : BufTy).Contents (Elt F) → (⟨S10000, .i32⟩ : BufTy).Contents (Elt F)),
    binary main_v30 main_v33 main_v34 (addi : (⟨S10000, .i32⟩ : BufTy).Contents (Elt F) → (⟨S10000, .i32⟩ : BufTy).Contents (Elt F) → (⟨S10000, .i32⟩ : BufTy).Contents (Elt F)),
    ternary main_v32 main_v34 main_v30 main_v35 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    unary main_v35 main_v36 (broadcastInDim S10000x1 ![0] bcast_S10000_S10000x1_0 : (⟨S10000, .i32⟩ : BufTy).Contents (Elt F) → (⟨S10000x1, .i32⟩ : BufTy).Contents (Elt F)),
    nullary main_c_5 (constantI S_ 32 1#32),
    unary main_c_5 main_v37 (broadcastInDim S10000 ![] bcast_S_S10000 : (⟨S_, .i32⟩ : BufTy).Contents (Elt F) → (⟨S10000, .i32⟩ : BufTy).Contents (Elt F)),
    ternary main_v29 main_v36 main_v37 main_v38 ((fun x i u => Host.scatter scatter_S8_S10000x1_S10000_n_0_0_1 IntOp.addi x i u) : (⟨S8, .i32⟩ : BufTy).Contents (Elt F) → (⟨S10000x1, .i32⟩ : BufTy).Contents (Elt F) → (⟨S10000, .i32⟩ : BufTy).Contents (Elt F) → (⟨S8, .i32⟩ : BufTy).Contents (Elt F)),
    reshape main_v38 main_v39 (rfl : (.i32 : EltTy) = .i32) shapeCasts_S8_S1x8 ]

/-- The reference's operations, in order. -/
abbrev allOps : List (HloOp τ sig (Elt F)) := encodeOps ++ (featureOps ++ (scoreOps ++ (chooseOps ++ countOps)))

set_option maxRecDepth 8192 in
set_option maxHeartbeats 4000000 in
theorem main_is (c : Dev nD) : main (F := F) c = seq allOps := rfl

theorem no_scoped_refs : (Finset.univ.filter fun b : Ref sig .tc => b.isScoped) = ∅ := by decide
theorem no_scoped_sems : (Finset.univ.filter fun s : SemLoc sig => s.isScoped .tc) = ∅ := by decide

theorem encodeOps_sub : (encodeOps : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub ..⟩

theorem featureOps_sub : (featureOps : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem scoreOps_sub : (scoreOps : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem chooseOps_sub : (chooseOps : List (HloOp τ sig (Elt F))).Forall fun op => op.bufs ⊆ tcRefs τ sig :=
  ⟨nullary_bufs_sub .., nullary_bufs_sub .., nullary_bufs_sub .., quaternary_bufs_sub .., quaternary_bufs_sub .., reshape_bufs_sub ..⟩

theorem countOps_sub : (countOps : List (HloOp τ sig (Elt F))).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., reshape_bufs_sub ..⟩

theorem allOps_sub : (allOps : List (HloOp τ sig (Elt F))).Forall fun op => op.bufs ⊆ tcRefs τ sig := by
  simp only [allOps, List.forall_append]
  exact ⟨encodeOps_sub, featureOps_sub, scoreOps_sub, chooseOps_sub, countOps_sub⟩

theorem after_two (l k : List (HloOp τ sig (Elt F))) (V : Valuation τ sig (Elt F)) : after (l ++ k) V = after k (after l V) := by
  induction l generalizing V with
  | nil => rfl
  | cons op l ih => exact ih _

/-! ## The arrays' contents -/

variable (m : (ℓ : Loc nD τ sig) → Buf (Elt F) ℓ) (c : Dev nD)

abbrev X0 : DevRef τ sig := Proc.devRef .tc (main_arg0 : Ref sig .tc)
abbrev X1 : DevRef τ sig := Proc.devRef .tc (main_arg1 : Ref sig .tc)
abbrev X2 : DevRef τ sig := Proc.devRef .tc (main_arg2 : Ref sig .tc)
abbrev X3 : DevRef τ sig := Proc.devRef .tc (main_arg3 : Ref sig .tc)
abbrev X4 : DevRef τ sig := Proc.devRef .tc (main_arg4 : Ref sig .tc)
abbrev X5 : DevRef τ sig := Proc.devRef .tc (main_arg5 : Ref sig .tc)
abbrev X6 : DevRef τ sig := Proc.devRef .tc (main_arg6 : Ref sig .tc)
abbrev X7 : DevRef τ sig := Proc.devRef .tc (main_arg7 : Ref sig .tc)
abbrev X8 : DevRef τ sig := Proc.devRef .tc (main_arg8 : Ref sig .tc)
abbrev X9 : DevRef τ sig := Proc.devRef .tc (main_arg9 : Ref sig .tc)
abbrev Yh : DevRef τ sig := Proc.devRef .tc (main_v4 : Ref sig .tc)
abbrev Yf : DevRef τ sig := Proc.devRef .tc (main_v17 : Ref sig .tc)
abbrev Ys : DevRef τ sig := Proc.devRef .tc (main_v26 : Ref sig .tc)
abbrev Yc : DevRef τ sig := Proc.devRef .tc (main_v27 : Ref sig .tc)
abbrev Yi : DevRef τ sig := Proc.devRef .tc (main_v28 : Ref sig .tc)
abbrev Yn : DevRef τ sig := Proc.devRef .tc (main_v39 : Ref sig .tc)

/-- What the arrays hold at the start and after each part. -/
def W0 : Valuation τ sig (Elt F) := launchContents m c
@[irreducible] def W1 : Valuation τ sig (Elt F) := after encodeOps (W0 m c)
@[irreducible] def W2 : Valuation τ sig (Elt F) := after featureOps (W1 m c)
@[irreducible] def W3 : Valuation τ sig (Elt F) := after scoreOps (W2 m c)
@[irreducible] def W4 : Valuation τ sig (Elt F) := after chooseOps (W3 m c)
@[irreducible] def W5 : Valuation τ sig (Elt F) := after countOps (W4 m c)
theorem W1_eq : W1 m c = after encodeOps (W0 m c) := by unfold W1; rfl
theorem W2_eq : W2 m c = after featureOps (W1 m c) := by unfold W2; rfl
theorem W3_eq : W3 m c = after scoreOps (W2 m c) := by unfold W3; rfl
theorem W4_eq : W4 m c = after chooseOps (W3 m c) := by unfold W4; rfl
theorem W5_eq : W5 m c = after countOps (W4 m c) := by unfold W5; rfl

theorem W_all : after allOps (launchContents m c) = W5 m c := by
  rw [W5_eq, W4_eq, W3_eq, W2_eq, W1_eq, allOps, after_two, after_two, after_two, after_two]
  rfl

/-! ### What is kept -/

abbrev inputRefs : List (DevRef τ sig) := [X0, X1, X2, X3, X4, X5, X6, X7, X8, X9]

theorem W1_kept (b : DevRef τ sig) (h : b ∈ inputRefs) : W1 m c b = W0 m c b := by
  rw [W1_eq]
  refine StableHlo.after_of_forall_not_mem encodeOps (W0 m c) fun op hop hb => ?_
  simp only [encodeOps, List.mem_cons, List.not_mem_nil, or_false] at hop
  rcases hop with rfl | rfl | rfl | rfl | rfl | rfl | rfl <;>
    (obtain rfl := Finset.mem_singleton.mp hb
     exact absurd h (by decide))

theorem W2_kept (b : DevRef τ sig) (h : b ∈ Yh :: inputRefs) : W2 m c b = W1 m c b := by
  rw [W2_eq]
  refine StableHlo.after_of_forall_not_mem featureOps (W1 m c) fun op hop hb => ?_
  simp only [featureOps, List.mem_cons, List.not_mem_nil, or_false] at hop
  rcases hop with rfl | rfl | rfl | rfl | rfl | rfl | rfl | rfl | rfl | rfl | rfl | rfl | rfl | rfl | rfl <;>
    (obtain rfl := Finset.mem_singleton.mp hb
     exact absurd h (by decide))

theorem W3_kept (b : DevRef τ sig) (h : b ∈ Yh :: inputRefs) : W3 m c b = W2 m c b := by
  rw [W3_eq]
  refine StableHlo.after_of_forall_not_mem scoreOps (W2 m c) fun op hop hb => ?_
  simp only [scoreOps, List.mem_cons, List.not_mem_nil, or_false] at hop
  rcases hop with rfl | rfl | rfl | rfl | rfl | rfl | rfl | rfl | rfl | rfl | rfl <;>
    (obtain rfl := Finset.mem_singleton.mp hb
     exact absurd h (by decide))

theorem W4_kept (b : DevRef τ sig) (h : b ∈ Yh :: inputRefs) : W4 m c b = W3 m c b := by
  rw [W4_eq]
  refine StableHlo.after_of_forall_not_mem chooseOps (W3 m c) fun op hop hb => ?_
  simp only [chooseOps, List.mem_cons, List.not_mem_nil, or_false] at hop
  rcases hop with rfl | rfl | rfl | rfl | rfl | rfl <;>
    (obtain rfl := Finset.mem_singleton.mp hb
     exact absurd h (by decide))

theorem W5_kept (b : DevRef τ sig) (h : b ∈ Yi :: Yh :: inputRefs) : W5 m c b = W4 m c b := by
  rw [W5_eq]
  refine StableHlo.after_of_forall_not_mem countOps (W4 m c) fun op hop hb => ?_
  simp only [countOps, List.mem_cons, List.not_mem_nil, or_false] at hop
  rcases hop with rfl | rfl | rfl | rfl | rfl | rfl | rfl | rfl | rfl | rfl | rfl | rfl | rfl | rfl | rfl | rfl | rfl | rfl <;>
    (obtain rfl := Finset.mem_singleton.mp hb
     exact absurd h (by decide))

/-! ### What each part leaves -/

abbrev relu (x : S10000x512.Idx → F .f32) : S10000x512.Idx → F .f32 :=
  maximumf x (broadcastInDim S10000x512 ![] bcast_S_S10000x512 (constant S_ .f32 0x00000000#32))

/-- The encoding, -/
abbrev refHidden (X : S10000x256.Idx → F .f32) (W : S256x512.Idx → F .f32) (b : S512.Idx → F .f32) : S10000x512.Idx → F .f32 :=
  relu (addf (Host.dotGeneral dot_S10000x256_S256x512_S10000x512_1_0_0_1_n_n none X W)
    (broadcastInDim S10000x512 ![0, 1] bcast_S1x512_S10000x512_0_1 (broadcastInDim S1x512 ![1] bcast_S512_S1x512_1 b)))

/-- an index counted from the end where it is negative, -/
abbrev fromEnd (x : S10000.Idx → BitVec 32) (n : BitVec 32) : S10000.Idx → BitVec 32 :=
  select (cmpi .slt x (broadcastInDim S10000 ![] bcast_S_S10000 (constantI S_ 32 0#32))) (addi x (broadcastInDim S10000 ![] bcast_S_S10000 (constantI S_ 32 n))) x

abbrev column (x : S10000.Idx → BitVec 32) : S10000x1.Idx → BitVec 32 := broadcastInDim S10000x1 ![0] bcast_S10000_S10000x1_0 x

/-- the features, -/
abbrev refFeatures (h : S10000x512.Idx → F .f32) (nc ec : S64.Idx → F .f32) (g : S10000.Idx → BitVec 32) : S10000x514.Idx → F .f32 :=
  widen h (Host.gather gather_S64x2_S10000x1_S10000x2_1_0_n_n_0_1_12
    (stack (broadcastInDim S64x1 ![0] bcast_S64_S64x1_0 (Host.log1p nc)) (broadcastInDim S64x1 ![0] bcast_S64_S64x1_0 (Host.log1p ec))) (column (fromEnd g 64#32)))

/-- the scores, -/
abbrev refScores (f : S10000x514.Idx → F .f32) (W1 : S514x512.Idx → F .f32) (b1 : S512.Idx → F .f32) (W2 : S512x8.Idx → F .f32) (b2 : S8.Idx → F .f32) : S10000x8.Idx → F .f32 :=
  addf (Host.dotGeneral dot_S10000x512_S512x8_S10000x8_1_0_0_1_n_n none
      (relu (addf (Host.dotGeneral dot_S10000x514_S514x512_S10000x512_1_0_0_1_n_n none f W1)
        (broadcastInDim S10000x512 ![0, 1] bcast_S1x512_S10000x512_0_1 (broadcastInDim S1x512 ![1] bcast_S512_S1x512_1 b1)))) W2)
    (broadcastInDim S10000x8 ![0, 1] bcast_S1x8_S10000x8_0_1 (broadcastInDim S1x8 ![1] bcast_S8_S1x8_1 b2))

/-- the choice, -/
abbrev refChoice (s : S10000x8.Idx → F .f32) : S10000.Idx → BitVec 32 := fun j =>
  (Host.argReduce reducer_argmax_f32_i32 s (iotaInDim S10000x8 32 1) (constant S_ .f32 0xFF800000#32) (constantI S_ 32 0#32) reducesTo_S10000x8_S10000_d1 h_S_ j).2

/-- and the counts. -/
abbrev refCounts (i : S10000.Idx → BitVec 32) : S8.Idx → BitVec 32 :=
  Host.scatter scatter_S8_S10000x1_S10000_n_0_0_1 IntOp.addi (broadcastInDim S8 ![] bcast_S_S8 (constantI S_ 32 0#32))
    (column (fromEnd (maxsi (broadcastInDim S10000 ![] bcast_S_S10000 (constantI S_ 32 0#32)) i) 8#32)) (broadcastInDim S10000 ![] bcast_S_S10000 (constantI S_ 32 1#32))

set_option maxHeartbeats 4000000 in
theorem W1_h : W1 m c Yh = refHidden (W0 m c X0) (W0 m c X4) (W0 m c X5) := by
  rw [W1_eq]
  simp only [encodeOps, TRef.binary, TRef.nullary, TRef.unary, TRef.toBuf, TRef.ofBuf, cast_eq]
  after_results_simp <;> rfl

set_option maxHeartbeats 4000000 in
theorem W2_f : W2 m c Yf = refFeatures (W1 m c Yh) (W1 m c X1) (W1 m c X2) (W1 m c X3) := by
  rw [W2_eq]
  simp only [featureOps]
  after_results_simp <;> rfl

set_option maxHeartbeats 4000000 in
theorem W3_s : W3 m c Ys = refScores (W2 m c Yf) (W2 m c X6) (W2 m c X7) (W2 m c X8) (W2 m c X9) := by
  rw [W3_eq]
  simp only [scoreOps, TRef.binary, TRef.nullary, TRef.unary, TRef.toBuf, TRef.ofBuf, cast_eq]
  after_results_simp <;> rfl

set_option maxHeartbeats 4000000 in
theorem W4_c : W4 m c Yc = refChoice (W3 m c Ys) := by
  rw [W4_eq]
  simp only [chooseOps, TRef.quaternary, TRef.nullary, TRef.toBuf, TRef.ofBuf, cast_eq]
  after_results_simp <;> rfl

set_option maxHeartbeats 4000000 in
theorem W4_i : W4 m c Yi = shapeCast S10x1x1000 (refChoice (W3 m c Ys)) shapeCasts_S10000_S10x1x1000 := by
  rw [W4_eq]
  simp only [chooseOps, TRef.quaternary, TRef.nullary, TRef.toBuf, TRef.ofBuf, cast_eq]
  after_results_simp <;> rfl

set_option maxHeartbeats 4000000 in
theorem W5_n : W5 m c Yn = shapeCast S1x8 (refCounts (W4 m c Yc)) shapeCasts_S8_S1x8 := by
  rw [W5_eq]
  simp only [countOps, TRef.binary, TRef.nullary, TRef.unary, TRef.toBuf, TRef.ofBuf, cast_eq]
  after_results_simp <;> rfl

theorem W5_input (b : DevRef τ sig) (h : b ∈ inputRefs) : W5 m c b = W0 m c b := by
  rw [W5_kept m c b (.tail _ (.tail _ h)), W4_kept m c b (.tail _ h), W3_kept m c b (.tail _ h), W2_kept m c b (.tail _ h), W1_kept m c b h]

/-- The encoding, the choice and the counts of the inputs. -/
abbrev refH : S10000x512.Idx → F .f32 := refHidden (W0 m c X0) (W0 m c X4) (W0 m c X5)
abbrev refI : S10000.Idx → BitVec 32 :=
  refChoice (refScores (refFeatures (refH m c) (W0 m c X1) (W0 m c X2) (W0 m c X3)) (W0 m c X6) (W0 m c X7) (W0 m c X8) (W0 m c X9))

theorem W3_scores : W3 m c Ys = refScores (refFeatures (refH m c) (W0 m c X1) (W0 m c X2) (W0 m c X3)) (W0 m c X6) (W0 m c X7) (W0 m c X8) (W0 m c X9) := by
  rw [W3_s, W2_f, W1_h, W2_kept m c X6 (by decide), W2_kept m c X7 (by decide), W2_kept m c X8 (by decide), W2_kept m c X9 (by decide),
    W1_kept m c X1 (by decide), W1_kept m c X2 (by decide), W1_kept m c X3 (by decide), W1_kept m c X6 (by decide), W1_kept m c X7 (by decide), W1_kept m c X8 (by decide),
    W1_kept m c X9 (by decide)]

theorem W5_h : W5 m c Yh = refH m c := by
  rw [W5_kept m c Yh (by decide), W4_kept m c Yh (by decide), W3_kept m c Yh (by decide), W2_kept m c Yh (by decide), W1_h]

theorem W5_i : W5 m c Yi = shapeCast S10x1x1000 (refI m c) shapeCasts_S10000_S10x1x1000 := by
  rw [W5_kept m c Yi (by decide), W4_i, W3_scores]

theorem W5_counts : W5 m c Yn = shapeCast S1x8 (refCounts (refI m c)) shapeCasts_S8_S1x8 := by
  rw [W5_n, W4_c, W3_scores]

/-- Every run of the reference ends with these. -/
theorem run_reference (ρ : Dev nD → PrngReg) :
    θ_run defs (onTc (τ := τ) (main (F := F))) ⟨m, fun _ => 0, ρ⟩ fun r => ∀ (c : Dev nD) (b : Ref sig .tc), r.2.mem ((c.tc : Thread nD τ).loc b) = W5 m c (Proc.devRef .tc b) :=
  (θ_run defs _ _).mono (fun r h c b => (h c b).trans (congrFun (W_all m c) _)) (run_seq no_scoped_refs no_scoped_sems defs main (fun _ => allOps) main_is (fun _ => allOps_sub) m ρ)

end Cert.RouterProof

end
-- ==== Proof.RouterValue.lean ====
/-
  The reference's results, node by node, and their agreement with the kernel's.
-/
module

public import proofs.«01_k».proof.Proof.RouterKernel
public import proofs.«01_k».proof.Proof.RouterRun
public import Idealize.ShloMosaic.Lib.Routing.Ops
public import Idealize.ShloMosaic.Lib.StackMember
public import Idealize.ShloMosaic.Lib.IdealHost

@[expose] public section

set_option maxRecDepth 65536

noncomputable section

namespace Cert.RouterProof

open Idealize.ShloMosaic hiding ix1 ix2 ix3 eq_ix1 eq_ix2 eq_ix3
open Idealize.ShloMosaic.TcCoe Idealize.ShloMosaic.ValueIdx
open Cert.RouterReferenceIdeal Cert.RouterReferenceIdeal.Gen

/-! ## The host's broadcasts and products at one entry -/

theorem column_at (x : S10000.Idx → BitVec 32) (n : Fin 10000) : column x (ix2 n 0) = x (ix1 n) := by
  refine broadcastInDim_apply _ _ _ _ _ fun a => ?_
  match a with
  | 0 => rfl

theorem fromEnd_at (x : S10000.Idx → BitVec 32) (k : BitVec 32) (n : Fin 10000) (h : (x (ix1 n)).toNat < 2 ^ 31) : fromEnd x k (ix1 n) = x (ix1 n) := by
  show Scalar.select (IntOp.cmpi .slt (x (ix1 n)) 0#32) _ (x (ix1 n)) = _
  rw [Routing.wrap_of_lt _ _ h]

theorem under_at {a : ℕ} {α : Type} (x : (⟨1, ![a]⟩ : Shape).Idx → α) (h : (⟨1, ![a]⟩ : Shape).BroadcastsInDim ⟨2, ![a, 1]⟩ ![0]) (ha : a ≠ 1) (r : Fin a) :
    broadcastInDim ⟨2, ![a, 1]⟩ ![0] h x (ix2 r 0) = x (ix1 r) := by
  refine broadcastInDim_apply _ _ _ _ _ fun k => ?_
  match k with
  | 0 => show r.val = if a = 1 then 0 else r.val; rw [if_neg ha]

theorem rows_at {a b : ℕ} {α : Type} (x : (⟨1, ![b]⟩ : Shape).Idx → α) (h1 : (⟨1, ![b]⟩ : Shape).BroadcastsInDim ⟨2, ![1, b]⟩ ![1])
    (h2 : (⟨2, ![1, b]⟩ : Shape).BroadcastsInDim ⟨2, ![a, b]⟩ ![0, 1]) (hb : b ≠ 1) (r : Fin a) (k : Fin b) :
    broadcastInDim ⟨2, ![a, b]⟩ ![0, 1] h2 (broadcastInDim ⟨2, ![1, b]⟩ ![1] h1 x) (ix2 r k) = x (ix1 k) := by
  refine (broadcastInDim_apply _ _ _ _ (ix2 0 k) fun q => ?_).trans (broadcastInDim_apply _ _ _ _ (ix1 k) fun q => ?_)
  · match q with
    | 0 => rfl
    | 1 => show k.val = if b = 1 then 0 else k.val; rw [if_neg hb]
  · match q with
    | 0 => show k.val = if b = 1 then 0 else k.val; rw [if_neg hb]

theorem relu_at (x : S10000x512.Idx → EReal) (i : S10000x512.Idx) : relu (F := Ideal) x i = max (x i) 0 := by
  show max (x i) (Ideal.ofBits .f32 0x00000000#32) = _
  rw [Ideal.ofBits_zero_f32]

/-! ## The encoding and the features -/

variable (X : S10000x256.Idx → Ideal .f32) (nc ec : S64.Idx → Ideal .f32) (g : S10000.Idx → BitVec 32) (W : S256x512.Idx → Ideal .f32) (b : S512.Idx → Ideal .f32)
  (V1 : S514x512.Idx → Ideal .f32) (b1 : S512.Idx → Ideal .f32) (V2 : S512x8.Idx → Ideal .f32) (b2 : S8.Idx → Ideal .f32)

theorem refHidden_at (n : Fin 10000) (j : Fin 512) : refHidden X W b (ix2 n j) = encoded X W b n j := by
  refine (relu_at _ _).trans (congrArg (max · (0 : EReal)) (congrArg₂ (· + ·) ?_ ?_))
  · exact StackMember.dotGeneral_plain_apply none X W n j
  · exact rows_at b _ _ (by decide) n j

theorem stack_left (x y : S64x1.Idx → Ideal .f32) (q : Fin 64) : stack x y (ix2 q 0) = x (ix2 q 0) := by
  unfold stack
  refine concatenate_pair_apply_left (t := S64x2) (1 : Fin 2) _ _ concatenates_S64x1_S64x1_S64x2_d1 (ix2 q 0) rfl (ix2 q 0) fun k => ?_
  match k with
  | 0 => rfl
  | 1 => rfl

theorem stack_right (x y : S64x1.Idx → Ideal .f32) (q : Fin 64) : stack x y (ix2 q 1) = y (ix2 q 0) := by
  unfold stack
  refine concatenate_pair_apply_right (t := S64x2) (1 : Fin 2) _ _ concatenates_S64x1_S64x1_S64x2_d1 (ix2 q 1) rfl rfl (ix2 q 0) (fun k hk => ?_) ?_
  · match k with
    | 0 => rfl
    | 1 => exact absurd rfl hk
  · rfl

theorem widen_at (h : S10000x512.Idx → Ideal .f32) (w : S10000x2.Idx → Ideal .f32) (n : Fin 10000) (k : Fin 514) :
    widen h w (ix2 n k) = joined (fun j => h (ix2 n j)) (w (ix2 n 0)) (w (ix2 n 1)) k := by
  have hk := k.isLt
  unfold widen joined
  by_cases h1 : k.val < 512
  · rw [dif_pos h1]
    refine concatenate_pair_apply_left (t := S10000x514) (1 : Fin 2) h w concatenates_S10000x512_S10000x2_S10000x514_d1 (ix2 n k) rfl (ix2 n ⟨k.val, h1⟩) fun q => ?_
    match q with
    | 0 => rfl
    | 1 => rfl
  · rw [dif_neg h1]
    have right (j : Fin 2) (hj : k.val = 512 + j.val) :
        concatenate S10000x514 1 [⟨S10000x512, h⟩, ⟨S10000x2, w⟩] concatenates_S10000x512_S10000x2_S10000x514_d1 (ix2 n k) = w (ix2 n j) := by
      refine concatenate_pair_apply_right (t := S10000x514) (1 : Fin 2) h w concatenates_S10000x512_S10000x2_S10000x514_d1 (ix2 n k) rfl rfl (ix2 n j) (fun q hq => ?_) ?_
      · match q with
        | 0 => rfl
        | 1 => exact absurd rfl hq
      · show j.val + 512 = k.val
        omega
    by_cases h2 : k.val = 512
    · rw [if_pos h2]; exact right 0 h2
    · rw [if_neg h2]; exact right 1 (by show k.val = 512 + 1; omega)

theorem refFeatures_at (h : ∀ n, (g n).toNat < 64) (n : Fin 10000) (k : Fin 514) :
    refFeatures (refHidden X W b) nc ec g (ix2 n k) = features X nc ec g W b n k := by
  have hn := h (ix1 n)
  have hg : column (fromEnd g 64#32) (ix2 n 0) = BitVec.ofNat 32 (graphOf g n).val :=
    (column_at _ n).trans ((fromEnd_at g _ n (by omega)).trans (graphOf_word g n hn))
  have get (T : S64x2.Idx → Ideal .f32) (y : Fin 2) :
      Host.gather gather_S64x2_S10000x1_S10000x2_1_0_n_n_0_1_12 T (column (fromEnd g 64#32)) (ix2 n y) = T (ix2 (graphOf g n) y) :=
    Routing.gather_row gather_S64x2_S10000x1_S10000x2_1_0_n_n_0_1_12 rfl rfl rfl rfl rfl T _ n y (graphOf g n) hg (by norm_num)
  refine (widen_at _ _ n k).trans (joined_congr (fun j => refHidden_at X W b n j) ?_ ?_ k)
  · exact (get _ 0).trans ((stack_left _ _ _).trans (under_at (Host.log1p nc) _ (by decide) _))
  · exact (get _ 1).trans ((stack_right _ _ _).trans (under_at (Host.log1p ec) _ (by decide) _))

/-! ## The scores and the choice -/

theorem refScores_at (h : ∀ n, (g n).toNat < 64) (n : Fin 10000) (e : Fin 8) :
    refScores (refFeatures (refHidden X W b) nc ec g) V1 b1 V2 b2 (ix2 n e) = nodeScore X nc ec g W b V1 b1 V2 b2 n e := by
  refine congrArg₂ (· + ·) ((StackMember.dotGeneral_plain_apply none _ V2 n e).trans (Finset.sum_congr rfl fun k _ => ?_)) (rows_at b2 _ _ (by decide) n e)
  refine congrArg (· * V2 (ix2 k e)) ((relu_at _ _).trans (congrArg (max · (0 : EReal)) (congrArg₂ (· + ·) ?_ (rows_at b1 _ _ (by decide) n k))))
  refine (StackMember.dotGeneral_plain_apply none _ V1 n k).trans (Finset.sum_congr rfl fun j _ => ?_)
  exact congrArg (· * V1 (ix2 j k)) (refFeatures_at X nc ec g W b h n j)

theorem refChoice_best (s : S10000x8.Idx → Ideal .f32) (n : Fin 10000) : Best (fun e => s (ix2 n e)) (refChoice s (ix1 n)) := by
  unfold refChoice
  rw [Ideal.argReduce_eq_reduce2, Host.reduce2_eq_foldl_fiber]
  have e : (constant (F := Ideal) S_ .f32 0xFF800000#32 (Shape.Idx.first h_S_), constantI S_ 32 0#32 (Shape.Idx.first h_S_)) = ((⊥ : EReal), 0#32) :=
    Prod.ext low_word rfl
  rw [e]
  refine best_better _ _ fun q => ?_
  unfold Host.argReduceFiber
  simp only [List.mem_map, List.mem_filter, List.mem_finRange, true_and, decide_eq_true_eq]
  constructor
  · rintro ⟨p, hp, rfl⟩
    obtain ⟨k, hk⟩ := (Shape.ReducesTo.fiber_r2_a1 reducesTo_S10000x8_S10000_d1 (ix1 n) _).mp hp
    refine ⟨k, ?_⟩
    rw [← hk]
    rfl
  · rintro ⟨k, rfl⟩
    refine ⟨S10000x8.rowMajor (ix2 n k), ?_, ?_⟩
    · rw [Equiv.symm_apply_apply]
      exact (Shape.ReducesTo.fiber_r2_a1 reducesTo_S10000x8_S10000_d1 (ix1 n) _).mpr ⟨k, rfl⟩
    · rw [Equiv.symm_apply_apply]
      rfl

/-! ## The counts -/

theorem lands_count (idx : S10000x1.Idx → BitVec 32) (n : Fin 10000) (e : Fin 8) :
    scatter_S8_S10000x1_S10000_n_0_0_1.resultIdx? (ix1 n) idx = some (ix1 e) ↔ (idx (ix2 n 0)).toInt = (e.val : Int) := by
  have hs : scatter_S8_S10000x1_S10000_n_0_0_1.start (ix1 n) idx 0 = (idx (ix2 n 0)).toInt := by
    unfold ScatterDims.start
    rw [dif_pos (show (0 : Fin 1) ∈ scatter_S8_S10000x1_S10000_n_0_0_1.scatterDimsToOperandDims by decide)]
    refine congrArg (fun i => (idx i).toInt) (funext fun a => ?_)
    match a with
    | 0 => rfl
    | 1 => rfl
  have hw : scatter_S8_S10000x1_S10000_n_0_0_1.window (ix1 n) 0 = 0 := by
    unfold ScatterDims.window
    rw [dif_neg (show ¬(0 : Fin 1) ∈ scatter_S8_S10000x1_S10000_n_0_0_1.sKept by decide)]
  rw [Routing.resultIdx?_eq_some]
  refine ⟨fun h => ?_, fun h a => ?_⟩
  · have h0 : _ = (e.val : Int) := h 0
    rw [hs, hw] at h0
    omega
  · match a with
    | 0 => show scatter_S8_S10000x1_S10000_n_0_0_1.start (ix1 n) idx 0 + _ = (e.val : Int); rw [hs, hw]; omega

theorem fold_marks {ι : Type} (L : List ι) (P : ι → Prop) [DecidablePred P] (a : BitVec 32) :
    L.foldl (fun a k => if P k then IntOp.addi a 1#32 else a) a = a + (L.map fun k => if P k then 1#32 else 0#32).sum := by
  induction L generalizing a with
  | nil => exact (add_zero a).symm
  | cons k L ih =>
    rw [List.foldl_cons, ih, List.map_cons, List.sum_cons, ← add_assoc]
    refine congrArg (· + _) ?_
    by_cases h : P k
    · rw [if_pos h, if_pos h]; rfl
    · rw [if_neg h, if_neg h]; exact (add_zero a).symm

theorem refCounts_at (i : S10000.Idx → BitVec 32) (h : ∀ n, (i (ix1 n)).toNat < 8) (e : Fin 8) :
    refCounts i (ix1 e) = ∑ n : Fin 10000, if i (ix1 n) = BitVec.ofNat 32 e.val then 1#32 else 0#32 := by
  have clip (n : Fin 10000) : maxsi (broadcastInDim S10000 ![] bcast_S_S10000 (constantI S_ 32 0#32)) i (ix1 n) = i (ix1 n) := by
    have hn := h n
    show IntOp.maxsi 0#32 (i (ix1 n)) = _
    unfold IntOp.maxsi
    have hno : ¬(i (ix1 n)).slt 0#32 = true := by
      rw [BitVec.slt_eq_decide, decide_eq_true_eq, BitVec.toInt_eq_toNat_cond, BitVec.toInt_eq_toNat_cond]
      simp only [BitVec.toNat_ofNat]
      omega
    simp [hno]
  have hidx (n : Fin 10000) : column (fromEnd (maxsi (broadcastInDim S10000 ![] bcast_S_S10000 (constantI S_ 32 0#32)) i) 8#32) (ix2 n 0) = i (ix1 n) := by
    have hn := h n
    exact (column_at _ n).trans ((fromEnd_at _ _ n (by rw [clip]; omega)).trans (clip n))
  have lands (n : Fin 10000) : scatter_S8_S10000x1_S10000_n_0_0_1.resultIdx? (ix1 n)
        (column (fromEnd (maxsi (broadcastInDim S10000 ![] bcast_S_S10000 (constantI S_ 32 0#32)) i) 8#32)) = some (ix1 e) ↔ i (ix1 n) = BitVec.ofNat 32 e.val := by
    have hn := h n
    have he := e.isLt
    rw [lands_count, hidx]
    constructor
    · intro q
      apply BitVec.eq_of_toNat_eq
      rw [BitVec.toInt_eq_toNat_cond] at q
      rw [BitVec.toNat_ofNat]
      omega
    · intro q
      rw [q, BitVec.toInt_eq_toNat_cond, BitVec.toNat_ofNat]
      omega
  unfold refCounts
  rw [Routing.scatter_at]
  have step : ∀ (k : Fin S10000.numel), (scatter_S8_S10000x1_S10000_n_0_0_1.resultIdx? (S10000.rowMajor.symm k)
        (column (fromEnd (maxsi (broadcastInDim S10000 ![] bcast_S_S10000 (constantI S_ 32 0#32)) i) 8#32)) = some (ix1 e)) ↔ i (ix1 (k.cast (Routing.numel1 10000))) = BitVec.ofNat 32 e.val := by
    intro k
    have q : S10000.rowMajor.symm k = ix1 (k.cast (Routing.numel1 10000)) := Routing.symm1 k
    rw [q]
    exact lands _
  simp only [step]
  refine (fold_marks (List.finRange S10000.numel) (fun k => i (ix1 (k.cast (Routing.numel1 10000))) = BitVec.ofNat 32 e.val) _).trans ?_
  rw [← Fin.sum_univ_def]
  refine (zero_add _).trans ?_
  exact Fintype.sum_equiv (finCongr (Routing.numel1 10000)) _ _ fun k => rfl

end Cert.RouterProof

end
-- ==== Proof.RouterAnswer.lean ====
/-
  The router's claims: the kernel's three results are the reference's, where every node belongs to one of the graphs.
-/
module

public import proofs.«01_k».proof.Defs
public import proofs.«01_k».proof.Proof.RouterValue
public import proofs.«01_k».proof.Proof.Gen.Router
public import proofs.«01_k».proof.Proof.Gen.RouterIdeal
public import proofs.«01_k».proof.Proof.Gen.RouterReferenceIdeal
public import proofs.«01_k».proof.Proof.Gen.Pre_in_graphs
public import proofs.«01_k».proof.Proof.Gen.Router.Frame
public import Idealize.ShloMosaic.Lib.ReduceAll

@[expose] public section

set_option maxRecDepth 16384

noncomputable section

namespace Cert.RouterProof

open Idealize.ShloMosaic hiding ix1 ix2 ix3 eq_ix1 eq_ix2 eq_ix3
open Idealize.ShloMosaic.TcCoe Idealize.ShloMosaic.ValueIdx Idealize.SL.Sem

/-- The precondition's bit says that every node's graph lies in `[0, 64)`. -/
theorem graphs_of_pre {F : FTy → Type} [FloatOps F] (X : FVec F Cert.Pre_in_graphs.S10000x256 .f32) (nc ec : FVec F Cert.Pre_in_graphs.S64 .f32)
    (g : IVec Cert.Pre_in_graphs.S10000 32) (W : FVec F Cert.Pre_in_graphs.S256x512 .f32) (b : FVec F Cert.Pre_in_graphs.S512 .f32)
    (V1 : FVec F Cert.Pre_in_graphs.S514x512 .f32) (b1 : FVec F Cert.Pre_in_graphs.S512 .f32) (V2 : FVec F Cert.Pre_in_graphs.S512x8 .f32)
    (b2 : FVec F Cert.Pre_in_graphs.S8 .f32) (h : Cert.Pre_in_graphs.fn X nc ec g W b V1 b1 V2 b2 = fun _ => 1#1) : ∀ n, (g n).toNat < 64 := by
  have two (p q : Bool) : IntOp.andi (BitVec.ofBool p) (BitVec.ofBool q) = 1#1 → p = true ∧ q = true := by
    cases p <;> cases q <;> decide
  haveI : Subsingleton Cert.Pre_in_graphs.S_.Idx := ⟨fun a b => funext fun k => k.elim0⟩
  intro n
  have e : IntOp.andi (IntOp.cmpi .sge (g n) 0#32) (IntOp.cmpi .slt (g n) 64#32) = 1#1 :=
    Host.reduce_andi_all _ _ _ _ _ (congrFun h (fun k => k.elim0)) n
  simp only [IntOp.cmpi] at e
  obtain ⟨e1, e2⟩ := two _ _ e
  simp only [BitVec.sle_eq_decide, BitVec.slt_eq_decide, decide_eq_true_eq, BitVec.toInt_eq_toNat_cond, BitVec.toNat_ofNat, Nat.reducePow, Nat.reduceMod] at e1 e2
  omega

section Agree

variable (m : (ℓ : Loc Cert.RouterIdeal.nD Cert.RouterIdeal.τ Cert.RouterIdeal.sig) → Buf (Elt Ideal) ℓ) (c : Dev Cert.RouterIdeal.nD)

/-- The reference's encoding, choices and counts, of the kernel's arguments. -/
abbrev refE : Cert.RouterReferenceIdeal.S10000x512.Idx → Ideal .f32 := refHidden (A0 m c) (A4 m c) (A5 m c)
abbrev refC : Cert.RouterReferenceIdeal.S10000.Idx → BitVec 32 :=
  refChoice (F := Ideal) (refScores (refFeatures (refE m c) (A1 m c) (A2 m c) (A3 m c)) (A6 m c) (A7 m c) (A8 m c) (A9 m c))

theorem refE_eq : refE m c = outH m c := by
  funext i
  rw [eq_ix2 i]
  exact (refHidden_at _ _ _ _ _).trans (outH_at m c _ _).symm

theorem refC_at (h : ∀ n, (A3 m c n).toNat < 64) (n : Fin 10000) : refC m c (ix1 n) = chose m c n := by
  refine Best.unique (l := scoreAt m c n) ?_ (chose_best m c h n)
  refine (congrArg (fun l => Best l (refC m c (ix1 n))) (funext fun e => ?_)).mp (refChoice_best _ n)
  exact refScores_at (A0 m c) (A1 m c) (A2 m c) (A3 m c) (A4 m c) (A5 m c) (A6 m c) (A7 m c) (A8 m c) (A9 m c) h n e

theorem refC_eq (h : ∀ n, (A3 m c n).toNat < 64) :
    shapeCast Cert.RouterReferenceIdeal.S10x1x1000 (refC m c) Cert.RouterReferenceIdeal.Gen.facts.shapeCasts_S10000_S10x1x1000 = outI m c := by
  have entry (t : Fin 10) (r : Fin 1000) :
      shapeCast Cert.RouterReferenceIdeal.S10x1x1000 (refC m c) Cert.RouterReferenceIdeal.Gen.facts.shapeCasts_S10000_S10x1x1000 (ix3 t (0 : Fin 1) r) = outI m c (ix3 t (0 : Fin 1) r) := by
    have hk : 1000 * t.val + r.val < 10000 := by omega
    refine (shapeCast_apply _ _ _ (ix1 (⟨1000 * t.val + r.val, hk⟩ : Fin 10000)) ?_).trans ((refC_at m c h _).trans ?_)
    · rw [Shape.rowMajor_val_three, Shape.rowMajor_val_one]
      show 1000 * t.val + r.val = (t.val * 1 + 0) * 1000 + r.val
      omega
    · unfold chose
      have e1 : pointOf ⟨1000 * t.val + r.val, hk⟩ = t := Fin.ext (by show (1000 * t.val + r.val) / 1000 = t.val; omega)
      have e2 : rowOf ⟨1000 * t.val + r.val, hk⟩ = r := Fin.ext (by show (1000 * t.val + r.val) % 1000 = r.val; omega)
      rw [e1, e2]
  funext i
  have h1 : i 1 = (0 : Fin 1) := Subsingleton.elim (α := Fin 1) _ _
  have hi : i = ix3 (i 0 : Fin 10) (0 : Fin 1) (i 2 : Fin 1000) := (eq_ix3 i).trans (congrArg (fun q => ix3 (i 0 : Fin 10) q (i 2 : Fin 1000)) h1)
  rw [hi]
  exact entry _ _

theorem refN_eq (h : ∀ n, (A3 m c n).toNat < 64) :
    shapeCast Cert.RouterReferenceIdeal.S1x8 (refCounts (refC m c)) Cert.RouterReferenceIdeal.Gen.facts.shapeCasts_S8_S1x8 = outN m c := by
  have entry (e : Fin 8) :
      shapeCast Cert.RouterReferenceIdeal.S1x8 (refCounts (refC m c)) Cert.RouterReferenceIdeal.Gen.facts.shapeCasts_S8_S1x8 (ix2 (0 : Fin 1) e) = outN m c (ix2 (0 : Fin 1) e) := by
    refine (shapeCast_a_1a_apply ..).trans ((refCounts_at _ (fun n => ?_) e).trans ((outN_at m c e).trans ?_).symm)
    · rw [refC_at m c h]
      exact (chose_best m c h n).small
    · exact Finset.sum_congr rfl fun n _ => by rw [refC_at m c h]
  funext i
  have h0 : i 0 = (0 : Fin 1) := Subsingleton.elim (α := Fin 1) _ _
  have hi : i = ix2 (0 : Fin 1) (i 1 : Fin 8) := (eq_ix2 i).trans (congrArg (fun q => ix2 q (i 1 : Fin 8)) h0)
  rw [hi]
  exact entry _

end Agree

theorem frame_router : Cert.quiescent_Router := fun m ρ _ => Cert.Router.Gen.frame m ρ

theorem frame_routerIdeal : Cert.quiescent_RouterIdeal := fun m ρ _ => Cert.RouterIdeal.Gen.frame m ρ

theorem frame_routerIdeal_graphs : Cert.quiescent_RouterIdeal_pre_in_graphs := fun m ρ _ => Cert.RouterIdeal.Gen.frame m ρ

theorem kept (m : (ℓ : Loc Cert.RouterReferenceIdeal.nD Cert.RouterReferenceIdeal.τ Cert.RouterReferenceIdeal.sig) → Buf (Elt Ideal) ℓ)
    (c : Dev Cert.RouterReferenceIdeal.nD) (b : DevRef Cert.RouterReferenceIdeal.τ Cert.RouterReferenceIdeal.sig) (h : b ∈ inputRefs) : W5 m c b = m (c, b) :=
  W5_input m c b h

theorem frame_routerReferenceIdeal : Cert.quiescent_RouterReferenceIdeal := fun m ρ _ =>
  (θ_run Cert.RouterReferenceIdeal.defs _ _).mono (fun r h => ⟨fun c =>
      ⟨(h c _).trans (kept m c X0 (by decide)), (h c _).trans (kept m c X1 (by decide)), (h c _).trans (kept m c X2 (by decide)), (h c _).trans (kept m c X3 (by decide)),
        (h c _).trans (kept m c X4 (by decide)), (h c _).trans (kept m c X5 (by decide)), (h c _).trans (kept m c X6 (by decide)), (h c _).trans (kept m c X7 (by decide)),
        (h c _).trans (kept m c X8 (by decide)), (h c _).trans (kept m c X9 (by decide))⟩,
      sem_eq_zero_of_no_sems (by decide) r.2⟩)
    (run_reference m ρ)

theorem algebraic_router : Cert.algebraic_RouterIdeal_RouterReferenceIdeal_pre_in_graphs := fun m ρ m' ρ' h hm => by
  have hg : ∀ (c : Dev Cert.RouterIdeal.nD) (n), (A3 m c n).toNat < 64 := fun c => graphs_of_pre _ _ _ _ _ _ _ _ _ _ (h c)
  refine ⟨fun c => outH m c, fun c => outI m c, fun c => outN m c, ?_, ?_⟩
  · refine (θ_run Cert.RouterIdeal.defs _ _).mono (fun r h' c => ?_) (Cert.RouterIdeal.Value.run_blocks (F := Ideal) m ρ)
    obtain ⟨h0, h1, h2, hk⟩ := h' c
    exact ⟨h0.trans (final_h m c), h1.trans (final_i m c), h2.trans (final_n m c), hk⟩
  · refine (θ_run Cert.RouterReferenceIdeal.defs _ _).mono (fun r h' c => ?_) (run_reference (F := Ideal) m' ρ')
    obtain ⟨e0, e1, e2, e3, e4, e5, e6, e7, e8, e9⟩ := hm c
    have w0 : W0 m' c X0 = A0 m c := e0
    have w1 : W0 m' c X1 = A1 m c := e1
    have w2 : W0 m' c X2 = A2 m c := e2
    have w3 : W0 m' c X3 = A3 m c := e3
    have w4 : W0 m' c X4 = A4 m c := e4
    have w5 : W0 m' c X5 = A5 m c := e5
    have w6 : W0 m' c X6 = A6 m c := e6
    have w7 : W0 m' c X7 = A7 m c := e7
    have w8 : W0 m' c X8 = A8 m c := e8
    have w9 : W0 m' c X9 = A9 m c := e9
    have eh : refH m' c = refE m c := by unfold refH; rw [w0, w4, w5]
    have ei : refI m' c = refC m c := by unfold refI; rw [eh, w1, w2, w3, w6, w7, w8, w9]
    refine ⟨(h' c _).trans ((W5_h m' c).trans (eh.trans (refE_eq m c))), (h' c _).trans ((W5_i m' c).trans ?_), (h' c _).trans ((W5_counts m' c).trans ?_),
      (h' c _).trans (kept m' c X0 (by decide)), (h' c _).trans (kept m' c X1 (by decide)), (h' c _).trans (kept m' c X2 (by decide)), (h' c _).trans (kept m' c X3 (by decide)),
      (h' c _).trans (kept m' c X4 (by decide)), (h' c _).trans (kept m' c X5 (by decide)), (h' c _).trans (kept m' c X6 (by decide)), (h' c _).trans (kept m' c X7 (by decide)),
      (h' c _).trans (kept m' c X8 (by decide)), (h' c _).trans (kept m' c X9 (by decide))⟩
    · rw [ei]; exact refC_eq m c (hg c)
    · rw [ei]; exact refN_eq m c (hg c)

end Cert.RouterProof

end
-- ==== Proof.Answer.lean ====
/-
  Over the reals: the program's result and the reference's are the second layer of the expert that each node chose.
-/
module

public import proofs.«01_k».proof.Proof.Layers
public import Idealize.ShloMosaic.Lib.StackMember
public import Idealize.ShloMosaic.Lib.Pointwise.Contract

@[expose] public section

noncomputable section

namespace Cert.Proof

open Idealize.ShloMosaic hiding ix1 ix2 ix3 eq_ix1 eq_ix2 eq_ix3
open Idealize.ShloMosaic.ValueIdx

theorem unit_congr {x x' a a' wr wr' wn wn' : Fin 512 → EReal} {b b' : EReal} (hx : ∀ k, x k = x' k) (ha : ∀ k, a k = a' k) (hr : ∀ k, wr k = wr' k) (hn : ∀ k, wn k = wn' k)
    (hb : b = b') : unit x a wr wn b = unit x' a' wr' wn' b' := by
  rw [funext hx, funext ha, funext hr, funext hn, hb]

/-! ## The kernel's side -/

section Kernel
open Cert.KernelIdeal Cert.KernelIdeal.Gen

variable (m : (ℓ : Loc nD τ sig) → Buf (Elt Ideal) ℓ) (d : Dev nD)

/-- The experts' weights and biases. -/
abbrev root0 : S8x512x512.Idx → Ideal .f32 := m ((SparseCore.T d).loc main_arg3)
abbrev nbr0 : S8x512x512.Idx → Ideal .f32 := m ((SparseCore.T d).loc main_arg4)
abbrev bias0 : S8x512.Idx → Ideal .f32 := m ((SparseCore.T d).loc main_arg5)
abbrev root1 : S8x512x256.Idx → Ideal .f32 := m ((SparseCore.T d).loc main_arg6)
abbrev nbr1 : S8x512x256.Idx → Ideal .f32 := m ((SparseCore.T d).loc main_arg7)
abbrev bias1 : S8x256.Idx → Ideal .f32 := m ((SparseCore.T d).loc main_arg8)

theorem bias_first (e : Fin 8) (c : Fin 512) : V3 m d bi0' (ix3 e (0 : Fin 1) c) = bias0 m d (ix2 e c) := by
  rw [V3_bi, V2_arg m d a5' (by decide)]
  refine shapeCast_apply (s := S8x512) (bias0 m d) _ _ (ix2 e c) ?_
  rw [Shape.rowMajor_val_two, Shape.rowMajor_val_three]
  show e.val * 512 + c.val = (e.val * 1 + 0) * 512 + c.val
  omega

theorem bias_second (e : Fin 8) (c : Fin 256) : V7 m d bi1' (ix3 e (0 : Fin 1) c) = bias1 m d (ix2 e c) := by
  rw [V7_bi, V6_arg m d a8' (by decide)]
  refine shapeCast_apply (s := S8x256) (bias1 m d) _ _ (ix2 e c) ?_
  rw [Shape.rowMajor_val_two, Shape.rowMajor_val_three]
  show e.val * 256 + c.val = (e.val * 1 + 0) * 256 + c.val
  omega

theorem choice_second (i : Fin 10) (r : Fin 1000) (n : Fin 10000) (hn : n.val = 1000 * i.val + r.val) : V7 m d ch' (ix3 i (0 : Fin 1) r) = choice m d (ix1 n) := by
  rw [V7_first m d ch' (by decide), V1_ch]
  refine shapeCast_apply _ _ _ _ ?_
  rw [Shape.rowMajor_val_one, Shape.rowMajor_val_three]
  show n.val = (i.val * 1 + 0) * 1000 + r.val
  omega

section InRange
variable (h : InRange (choice m d) (edges m d))
include h

/-- What the first layer's call leaves is the first layer of every expert. -/
theorem hidden_first : hidden m d = first (feats m d) (neighbours (feats m d) (edges m d)) (root0 m d) (nbr0 m d) (bias0 m d) := by
  funext y
  obtain ⟨e, n, c, rfl⟩ : ∃ (e : Fin 8) (n : Fin 10000) (c : Fin 512), y = ix3 e n c := ⟨y 0, y 1, y 2, eq_ix3 y⟩
  have he := e.isLt
  have hn := n.isLt
  have hc : Fin.ofNat 512 c.val = c := Fin.ext (Nat.mod_eq_of_lt c.isLt)
  have ht : 8 * (n.val / 1000) + e.val < cfg1.N := by show _ < grid1.N; rw [N_1]; omega
  have hr : (Fin.ofNat 1000 n.val).val = n.val % 1000 := rfl
  show res1 (V3 m) d ⟨8 * (n.val / 1000) + e.val, ht⟩ (ix3 (0 : Fin 1) (Fin.ofNat 1000 n.val) (Fin.ofNat 512 c.val)) = _
  rw [hc]
  unfold res1
  rw [pay1_apply]
  unfold first
  refine congrArg (max · (0 : EReal)) (unit_congr (fun k => ?_) (fun k => ?_) (fun k => ?_) (fun k => ?_) ?_)
  · rw [blk1_at0 (V3 m) d _ _ (ix2 n k) (by show n.val = 1000 * ((8 * (n.val / 1000) + e.val) / 8) + n.val % 1000; omega) rfl, V3_arg m d a0' (by decide)]
  · rw [blk1_at1 (V3 m) d _ _ (ix2 n k) (by show n.val = 1000 * ((8 * (n.val / 1000) + e.val) / 8) + n.val % 1000; omega) rfl, sums_first m d h]
  · rw [blk1_at2 (V3 m) d _ _ (ix3 e k c) (by show e.val = (8 * (n.val / 1000) + e.val) % 8 + 0; omega) rfl rfl, V3_arg m d a3' (by decide)]
  · rw [blk1_at3 (V3 m) d _ _ (ix3 e k c) (by show e.val = (8 * (n.val / 1000) + e.val) % 8 + 0; omega) rfl rfl, V3_arg m d a4' (by decide)]
  · rw [blk1_at4 (V3 m) d _ _ (ix3 e (0 : Fin 1) c) (by show e.val = (8 * (n.val / 1000) + e.val) % 8 + 0; omega) rfl rfl, bias_first]

/-- One expert's addition: its second layer at the nodes that chose it. -/
theorem add2_apply (t : Fin cfg3.N) (e : Fin 8) (he : e.val = t.val % 8) (r : Fin 1000) (n : Fin 10000) (hn : n.val = 1000 * (t.val / 8) + r.val) (c : Fin 256) (acc : Vec Ideal S1000x256 .f32) :
    add2 (V7 m) d t acc (ix2 r c) = acc (ix2 r c)
      + second (hidden m d) (chosen (hidden m d) (choice m d) (edges m d)) (root1 m d) (nbr1 m d) (bias1 m d) e n c * (if choice m d (ix1 n) = BitVec.ofNat 32 e.val then 1 else 0) := by
  have hN : t.val < 80 := lt_of_lt_of_eq t.isLt (show cfg3.N = 80 from N_3)
  have hi : (grid3.coords t 1).val = t.val % 8 := (spots2 t).2.2.2.2.2.2.2.2.2.2.2.2.2.2.2.2.2
  unfold add2
  rw [pay2_apply, hi, ← he]
  have hI : blk2 (V7 m) d 5 t (ix3 (0 : Fin 1) (0 : Fin 1) r) = choice m d (ix1 n) := by
    rw [blk2_at5 (V7 m) d t _ (ix3 (⟨t.val / 8, by omega⟩ : Fin 10) (0 : Fin 1) r) (by show t.val / 8 = t.val / 8 + 0; omega) rfl rfl]
    exact choice_second m d _ r n hn
  rw [hI]
  refine congrArg (fun u => acc (ix2 r c) + u * _) ?_
  unfold second
  refine unit_congr (fun k => ?_) (fun k => ?_) (fun k => ?_) (fun k => ?_) ?_
  · rw [blk2_at0 (V7 m) d t _ (ix3 e n k) (by show e.val = t.val % 8 + 0; omega) hn rfl, V7_hi]
  · rw [blk2_at1 (V7 m) d t _ (ix2 n k) hn rfl, sums_second m d h]
  · rw [blk2_at2 (V7 m) d t _ (ix3 e k c) (by show e.val = t.val % 8 + 0; omega) rfl rfl, V7_arg m d a6' (by decide)]
  · rw [blk2_at3 (V7 m) d t _ (ix3 e k c) (by show e.val = t.val % 8 + 0; omega) rfl rfl, V7_arg m d a7' (by decide)]
  · rw [blk2_at4 (V7 m) d t _ (ix3 e (0 : Fin 1) c) (by show e.val = t.val % 8 + 0; omega) rfl rfl, bias_second]

/-- After each expert, a node has its chosen expert's second layer if that one has come, zero otherwise. -/
theorem sum2_apply (i : ℕ) (r : Fin 1000) (n : Fin 10000) (hn : n.val = 1000 * i + r.val) (c : Fin 256) (e : ℕ) (he : e < 8) (ht : 8 * i + e < cfg3.N) :
    sum2 (V7 m) d (8 * i + e) ht (ix2 r c) = if (choice m d (ix1 n)).toNat ≤ e
      then second (hidden m d) (chosen (hidden m d) (choice m d) (edges m d)) (root1 m d) (nbr1 m d) (bias1 m d) (expert (choice m d) n) n c else (0 : EReal) := by
  have hI : (choice m d (ix1 n)).toNat < 8 := h.expert _
  have hE : ∀ e (he : e < 8), (choice m d (ix1 n)).toNat = e → expert (choice m d) n = ⟨e, he⟩ := fun e he h => Fin.ext (by
    show (choice m d (ix1 n)).toNat % 8 = e
    omega)
  have hW : ∀ e (he : e < 8), choice m d (ix1 n) = BitVec.ofNat 32 e ↔ (choice m d (ix1 n)).toNat = e := fun e he => by
    rw [← BitVec.toNat_inj, BitVec.toNat_ofNat, Nat.mod_eq_of_lt (by omega)]
  induction e with
  | zero =>
    refine (congrFun (sum2_first (V7 m) d ⟨8 * i + 0, ht⟩ (by show (8 * i + 0) % 8 = 0; omega)) _).trans ?_
    rw [add2_apply m d h _ ⟨0, he⟩ (by show 0 = (8 * i + 0) % 8; omega) r n (by show n.val = 1000 * ((8 * i + 0) / 8) + r.val; omega) c]
    have hz : (k3_pay1 (F := Ideal)) (ix2 r c) = (0 : EReal) := Ideal.ofBits_zero_f32
    rw [hz, zero_add, if_congr (hW 0 he) rfl rfl]
    by_cases h0 : (choice m d (ix1 n)).toNat = 0
    · rw [if_pos h0, if_pos (by omega), mul_one, hE 0 he h0]
    · rw [if_neg h0, if_neg (by omega), mul_zero]
  | succ e ih =>
    have ht' : 8 * i + e < cfg3.N := by omega
    refine (congrFun (sum2_next (V7 m) d ⟨8 * i + (e + 1), ht⟩ (by show ¬(8 * i + (e + 1)) % 8 = 0; omega)) _).trans ?_
    rw [add2_apply m d h _ ⟨e + 1, he⟩ (by show e + 1 = (8 * i + (e + 1)) % 8; omega) r n (by show n.val = 1000 * ((8 * i + (e + 1)) / 8) + r.val; omega) c]
    have hp : sum2 (V7 m) d (8 * i + e) ht' (ix2 r c) = _ := ih (by omega) ht'
    refine Eq.trans (congrArg (· + _) hp) ?_
    rw [if_congr (hW (e + 1) he) rfl rfl]
    by_cases h0 : (choice m d (ix1 n)).toNat = e + 1
    · rw [if_pos h0, if_neg (by omega), if_pos (by omega), mul_one, zero_add, hE (e + 1) he h0]
    · rw [if_neg h0, mul_zero, add_zero]
      exact if_congr (by omega) rfl rfl

/-- The experts' second layer, each node's own. -/
abbrev answer (X : S10000x512.Idx → Ideal .f32) (I : S10000.Idx → BitVec 32) (E : S2x160000.Idx → BitVec 32) (R0 N0 : S8x512x512.Idx → Ideal .f32) (B0 : S8x512.Idx → Ideal .f32)
    (R1 N1 : S8x512x256.Idx → Ideal .f32) (B1 : S8x256.Idx → Ideal .f32) : S10000x256.Idx → Ideal .f32 := fun y =>
  second (first X (neighbours X E) R0 N0 B0) (chosen (first X (neighbours X E) R0 N0 B0) I E) R1 N1 B1 (expert I (y 0)) (y 0) (y 1)

theorem outcome_answer : outcome m d = answer (feats m d) (choice m d) (edges m d) (root0 m d) (nbr0 m d) (bias0 m d) (root1 m d) (nbr1 m d) (bias1 m d) := by
  funext y
  obtain ⟨n, c, rfl⟩ : ∃ (n : Fin 10000) (c : Fin 256), y = ix2 n c := ⟨y 0, y 1, eq_ix2 y⟩
  have hn := n.isLt
  have hc : Fin.ofNat 256 c.val = c := Fin.ext (Nat.mod_eq_of_lt c.isLt)
  have ht : 8 * (n.val / 1000) + 7 < cfg3.N := by show _ < grid3.N; rw [N_3]; omega
  have hI : (choice m d (ix1 n)).toNat < 8 := h.expert _
  show sum2 (V7 m) d (8 * (n.val / 1000) + 7) ht (ix2 (Fin.ofNat 1000 n.val) (Fin.ofNat 256 c.val)) = _
  rw [hc, sum2_apply m d h (n.val / 1000) (Fin.ofNat 1000 n.val) n (by show n.val = 1000 * (n.val / 1000) + n.val % 1000; omega) c 7 (by omega) ht, if_pos (by omega), hidden_first m d h]

end InRange
end Kernel

/-! ## The reference's side -/

section Reference
open Cert.ReferenceIdeal Cert.ReferenceIdeal.Gen

/-- Every expert's product with the same rows. -/
theorem dot_all (x : FVec Ideal S10000x512 .f32) (w : FVec Ideal S8x512x512 .f32) (n : Fin 10000) (e : Fin 8) (c : Fin 512) :
    Host.dotGeneral dot_S10000x512_S8x512x512_S10000x8x512_1_1_0_02_n_n none x w (ix3 n e c) = ∑ k : Fin 512, x (ix2 n k) * w (ix3 e k c) := by
  show FloatOps.dotGeneral _ none _ x w (ix3 n e c) = _
  rw [Ideal.dotGeneral_apply, DotDims.sum_contr₁ dot_S10000x512_S8x512x512_S10000x8x512_1_1_0_02_n_n (a := 1) rfl (K := 512) rfl]
  refine Finset.sum_congr rfl fun k _ => congrArg₂ (· * ·) (congrArg x (funext fun a => ?_)) (congrArg w (funext fun a => ?_))
  · match a with
    | 0 => rfl
    | 1 => rfl
  · match a with
    | 0 => rfl
    | 1 => rfl
    | 2 => rfl

/-- Every expert's product with its own rows. -/
theorem dot_each (x : FVec Ideal S8x10000x512 .f32) (w : FVec Ideal S8x512x256 .f32) (e : Fin 8) (n : Fin 10000) (c : Fin 256) :
    Host.dotGeneral dot_S8x10000x512_S8x512x256_S8x10000x256_2_1_1_2_0_0 none x w (ix3 e n c) = ∑ k : Fin 512, x (ix3 e n k) * w (ix3 e k c) :=
  Idealize.ShloMosaic.StackMember.dotGeneral_stack_apply _ none x w e n c

/-- The experts' biases laid under every node. -/
theorem bias_all {b : ℕ} (hb : b ≠ 1) (x : (⟨2, ![8, b]⟩ : Shape).Idx → Ideal .f32) (h1 : (⟨2, ![8, b]⟩ : Shape).BroadcastsInDim ⟨3, ![8, 1, b]⟩ ![0, 2])
    (h2 : (⟨3, ![8, 1, b]⟩ : Shape).BroadcastsInDim ⟨3, ![8, 10000, b]⟩ ![0, 1, 2]) (e : Fin 8) (n : Fin 10000) (c : Fin b) :
    broadcastInDim ⟨3, ![8, 10000, b]⟩ ![0, 1, 2] h2 (broadcastInDim ⟨3, ![8, 1, b]⟩ ![0, 2] h1 x) (ix3 e n c) = x (ix2 e c) := by
  refine (broadcastInDim_apply _ h2 _ _ (ix3 e (0 : Fin 1) c) fun a => ?_).trans (broadcastInDim_apply _ h1 _ _ (ix2 e c) fun a => ?_)
  · match a with
    | 0 => rfl
    | 1 => rfl
    | 2 => exact (if_neg hb).symm
  · match a with
    | 0 => rfl
    | 1 => exact (if_neg hb).symm

variable (X : S10000x512.Idx → Ideal .f32) (I : S10000.Idx → BitVec 32) (E : S2x160000.Idx → BitVec 32) (R0 N0 : S8x512x512.Idx → Ideal .f32) (B0 : S8x512.Idx → Ideal .f32)
  (R1 N1 : S8x512x256.Idx → Ideal .f32) (B1 : S8x256.Idx → Ideal .f32)

/-- The reference's first layer of every expert. -/
abbrev refFirst : S8x10000x512.Idx → Ideal .f32 :=
  maximumf (addf (transpose S8x10000x512 [1, 0, 2] (addf (Host.dotGeneral dot_S10000x512_S8x512x512_S10000x8x512_1_1_0_02_n_n none X R0)
      (Host.dotGeneral dot_S10000x512_S8x512x512_S10000x8x512_1_1_0_02_n_n none (refTerm X E) N0)) transposes_S10000x8x512_S8x10000x512_1_0_2)
    (broadcastInDim S8x10000x512 ![0, 1, 2] bcast_S8x1x512_S8x10000x512_0_1_2 (broadcastInDim S8x1x512 ![0, 2] bcast_S8x512_S8x1x512_0_2 B0)))
    (broadcastInDim S8x10000x512 ![] bcast_S_S8x10000x512 (constant S_ .f32 0x00000000#32))

/-- Its second layer of every expert, from its first, and the one that each node chose. -/
abbrev refSecond (H : S8x10000x512.Idx → Ideal .f32) : S8x10000x256.Idx → Ideal .f32 :=
  addf (addf (Host.dotGeneral dot_S8x10000x512_S8x512x256_S8x10000x256_2_1_1_2_0_0 none H R1)
      (Host.dotGeneral dot_S8x10000x512_S8x512x256_S8x10000x256_2_1_1_2_0_0 none (batchTerm E H) N1))
    (broadcastInDim S8x10000x256 ![0, 1, 2] bcast_S8x1x256_S8x10000x256_0_1_2 (broadcastInDim S8x1x256 ![0, 2] bcast_S8x256_S8x1x256_0_2 B1))

abbrev refAnswer : S10000x256.Idx → Ideal .f32 :=
  Host.gather gather_S8x10000x256_S10000x2_S10000x256_1_01_n_n_01_1_11256 (refSecond E R1 N1 B1 (refFirst X E R0 N0 B0)) (pairs I)

theorem refFirst_first (h : ∀ y, (E y).toNat < 10000) : refFirst X E R0 N0 B0 = first X (neighbours X E) R0 N0 B0 := by
  funext y
  obtain ⟨e, n, c, rfl⟩ : ∃ (e : Fin 8) (n : Fin 10000) (c : Fin 512), y = ix3 e n c := ⟨y 0, y 1, y 2, eq_ix3 y⟩
  unfold refFirst
  rw [refTerm_sum X E h]
  generalize neighbours X E = A
  have ht : transpose S8x10000x512 [1, 0, 2] (addf (Host.dotGeneral dot_S10000x512_S8x512x512_S10000x8x512_1_1_0_02_n_n none X R0)
      (Host.dotGeneral dot_S10000x512_S8x512x512_S10000x8x512_1_1_0_02_n_n none A N0)) transposes_S10000x8x512_S8x10000x512_1_0_2 (ix3 e n c)
      = (∑ k : Fin 512, X (ix2 n k) * R0 (ix3 e k c)) + ∑ k : Fin 512, A (ix2 n k) * N0 (ix3 e k c) := by
    refine (transpose_apply _ _ _ _ (ix3 n e c) fun b => ?_).trans ?_
    · match b with
      | 0 => rfl
      | 1 => rfl
      | 2 => rfl
    · exact congrArg₂ (· + ·) (dot_all X R0 n e c) (dot_all A N0 n e c)
  refine Eq.trans (b := max ((_ : EReal) + _) (Ideal.ofBits .f32 0x00000000#32)) rfl ?_
  rw [ht, bias_all (by norm_num), Ideal.ofBits_zero_f32]
  rfl

theorem refAnswer_answer (h : InRange I E) : refAnswer X I E R0 N0 B0 R1 N1 B1 = answer X I E R0 N0 B0 R1 N1 B1 := by
  funext y
  obtain ⟨n, c, rfl⟩ : ∃ (n : Fin 10000) (c : Fin 256), y = ix2 n c := ⟨y 0, y 1, eq_ix2 y⟩
  unfold refAnswer answer
  rw [refFirst_first X E R0 N0 B0 h.edge]
  generalize first X (neighbours X E) R0 N0 B0 = H
  refine (gather_pick _ _ n c _ n (pairs_expert I h.expert n) (pairs_node I n)).trans ?_
  refine Eq.trans (b := ((_ : EReal) + _) + _) rfl ?_
  rw [dot_each, dot_each, bias_all (by norm_num)]
  unfold second unit
  refine congrArg (· + B1 (ix2 (expert I n) c)) (congrArg (_ + ·) (Finset.sum_congr rfl fun k _ => ?_))
  rw [batch_sum E H h.edge (expert I n) n k]
  rfl

end Reference

end Cert.Proof

end
-- ==== Proof.lean ====
/-
  The proof of the certificate's claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_graphs
public import proofs.«01_k».proof.Proof.Gen.Router
public import proofs.«01_k».proof.Proof.Gen.RouterIdeal
public import proofs.«01_k».proof.Proof.Gen.RouterReferenceIdeal
public import proofs.«01_k».proof.Proof.Gen.Router.Frame
public import proofs.«01_k».proof.Proof.Gen.RouterIdeal.Value
public import proofs.«01_k».proof.Proof.RouterAnswer
public import proofs.«01_k».proof.Proof.Answer

@[expose] public section

noncomputable section

namespace Cert.Proof

open Idealize.ShloMosaic Idealize.SL.Sem

/-- Under the precondition every entry of the edge list names a row of the table, and every choice an expert. -/
theorem range_kernelIdeal (m : (ℓ : Loc Cert.KernelIdeal.nD Cert.KernelIdeal.τ Cert.KernelIdeal.sig) → Buf (Elt Ideal) ℓ)
    (h : Cert.Pre_KernelIdeal m) (d : Dev Cert.KernelIdeal.nD) : InRange (choice m d) (edges m d) := inRange_of_pre _ _ _ _ _ _ _ _ _ (h d)

theorem range_kernel (m : (ℓ : Loc Cert.KernelIdeal.nD Cert.KernelIdeal.τ Cert.KernelIdeal.sig) → Buf (Elt Bits) ℓ)
    (h : Cert.Pre_Kernel m) (d : Dev Cert.KernelIdeal.nD) : InRange (choice m d) (edges m d) := inRange_of_pre _ _ _ _ _ _ _ _ _ (h d)

set_option maxHeartbeats 4000000

/-- The two printed programs have the same bodies, the arms of the table compared one by one. -/
theorem bodies_eq : Cert.Kernel.defs₀ (F := Bits) = Cert.KernelIdeal.defs₀ (F := Bits) := by
  funext p l a
  match p, l, a with
  | .scVector c s, 0, _ => rfl
  | .tc, 1, (t, s) => rfl
  | .scVector c s, 2, _ => rfl
  | .tc, 3, (t, s) => rfl
  | .tc, 0, a => rfl
  | .tc, 2, a => rfl
  | .scVector c s, 1, a => rfl
  | .scVector c s, 3, a => rfl
  | .scScalar c, l, a => rfl

theorem defs_eq : Cert.Kernel.defs (F := Bits) = Cert.KernelIdeal.defs (F := Bits) :=
  congrArg (fun D => Cert.KernelIdeal.sc.defs (Pipeline.defs Cert.KernelIdeal.pcfgs D)) bodies_eq

theorem programs_eq : Cert.Kernel.main (F := Bits) = Cert.KernelIdeal.main (F := Bits) := rfl

theorem threads_eq : Cert.Kernel.threads (F := Bits) = Cert.KernelIdeal.threads (F := Bits) :=
  congrArg (fun p => Cert.KernelIdeal.sc.threads p) programs_eq

/-- The kernel ends with its arguments unchanged and its counters at zero. -/
theorem frame_kernel : Cert.quiescent_Kernel := fun m ρ h => by
  have key : θ_run (Cert.KernelIdeal.defs (F := Bits)) (Cert.KernelIdeal.threads (F := Bits)) ⟨m, fun _ => 0, ρ⟩
      (fun r => (∀ c, Args m c r.2.mem) ∧ r.2.sem = fun _ => 0) :=
    (θ_run _ _ _).mono (fun _ h => ⟨fun c => (h.1 c).1, h.2⟩)
      (run_main (F := Bits) m ρ fun d => inputs_ok m d (range_kernel m h d))
  rw [← defs_eq, ← threads_eq] at key
  exact key

theorem frame_kernelIdeal : Cert.quiescent_KernelIdeal := fun m ρ h =>
  (θ_run Cert.KernelIdeal.defs _ _).mono (fun _ h => ⟨fun c => (h.1 c).1, h.2⟩)
    (run_main (F := Ideal) m ρ fun d => inputs_ok m d (range_kernelIdeal m h d))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem algebraic : Cert.algebraic_KernelIdeal_ReferenceIdeal := fun m ρ m' ρ' h hm => by
  refine ⟨fun c => answer (feats m c) (choice m c) (edges m c) (root0 m c) (nbr0 m c) (bias0 m c) (root1 m c) (nbr1 m c) (bias1 m c), ?_, ?_⟩
  · refine (θ_run Cert.KernelIdeal.defs _ _).mono (fun r h' c => ?_) (run_main (F := Ideal) m ρ fun d => inputs_ok m d (range_kernelIdeal m h d))
    exact ⟨(h'.1 c).2.trans (outcome_answer m c (range_kernelIdeal m h c)), (h'.1 c).1⟩
  · refine (θ_run Cert.ReferenceIdeal.defs _ _).mono (fun r h' c => ?_) (Cert.ReferenceIdeal.Value.run m' ρ')
    obtain ⟨e0, e1, e2, e3, e4, e5, e6, e7, e8⟩ := hm c
    refine ⟨(h' c).1.trans ?_, (h' c).2⟩
    unfold Cert.ReferenceIdeal.Value.res_main_v53
    rw [e0, e1, e2, e3, e4, e5, e6, e7, e8]
    exact refAnswer_answer (feats m c) (choice m c) (edges m c) (root0 m c) (nbr0 m c) (bias0 m c) (root1 m c) (nbr1 m c) (bias1 m c) (range_kernelIdeal m h c)

theorem claim : Cert.Claim :=
  ⟨Cert.Kernel.Gen.facts, Cert.KernelIdeal.Gen.facts, Cert.ReferenceIdeal.Gen.facts, Cert.Router.Gen.facts, Cert.RouterIdeal.Gen.facts,
    Cert.RouterReferenceIdeal.Gen.facts, Cert.Pre_in_range.Gen.facts, Cert.Pre_in_graphs.Gen.facts,
    frame_kernel, frame_kernelIdeal, frame_referenceIdeal, Cert.RouterProof.frame_router, Cert.RouterProof.frame_routerIdeal,
    Cert.RouterProof.frame_routerIdeal_graphs, Cert.RouterProof.frame_routerReferenceIdeal, trivial, algebraic, trivial, Cert.RouterProof.algebraic_router⟩

end Cert.Proof

end
